-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_bounded_KernelIdeal [hPre_bounded_KernelIdeal : Cert.Pre_bounded_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_bounded_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_bounded_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ClippedIdeal (m : (ℓ : Loc Cert.ClippedIdeal.nD Cert.ClippedIdeal.τ Cert.ClippedIdeal.sig) → Buf (Elt Ideal) ℓ) : Prop :=
  True

def Pre_ClippedIdeal_bounded_ClippedIdeal [hPre_bounded_ClippedIdeal : Cert.Pre_bounded_ClippedIdeal.Facts] (m : (ℓ : Loc Cert.ClippedIdeal.nD Cert.ClippedIdeal.τ Cert.ClippedIdeal.sig) → Buf (Elt Ideal) ℓ) : Prop :=
  ∀ c : Dev Cert.ClippedIdeal.nD,
    (Cert.Pre_bounded_ClippedIdeal.fn (F := Ideal) (m ((c.tc : Thread Cert.ClippedIdeal.nD Cert.ClippedIdeal.τ).loc Cert.ClippedIdeal.main_arg0)) (m ((c.tc : Thread Cert.ClippedIdeal.nD Cert.ClippedIdeal.τ).loc Cert.ClippedIdeal.main_arg1))).1 = (fun _ => 1#1)
    ∧ (Cert.Pre_bounded_ClippedIdeal.fn (F := Ideal) (m ((c.tc : Thread Cert.ClippedIdeal.nD Cert.ClippedIdeal.τ).loc Cert.ClippedIdeal.main_arg0)) (m ((c.tc : Thread Cert.ClippedIdeal.nD Cert.ClippedIdeal.τ).loc Cert.ClippedIdeal.main_arg1))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_bounded_KernelIdeal [hKernelIdeal : Cert.KernelIdeal.Facts] [hPre_bounded_KernelIdeal : Cert.Pre_bounded_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_bounded_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ClippedIdeal [hClippedIdeal : Cert.ClippedIdeal.Facts] : Prop :=
  ∀ (m : (ℓ : Loc Cert.ClippedIdeal.nD Cert.ClippedIdeal.τ Cert.ClippedIdeal.sig) → Buf (Elt Ideal) ℓ) (g : Dev Cert.ClippedIdeal.nD → PrngReg), Pre_ClippedIdeal m →
    θ_run (Cert.ClippedIdeal.defs (F := Ideal)) (onTc (τ := Cert.ClippedIdeal.τ) (Cert.ClippedIdeal.main (F := Ideal))) ⟨m, fun _ => 0, g⟩ (fun r => (∀ c : Dev Cert.ClippedIdeal.nD,
      r.2.mem ((c.tc : Thread Cert.ClippedIdeal.nD Cert.ClippedIdeal.τ).loc Cert.ClippedIdeal.main_arg0) = m ((c.tc : Thread Cert.ClippedIdeal.nD Cert.ClippedIdeal.τ).loc Cert.ClippedIdeal.main_arg0)
      ∧ r.2.mem ((c.tc : Thread Cert.ClippedIdeal.nD Cert.ClippedIdeal.τ).loc Cert.ClippedIdeal.main_arg1) = m ((c.tc : Thread Cert.ClippedIdeal.nD Cert.ClippedIdeal.τ).loc Cert.ClippedIdeal.main_arg1))
      ∧ r.2.sem = fun _ => 0)

def quiescent_ClippedIdeal_pre_bounded_ClippedIdeal [hClippedIdeal : Cert.ClippedIdeal.Facts] [hPre_bounded_ClippedIdeal : Cert.Pre_bounded_ClippedIdeal.Facts] : Prop :=
  ∀ (m : (ℓ : Loc Cert.ClippedIdeal.nD Cert.ClippedIdeal.τ Cert.ClippedIdeal.sig) → Buf (Elt Ideal) ℓ) (g : Dev Cert.ClippedIdeal.nD → PrngReg), Pre_ClippedIdeal_bounded_ClippedIdeal m →
    θ_run (Cert.ClippedIdeal.defs (F := Ideal)) (onTc (τ := Cert.ClippedIdeal.τ) (Cert.ClippedIdeal.main (F := Ideal))) ⟨m, fun _ => 0, g⟩ (fun r => (∀ c : Dev Cert.ClippedIdeal.nD,
      r.2.mem ((c.tc : Thread Cert.ClippedIdeal.nD Cert.ClippedIdeal.τ).loc Cert.ClippedIdeal.main_arg0) = m ((c.tc : Thread Cert.ClippedIdeal.nD Cert.ClippedIdeal.τ).loc Cert.ClippedIdeal.main_arg0)
      ∧ r.2.mem ((c.tc : Thread Cert.ClippedIdeal.nD Cert.ClippedIdeal.τ).loc Cert.ClippedIdeal.main_arg1) = m ((c.tc : Thread Cert.ClippedIdeal.nD Cert.ClippedIdeal.τ).loc Cert.ClippedIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![128, 2048]⟩ ⟨2, ![2048, 2048]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![2048, 128]⟩ ⟨2, ![2048, 2048]⟩ 1 16 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![2048, 128]⟩ ⟨2, ![2048, 2048]⟩ 1 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ClippedIdeal_pre_bounded_KernelIdeal [hKernelIdeal : Cert.KernelIdeal.Facts] [hClippedIdeal : Cert.ClippedIdeal.Facts] [hPre_bounded_KernelIdeal : Cert.Pre_bounded_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ClippedIdeal.nD Cert.ClippedIdeal.τ Cert.ClippedIdeal.sig) → Buf (Elt Ideal) ℓ) (g' : Dev Cert.ClippedIdeal.nD → PrngReg), Pre_KernelIdeal_bounded_KernelIdeal m →
    (∀ c : Dev Cert.KernelIdeal.nD,
      m ((c.tc : Thread Cert.KernelIdeal.nD Cert.KernelIdeal.τ).loc Cert.KernelIdeal.main_arg0) = Layout.block ⟨2, ![128, 2048]⟩ ⟨2, ![2048, 2048]⟩ 0 16 c (m' (((0 : Dev Cert.ClippedIdeal.nD).tc : Thread Cert.ClippedIdeal.nD Cert.ClippedIdeal.τ).loc Cert.ClippedIdeal.main_arg0))
      ∧ m ((c.tc : Thread Cert.KernelIdeal.nD Cert.KernelIdeal.τ).loc Cert.KernelIdeal.main_arg1) = Layout.block ⟨2, ![2048, 128]⟩ ⟨2, ![2048, 2048]⟩ 1 16 c (m' (((0 : Dev Cert.ClippedIdeal.nD).tc : Thread Cert.ClippedIdeal.nD Cert.ClippedIdeal.τ).loc Cert.ClippedIdeal.main_arg1))) →
    ∃ (v0 : Buf (Elt Ideal) (((0 : Dev Cert.ClippedIdeal.nD).tc : Thread Cert.ClippedIdeal.nD Cert.ClippedIdeal.τ).loc Cert.ClippedIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![2048, 128]⟩ ⟨2, ![2048, 2048]⟩ 1 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ClippedIdeal.defs (F := Ideal)) (onTc (τ := Cert.ClippedIdeal.τ) (Cert.ClippedIdeal.main (F := Ideal))) ⟨m', fun _ => 0, g'⟩ (fun r =>
          r.2.mem (((0 : Dev Cert.ClippedIdeal.nD).tc : Thread Cert.ClippedIdeal.nD Cert.ClippedIdeal.τ).loc Cert.ClippedIdeal.main_v8) = v0
          ∧ r.2.mem (((0 : Dev Cert.ClippedIdeal.nD).tc : Thread Cert.ClippedIdeal.nD Cert.ClippedIdeal.τ).loc Cert.ClippedIdeal.main_arg0) = m' (((0 : Dev Cert.ClippedIdeal.nD).tc : Thread Cert.ClippedIdeal.nD Cert.ClippedIdeal.τ).loc Cert.ClippedIdeal.main_arg0)
          ∧ r.2.mem (((0 : Dev Cert.ClippedIdeal.nD).tc : Thread Cert.ClippedIdeal.nD Cert.ClippedIdeal.τ).loc Cert.ClippedIdeal.main_arg1) = m' (((0 : Dev Cert.ClippedIdeal.nD).tc : Thread Cert.ClippedIdeal.nD Cert.ClippedIdeal.τ).loc Cert.ClippedIdeal.main_arg1))

def Claim : Prop :=
  ∃ (hKernel : Cert.Kernel.Facts) (hKernelIdeal : Cert.KernelIdeal.Facts) (hReferenceIdeal : Cert.ReferenceIdeal.Facts) (hClippedIdeal : Cert.ClippedIdeal.Facts) (hPre_bounded_KernelIdeal : Cert.Pre_bounded_KernelIdeal.Facts) (hPre_bounded_ClippedIdeal : Cert.Pre_bounded_ClippedIdeal.Facts),
    quiescent_Kernel (hKernel := hKernel)
    ∧ quiescent_KernelIdeal (hKernelIdeal := hKernelIdeal)
    ∧ quiescent_KernelIdeal_pre_bounded_KernelIdeal (hKernelIdeal := hKernelIdeal) (hPre_bounded_KernelIdeal := hPre_bounded_KernelIdeal)
    ∧ quiescent_ReferenceIdeal (hReferenceIdeal := hReferenceIdeal)
    ∧ quiescent_ClippedIdeal (hClippedIdeal := hClippedIdeal)
    ∧ quiescent_ClippedIdeal_pre_bounded_ClippedIdeal (hClippedIdeal := hClippedIdeal) (hPre_bounded_ClippedIdeal := hPre_bounded_ClippedIdeal)
    ∧ preserves_Kernel_KernelIdeal
    ∧ algebraic_KernelIdeal_ReferenceIdeal (hKernelIdeal := hKernelIdeal) (hReferenceIdeal := hReferenceIdeal)
    ∧ algebraic_KernelIdeal_ClippedIdeal_pre_bounded_KernelIdeal (hKernelIdeal := hKernelIdeal) (hClippedIdeal := hClippedIdeal) (hPre_bounded_KernelIdeal := hPre_bounded_KernelIdeal)
-- ==== Pre_bounded_ClippedIdeal.lean ====
abbrev S2048x2048 : Shape := ⟨2, ![2048, 2048]⟩
abbrev S_ : Shape := ⟨0, ![]⟩
abbrev S2048 : Shape := ⟨1, ![2048]⟩

class Facts : Prop where
  bitsLt_bf16_f32 : FTy.bits .bf16 < FTy.bits .f32
  reducesTo_S2048x2048_S2048_d1 : S2048x2048.ReducesTo [1] S2048
  h_S_ : 0 < S_.numel
  bcast_S_S2048 : S_.BroadcastsInDim S2048 (![] : Fin 0 → Fin S2048.rank)
  reducesTo_S2048x2048_S2048_d0 : S2048x2048.ReducesTo [0] S2048

variable [Facts]

def fn {F : FTy → Type} [FloatOps F] (main_arg0 : FVec F S2048x2048 .bf16) (main_arg1 : FVec F S2048x2048 .bf16) : IVec S2048 1 × IVec S2048 1 :=
  let main_v0 : FVec F S2048x2048 .f32 := (extf .f32 · bitsLt_bf16_f32) main_arg0
  let main_v1 : FVec F S2048x2048 .f32 := (extf .f32 · bitsLt_bf16_f32) main_arg1
  let main_v2 : FVec F S2048x2048 .f32 := mulf main_v0 main_v0
  let main_cst : FVec F S_ .f32 := constant S_ .f32 0x00000000#32
  let main_v3 : FVec F S2048 .f32 := (fun x v => Host.reduceAdd x v reducesTo_S2048x2048_S2048_d1 h_S_) main_v2 main_cst
  let main_cst_0 : FVec F S_ .f32 := constant S_ .f32 0x45340000#32
  let main_v4 : FVec F S2048 .f32 := broadcastInDim S2048 ![] bcast_S_S2048 main_cst_0
  let main_v5 : IVec S2048 1 := cmpf .ole main_v3 main_v4
  let main_v6 : FVec F S2048x2048 .f32 := mulf main_v1 main_v1
  let main_cst_1 : FVec F S_ .f32 := constant S_ .f32 0x00000000#32
  let main_v7 : FVec F S2048 .f32 := (fun x v => Host.reduceAdd x v reducesTo_S2048x2048_S2048_d0 h_S_) main_v6 main_cst_1
  let main_cst_2 : FVec F S_ .f32 := constant S_ .f32 0x3FA00000#32
  let main_v8 : FVec F S2048 .f32 := broadcastInDim S2048 ![] bcast_S_S2048 main_cst_2
  let main_v9 : IVec S2048 1 := cmpf .ole main_v7 main_v8
  (main_v5, main_v9)
-- ==== Pre_bounded_KernelIdeal.lean ====
abbrev S128x2048 : Shape := ⟨2, ![128, 2048]⟩
abbrev S2048x128 : Shape := ⟨2, ![2048, 128]⟩
abbrev S_ : Shape := ⟨0, ![]⟩
abbrev S128 : Shape := ⟨1, ![128]⟩

class Facts : Prop where
  bitsLt_bf16_f32 : FTy.bits .bf16 < FTy.bits .f32
  reducesTo_S128x2048_S128_d1 : S128x2048.ReducesTo [1] S128
  h_S_ : 0 < S_.numel
  bcast_S_S128 : S_.BroadcastsInDim S128 (![] : Fin 0 → Fin S128.rank)
  reducesTo_S2048x128_S128_d0 : S2048x128.ReducesTo [0] S128

variable [Facts]

def fn {F : FTy → Type} [FloatOps F] (main_arg0 : FVec F S128x2048 .bf16) (main_arg1 : FVec F S2048x128 .bf16) : IVec S128 1 × IVec S128 1 :=
  let main_v0 : FVec F S128x2048 .f32 := (extf .f32 · bitsLt_bf16_f32) main_arg0
  let main_v1 : FVec F S2048x128 .f32 := (extf .f32 · bitsLt_bf16_f32) main_arg1
  let main_v2 : FVec F S128x2048 .f32 := mulf main_v0 main_v0
  let main_cst : FVec F S_ .f32 := constant S_ .f32 0x00000000#32
  let main_v3 : FVec F S128 .f32 := (fun x v => Host.reduceAdd x v reducesTo_S128x2048_S128_d1 h_S_) main_v2 main_cst
  let main_cst_0 : FVec F S_ .f32 := constant S_ .f32 0x45340000#32
  let main_v4 : FVec F S128 .f32 := broadcastInDim S128 ![] bcast_S_S128 main_cst_0
  let main_v5 : IVec S128 1 := cmpf .ole main_v3 main_v4
  let main_v6 : FVec F S2048x128 .f32 := mulf main_v1 main_v1
  let main_cst_1 : FVec F S_ .f32 := constant S_ .f32 0x00000000#32
  let main_v7 : FVec F S128 .f32 := (fun x v => Host.reduceAdd x v reducesTo_S2048x128_S128_d0 h_S_) main_v6 main_cst_1
  let main_cst_2 : FVec F S_ .f32 := constant S_ .f32 0x3FA00000#32
  let main_v8 : FVec F S128 .f32 := broadcastInDim S128 ![] bcast_S_S128 main_cst_2
  let main_v9 : IVec S128 1 := cmpf .ole main_v7 main_v8
  (main_v5, main_v9)
-- ==== Kernel.lean ====
abbrev S128x2048 : Shape := ⟨2, ![128, 2048]⟩
abbrev S2048x128 : Shape := ⟨2, ![2048, 128]⟩
abbrev S4x128x2048 : Shape := ⟨3, ![4, 128, 2048]⟩
abbrev S4x4 : Shape := ⟨2, ![4, 4]⟩
abbrev S_ : Shape := ⟨0, ![]⟩
abbrev S1x1 : Shape := ⟨2, ![1, 1]⟩
abbrev S1x32x2048 : Shape := ⟨3, ![1, 32, 2048]⟩
abbrev S32x2048 : Shape := ⟨2, ![32, 2048]⟩
abbrev S128x128 : Shape := ⟨2, ![128, 128]⟩
abbrev S1x128x2048 : Shape := ⟨3, ![1, 128, 2048]⟩
abbrev S1x64x2048 : Shape := ⟨3, ![1, 64, 2048]⟩
abbrev S64x2048 : Shape := ⟨2, ![64, 2048]⟩
abbrev S64x128 : Shape := ⟨2, ![64, 128]⟩

abbrev nBuf : Space → Nat
  | .hbm => 3
  | .vmem => 7
  | .smem => 0
  | _ => 0

abbrev bufTy : (tb : Table) → Fin (tcTables nBuf tb) → BufTy
  | .hbm, ⟨0, _⟩ => ⟨S128x2048, .bf16⟩
  | .hbm, ⟨1, _⟩ => ⟨S2048x128, .bf16⟩
  | .hbm, ⟨2, _⟩ => ⟨S2048x128, .f32⟩
  | .local _ .vmem, ⟨0, _⟩ => ⟨S128x2048, .bf16⟩
  | .local _ .vmem, ⟨1, _⟩ => ⟨S2048x128, .bf16⟩
  | .local _ .vmem, ⟨2, _⟩ => ⟨S2048x128, .f32⟩
  | .local _ .vmem, ⟨3, _⟩ => ⟨S128x2048, .bf16⟩
  | .local _ .vmem, ⟨4, _⟩ => ⟨S4x128x2048, .bf16⟩
  | .local _ .vmem, ⟨5, _⟩ => ⟨S4x128x2048, .bf16⟩
  | .local _ .vmem, ⟨6, _⟩ => ⟨S2048x128, .bf16⟩
  | _, _ => ⟨S128x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 67 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | _ => false

abbrev sig : RefSig :=
  (ofTc nBuf bufTy 1 67 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_sem0_0 : DmaSem sig := 0
abbrev cc0_sem1_0 : DmaSem sig := 1
abbrev cc0_sem2_0 : DmaSem sig := 2
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_95 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c16_i32_54 : BitVec 32 := 16#32
  let v74 : BitVec 32 := Scalar.addi v32 c16_i32_54
  let c1_i32_55 : BitVec 32 := 1#32
  let v75 : BitVec 32 := Scalar.subi v74 c1_i32_55
  let c16_i32_56 : BitVec 32 := 16#32
  let c0_i32_57 : BitVec 32 := 0#32
  let v76 : BitVec 1 := Scalar.cmpi .eq c16_i32_56 c0_i32_57
  let c1_i32_58 : BitVec 32 := 1#32
  let v77 : BitVec 32 := Scalar.select v76 c1_i32_58 c16_i32_56
  let v78 : BitVec 32 := Scalar.remsi v75 v77
  let c0_i32_60 : BitVec 32 := 0#32
  let v80 : BitVec 1 := Scalar.cmpi .slt v78 c0_i32_60
  let c0_i32_61 : BitVec 32 := 0#32
  let v81 : BitVec 1 := Scalar.cmpi .slt v77 c0_i32_61
  let v82 : BitVec 1 := Scalar.xori v80 v81
  let c0_i32_59 : BitVec 32 := 0#32
  let v79 : BitVec 1 := Scalar.cmpi .ne v78 c0_i32_59
  let v83 : BitVec 1 := Scalar.andi v82 v79
  let v84 : BitVec 32 := Scalar.addi v78 v77
  let v85 : BitVec 32 := Scalar.select v83 v84 v78
  let c15_i32_91 : BitVec 32 := 15#32
  let v114 : BitVec 1 := Scalar.cmpi .eq v85 c15_i32_91
  let c4_i32_92 : BitVec 32 := 4#32
  let c14_i32_89 : BitVec 32 := 14#32
  let v112 : BitVec 1 := Scalar.cmpi .eq v85 c14_i32_89
  let c8_i32_90 : BitVec 32 := 8#32
  let c13_i32_87 : BitVec 32 := 13#32
  let v110 : BitVec 1 := Scalar.cmpi .eq v85 c13_i32_87
  let c12_i32_88 : BitVec 32 := 12#32
  let c12_i32_85 : BitVec 32 := 12#32
  let v108 : BitVec 1 := Scalar.cmpi .eq v85 c12_i32_85
  let c15_i32_86 : BitVec 32 := 15#32
  let c11_i32_83 : BitVec 32 := 11#32
  let v106 : BitVec 1 := Scalar.cmpi .eq v85 c11_i32_83
  let c11_i32_84 : BitVec 32 := 11#32
  let c10_i32_81 : BitVec 32 := 10#32
  let v104 : BitVec 1 := Scalar.cmpi .eq v85 c10_i32_81
  let c7_i32_82 : BitVec 32 := 7#32
  let c9_i32_79 : BitVec 32 := 9#32
  let v102 : BitVec 1 := Scalar.cmpi .eq v85 c9_i32_79
  let c3_i32_80 : BitVec 32 := 3#32
  let c8_i32_77 : BitVec 32 := 8#32
  let v100 : BitVec 1 := Scalar.cmpi .eq v85 c8_i32_77
  let c2_i32_78 : BitVec 32 := 2#32
  let c7_i32_75 : BitVec 32 := 7#32
  let v98 : BitVec 1 := Scalar.cmpi .eq v85 c7_i32_75
  let c6_i32_76 : BitVec 32 := 6#32
  let c6_i32_73 : BitVec 32 := 6#32
  let v96 : BitVec 1 := Scalar.cmpi .eq v85 c6_i32_73
  let c10_i32_74 : BitVec 32 := 10#32
  let c5_i32_71 : BitVec 32 := 5#32
  let v94 : BitVec 1 := Scalar.cmpi .eq v85 c5_i32_71
  let c14_i32_72 : BitVec 32 := 14#32
  let c4_i32_69 : BitVec 32 := 4#32
  let v92 : BitVec 1 := Scalar.cmpi .eq v85 c4_i32_69
  let c13_i32_70 : BitVec 32 := 13#32
  let c3_i32_67 : BitVec 32 := 3#32
  let v90 : BitVec 1 := Scalar.cmpi .eq v85 c3_i32_67
  let c9_i32_68 : BitVec 32 := 9#32
  let c2_i32_65 : BitVec 32 := 2#32
  let v88 : BitVec 1 := Scalar.cmpi .eq v85 c2_i32_65
  let c5_i32_66 : BitVec 32 := 5#32
  let c1_i32_62 : BitVec 32 := 1#32
  let v86 : BitVec 1 := Scalar.cmpi .eq v85 c1_i32_62
  let c1_i32_63 : BitVec 32 := 1#32
  let c0_i32_64 : BitVec 32 := 0#32
  let v87 : BitVec 32 := Scalar.select v86 c1_i32_63 c0_i32_64
  let v89 : BitVec 32 := Scalar.select v88 c5_i32_66 v87
  let v91 : BitVec 32 := Scalar.select v90 c9_i32_68 v89
  let v93 : BitVec 32 := Scalar.select v92 c13_i32_70 v91
  let v95 : BitVec 32 := Scalar.select v94 c14_i32_72 v93
  let v97 : BitVec 32 := Scalar.select v96 c10_i32_74 v95
  let v99 : BitVec 32 := Scalar.select v98 c6_i32_76 v97
  let v101 : BitVec 32 := Scalar.select v100 c2_i32_78 v99
  let v103 : BitVec 32 := Scalar.select v102 c3_i32_80 v101
  let v105 : BitVec 32 := Scalar.select v104 c7_i32_82 v103
  let v107 : BitVec 32 := Scalar.select v106 c11_i32_84 v105
  let v109 : BitVec 32 := Scalar.select v108 c15_i32_86 v107
  let v111 : BitVec 32 := Scalar.select v110 c12_i32_88 v109
  let v113 : BitVec 32 := Scalar.select v112 c8_i32_90 v111
  let v115 : BitVec 32 := Scalar.select v114 c4_i32_92 v113
  let c1_i32_94 : BitVec 32 := 1#32
  let v117 : BitVec 32 := Scalar.muli v115 c1_i32_94
  let v118 : BitVec 32 := Scalar.addi c0_i32_95 v117
  v118.toNat
def k0_dev2 (d0 : Dev nD) : Nat :=
  let c0_i32_98 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c1_i32_16 : BitVec 32 := 1#32
  let v33 : BitVec 32 := Scalar.addi v32 c1_i32_16
  let c16_i32_17 : BitVec 32 := 16#32
  let c0_i32_18 : BitVec 32 := 0#32
  let v34 : BitVec 1 := Scalar.cmpi .eq c16_i32_17 c0_i32_18
  let c1_i32_19 : BitVec 32 := 1#32
  let v35 : BitVec 32 := Scalar.select v34 c1_i32_19 c16_i32_17
  let v36 : BitVec 32 := Scalar.remsi v33 v35
  let c0_i32_21 : BitVec 32 := 0#32
  let v38 : BitVec 1 := Scalar.cmpi .slt v36 c0_i32_21
  let c0_i32_22 : BitVec 32 := 0#32
  let v39 : BitVec 1 := Scalar.cmpi .slt v35 c0_i32_22
  let v40 : BitVec 1 := Scalar.xori v38 v39
  let c0_i32_20 : BitVec 32 := 0#32
  let v37 : BitVec 1 := Scalar.cmpi .ne v36 c0_i32_20
  let v41 : BitVec 1 := Scalar.andi v40 v37
  let v42 : BitVec 32 := Scalar.addi v36 v35
  let v43 : BitVec 32 := Scalar.select v41 v42 v36
  let c15_i32_52 : BitVec 32 := 15#32
  let v72 : BitVec 1 := Scalar.cmpi .eq v43 c15_i32_52
  let c4_i32_53 : BitVec 32 := 4#32
  let c14_i32_50 : BitVec 32 := 14#32
  let v70 : BitVec 1 := Scalar.cmpi .eq v43 c14_i32_50
  let c8_i32_51 : BitVec 32 := 8#32
  let c13_i32_48 : BitVec 32 := 13#32
  let v68 : BitVec 1 := Scalar.cmpi .eq v43 c13_i32_48
  let c12_i32_49 : BitVec 32 := 12#32
  let c12_i32_46 : BitVec 32 := 12#32
  let v66 : BitVec 1 := Scalar.cmpi .eq v43 c12_i32_46
  let c15_i32_47 : BitVec 32 := 15#32
  let c11_i32_44 : BitVec 32 := 11#32
  let v64 : BitVec 1 := Scalar.cmpi .eq v43 c11_i32_44
  let c11_i32_45 : BitVec 32 := 11#32
  let c10_i32_42 : BitVec 32 := 10#32
  let v62 : BitVec 1 := Scalar.cmpi .eq v43 c10_i32_42
  let c7_i32_43 : BitVec 32 := 7#32
  let c9_i32_40 : BitVec 32 := 9#32
  let v60 : BitVec 1 := Scalar.cmpi .eq v43 c9_i32_40
  let c3_i32_41 : BitVec 32 := 3#32
  let c8_i32_38 : BitVec 32 := 8#32
  let v58 : BitVec 1 := Scalar.cmpi .eq v43 c8_i32_38
  let c2_i32_39 : BitVec 32 := 2#32
  let c7_i32_36 : BitVec 32 := 7#32
  let v56 : BitVec 1 := Scalar.cmpi .eq v43 c7_i32_36
  let c6_i32_37 : BitVec 32 := 6#32
  let c6_i32_34 : BitVec 32 := 6#32
  let v54 : BitVec 1 := Scalar.cmpi .eq v43 c6_i32_34
  let c10_i32_35 : BitVec 32 := 10#32
  let c5_i32_32 : BitVec 32 := 5#32
  let v52 : BitVec 1 := Scalar.cmpi .eq v43 c5_i32_32
  let c14_i32_33 : BitVec 32 := 14#32
  let c4_i32_30 : BitVec 32 := 4#32
  let v50 : BitVec 1 := Scalar.cmpi .eq v43 c4_i32_30
  let c13_i32_31 : BitVec 32 := 13#32
  let c3_i32_28 : BitVec 32 := 3#32
  let v48 : BitVec 1 := Scalar.cmpi .eq v43 c3_i32_28
  let c9_i32_29 : BitVec 32 := 9#32
  let c2_i32_26 : BitVec 32 := 2#32
  let v46 : BitVec 1 := Scalar.cmpi .eq v43 c2_i32_26
  let c5_i32_27 : BitVec 32 := 5#32
  let c1_i32_23 : BitVec 32 := 1#32
  let v44 : BitVec 1 := Scalar.cmpi .eq v43 c1_i32_23
  let c1_i32_24 : BitVec 32 := 1#32
  let c0_i32_25 : BitVec 32 := 0#32
  let v45 : BitVec 32 := Scalar.select v44 c1_i32_24 c0_i32_25
  let v47 : BitVec 32 := Scalar.select v46 c5_i32_27 v45
  let v49 : BitVec 32 := Scalar.select v48 c9_i32_29 v47
  let v51 : BitVec 32 := Scalar.select v50 c13_i32_31 v49
  let v53 : BitVec 32 := Scalar.select v52 c14_i32_33 v51
  let v55 : BitVec 32 := Scalar.select v54 c10_i32_35 v53
  let v57 : BitVec 32 := Scalar.select v56 c6_i32_37 v55
  let v59 : BitVec 32 := Scalar.select v58 c2_i32_39 v57
  let v61 : BitVec 32 := Scalar.select v60 c3_i32_41 v59
  let v63 : BitVec 32 := Scalar.select v62 c7_i32_43 v61
  let v65 : BitVec 32 := Scalar.select v64 c11_i32_45 v63
  let v67 : BitVec 32 := Scalar.select v66 c15_i32_47 v65
  let v69 : BitVec 32 := Scalar.select v68 c12_i32_49 v67
  let v71 : BitVec 32 := Scalar.select v70 c8_i32_51 v69
  let v73 : BitVec 32 := Scalar.select v72 c4_i32_53 v71
  let c1_i32_97 : BitVec 32 := 1#32
  let v119 : BitVec 32 := Scalar.muli v73 c1_i32_97
  let v120 : BitVec 32 := Scalar.addi c0_i32_98 v119
  v120.toNat
def k0_dev3 (d0 : Dev nD) : Nat :=
  let c0_i32_109 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c1_i32_16 : BitVec 32 := 1#32
  let v33 : BitVec 32 := Scalar.addi v32 c1_i32_16
  let c16_i32_17 : BitVec 32 := 16#32
  let c0_i32_18 : BitVec 32 := 0#32
  let v34 : BitVec 1 := Scalar.cmpi .eq c16_i32_17 c0_i32_18
  let c1_i32_19 : BitVec 32 := 1#32
  let v35 : BitVec 32 := Scalar.select v34 c1_i32_19 c16_i32_17
  let v36 : BitVec 32 := Scalar.remsi v33 v35
  let c0_i32_21 : BitVec 32 := 0#32
  let v38 : BitVec 1 := Scalar.cmpi .slt v36 c0_i32_21
  let c0_i32_22 : BitVec 32 := 0#32
  let v39 : BitVec 1 := Scalar.cmpi .slt v35 c0_i32_22
  let v40 : BitVec 1 := Scalar.xori v38 v39
  let c0_i32_20 : BitVec 32 := 0#32
  let v37 : BitVec 1 := Scalar.cmpi .ne v36 c0_i32_20
  let v41 : BitVec 1 := Scalar.andi v40 v37
  let v42 : BitVec 32 := Scalar.addi v36 v35
  let v43 : BitVec 32 := Scalar.select v41 v42 v36
  let c15_i32_52 : BitVec 32 := 15#32
  let v72 : BitVec 1 := Scalar.cmpi .eq v43 c15_i32_52
  let c4_i32_53 : BitVec 32 := 4#32
  let c14_i32_50 : BitVec 32 := 14#32
  let v70 : BitVec 1 := Scalar.cmpi .eq v43 c14_i32_50
  let c8_i32_51 : BitVec 32 := 8#32
  let c13_i32_48 : BitVec 32 := 13#32
  let v68 : BitVec 1 := Scalar.cmpi .eq v43 c13_i32_48
  let c12_i32_49 : BitVec 32 := 12#32
  let c12_i32_46 : BitVec 32 := 12#32
  let v66 : BitVec 1 := Scalar.cmpi .eq v43 c12_i32_46
  let c15_i32_47 : BitVec 32 := 15#32
  let c11_i32_44 : BitVec 32 := 11#32
  let v64 : BitVec 1 := Scalar.cmpi .eq v43 c11_i32_44
  let c11_i32_45 : BitVec 32 := 11#32
  let c10_i32_42 : BitVec 32 := 10#32
  let v62 : BitVec 1 := Scalar.cmpi .eq v43 c10_i32_42
  let c7_i32_43 : BitVec 32 := 7#32
  let c9_i32_40 : BitVec 32 := 9#32
  let v60 : BitVec 1 := Scalar.cmpi .eq v43 c9_i32_40
  let c3_i32_41 : BitVec 32 := 3#32
  let c8_i32_38 : BitVec 32 := 8#32
  let v58 : BitVec 1 := Scalar.cmpi .eq v43 c8_i32_38
  let c2_i32_39 : BitVec 32 := 2#32
  let c7_i32_36 : BitVec 32 := 7#32
  let v56 : BitVec 1 := Scalar.cmpi .eq v43 c7_i32_36
  let c6_i32_37 : BitVec 32 := 6#32
  let c6_i32_34 : BitVec 32 := 6#32
  let v54 : BitVec 1 := Scalar.cmpi .eq v43 c6_i32_34
  let c10_i32_35 : BitVec 32 := 10#32
  let c5_i32_32 : BitVec 32 := 5#32
  let v52 : BitVec 1 := Scalar.cmpi .eq v43 c5_i32_32
  let c14_i32_33 : BitVec 32 := 14#32
  let c4_i32_30 : BitVec 32 := 4#32
  let v50 : BitVec 1 := Scalar.cmpi .eq v43 c4_i32_30
  let c13_i32_31 : BitVec 32 := 13#32
  let c3_i32_28 : BitVec 32 := 3#32
  let v48 : BitVec 1 := Scalar.cmpi .eq v43 c3_i32_28
  let c9_i32_29 : BitVec 32 := 9#32
  let c2_i32_26 : BitVec 32 := 2#32
  let v46 : BitVec 1 := Scalar.cmpi .eq v43 c2_i32_26
  let c5_i32_27 : BitVec 32 := 5#32
  let c1_i32_23 : BitVec 32 := 1#32
  let v44 : BitVec 1 := Scalar.cmpi .eq v43 c1_i32_23
  let c1_i32_24 : BitVec 32 := 1#32
  let c0_i32_25 : BitVec 32 := 0#32
  let v45 : BitVec 32 := Scalar.select v44 c1_i32_24 c0_i32_25
  let v47 : BitVec 32 := Scalar.select v46 c5_i32_27 v45
  let v49 : BitVec 32 := Scalar.select v48 c9_i32_29 v47
  let v51 : BitVec 32 := Scalar.select v50 c13_i32_31 v49
  let v53 : BitVec 32 := Scalar.select v52 c14_i32_33 v51
  let v55 : BitVec 32 := Scalar.select v54 c10_i32_35 v53
  let v57 : BitVec 32 := Scalar.select v56 c6_i32_37 v55
  let v59 : BitVec 32 := Scalar.select v58 c2_i32_39 v57
  let v61 : BitVec 32 := Scalar.select v60 c3_i32_41 v59
  let v63 : BitVec 32 := Scalar.select v62 c7_i32_43 v61
  let v65 : BitVec 32 := Scalar.select v64 c11_i32_45 v63
  let v67 : BitVec 32 := Scalar.select v66 c15_i32_47 v65
  let v69 : BitVec 32 := Scalar.select v68 c12_i32_49 v67
  let v71 : BitVec 32 := Scalar.select v70 c8_i32_51 v69
  let v73 : BitVec 32 := Scalar.select v72 c4_i32_53 v71
  let c1_i32_108 : BitVec 32 := 1#32
  let v126 : BitVec 32 := Scalar.muli v73 c1_i32_108
  let v127 : BitVec 32 := Scalar.addi c0_i32_109 v126
  v127.toNat
def k0_dev4 (d0 : Dev nD) : Nat :=
  let c0_i32_120 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c16_i32_54 : BitVec 32 := 16#32
  let v74 : BitVec 32 := Scalar.addi v32 c16_i32_54
  let c1_i32_55 : BitVec 32 := 1#32
  let v75 : BitVec 32 := Scalar.subi v74 c1_i32_55
  let c16_i32_56 : BitVec 32 := 16#32
  let c0_i32_57 : BitVec 32 := 0#32
  let v76 : BitVec 1 := Scalar.cmpi .eq c16_i32_56 c0_i32_57
  let c1_i32_58 : BitVec 32 := 1#32
  let v77 : BitVec 32 := Scalar.select v76 c1_i32_58 c16_i32_56
  let v78 : BitVec 32 := Scalar.remsi v75 v77
  let c0_i32_60 : BitVec 32 := 0#32
  let v80 : BitVec 1 := Scalar.cmpi .slt v78 c0_i32_60
  let c0_i32_61 : BitVec 32 := 0#32
  let v81 : BitVec 1 := Scalar.cmpi .slt v77 c0_i32_61
  let v82 : BitVec 1 := Scalar.xori v80 v81
  let c0_i32_59 : BitVec 32 := 0#32
  let v79 : BitVec 1 := Scalar.cmpi .ne v78 c0_i32_59
  let v83 : BitVec 1 := Scalar.andi v82 v79
  let v84 : BitVec 32 := Scalar.addi v78 v77
  let v85 : BitVec 32 := Scalar.select v83 v84 v78
  let c15_i32_91 : BitVec 32 := 15#32
  let v114 : BitVec 1 := Scalar.cmpi .eq v85 c15_i32_91
  let c4_i32_92 : BitVec 32 := 4#32
  let c14_i32_89 : BitVec 32 := 14#32
  let v112 : BitVec 1 := Scalar.cmpi .eq v85 c14_i32_89
  let c8_i32_90 : BitVec 32 := 8#32
  let c13_i32_87 : BitVec 32 := 13#32
  let v110 : BitVec 1 := Scalar.cmpi .eq v85 c13_i32_87
  let c12_i32_88 : BitVec 32 := 12#32
  let c12_i32_85 : BitVec 32 := 12#32
  let v108 : BitVec 1 := Scalar.cmpi .eq v85 c12_i32_85
  let c15_i32_86 : BitVec 32 := 15#32
  let c11_i32_83 : BitVec 32 := 11#32
  let v106 : BitVec 1 := Scalar.cmpi .eq v85 c11_i32_83
  let c11_i32_84 : BitVec 32 := 11#32
  let c10_i32_81 : BitVec 32 := 10#32
  let v104 : BitVec 1 := Scalar.cmpi .eq v85 c10_i32_81
  let c7_i32_82 : BitVec 32 := 7#32
  let c9_i32_79 : BitVec 32 := 9#32
  let v102 : BitVec 1 := Scalar.cmpi .eq v85 c9_i32_79
  let c3_i32_80 : BitVec 32 := 3#32
  let c8_i32_77 : BitVec 32 := 8#32
  let v100 : BitVec 1 := Scalar.cmpi .eq v85 c8_i32_77
  let c2_i32_78 : BitVec 32 := 2#32
  let c7_i32_75 : BitVec 32 := 7#32
  let v98 : BitVec 1 := Scalar.cmpi .eq v85 c7_i32_75
  let c6_i32_76 : BitVec 32 := 6#32
  let c6_i32_73 : BitVec 32 := 6#32
  let v96 : BitVec 1 := Scalar.cmpi .eq v85 c6_i32_73
  let c10_i32_74 : BitVec 32 := 10#32
  let c5_i32_71 : BitVec 32 := 5#32
  let v94 : BitVec 1 := Scalar.cmpi .eq v85 c5_i32_71
  let c14_i32_72 : BitVec 32 := 14#32
  let c4_i32_69 : BitVec 32 := 4#32
  let v92 : BitVec 1 := Scalar.cmpi .eq v85 c4_i32_69
  let c13_i32_70 : BitVec 32 := 13#32
  let c3_i32_67 : BitVec 32 := 3#32
  let v90 : BitVec 1 := Scalar.cmpi .eq v85 c3_i32_67
  let c9_i32_68 : BitVec 32 := 9#32
  let c2_i32_65 : BitVec 32 := 2#32
  let v88 : BitVec 1 := Scalar.cmpi .eq v85 c2_i32_65
  let c5_i32_66 : BitVec 32 := 5#32
  let c1_i32_62 : BitVec 32 := 1#32
  let v86 : BitVec 1 := Scalar.cmpi .eq v85 c1_i32_62
  let c1_i32_63 : BitVec 32 := 1#32
  let c0_i32_64 : BitVec 32 := 0#32
  let v87 : BitVec 32 := Scalar.select v86 c1_i32_63 c0_i32_64
  let v89 : BitVec 32 := Scalar.select v88 c5_i32_66 v87
  let v91 : BitVec 32 := Scalar.select v90 c9_i32_68 v89
  let v93 : BitVec 32 := Scalar.select v92 c13_i32_70 v91
  let v95 : BitVec 32 := Scalar.select v94 c14_i32_72 v93
  let v97 : BitVec 32 := Scalar.select v96 c10_i32_74 v95
  let v99 : BitVec 32 := Scalar.select v98 c6_i32_76 v97
  let v101 : BitVec 32 := Scalar.select v100 c2_i32_78 v99
  let v103 : BitVec 32 := Scalar.select v102 c3_i32_80 v101
  let v105 : BitVec 32 := Scalar.select v104 c7_i32_82 v103
  let v107 : BitVec 32 := Scalar.select v106 c11_i32_84 v105
  let v109 : BitVec 32 := Scalar.select v108 c15_i32_86 v107
  let v111 : BitVec 32 := Scalar.select v110 c12_i32_88 v109
  let v113 : BitVec 32 := Scalar.select v112 c8_i32_90 v111
  let v115 : BitVec 32 := Scalar.select v114 c4_i32_92 v113
  let c1_i32_119 : BitVec 32 := 1#32
  let v135 : BitVec 32 := Scalar.muli v115 c1_i32_119
  let v136 : BitVec 32 := Scalar.addi c0_i32_120 v135
  v136.toNat
def k0_dev5 (d0 : Dev nD) : Nat :=
  let c0_i32_131 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c1_i32_16 : BitVec 32 := 1#32
  let v33 : BitVec 32 := Scalar.addi v32 c1_i32_16
  let c16_i32_17 : BitVec 32 := 16#32
  let c0_i32_18 : BitVec 32 := 0#32
  let v34 : BitVec 1 := Scalar.cmpi .eq c16_i32_17 c0_i32_18
  let c1_i32_19 : BitVec 32 := 1#32
  let v35 : BitVec 32 := Scalar.select v34 c1_i32_19 c16_i32_17
  let v36 : BitVec 32 := Scalar.remsi v33 v35
  let c0_i32_21 : BitVec 32 := 0#32
  let v38 : BitVec 1 := Scalar.cmpi .slt v36 c0_i32_21
  let c0_i32_22 : BitVec 32 := 0#32
  let v39 : BitVec 1 := Scalar.cmpi .slt v35 c0_i32_22
  let v40 : BitVec 1 := Scalar.xori v38 v39
  let c0_i32_20 : BitVec 32 := 0#32
  let v37 : BitVec 1 := Scalar.cmpi .ne v36 c0_i32_20
  let v41 : BitVec 1 := Scalar.andi v40 v37
  let v42 : BitVec 32 := Scalar.addi v36 v35
  let v43 : BitVec 32 := Scalar.select v41 v42 v36
  let c15_i32_52 : BitVec 32 := 15#32
  let v72 : BitVec 1 := Scalar.cmpi .eq v43 c15_i32_52
  let c4_i32_53 : BitVec 32 := 4#32
  let c14_i32_50 : BitVec 32 := 14#32
  let v70 : BitVec 1 := Scalar.cmpi .eq v43 c14_i32_50
  let c8_i32_51 : BitVec 32 := 8#32
  let c13_i32_48 : BitVec 32 := 13#32
  let v68 : BitVec 1 := Scalar.cmpi .eq v43 c13_i32_48
  let c12_i32_49 : BitVec 32 := 12#32
  let c12_i32_46 : BitVec 32 := 12#32
  let v66 : BitVec 1 := Scalar.cmpi .eq v43 c12_i32_46
  let c15_i32_47 : BitVec 32 := 15#32
  let c11_i32_44 : BitVec 32 := 11#32
  let v64 : BitVec 1 := Scalar.cmpi .eq v43 c11_i32_44
  let c11_i32_45 : BitVec 32 := 11#32
  let c10_i32_42 : BitVec 32 := 10#32
  let v62 : BitVec 1 := Scalar.cmpi .eq v43 c10_i32_42
  let c7_i32_43 : BitVec 32 := 7#32
  let c9_i32_40 : BitVec 32 := 9#32
  let v60 : BitVec 1 := Scalar.cmpi .eq v43 c9_i32_40
  let c3_i32_41 : BitVec 32 := 3#32
  let c8_i32_38 : BitVec 32 := 8#32
  let v58 : BitVec 1 := Scalar.cmpi .eq v43 c8_i32_38
  let c2_i32_39 : BitVec 32 := 2#32
  let c7_i32_36 : BitVec 32 := 7#32
  let v56 : BitVec 1 := Scalar.cmpi .eq v43 c7_i32_36
  let c6_i32_37 : BitVec 32 := 6#32
  let c6_i32_34 : BitVec 32 := 6#32
  let v54 : BitVec 1 := Scalar.cmpi .eq v43 c6_i32_34
  let c10_i32_35 : BitVec 32 := 10#32
  let c5_i32_32 : BitVec 32 := 5#32
  let v52 : BitVec 1 := Scalar.cmpi .eq v43 c5_i32_32
  let c14_i32_33 : BitVec 32 := 14#32
  let c4_i32_30 : BitVec 32 := 4#32
  let v50 : BitVec 1 := Scalar.cmpi .eq v43 c4_i32_30
  let c13_i32_31 : BitVec 32 := 13#32
  let c3_i32_28 : BitVec 32 := 3#32
  let v48 : BitVec 1 := Scalar.cmpi .eq v43 c3_i32_28
  let c9_i32_29 : BitVec 32 := 9#32
  let c2_i32_26 : BitVec 32 := 2#32
  let v46 : BitVec 1 := Scalar.cmpi .eq v43 c2_i32_26
  let c5_i32_27 : BitVec 32 := 5#32
  let c1_i32_23 : BitVec 32 := 1#32
  let v44 : BitVec 1 := Scalar.cmpi .eq v43 c1_i32_23
  let c1_i32_24 : BitVec 32 := 1#32
  let c0_i32_25 : BitVec 32 := 0#32
  let v45 : BitVec 32 := Scalar.select v44 c1_i32_24 c0_i32_25
  let v47 : BitVec 32 := Scalar.select v46 c5_i32_27 v45
  let v49 : BitVec 32 := Scalar.select v48 c9_i32_29 v47
  let v51 : BitVec 32 := Scalar.select v50 c13_i32_31 v49
  let v53 : BitVec 32 := Scalar.select v52 c14_i32_33 v51
  let v55 : BitVec 32 := Scalar.select v54 c10_i32_35 v53
  let v57 : BitVec 32 := Scalar.select v56 c6_i32_37 v55
  let v59 : BitVec 32 := Scalar.select v58 c2_i32_39 v57
  let v61 : BitVec 32 := Scalar.select v60 c3_i32_41 v59
  let v63 : BitVec 32 := Scalar.select v62 c7_i32_43 v61
  let v65 : BitVec 32 := Scalar.select v64 c11_i32_45 v63
  let v67 : BitVec 32 := Scalar.select v66 c15_i32_47 v65
  let v69 : BitVec 32 := Scalar.select v68 c12_i32_49 v67
  let v71 : BitVec 32 := Scalar.select v70 c8_i32_51 v69
  let v73 : BitVec 32 := Scalar.select v72 c4_i32_53 v71
  let c1_i32_130 : BitVec 32 := 1#32
  let v144 : BitVec 32 := Scalar.muli v73 c1_i32_130
  let v145 : BitVec 32 := Scalar.addi c0_i32_131 v144
  v145.toNat
def k0_dev6 (d0 : Dev nD) : Nat :=
  let c0_i32_141 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c16_i32_54 : BitVec 32 := 16#32
  let v74 : BitVec 32 := Scalar.addi v32 c16_i32_54
  let c1_i32_55 : BitVec 32 := 1#32
  let v75 : BitVec 32 := Scalar.subi v74 c1_i32_55
  let c16_i32_56 : BitVec 32 := 16#32
  let c0_i32_57 : BitVec 32 := 0#32
  let v76 : BitVec 1 := Scalar.cmpi .eq c16_i32_56 c0_i32_57
  let c1_i32_58 : BitVec 32 := 1#32
  let v77 : BitVec 32 := Scalar.select v76 c1_i32_58 c16_i32_56
  let v78 : BitVec 32 := Scalar.remsi v75 v77
  let c0_i32_60 : BitVec 32 := 0#32
  let v80 : BitVec 1 := Scalar.cmpi .slt v78 c0_i32_60
  let c0_i32_61 : BitVec 32 := 0#32
  let v81 : BitVec 1 := Scalar.cmpi .slt v77 c0_i32_61
  let v82 : BitVec 1 := Scalar.xori v80 v81
  let c0_i32_59 : BitVec 32 := 0#32
  let v79 : BitVec 1 := Scalar.cmpi .ne v78 c0_i32_59
  let v83 : BitVec 1 := Scalar.andi v82 v79
  let v84 : BitVec 32 := Scalar.addi v78 v77
  let v85 : BitVec 32 := Scalar.select v83 v84 v78
  let c15_i32_91 : BitVec 32 := 15#32
  let v114 : BitVec 1 := Scalar.cmpi .eq v85 c15_i32_91
  let c4_i32_92 : BitVec 32 := 4#32
  let c14_i32_89 : BitVec 32 := 14#32
  let v112 : BitVec 1 := Scalar.cmpi .eq v85 c14_i32_89
  let c8_i32_90 : BitVec 32 := 8#32
  let c13_i32_87 : BitVec 32 := 13#32
  let v110 : BitVec 1 := Scalar.cmpi .eq v85 c13_i32_87
  let c12_i32_88 : BitVec 32 := 12#32
  let c12_i32_85 : BitVec 32 := 12#32
  let v108 : BitVec 1 := Scalar.cmpi .eq v85 c12_i32_85
  let c15_i32_86 : BitVec 32 := 15#32
  let c11_i32_83 : BitVec 32 := 11#32
  let v106 : BitVec 1 := Scalar.cmpi .eq v85 c11_i32_83
  let c11_i32_84 : BitVec 32 := 11#32
  let c10_i32_81 : BitVec 32 := 10#32
  let v104 : BitVec 1 := Scalar.cmpi .eq v85 c10_i32_81
  let c7_i32_82 : BitVec 32 := 7#32
  let c9_i32_79 : BitVec 32 := 9#32
  let v102 : BitVec 1 := Scalar.cmpi .eq v85 c9_i32_79
  let c3_i32_80 : BitVec 32 := 3#32
  let c8_i32_77 : BitVec 32 := 8#32
  let v100 : BitVec 1 := Scalar.cmpi .eq v85 c8_i32_77
  let c2_i32_78 : BitVec 32 := 2#32
  let c7_i32_75 : BitVec 32 := 7#32
  let v98 : BitVec 1 := Scalar.cmpi .eq v85 c7_i32_75
  let c6_i32_76 : BitVec 32 := 6#32
  let c6_i32_73 : BitVec 32 := 6#32
  let v96 : BitVec 1 := Scalar.cmpi .eq v85 c6_i32_73
  let c10_i32_74 : BitVec 32 := 10#32
  let c5_i32_71 : BitVec 32 := 5#32
  let v94 : BitVec 1 := Scalar.cmpi .eq v85 c5_i32_71
  let c14_i32_72 : BitVec 32 := 14#32
  let c4_i32_69 : BitVec 32 := 4#32
  let v92 : BitVec 1 := Scalar.cmpi .eq v85 c4_i32_69
  let c13_i32_70 : BitVec 32 := 13#32
  let c3_i32_67 : BitVec 32 := 3#32
  let v90 : BitVec 1 := Scalar.cmpi .eq v85 c3_i32_67
  let c9_i32_68 : BitVec 32 := 9#32
  let c2_i32_65 : BitVec 32 := 2#32
  let v88 : BitVec 1 := Scalar.cmpi .eq v85 c2_i32_65
  let c5_i32_66 : BitVec 32 := 5#32
  let c1_i32_62 : BitVec 32 := 1#32
  let v86 : BitVec 1 := Scalar.cmpi .eq v85 c1_i32_62
  let c1_i32_63 : BitVec 32 := 1#32
  let c0_i32_64 : BitVec 32 := 0#32
  let v87 : BitVec 32 := Scalar.select v86 c1_i32_63 c0_i32_64
  let v89 : BitVec 32 := Scalar.select v88 c5_i32_66 v87
  let v91 : BitVec 32 := Scalar.select v90 c9_i32_68 v89
  let v93 : BitVec 32 := Scalar.select v92 c13_i32_70 v91
  let v95 : BitVec 32 := Scalar.select v94 c14_i32_72 v93
  let v97 : BitVec 32 := Scalar.select v96 c10_i32_74 v95
  let v99 : BitVec 32 := Scalar.select v98 c6_i32_76 v97
  let v101 : BitVec 32 := Scalar.select v100 c2_i32_78 v99
  let v103 : BitVec 32 := Scalar.select v102 c3_i32_80 v101
  let v105 : BitVec 32 := Scalar.select v104 c7_i32_82 v103
  let v107 : BitVec 32 := Scalar.select v106 c11_i32_84 v105
  let v109 : BitVec 32 := Scalar.select v108 c15_i32_86 v107
  let v111 : BitVec 32 := Scalar.select v110 c12_i32_88 v109
  let v113 : BitVec 32 := Scalar.select v112 c8_i32_90 v111
  let v115 : BitVec 32 := Scalar.select v114 c4_i32_92 v113
  let c1_i32_140 : BitVec 32 := 1#32
  let v153 : BitVec 32 := Scalar.muli v115 c1_i32_140
  let v154 : BitVec 32 := Scalar.addi c0_i32_141 v153
  v154.toNat
def k0_dev7 (d0 : Dev nD) : Nat :=
  let c0_i32_152 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c1_i32_16 : BitVec 32 := 1#32
  let v33 : BitVec 32 := Scalar.addi v32 c1_i32_16
  let c16_i32_17 : BitVec 32 := 16#32
  let c0_i32_18 : BitVec 32 := 0#32
  let v34 : BitVec 1 := Scalar.cmpi .eq c16_i32_17 c0_i32_18
  let c1_i32_19 : BitVec 32 := 1#32
  let v35 : BitVec 32 := Scalar.select v34 c1_i32_19 c16_i32_17
  let v36 : BitVec 32 := Scalar.remsi v33 v35
  let c0_i32_21 : BitVec 32 := 0#32
  let v38 : BitVec 1 := Scalar.cmpi .slt v36 c0_i32_21
  let c0_i32_22 : BitVec 32 := 0#32
  let v39 : BitVec 1 := Scalar.cmpi .slt v35 c0_i32_22
  let v40 : BitVec 1 := Scalar.xori v38 v39
  let c0_i32_20 : BitVec 32 := 0#32
  let v37 : BitVec 1 := Scalar.cmpi .ne v36 c0_i32_20
  let v41 : BitVec 1 := Scalar.andi v40 v37
  let v42 : BitVec 32 := Scalar.addi v36 v35
  let v43 : BitVec 32 := Scalar.select v41 v42 v36
  let c15_i32_52 : BitVec 32 := 15#32
  let v72 : BitVec 1 := Scalar.cmpi .eq v43 c15_i32_52
  let c4_i32_53 : BitVec 32 := 4#32
  let c14_i32_50 : BitVec 32 := 14#32
  let v70 : BitVec 1 := Scalar.cmpi .eq v43 c14_i32_50
  let c8_i32_51 : BitVec 32 := 8#32
  let c13_i32_48 : BitVec 32 := 13#32
  let v68 : BitVec 1 := Scalar.cmpi .eq v43 c13_i32_48
  let c12_i32_49 : BitVec 32 := 12#32
  let c12_i32_46 : BitVec 32 := 12#32
  let v66 : BitVec 1 := Scalar.cmpi .eq v43 c12_i32_46
  let c15_i32_47 : BitVec 32 := 15#32
  let c11_i32_44 : BitVec 32 := 11#32
  let v64 : BitVec 1 := Scalar.cmpi .eq v43 c11_i32_44
  let c11_i32_45 : BitVec 32 := 11#32
  let c10_i32_42 : BitVec 32 := 10#32
  let v62 : BitVec 1 := Scalar.cmpi .eq v43 c10_i32_42
  let c7_i32_43 : BitVec 32 := 7#32
  let c9_i32_40 : BitVec 32 := 9#32
  let v60 : BitVec 1 := Scalar.cmpi .eq v43 c9_i32_40
  let c3_i32_41 : BitVec 32 := 3#32
  let c8_i32_38 : BitVec 32 := 8#32
  let v58 : BitVec 1 := Scalar.cmpi .eq v43 c8_i32_38
  let c2_i32_39 : BitVec 32 := 2#32
  let c7_i32_36 : BitVec 32 := 7#32
  let v56 : BitVec 1 := Scalar.cmpi .eq v43 c7_i32_36
  let c6_i32_37 : BitVec 32 := 6#32
  let c6_i32_34 : BitVec 32 := 6#32
  let v54 : BitVec 1 := Scalar.cmpi .eq v43 c6_i32_34
  let c10_i32_35 : BitVec 32 := 10#32
  let c5_i32_32 : BitVec 32 := 5#32
  let v52 : BitVec 1 := Scalar.cmpi .eq v43 c5_i32_32
  let c14_i32_33 : BitVec 32 := 14#32
  let c4_i32_30 : BitVec 32 := 4#32
  let v50 : BitVec 1 := Scalar.cmpi .eq v43 c4_i32_30
  let c13_i32_31 : BitVec 32 := 13#32
  let c3_i32_28 : BitVec 32 := 3#32
  let v48 : BitVec 1 := Scalar.cmpi .eq v43 c3_i32_28
  let c9_i32_29 : BitVec 32 := 9#32
  let c2_i32_26 : BitVec 32 := 2#32
  let v46 : BitVec 1 := Scalar.cmpi .eq v43 c2_i32_26
  let c5_i32_27 : BitVec 32 := 5#32
  let c1_i32_23 : BitVec 32 := 1#32
  let v44 : BitVec 1 := Scalar.cmpi .eq v43 c1_i32_23
  let c1_i32_24 : BitVec 32 := 1#32
  let c0_i32_25 : BitVec 32 := 0#32
  let v45 : BitVec 32 := Scalar.select v44 c1_i32_24 c0_i32_25
  let v47 : BitVec 32 := Scalar.select v46 c5_i32_27 v45
  let v49 : BitVec 32 := Scalar.select v48 c9_i32_29 v47
  let v51 : BitVec 32 := Scalar.select v50 c13_i32_31 v49
  let v53 : BitVec 32 := Scalar.select v52 c14_i32_33 v51
  let v55 : BitVec 32 := Scalar.select v54 c10_i32_35 v53
  let v57 : BitVec 32 := Scalar.select v56 c6_i32_37 v55
  let v59 : BitVec 32 := Scalar.select v58 c2_i32_39 v57
  let v61 : BitVec 32 := Scalar.select v60 c3_i32_41 v59
  let v63 : BitVec 32 := Scalar.select v62 c7_i32_43 v61
  let v65 : BitVec 32 := Scalar.select v64 c11_i32_45 v63
  let v67 : BitVec 32 := Scalar.select v66 c15_i32_47 v65
  let v69 : BitVec 32 := Scalar.select v68 c12_i32_49 v67
  let v71 : BitVec 32 := Scalar.select v70 c8_i32_51 v69
  let v73 : BitVec 32 := Scalar.select v72 c4_i32_53 v71
  let c1_i32_151 : BitVec 32 := 1#32
  let v162 : BitVec 32 := Scalar.muli v73 c1_i32_151
  let v163 : BitVec 32 := Scalar.addi c0_i32_152 v162
  v163.toNat
def k0_dev8 (d0 : Dev nD) : Nat :=
  let c0_i32_162 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c16_i32_54 : BitVec 32 := 16#32
  let v74 : BitVec 32 := Scalar.addi v32 c16_i32_54
  let c1_i32_55 : BitVec 32 := 1#32
  let v75 : BitVec 32 := Scalar.subi v74 c1_i32_55
  let c16_i32_56 : BitVec 32 := 16#32
  let c0_i32_57 : BitVec 32 := 0#32
  let v76 : BitVec 1 := Scalar.cmpi .eq c16_i32_56 c0_i32_57
  let c1_i32_58 : BitVec 32 := 1#32
  let v77 : BitVec 32 := Scalar.select v76 c1_i32_58 c16_i32_56
  let v78 : BitVec 32 := Scalar.remsi v75 v77
  let c0_i32_60 : BitVec 32 := 0#32
  let v80 : BitVec 1 := Scalar.cmpi .slt v78 c0_i32_60
  let c0_i32_61 : BitVec 32 := 0#32
  let v81 : BitVec 1 := Scalar.cmpi .slt v77 c0_i32_61
  let v82 : BitVec 1 := Scalar.xori v80 v81
  let c0_i32_59 : BitVec 32 := 0#32
  let v79 : BitVec 1 := Scalar.cmpi .ne v78 c0_i32_59
  let v83 : BitVec 1 := Scalar.andi v82 v79
  let v84 : BitVec 32 := Scalar.addi v78 v77
  let v85 : BitVec 32 := Scalar.select v83 v84 v78
  let c15_i32_91 : BitVec 32 := 15#32
  let v114 : BitVec 1 := Scalar.cmpi .eq v85 c15_i32_91
  let c4_i32_92 : BitVec 32 := 4#32
  let c14_i32_89 : BitVec 32 := 14#32
  let v112 : BitVec 1 := Scalar.cmpi .eq v85 c14_i32_89
  let c8_i32_90 : BitVec 32 := 8#32
  let c13_i32_87 : BitVec 32 := 13#32
  let v110 : BitVec 1 := Scalar.cmpi .eq v85 c13_i32_87
  let c12_i32_88 : BitVec 32 := 12#32
  let c12_i32_85 : BitVec 32 := 12#32
  let v108 : BitVec 1 := Scalar.cmpi .eq v85 c12_i32_85
  let c15_i32_86 : BitVec 32 := 15#32
  let c11_i32_83 : BitVec 32 := 11#32
  let v106 : BitVec 1 := Scalar.cmpi .eq v85 c11_i32_83
  let c11_i32_84 : BitVec 32 := 11#32
  let c10_i32_81 : BitVec 32 := 10#32
  let v104 : BitVec 1 := Scalar.cmpi .eq v85 c10_i32_81
  let c7_i32_82 : BitVec 32 := 7#32
  let c9_i32_79 : BitVec 32 := 9#32
  let v102 : BitVec 1 := Scalar.cmpi .eq v85 c9_i32_79
  let c3_i32_80 : BitVec 32 := 3#32
  let c8_i32_77 : BitVec 32 := 8#32
  let v100 : BitVec 1 := Scalar.cmpi .eq v85 c8_i32_77
  let c2_i32_78 : BitVec 32 := 2#32
  let c7_i32_75 : BitVec 32 := 7#32
  let v98 : BitVec 1 := Scalar.cmpi .eq v85 c7_i32_75
  let c6_i32_76 : BitVec 32 := 6#32
  let c6_i32_73 : BitVec 32 := 6#32
  let v96 : BitVec 1 := Scalar.cmpi .eq v85 c6_i32_73
  let c10_i32_74 : BitVec 32 := 10#32
  let c5_i32_71 : BitVec 32 := 5#32
  let v94 : BitVec 1 := Scalar.cmpi .eq v85 c5_i32_71
  let c14_i32_72 : BitVec 32 := 14#32
  let c4_i32_69 : BitVec 32 := 4#32
  let v92 : BitVec 1 := Scalar.cmpi .eq v85 c4_i32_69
  let c13_i32_70 : BitVec 32 := 13#32
  let c3_i32_67 : BitVec 32 := 3#32
  let v90 : BitVec 1 := Scalar.cmpi .eq v85 c3_i32_67
  let c9_i32_68 : BitVec 32 := 9#32
  let c2_i32_65 : BitVec 32 := 2#32
  let v88 : BitVec 1 := Scalar.cmpi .eq v85 c2_i32_65
  let c5_i32_66 : BitVec 32 := 5#32
  let c1_i32_62 : BitVec 32 := 1#32
  let v86 : BitVec 1 := Scalar.cmpi .eq v85 c1_i32_62
  let c1_i32_63 : BitVec 32 := 1#32
  let c0_i32_64 : BitVec 32 := 0#32
  let v87 : BitVec 32 := Scalar.select v86 c1_i32_63 c0_i32_64
  let v89 : BitVec 32 := Scalar.select v88 c5_i32_66 v87
  let v91 : BitVec 32 := Scalar.select v90 c9_i32_68 v89
  let v93 : BitVec 32 := Scalar.select v92 c13_i32_70 v91
  let v95 : BitVec 32 := Scalar.select v94 c14_i32_72 v93
  let v97 : BitVec 32 := Scalar.select v96 c10_i32_74 v95
  let v99 : BitVec 32 := Scalar.select v98 c6_i32_76 v97
  let v101 : BitVec 32 := Scalar.select v100 c2_i32_78 v99
  let v103 : BitVec 32 := Scalar.select v102 c3_i32_80 v101
  let v105 : BitVec 32 := Scalar.select v104 c7_i32_82 v103
  let v107 : BitVec 32 := Scalar.select v106 c11_i32_84 v105
  let v109 : BitVec 32 := Scalar.select v108 c15_i32_86 v107
  let v111 : BitVec 32 := Scalar.select v110 c12_i32_88 v109
  let v113 : BitVec 32 := Scalar.select v112 c8_i32_90 v111
  let v115 : BitVec 32 := Scalar.select v114 c4_i32_92 v113
  let c1_i32_161 : BitVec 32 := 1#32
  let v171 : BitVec 32 := Scalar.muli v115 c1_i32_161
  let v172 : BitVec 32 := Scalar.addi c0_i32_162 v171
  v172.toNat
def k0_dev9 (d0 : Dev nD) : Nat :=
  let c0_i32_173 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c1_i32_16 : BitVec 32 := 1#32
  let v33 : BitVec 32 := Scalar.addi v32 c1_i32_16
  let c16_i32_17 : BitVec 32 := 16#32
  let c0_i32_18 : BitVec 32 := 0#32
  let v34 : BitVec 1 := Scalar.cmpi .eq c16_i32_17 c0_i32_18
  let c1_i32_19 : BitVec 32 := 1#32
  let v35 : BitVec 32 := Scalar.select v34 c1_i32_19 c16_i32_17
  let v36 : BitVec 32 := Scalar.remsi v33 v35
  let c0_i32_21 : BitVec 32 := 0#32
  let v38 : BitVec 1 := Scalar.cmpi .slt v36 c0_i32_21
  let c0_i32_22 : BitVec 32 := 0#32
  let v39 : BitVec 1 := Scalar.cmpi .slt v35 c0_i32_22
  let v40 : BitVec 1 := Scalar.xori v38 v39
  let c0_i32_20 : BitVec 32 := 0#32
  let v37 : BitVec 1 := Scalar.cmpi .ne v36 c0_i32_20
  let v41 : BitVec 1 := Scalar.andi v40 v37
  let v42 : BitVec 32 := Scalar.addi v36 v35
  let v43 : BitVec 32 := Scalar.select v41 v42 v36
  let c15_i32_52 : BitVec 32 := 15#32
  let v72 : BitVec 1 := Scalar.cmpi .eq v43 c15_i32_52
  let c4_i32_53 : BitVec 32 := 4#32
  let c14_i32_50 : BitVec 32 := 14#32
  let v70 : BitVec 1 := Scalar.cmpi .eq v43 c14_i32_50
  let c8_i32_51 : BitVec 32 := 8#32
  let c13_i32_48 : BitVec 32 := 13#32
  let v68 : BitVec 1 := Scalar.cmpi .eq v43 c13_i32_48
  let c12_i32_49 : BitVec 32 := 12#32
  let c12_i32_46 : BitVec 32 := 12#32
  let v66 : BitVec 1 := Scalar.cmpi .eq v43 c12_i32_46
  let c15_i32_47 : BitVec 32 := 15#32
  let c11_i32_44 : BitVec 32 := 11#32
  let v64 : BitVec 1 := Scalar.cmpi .eq v43 c11_i32_44
  let c11_i32_45 : BitVec 32 := 11#32
  let c10_i32_42 : BitVec 32 := 10#32
  let v62 : BitVec 1 := Scalar.cmpi .eq v43 c10_i32_42
  let c7_i32_43 : BitVec 32 := 7#32
  let c9_i32_40 : BitVec 32 := 9#32
  let v60 : BitVec 1 := Scalar.cmpi .eq v43 c9_i32_40
  let c3_i32_41 : BitVec 32 := 3#32
  let c8_i32_38 : BitVec 32 := 8#32
  let v58 : BitVec 1 := Scalar.cmpi .eq v43 c8_i32_38
  let c2_i32_39 : BitVec 32 := 2#32
  let c7_i32_36 : BitVec 32 := 7#32
  let v56 : BitVec 1 := Scalar.cmpi .eq v43 c7_i32_36
  let c6_i32_37 : BitVec 32 := 6#32
  let c6_i32_34 : BitVec 32 := 6#32
  let v54 : BitVec 1 := Scalar.cmpi .eq v43 c6_i32_34
  let c10_i32_35 : BitVec 32 := 10#32
  let c5_i32_32 : BitVec 32 := 5#32
  let v52 : BitVec 1 := Scalar.cmpi .eq v43 c5_i32_32
  let c14_i32_33 : BitVec 32 := 14#32
  let c4_i32_30 : BitVec 32 := 4#32
  let v50 : BitVec 1 := Scalar.cmpi .eq v43 c4_i32_30
  let c13_i32_31 : BitVec 32 := 13#32
  let c3_i32_28 : BitVec 32 := 3#32
  let v48 : BitVec 1 := Scalar.cmpi .eq v43 c3_i32_28
  let c9_i32_29 : BitVec 32 := 9#32
  let c2_i32_26 : BitVec 32 := 2#32
  let v46 : BitVec 1 := Scalar.cmpi .eq v43 c2_i32_26
  let c5_i32_27 : BitVec 32 := 5#32
  let c1_i32_23 : BitVec 32 := 1#32
  let v44 : BitVec 1 := Scalar.cmpi .eq v43 c1_i32_23
  let c1_i32_24 : BitVec 32 := 1#32
  let c0_i32_25 : BitVec 32 := 0#32
  let v45 : BitVec 32 := Scalar.select v44 c1_i32_24 c0_i32_25
  let v47 : BitVec 32 := Scalar.select v46 c5_i32_27 v45
  let v49 : BitVec 32 := Scalar.select v48 c9_i32_29 v47
  let v51 : BitVec 32 := Scalar.select v50 c13_i32_31 v49
  let v53 : BitVec 32 := Scalar.select v52 c14_i32_33 v51
  let v55 : BitVec 32 := Scalar.select v54 c10_i32_35 v53
  let v57 : BitVec 32 := Scalar.select v56 c6_i32_37 v55
  let v59 : BitVec 32 := Scalar.select v58 c2_i32_39 v57
  let v61 : BitVec 32 := Scalar.select v60 c3_i32_41 v59
  let v63 : BitVec 32 := Scalar.select v62 c7_i32_43 v61
  let v65 : BitVec 32 := Scalar.select v64 c11_i32_45 v63
  let v67 : BitVec 32 := Scalar.select v66 c15_i32_47 v65
  let v69 : BitVec 32 := Scalar.select v68 c12_i32_49 v67
  let v71 : BitVec 32 := Scalar.select v70 c8_i32_51 v69
  let v73 : BitVec 32 := Scalar.select v72 c4_i32_53 v71
  let c1_i32_172 : BitVec 32 := 1#32
  let v180 : BitVec 32 := Scalar.muli v73 c1_i32_172
  let v181 : BitVec 32 := Scalar.addi c0_i32_173 v180
  v181.toNat
def k0_dev10 (d0 : Dev nD) : Nat :=
  let c0_i32_183 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c16_i32_54 : BitVec 32 := 16#32
  let v74 : BitVec 32 := Scalar.addi v32 c16_i32_54
  let c1_i32_55 : BitVec 32 := 1#32
  let v75 : BitVec 32 := Scalar.subi v74 c1_i32_55
  let c16_i32_56 : BitVec 32 := 16#32
  let c0_i32_57 : BitVec 32 := 0#32
  let v76 : BitVec 1 := Scalar.cmpi .eq c16_i32_56 c0_i32_57
  let c1_i32_58 : BitVec 32 := 1#32
  let v77 : BitVec 32 := Scalar.select v76 c1_i32_58 c16_i32_56
  let v78 : BitVec 32 := Scalar.remsi v75 v77
  let c0_i32_60 : BitVec 32 := 0#32
  let v80 : BitVec 1 := Scalar.cmpi .slt v78 c0_i32_60
  let c0_i32_61 : BitVec 32 := 0#32
  let v81 : BitVec 1 := Scalar.cmpi .slt v77 c0_i32_61
  let v82 : BitVec 1 := Scalar.xori v80 v81
  let c0_i32_59 : BitVec 32 := 0#32
  let v79 : BitVec 1 := Scalar.cmpi .ne v78 c0_i32_59
  let v83 : BitVec 1 := Scalar.andi v82 v79
  let v84 : BitVec 32 := Scalar.addi v78 v77
  let v85 : BitVec 32 := Scalar.select v83 v84 v78
  let c15_i32_91 : BitVec 32 := 15#32
  let v114 : BitVec 1 := Scalar.cmpi .eq v85 c15_i32_91
  let c4_i32_92 : BitVec 32 := 4#32
  let c14_i32_89 : BitVec 32 := 14#32
  let v112 : BitVec 1 := Scalar.cmpi .eq v85 c14_i32_89
  let c8_i32_90 : BitVec 32 := 8#32
  let c13_i32_87 : BitVec 32 := 13#32
  let v110 : BitVec 1 := Scalar.cmpi .eq v85 c13_i32_87
  let c12_i32_88 : BitVec 32 := 12#32
  let c12_i32_85 : BitVec 32 := 12#32
  let v108 : BitVec 1 := Scalar.cmpi .eq v85 c12_i32_85
  let c15_i32_86 : BitVec 32 := 15#32
  let c11_i32_83 : BitVec 32 := 11#32
  let v106 : BitVec 1 := Scalar.cmpi .eq v85 c11_i32_83
  let c11_i32_84 : BitVec 32 := 11#32
  let c10_i32_81 : BitVec 32 := 10#32
  let v104 : BitVec 1 := Scalar.cmpi .eq v85 c10_i32_81
  let c7_i32_82 : BitVec 32 := 7#32
  let c9_i32_79 : BitVec 32 := 9#32
  let v102 : BitVec 1 := Scalar.cmpi .eq v85 c9_i32_79
  let c3_i32_80 : BitVec 32 := 3#32
  let c8_i32_77 : BitVec 32 := 8#32
  let v100 : BitVec 1 := Scalar.cmpi .eq v85 c8_i32_77
  let c2_i32_78 : BitVec 32 := 2#32
  let c7_i32_75 : BitVec 32 := 7#32
  let v98 : BitVec 1 := Scalar.cmpi .eq v85 c7_i32_75
  let c6_i32_76 : BitVec 32 := 6#32
  let c6_i32_73 : BitVec 32 := 6#32
  let v96 : BitVec 1 := Scalar.cmpi .eq v85 c6_i32_73
  let c10_i32_74 : BitVec 32 := 10#32
  let c5_i32_71 : BitVec 32 := 5#32
  let v94 : BitVec 1 := Scalar.cmpi .eq v85 c5_i32_71
  let c14_i32_72 : BitVec 32 := 14#32
  let c4_i32_69 : BitVec 32 := 4#32
  let v92 : BitVec 1 := Scalar.cmpi .eq v85 c4_i32_69
  let c13_i32_70 : BitVec 32 := 13#32
  let c3_i32_67 : BitVec 32 := 3#32
  let v90 : BitVec 1 := Scalar.cmpi .eq v85 c3_i32_67
  let c9_i32_68 : BitVec 32 := 9#32
  let c2_i32_65 : BitVec 32 := 2#32
  let v88 : BitVec 1 := Scalar.cmpi .eq v85 c2_i32_65
  let c5_i32_66 : BitVec 32 := 5#32
  let c1_i32_62 : BitVec 32 := 1#32
  let v86 : BitVec 1 := Scalar.cmpi .eq v85 c1_i32_62
  let c1_i32_63 : BitVec 32 := 1#32
  let c0_i32_64 : BitVec 32 := 0#32
  let v87 : BitVec 32 := Scalar.select v86 c1_i32_63 c0_i32_64
  let v89 : BitVec 32 := Scalar.select v88 c5_i32_66 v87
  let v91 : BitVec 32 := Scalar.select v90 c9_i32_68 v89
  let v93 : BitVec 32 := Scalar.select v92 c13_i32_70 v91
  let v95 : BitVec 32 := Scalar.select v94 c14_i32_72 v93
  let v97 : BitVec 32 := Scalar.select v96 c10_i32_74 v95
  let v99 : BitVec 32 := Scalar.select v98 c6_i32_76 v97
  let v101 : BitVec 32 := Scalar.select v100 c2_i32_78 v99
  let v103 : BitVec 32 := Scalar.select v102 c3_i32_80 v101
  let v105 : BitVec 32 := Scalar.select v104 c7_i32_82 v103
  let v107 : BitVec 32 := Scalar.select v106 c11_i32_84 v105
  let v109 : BitVec 32 := Scalar.select v108 c15_i32_86 v107
  let v111 : BitVec 32 := Scalar.select v110 c12_i32_88 v109
  let v113 : BitVec 32 := Scalar.select v112 c8_i32_90 v111
  let v115 : BitVec 32 := Scalar.select v114 c4_i32_92 v113
  let c1_i32_182 : BitVec 32 := 1#32
  let v189 : BitVec 32 := Scalar.muli v115 c1_i32_182
  let v190 : BitVec 32 := Scalar.addi c0_i32_183 v189
  v190.toNat
def k0_off1 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c128_i32 : BitVec 32 := 128#32
  let v214 : BitVec 32 := Scalar.muli v2 c128_i32
  let c0_i32_199 : BitVec 32 := 0#32
  let v215 : BitVec 32 := Scalar.addi v214 c0_i32_199
  let v216 : Index := Scalar.indexCast v215
  let c0_200 : Index := 0#32
  ![v216.toNat, 0]
def k0_dev11 (d0 : Dev nD) : Nat :=
  let c0_i32_229 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c1_i32_16 : BitVec 32 := 1#32
  let v33 : BitVec 32 := Scalar.addi v32 c1_i32_16
  let c16_i32_17 : BitVec 32 := 16#32
  let c0_i32_18 : BitVec 32 := 0#32
  let v34 : BitVec 1 := Scalar.cmpi .eq c16_i32_17 c0_i32_18
  let c1_i32_19 : BitVec 32 := 1#32
  let v35 : BitVec 32 := Scalar.select v34 c1_i32_19 c16_i32_17
  let v36 : BitVec 32 := Scalar.remsi v33 v35
  let c0_i32_21 : BitVec 32 := 0#32
  let v38 : BitVec 1 := Scalar.cmpi .slt v36 c0_i32_21
  let c0_i32_22 : BitVec 32 := 0#32
  let v39 : BitVec 1 := Scalar.cmpi .slt v35 c0_i32_22
  let v40 : BitVec 1 := Scalar.xori v38 v39
  let c0_i32_20 : BitVec 32 := 0#32
  let v37 : BitVec 1 := Scalar.cmpi .ne v36 c0_i32_20
  let v41 : BitVec 1 := Scalar.andi v40 v37
  let v42 : BitVec 32 := Scalar.addi v36 v35
  let v43 : BitVec 32 := Scalar.select v41 v42 v36
  let c15_i32_52 : BitVec 32 := 15#32
  let v72 : BitVec 1 := Scalar.cmpi .eq v43 c15_i32_52
  let c4_i32_53 : BitVec 32 := 4#32
  let c14_i32_50 : BitVec 32 := 14#32
  let v70 : BitVec 1 := Scalar.cmpi .eq v43 c14_i32_50
  let c8_i32_51 : BitVec 32 := 8#32
  let c13_i32_48 : BitVec 32 := 13#32
  let v68 : BitVec 1 := Scalar.cmpi .eq v43 c13_i32_48
  let c12_i32_49 : BitVec 32 := 12#32
  let c12_i32_46 : BitVec 32 := 12#32
  let v66 : BitVec 1 := Scalar.cmpi .eq v43 c12_i32_46
  let c15_i32_47 : BitVec 32 := 15#32
  let c11_i32_44 : BitVec 32 := 11#32
  let v64 : BitVec 1 := Scalar.cmpi .eq v43 c11_i32_44
  let c11_i32_45 : BitVec 32 := 11#32
  let c10_i32_42 : BitVec 32 := 10#32
  let v62 : BitVec 1 := Scalar.cmpi .eq v43 c10_i32_42
  let c7_i32_43 : BitVec 32 := 7#32
  let c9_i32_40 : BitVec 32 := 9#32
  let v60 : BitVec 1 := Scalar.cmpi .eq v43 c9_i32_40
  let c3_i32_41 : BitVec 32 := 3#32
  let c8_i32_38 : BitVec 32 := 8#32
  let v58 : BitVec 1 := Scalar.cmpi .eq v43 c8_i32_38
  let c2_i32_39 : BitVec 32 := 2#32
  let c7_i32_36 : BitVec 32 := 7#32
  let v56 : BitVec 1 := Scalar.cmpi .eq v43 c7_i32_36
  let c6_i32_37 : BitVec 32 := 6#32
  let c6_i32_34 : BitVec 32 := 6#32
  let v54 : BitVec 1 := Scalar.cmpi .eq v43 c6_i32_34
  let c10_i32_35 : BitVec 32 := 10#32
  let c5_i32_32 : BitVec 32 := 5#32
  let v52 : BitVec 1 := Scalar.cmpi .eq v43 c5_i32_32
  let c14_i32_33 : BitVec 32 := 14#32
  let c4_i32_30 : BitVec 32 := 4#32
  let v50 : BitVec 1 := Scalar.cmpi .eq v43 c4_i32_30
  let c13_i32_31 : BitVec 32 := 13#32
  let c3_i32_28 : BitVec 32 := 3#32
  let v48 : BitVec 1 := Scalar.cmpi .eq v43 c3_i32_28
  let c9_i32_29 : BitVec 32 := 9#32
  let c2_i32_26 : BitVec 32 := 2#32
  let v46 : BitVec 1 := Scalar.cmpi .eq v43 c2_i32_26
  let c5_i32_27 : BitVec 32 := 5#32
  let c1_i32_23 : BitVec 32 := 1#32
  let v44 : BitVec 1 := Scalar.cmpi .eq v43 c1_i32_23
  let c1_i32_24 : BitVec 32 := 1#32
  let c0_i32_25 : BitVec 32 := 0#32
  let v45 : BitVec 32 := Scalar.select v44 c1_i32_24 c0_i32_25
  let v47 : BitVec 32 := Scalar.select v46 c5_i32_27 v45
  let v49 : BitVec 32 := Scalar.select v48 c9_i32_29 v47
  let v51 : BitVec 32 := Scalar.select v50 c13_i32_31 v49
  let v53 : BitVec 32 := Scalar.select v52 c14_i32_33 v51
  let v55 : BitVec 32 := Scalar.select v54 c10_i32_35 v53
  let v57 : BitVec 32 := Scalar.select v56 c6_i32_37 v55
  let v59 : BitVec 32 := Scalar.select v58 c2_i32_39 v57
  let v61 : BitVec 32 := Scalar.select v60 c3_i32_41 v59
  let v63 : BitVec 32 := Scalar.select v62 c7_i32_43 v61
  let v65 : BitVec 32 := Scalar.select v64 c11_i32_45 v63
  let v67 : BitVec 32 := Scalar.select v66 c15_i32_47 v65
  let v69 : BitVec 32 := Scalar.select v68 c12_i32_49 v67
  let v71 : BitVec 32 := Scalar.select v70 c8_i32_51 v69
  let v73 : BitVec 32 := Scalar.select v72 c4_i32_53 v71
  let c1_i32_228 : BitVec 32 := 1#32
  let v230 : BitVec 32 := Scalar.muli v73 c1_i32_228
  let v231 : BitVec 32 := Scalar.addi c0_i32_229 v230
  v231.toNat
def k0_dev12 (d0 : Dev nD) : Nat :=
  let c0_i32_262 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c16_i32_54 : BitVec 32 := 16#32
  let v74 : BitVec 32 := Scalar.addi v32 c16_i32_54
  let c1_i32_55 : BitVec 32 := 1#32
  let v75 : BitVec 32 := Scalar.subi v74 c1_i32_55
  let c16_i32_56 : BitVec 32 := 16#32
  let c0_i32_57 : BitVec 32 := 0#32
  let v76 : BitVec 1 := Scalar.cmpi .eq c16_i32_56 c0_i32_57
  let c1_i32_58 : BitVec 32 := 1#32
  let v77 : BitVec 32 := Scalar.select v76 c1_i32_58 c16_i32_56
  let v78 : BitVec 32 := Scalar.remsi v75 v77
  let c0_i32_60 : BitVec 32 := 0#32
  let v80 : BitVec 1 := Scalar.cmpi .slt v78 c0_i32_60
  let c0_i32_61 : BitVec 32 := 0#32
  let v81 : BitVec 1 := Scalar.cmpi .slt v77 c0_i32_61
  let v82 : BitVec 1 := Scalar.xori v80 v81
  let c0_i32_59 : BitVec 32 := 0#32
  let v79 : BitVec 1 := Scalar.cmpi .ne v78 c0_i32_59
  let v83 : BitVec 1 := Scalar.andi v82 v79
  let v84 : BitVec 32 := Scalar.addi v78 v77
  let v85 : BitVec 32 := Scalar.select v83 v84 v78
  let c15_i32_91 : BitVec 32 := 15#32
  let v114 : BitVec 1 := Scalar.cmpi .eq v85 c15_i32_91
  let c4_i32_92 : BitVec 32 := 4#32
  let c14_i32_89 : BitVec 32 := 14#32
  let v112 : BitVec 1 := Scalar.cmpi .eq v85 c14_i32_89
  let c8_i32_90 : BitVec 32 := 8#32
  let c13_i32_87 : BitVec 32 := 13#32
  let v110 : BitVec 1 := Scalar.cmpi .eq v85 c13_i32_87
  let c12_i32_88 : BitVec 32 := 12#32
  let c12_i32_85 : BitVec 32 := 12#32
  let v108 : BitVec 1 := Scalar.cmpi .eq v85 c12_i32_85
  let c15_i32_86 : BitVec 32 := 15#32
  let c11_i32_83 : BitVec 32 := 11#32
  let v106 : BitVec 1 := Scalar.cmpi .eq v85 c11_i32_83
  let c11_i32_84 : BitVec 32 := 11#32
  let c10_i32_81 : BitVec 32 := 10#32
  let v104 : BitVec 1 := Scalar.cmpi .eq v85 c10_i32_81
  let c7_i32_82 : BitVec 32 := 7#32
  let c9_i32_79 : BitVec 32 := 9#32
  let v102 : BitVec 1 := Scalar.cmpi .eq v85 c9_i32_79
  let c3_i32_80 : BitVec 32 := 3#32
  let c8_i32_77 : BitVec 32 := 8#32
  let v100 : BitVec 1 := Scalar.cmpi .eq v85 c8_i32_77
  let c2_i32_78 : BitVec 32 := 2#32
  let c7_i32_75 : BitVec 32 := 7#32
  let v98 : BitVec 1 := Scalar.cmpi .eq v85 c7_i32_75
  let c6_i32_76 : BitVec 32 := 6#32
  let c6_i32_73 : BitVec 32 := 6#32
  let v96 : BitVec 1 := Scalar.cmpi .eq v85 c6_i32_73
  let c10_i32_74 : BitVec 32 := 10#32
  let c5_i32_71 : BitVec 32 := 5#32
  let v94 : BitVec 1 := Scalar.cmpi .eq v85 c5_i32_71
  let c14_i32_72 : BitVec 32 := 14#32
  let c4_i32_69 : BitVec 32 := 4#32
  let v92 : BitVec 1 := Scalar.cmpi .eq v85 c4_i32_69
  let c13_i32_70 : BitVec 32 := 13#32
  let c3_i32_67 : BitVec 32 := 3#32
  let v90 : BitVec 1 := Scalar.cmpi .eq v85 c3_i32_67
  let c9_i32_68 : BitVec 32 := 9#32
  let c2_i32_65 : BitVec 32 := 2#32
  let v88 : BitVec 1 := Scalar.cmpi .eq v85 c2_i32_65
  let c5_i32_66 : BitVec 32 := 5#32
  let c1_i32_62 : BitVec 32 := 1#32
  let v86 : BitVec 1 := Scalar.cmpi .eq v85 c1_i32_62
  let c1_i32_63 : BitVec 32 := 1#32
  let c0_i32_64 : BitVec 32 := 0#32
  let v87 : BitVec 32 := Scalar.select v86 c1_i32_63 c0_i32_64
  let v89 : BitVec 32 := Scalar.select v88 c5_i32_66 v87
  let v91 : BitVec 32 := Scalar.select v90 c9_i32_68 v89
  let v93 : BitVec 32 := Scalar.select v92 c13_i32_70 v91
  let v95 : BitVec 32 := Scalar.select v94 c14_i32_72 v93
  let v97 : BitVec 32 := Scalar.select v96 c10_i32_74 v95
  let v99 : BitVec 32 := Scalar.select v98 c6_i32_76 v97
  let v101 : BitVec 32 := Scalar.select v100 c2_i32_78 v99
  let v103 : BitVec 32 := Scalar.select v102 c3_i32_80 v101
  let v105 : BitVec 32 := Scalar.select v104 c7_i32_82 v103
  let v107 : BitVec 32 := Scalar.select v106 c11_i32_84 v105
  let v109 : BitVec 32 := Scalar.select v108 c15_i32_86 v107
  let v111 : BitVec 32 := Scalar.select v110 c12_i32_88 v109
  let v113 : BitVec 32 := Scalar.select v112 c8_i32_90 v111
  let v115 : BitVec 32 := Scalar.select v114 c4_i32_92 v113
  let c1_i32_261 : BitVec 32 := 1#32
  let v252 : BitVec 32 := Scalar.muli v115 c1_i32_261
  let v253 : BitVec 32 := Scalar.addi c0_i32_262 v252
  v253.toNat
def k0_dev13 (d0 : Dev nD) : Nat :=
  let c0_i32_295 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c1_i32_16 : BitVec 32 := 1#32
  let v33 : BitVec 32 := Scalar.addi v32 c1_i32_16
  let c16_i32_17 : BitVec 32 := 16#32
  let c0_i32_18 : BitVec 32 := 0#32
  let v34 : BitVec 1 := Scalar.cmpi .eq c16_i32_17 c0_i32_18
  let c1_i32_19 : BitVec 32 := 1#32
  let v35 : BitVec 32 := Scalar.select v34 c1_i32_19 c16_i32_17
  let v36 : BitVec 32 := Scalar.remsi v33 v35
  let c0_i32_21 : BitVec 32 := 0#32
  let v38 : BitVec 1 := Scalar.cmpi .slt v36 c0_i32_21
  let c0_i32_22 : BitVec 32 := 0#32
  let v39 : BitVec 1 := Scalar.cmpi .slt v35 c0_i32_22
  let v40 : BitVec 1 := Scalar.xori v38 v39
  let c0_i32_20 : BitVec 32 := 0#32
  let v37 : BitVec 1 := Scalar.cmpi .ne v36 c0_i32_20
  let v41 : BitVec 1 := Scalar.andi v40 v37
  let v42 : BitVec 32 := Scalar.addi v36 v35
  let v43 : BitVec 32 := Scalar.select v41 v42 v36
  let c15_i32_52 : BitVec 32 := 15#32
  let v72 : BitVec 1 := Scalar.cmpi .eq v43 c15_i32_52
  let c4_i32_53 : BitVec 32 := 4#32
  let c14_i32_50 : BitVec 32 := 14#32
  let v70 : BitVec 1 := Scalar.cmpi .eq v43 c14_i32_50
  let c8_i32_51 : BitVec 32 := 8#32
  let c13_i32_48 : BitVec 32 := 13#32
  let v68 : BitVec 1 := Scalar.cmpi .eq v43 c13_i32_48
  let c12_i32_49 : BitVec 32 := 12#32
  let c12_i32_46 : BitVec 32 := 12#32
  let v66 : BitVec 1 := Scalar.cmpi .eq v43 c12_i32_46
  let c15_i32_47 : BitVec 32 := 15#32
  let c11_i32_44 : BitVec 32 := 11#32
  let v64 : BitVec 1 := Scalar.cmpi .eq v43 c11_i32_44
  let c11_i32_45 : BitVec 32 := 11#32
  let c10_i32_42 : BitVec 32 := 10#32
  let v62 : BitVec 1 := Scalar.cmpi .eq v43 c10_i32_42
  let c7_i32_43 : BitVec 32 := 7#32
  let c9_i32_40 : BitVec 32 := 9#32
  let v60 : BitVec 1 := Scalar.cmpi .eq v43 c9_i32_40
  let c3_i32_41 : BitVec 32 := 3#32
  let c8_i32_38 : BitVec 32 := 8#32
  let v58 : BitVec 1 := Scalar.cmpi .eq v43 c8_i32_38
  let c2_i32_39 : BitVec 32 := 2#32
  let c7_i32_36 : BitVec 32 := 7#32
  let v56 : BitVec 1 := Scalar.cmpi .eq v43 c7_i32_36
  let c6_i32_37 : BitVec 32 := 6#32
  let c6_i32_34 : BitVec 32 := 6#32
  let v54 : BitVec 1 := Scalar.cmpi .eq v43 c6_i32_34
  let c10_i32_35 : BitVec 32 := 10#32
  let c5_i32_32 : BitVec 32 := 5#32
  let v52 : BitVec 1 := Scalar.cmpi .eq v43 c5_i32_32
  let c14_i32_33 : BitVec 32 := 14#32
  let c4_i32_30 : BitVec 32 := 4#32
  let v50 : BitVec 1 := Scalar.cmpi .eq v43 c4_i32_30
  let c13_i32_31 : BitVec 32 := 13#32
  let c3_i32_28 : BitVec 32 := 3#32
  let v48 : BitVec 1 := Scalar.cmpi .eq v43 c3_i32_28
  let c9_i32_29 : BitVec 32 := 9#32
  let c2_i32_26 : BitVec 32 := 2#32
  let v46 : BitVec 1 := Scalar.cmpi .eq v43 c2_i32_26
  let c5_i32_27 : BitVec 32 := 5#32
  let c1_i32_23 : BitVec 32 := 1#32
  let v44 : BitVec 1 := Scalar.cmpi .eq v43 c1_i32_23
  let c1_i32_24 : BitVec 32 := 1#32
  let c0_i32_25 : BitVec 32 := 0#32
  let v45 : BitVec 32 := Scalar.select v44 c1_i32_24 c0_i32_25
  let v47 : BitVec 32 := Scalar.select v46 c5_i32_27 v45
  let v49 : BitVec 32 := Scalar.select v48 c9_i32_29 v47
  let v51 : BitVec 32 := Scalar.select v50 c13_i32_31 v49
  let v53 : BitVec 32 := Scalar.select v52 c14_i32_33 v51
  let v55 : BitVec 32 := Scalar.select v54 c10_i32_35 v53
  let v57 : BitVec 32 := Scalar.select v56 c6_i32_37 v55
  let v59 : BitVec 32 := Scalar.select v58 c2_i32_39 v57
  let v61 : BitVec 32 := Scalar.select v60 c3_i32_41 v59
  let v63 : BitVec 32 := Scalar.select v62 c7_i32_43 v61
  let v65 : BitVec 32 := Scalar.select v64 c11_i32_45 v63
  let v67 : BitVec 32 := Scalar.select v66 c15_i32_47 v65
  let v69 : BitVec 32 := Scalar.select v68 c12_i32_49 v67
  let v71 : BitVec 32 := Scalar.select v70 c8_i32_51 v69
  let v73 : BitVec 32 := Scalar.select v72 c4_i32_53 v71
  let c1_i32_294 : BitVec 32 := 1#32
  let v274 : BitVec 32 := Scalar.muli v73 c1_i32_294
  let v275 : BitVec 32 := Scalar.addi c0_i32_295 v274
  v275.toNat
def k0_dev14 (d0 : Dev nD) : Nat :=
  let c0_i32_328 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c16_i32_54 : BitVec 32 := 16#32
  let v74 : BitVec 32 := Scalar.addi v32 c16_i32_54
  let c1_i32_55 : BitVec 32 := 1#32
  let v75 : BitVec 32 := Scalar.subi v74 c1_i32_55
  let c16_i32_56 : BitVec 32 := 16#32
  let c0_i32_57 : BitVec 32 := 0#32
  let v76 : BitVec 1 := Scalar.cmpi .eq c16_i32_56 c0_i32_57
  let c1_i32_58 : BitVec 32 := 1#32
  let v77 : BitVec 32 := Scalar.select v76 c1_i32_58 c16_i32_56
  let v78 : BitVec 32 := Scalar.remsi v75 v77
  let c0_i32_60 : BitVec 32 := 0#32
  let v80 : BitVec 1 := Scalar.cmpi .slt v78 c0_i32_60
  let c0_i32_61 : BitVec 32 := 0#32
  let v81 : BitVec 1 := Scalar.cmpi .slt v77 c0_i32_61
  let v82 : BitVec 1 := Scalar.xori v80 v81
  let c0_i32_59 : BitVec 32 := 0#32
  let v79 : BitVec 1 := Scalar.cmpi .ne v78 c0_i32_59
  let v83 : BitVec 1 := Scalar.andi v82 v79
  let v84 : BitVec 32 := Scalar.addi v78 v77
  let v85 : BitVec 32 := Scalar.select v83 v84 v78
  let c15_i32_91 : BitVec 32 := 15#32
  let v114 : BitVec 1 := Scalar.cmpi .eq v85 c15_i32_91
  let c4_i32_92 : BitVec 32 := 4#32
  let c14_i32_89 : BitVec 32 := 14#32
  let v112 : BitVec 1 := Scalar.cmpi .eq v85 c14_i32_89
  let c8_i32_90 : BitVec 32 := 8#32
  let c13_i32_87 : BitVec 32 := 13#32
  let v110 : BitVec 1 := Scalar.cmpi .eq v85 c13_i32_87
  let c12_i32_88 : BitVec 32 := 12#32
  let c12_i32_85 : BitVec 32 := 12#32
  let v108 : BitVec 1 := Scalar.cmpi .eq v85 c12_i32_85
  let c15_i32_86 : BitVec 32 := 15#32
  let c11_i32_83 : BitVec 32 := 11#32
  let v106 : BitVec 1 := Scalar.cmpi .eq v85 c11_i32_83
  let c11_i32_84 : BitVec 32 := 11#32
  let c10_i32_81 : BitVec 32 := 10#32
  let v104 : BitVec 1 := Scalar.cmpi .eq v85 c10_i32_81
  let c7_i32_82 : BitVec 32 := 7#32
  let c9_i32_79 : BitVec 32 := 9#32
  let v102 : BitVec 1 := Scalar.cmpi .eq v85 c9_i32_79
  let c3_i32_80 : BitVec 32 := 3#32
  let c8_i32_77 : BitVec 32 := 8#32
  let v100 : BitVec 1 := Scalar.cmpi .eq v85 c8_i32_77
  let c2_i32_78 : BitVec 32 := 2#32
  let c7_i32_75 : BitVec 32 := 7#32
  let v98 : BitVec 1 := Scalar.cmpi .eq v85 c7_i32_75
  let c6_i32_76 : BitVec 32 := 6#32
  let c6_i32_73 : BitVec 32 := 6#32
  let v96 : BitVec 1 := Scalar.cmpi .eq v85 c6_i32_73
  let c10_i32_74 : BitVec 32 := 10#32
  let c5_i32_71 : BitVec 32 := 5#32
  let v94 : BitVec 1 := Scalar.cmpi .eq v85 c5_i32_71
  let c14_i32_72 : BitVec 32 := 14#32
  let c4_i32_69 : BitVec 32 := 4#32
  let v92 : BitVec 1 := Scalar.cmpi .eq v85 c4_i32_69
  let c13_i32_70 : BitVec 32 := 13#32
  let c3_i32_67 : BitVec 32 := 3#32
  let v90 : BitVec 1 := Scalar.cmpi .eq v85 c3_i32_67
  let c9_i32_68 : BitVec 32 := 9#32
  let c2_i32_65 : BitVec 32 := 2#32
  let v88 : BitVec 1 := Scalar.cmpi .eq v85 c2_i32_65
  let c5_i32_66 : BitVec 32 := 5#32
  let c1_i32_62 : BitVec 32 := 1#32
  let v86 : BitVec 1 := Scalar.cmpi .eq v85 c1_i32_62
  let c1_i32_63 : BitVec 32 := 1#32
  let c0_i32_64 : BitVec 32 := 0#32
  let v87 : BitVec 32 := Scalar.select v86 c1_i32_63 c0_i32_64
  let v89 : BitVec 32 := Scalar.select v88 c5_i32_66 v87
  let v91 : BitVec 32 := Scalar.select v90 c9_i32_68 v89
  let v93 : BitVec 32 := Scalar.select v92 c13_i32_70 v91
  let v95 : BitVec 32 := Scalar.select v94 c14_i32_72 v93
  let v97 : BitVec 32 := Scalar.select v96 c10_i32_74 v95
  let v99 : BitVec 32 := Scalar.select v98 c6_i32_76 v97
  let v101 : BitVec 32 := Scalar.select v100 c2_i32_78 v99
  let v103 : BitVec 32 := Scalar.select v102 c3_i32_80 v101
  let v105 : BitVec 32 := Scalar.select v104 c7_i32_82 v103
  let v107 : BitVec 32 := Scalar.select v106 c11_i32_84 v105
  let v109 : BitVec 32 := Scalar.select v108 c15_i32_86 v107
  let v111 : BitVec 32 := Scalar.select v110 c12_i32_88 v109
  let v113 : BitVec 32 := Scalar.select v112 c8_i32_90 v111
  let v115 : BitVec 32 := Scalar.select v114 c4_i32_92 v113
  let c1_i32_327 : BitVec 32 := 1#32
  let v296 : BitVec 32 := Scalar.muli v115 c1_i32_327
  let v297 : BitVec 32 := Scalar.addi c0_i32_328 v296
  v297.toNat
def k0_dev15 (d0 : Dev nD) : Nat :=
  let c0_i32_361 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c1_i32_16 : BitVec 32 := 1#32
  let v33 : BitVec 32 := Scalar.addi v32 c1_i32_16
  let c16_i32_17 : BitVec 32 := 16#32
  let c0_i32_18 : BitVec 32 := 0#32
  let v34 : BitVec 1 := Scalar.cmpi .eq c16_i32_17 c0_i32_18
  let c1_i32_19 : BitVec 32 := 1#32
  let v35 : BitVec 32 := Scalar.select v34 c1_i32_19 c16_i32_17
  let v36 : BitVec 32 := Scalar.remsi v33 v35
  let c0_i32_21 : BitVec 32 := 0#32
  let v38 : BitVec 1 := Scalar.cmpi .slt v36 c0_i32_21
  let c0_i32_22 : BitVec 32 := 0#32
  let v39 : BitVec 1 := Scalar.cmpi .slt v35 c0_i32_22
  let v40 : BitVec 1 := Scalar.xori v38 v39
  let c0_i32_20 : BitVec 32 := 0#32
  let v37 : BitVec 1 := Scalar.cmpi .ne v36 c0_i32_20
  let v41 : BitVec 1 := Scalar.andi v40 v37
  let v42 : BitVec 32 := Scalar.addi v36 v35
  let v43 : BitVec 32 := Scalar.select v41 v42 v36
  let c15_i32_52 : BitVec 32 := 15#32
  let v72 : BitVec 1 := Scalar.cmpi .eq v43 c15_i32_52
  let c4_i32_53 : BitVec 32 := 4#32
  let c14_i32_50 : BitVec 32 := 14#32
  let v70 : BitVec 1 := Scalar.cmpi .eq v43 c14_i32_50
  let c8_i32_51 : BitVec 32 := 8#32
  let c13_i32_48 : BitVec 32 := 13#32
  let v68 : BitVec 1 := Scalar.cmpi .eq v43 c13_i32_48
  let c12_i32_49 : BitVec 32 := 12#32
  let c12_i32_46 : BitVec 32 := 12#32
  let v66 : BitVec 1 := Scalar.cmpi .eq v43 c12_i32_46
  let c15_i32_47 : BitVec 32 := 15#32
  let c11_i32_44 : BitVec 32 := 11#32
  let v64 : BitVec 1 := Scalar.cmpi .eq v43 c11_i32_44
  let c11_i32_45 : BitVec 32 := 11#32
  let c10_i32_42 : BitVec 32 := 10#32
  let v62 : BitVec 1 := Scalar.cmpi .eq v43 c10_i32_42
  let c7_i32_43 : BitVec 32 := 7#32
  let c9_i32_40 : BitVec 32 := 9#32
  let v60 : BitVec 1 := Scalar.cmpi .eq v43 c9_i32_40
  let c3_i32_41 : BitVec 32 := 3#32
  let c8_i32_38 : BitVec 32 := 8#32
  let v58 : BitVec 1 := Scalar.cmpi .eq v43 c8_i32_38
  let c2_i32_39 : BitVec 32 := 2#32
  let c7_i32_36 : BitVec 32 := 7#32
  let v56 : BitVec 1 := Scalar.cmpi .eq v43 c7_i32_36
  let c6_i32_37 : BitVec 32 := 6#32
  let c6_i32_34 : BitVec 32 := 6#32
  let v54 : BitVec 1 := Scalar.cmpi .eq v43 c6_i32_34
  let c10_i32_35 : BitVec 32 := 10#32
  let c5_i32_32 : BitVec 32 := 5#32
  let v52 : BitVec 1 := Scalar.cmpi .eq v43 c5_i32_32
  let c14_i32_33 : BitVec 32 := 14#32
  let c4_i32_30 : BitVec 32 := 4#32
  let v50 : BitVec 1 := Scalar.cmpi .eq v43 c4_i32_30
  let c13_i32_31 : BitVec 32 := 13#32
  let c3_i32_28 : BitVec 32 := 3#32
  let v48 : BitVec 1 := Scalar.cmpi .eq v43 c3_i32_28
  let c9_i32_29 : BitVec 32 := 9#32
  let c2_i32_26 : BitVec 32 := 2#32
  let v46 : BitVec 1 := Scalar.cmpi .eq v43 c2_i32_26
  let c5_i32_27 : BitVec 32 := 5#32
  let c1_i32_23 : BitVec 32 := 1#32
  let v44 : BitVec 1 := Scalar.cmpi .eq v43 c1_i32_23
  let c1_i32_24 : BitVec 32 := 1#32
  let c0_i32_25 : BitVec 32 := 0#32
  let v45 : BitVec 32 := Scalar.select v44 c1_i32_24 c0_i32_25
  let v47 : BitVec 32 := Scalar.select v46 c5_i32_27 v45
  let v49 : BitVec 32 := Scalar.select v48 c9_i32_29 v47
  let v51 : BitVec 32 := Scalar.select v50 c13_i32_31 v49
  let v53 : BitVec 32 := Scalar.select v52 c14_i32_33 v51
  let v55 : BitVec 32 := Scalar.select v54 c10_i32_35 v53
  let v57 : BitVec 32 := Scalar.select v56 c6_i32_37 v55
  let v59 : BitVec 32 := Scalar.select v58 c2_i32_39 v57
  let v61 : BitVec 32 := Scalar.select v60 c3_i32_41 v59
  let v63 : BitVec 32 := Scalar.select v62 c7_i32_43 v61
  let v65 : BitVec 32 := Scalar.select v64 c11_i32_45 v63
  let v67 : BitVec 32 := Scalar.select v66 c15_i32_47 v65
  let v69 : BitVec 32 := Scalar.select v68 c12_i32_49 v67
  let v71 : BitVec 32 := Scalar.select v70 c8_i32_51 v69
  let v73 : BitVec 32 := Scalar.select v72 c4_i32_53 v71
  let c1_i32_360 : BitVec 32 := 1#32
  let v318 : BitVec 32 := Scalar.muli v73 c1_i32_360
  let v319 : BitVec 32 := Scalar.addi c0_i32_361 v318
  v319.toNat
def k0_dev16 (d0 : Dev nD) : Nat :=
  let c0_i32_394 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c16_i32_54 : BitVec 32 := 16#32
  let v74 : BitVec 32 := Scalar.addi v32 c16_i32_54
  let c1_i32_55 : BitVec 32 := 1#32
  let v75 : BitVec 32 := Scalar.subi v74 c1_i32_55
  let c16_i32_56 : BitVec 32 := 16#32
  let c0_i32_57 : BitVec 32 := 0#32
  let v76 : BitVec 1 := Scalar.cmpi .eq c16_i32_56 c0_i32_57
  let c1_i32_58 : BitVec 32 := 1#32
  let v77 : BitVec 32 := Scalar.select v76 c1_i32_58 c16_i32_56
  let v78 : BitVec 32 := Scalar.remsi v75 v77
  let c0_i32_60 : BitVec 32 := 0#32
  let v80 : BitVec 1 := Scalar.cmpi .slt v78 c0_i32_60
  let c0_i32_61 : BitVec 32 := 0#32
  let v81 : BitVec 1 := Scalar.cmpi .slt v77 c0_i32_61
  let v82 : BitVec 1 := Scalar.xori v80 v81
  let c0_i32_59 : BitVec 32 := 0#32
  let v79 : BitVec 1 := Scalar.cmpi .ne v78 c0_i32_59
  let v83 : BitVec 1 := Scalar.andi v82 v79
  let v84 : BitVec 32 := Scalar.addi v78 v77
  let v85 : BitVec 32 := Scalar.select v83 v84 v78
  let c15_i32_91 : BitVec 32 := 15#32
  let v114 : BitVec 1 := Scalar.cmpi .eq v85 c15_i32_91
  let c4_i32_92 : BitVec 32 := 4#32
  let c14_i32_89 : BitVec 32 := 14#32
  let v112 : BitVec 1 := Scalar.cmpi .eq v85 c14_i32_89
  let c8_i32_90 : BitVec 32 := 8#32
  let c13_i32_87 : BitVec 32 := 13#32
  let v110 : BitVec 1 := Scalar.cmpi .eq v85 c13_i32_87
  let c12_i32_88 : BitVec 32 := 12#32
  let c12_i32_85 : BitVec 32 := 12#32
  let v108 : BitVec 1 := Scalar.cmpi .eq v85 c12_i32_85
  let c15_i32_86 : BitVec 32 := 15#32
  let c11_i32_83 : BitVec 32 := 11#32
  let v106 : BitVec 1 := Scalar.cmpi .eq v85 c11_i32_83
  let c11_i32_84 : BitVec 32 := 11#32
  let c10_i32_81 : BitVec 32 := 10#32
  let v104 : BitVec 1 := Scalar.cmpi .eq v85 c10_i32_81
  let c7_i32_82 : BitVec 32 := 7#32
  let c9_i32_79 : BitVec 32 := 9#32
  let v102 : BitVec 1 := Scalar.cmpi .eq v85 c9_i32_79
  let c3_i32_80 : BitVec 32 := 3#32
  let c8_i32_77 : BitVec 32 := 8#32
  let v100 : BitVec 1 := Scalar.cmpi .eq v85 c8_i32_77
  let c2_i32_78 : BitVec 32 := 2#32
  let c7_i32_75 : BitVec 32 := 7#32
  let v98 : BitVec 1 := Scalar.cmpi .eq v85 c7_i32_75
  let c6_i32_76 : BitVec 32 := 6#32
  let c6_i32_73 : BitVec 32 := 6#32
  let v96 : BitVec 1 := Scalar.cmpi .eq v85 c6_i32_73
  let c10_i32_74 : BitVec 32 := 10#32
  let c5_i32_71 : BitVec 32 := 5#32
  let v94 : BitVec 1 := Scalar.cmpi .eq v85 c5_i32_71
  let c14_i32_72 : BitVec 32 := 14#32
  let c4_i32_69 : BitVec 32 := 4#32
  let v92 : BitVec 1 := Scalar.cmpi .eq v85 c4_i32_69
  let c13_i32_70 : BitVec 32 := 13#32
  let c3_i32_67 : BitVec 32 := 3#32
  let v90 : BitVec 1 := Scalar.cmpi .eq v85 c3_i32_67
  let c9_i32_68 : BitVec 32 := 9#32
  let c2_i32_65 : BitVec 32 := 2#32
  let v88 : BitVec 1 := Scalar.cmpi .eq v85 c2_i32_65
  let c5_i32_66 : BitVec 32 := 5#32
  let c1_i32_62 : BitVec 32 := 1#32
  let v86 : BitVec 1 := Scalar.cmpi .eq v85 c1_i32_62
  let c1_i32_63 : BitVec 32 := 1#32
  let c0_i32_64 : BitVec 32 := 0#32
  let v87 : BitVec 32 := Scalar.select v86 c1_i32_63 c0_i32_64
  let v89 : BitVec 32 := Scalar.select v88 c5_i32_66 v87
  let v91 : BitVec 32 := Scalar.select v90 c9_i32_68 v89
  let v93 : BitVec 32 := Scalar.select v92 c13_i32_70 v91
  let v95 : BitVec 32 := Scalar.select v94 c14_i32_72 v93
  let v97 : BitVec 32 := Scalar.select v96 c10_i32_74 v95
  let v99 : BitVec 32 := Scalar.select v98 c6_i32_76 v97
  let v101 : BitVec 32 := Scalar.select v100 c2_i32_78 v99
  let v103 : BitVec 32 := Scalar.select v102 c3_i32_80 v101
  let v105 : BitVec 32 := Scalar.select v104 c7_i32_82 v103
  let v107 : BitVec 32 := Scalar.select v106 c11_i32_84 v105
  let v109 : BitVec 32 := Scalar.select v108 c15_i32_86 v107
  let v111 : BitVec 32 := Scalar.select v110 c12_i32_88 v109
  let v113 : BitVec 32 := Scalar.select v112 c8_i32_90 v111
  let v115 : BitVec 32 := Scalar.select v114 c4_i32_92 v113
  let c1_i32_393 : BitVec 32 := 1#32
  let v340 : BitVec 32 := Scalar.muli v115 c1_i32_393
  let v341 : BitVec 32 := Scalar.addi c0_i32_394 v340
  v341.toNat
def k0_dev17 (d0 : Dev nD) : Nat :=
  let c0_i32_427 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c1_i32_16 : BitVec 32 := 1#32
  let v33 : BitVec 32 := Scalar.addi v32 c1_i32_16
  let c16_i32_17 : BitVec 32 := 16#32
  let c0_i32_18 : BitVec 32 := 0#32
  let v34 : BitVec 1 := Scalar.cmpi .eq c16_i32_17 c0_i32_18
  let c1_i32_19 : BitVec 32 := 1#32
  let v35 : BitVec 32 := Scalar.select v34 c1_i32_19 c16_i32_17
  let v36 : BitVec 32 := Scalar.remsi v33 v35
  let c0_i32_21 : BitVec 32 := 0#32
  let v38 : BitVec 1 := Scalar.cmpi .slt v36 c0_i32_21
  let c0_i32_22 : BitVec 32 := 0#32
  let v39 : BitVec 1 := Scalar.cmpi .slt v35 c0_i32_22
  let v40 : BitVec 1 := Scalar.xori v38 v39
  let c0_i32_20 : BitVec 32 := 0#32
  let v37 : BitVec 1 := Scalar.cmpi .ne v36 c0_i32_20
  let v41 : BitVec 1 := Scalar.andi v40 v37
  let v42 : BitVec 32 := Scalar.addi v36 v35
  let v43 : BitVec 32 := Scalar.select v41 v42 v36
  let c15_i32_52 : BitVec 32 := 15#32
  let v72 : BitVec 1 := Scalar.cmpi .eq v43 c15_i32_52
  let c4_i32_53 : BitVec 32 := 4#32
  let c14_i32_50 : BitVec 32 := 14#32
  let v70 : BitVec 1 := Scalar.cmpi .eq v43 c14_i32_50
  let c8_i32_51 : BitVec 32 := 8#32
  let c13_i32_48 : BitVec 32 := 13#32
  let v68 : BitVec 1 := Scalar.cmpi .eq v43 c13_i32_48
  let c12_i32_49 : BitVec 32 := 12#32
  let c12_i32_46 : BitVec 32 := 12#32
  let v66 : BitVec 1 := Scalar.cmpi .eq v43 c12_i32_46
  let c15_i32_47 : BitVec 32 := 15#32
  let c11_i32_44 : BitVec 32 := 11#32
  let v64 : BitVec 1 := Scalar.cmpi .eq v43 c11_i32_44
  let c11_i32_45 : BitVec 32 := 11#32
  let c10_i32_42 : BitVec 32 := 10#32
  let v62 : BitVec 1 := Scalar.cmpi .eq v43 c10_i32_42
  let c7_i32_43 : BitVec 32 := 7#32
  let c9_i32_40 : BitVec 32 := 9#32
  let v60 : BitVec 1 := Scalar.cmpi .eq v43 c9_i32_40
  let c3_i32_41 : BitVec 32 := 3#32
  let c8_i32_38 : BitVec 32 := 8#32
  let v58 : BitVec 1 := Scalar.cmpi .eq v43 c8_i32_38
  let c2_i32_39 : BitVec 32 := 2#32
  let c7_i32_36 : BitVec 32 := 7#32
  let v56 : BitVec 1 := Scalar.cmpi .eq v43 c7_i32_36
  let c6_i32_37 : BitVec 32 := 6#32
  let c6_i32_34 : BitVec 32 := 6#32
  let v54 : BitVec 1 := Scalar.cmpi .eq v43 c6_i32_34
  let c10_i32_35 : BitVec 32 := 10#32
  let c5_i32_32 : BitVec 32 := 5#32
  let v52 : BitVec 1 := Scalar.cmpi .eq v43 c5_i32_32
  let c14_i32_33 : BitVec 32 := 14#32
  let c4_i32_30 : BitVec 32 := 4#32
  let v50 : BitVec 1 := Scalar.cmpi .eq v43 c4_i32_30
  let c13_i32_31 : BitVec 32 := 13#32
  let c3_i32_28 : BitVec 32 := 3#32
  let v48 : BitVec 1 := Scalar.cmpi .eq v43 c3_i32_28
  let c9_i32_29 : BitVec 32 := 9#32
  let c2_i32_26 : BitVec 32 := 2#32
  let v46 : BitVec 1 := Scalar.cmpi .eq v43 c2_i32_26
  let c5_i32_27 : BitVec 32 := 5#32
  let c1_i32_23 : BitVec 32 := 1#32
  let v44 : BitVec 1 := Scalar.cmpi .eq v43 c1_i32_23
  let c1_i32_24 : BitVec 32 := 1#32
  let c0_i32_25 : BitVec 32 := 0#32
  let v45 : BitVec 32 := Scalar.select v44 c1_i32_24 c0_i32_25
  let v47 : BitVec 32 := Scalar.select v46 c5_i32_27 v45
  let v49 : BitVec 32 := Scalar.select v48 c9_i32_29 v47
  let v51 : BitVec 32 := Scalar.select v50 c13_i32_31 v49
  let v53 : BitVec 32 := Scalar.select v52 c14_i32_33 v51
  let v55 : BitVec 32 := Scalar.select v54 c10_i32_35 v53
  let v57 : BitVec 32 := Scalar.select v56 c6_i32_37 v55
  let v59 : BitVec 32 := Scalar.select v58 c2_i32_39 v57
  let v61 : BitVec 32 := Scalar.select v60 c3_i32_41 v59
  let v63 : BitVec 32 := Scalar.select v62 c7_i32_43 v61
  let v65 : BitVec 32 := Scalar.select v64 c11_i32_45 v63
  let v67 : BitVec 32 := Scalar.select v66 c15_i32_47 v65
  let v69 : BitVec 32 := Scalar.select v68 c12_i32_49 v67
  let v71 : BitVec 32 := Scalar.select v70 c8_i32_51 v69
  let v73 : BitVec 32 := Scalar.select v72 c4_i32_53 v71
  let c1_i32_426 : BitVec 32 := 1#32
  let v362 : BitVec 32 := Scalar.muli v73 c1_i32_426
  let v363 : BitVec 32 := Scalar.addi c0_i32_427 v362
  v363.toNat
def k0_dev18 (d0 : Dev nD) : Nat :=
  let c0_i32_460 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c16_i32_54 : BitVec 32 := 16#32
  let v74 : BitVec 32 := Scalar.addi v32 c16_i32_54
  let c1_i32_55 : BitVec 32 := 1#32
  let v75 : BitVec 32 := Scalar.subi v74 c1_i32_55
  let c16_i32_56 : BitVec 32 := 16#32
  let c0_i32_57 : BitVec 32 := 0#32
  let v76 : BitVec 1 := Scalar.cmpi .eq c16_i32_56 c0_i32_57
  let c1_i32_58 : BitVec 32 := 1#32
  let v77 : BitVec 32 := Scalar.select v76 c1_i32_58 c16_i32_56
  let v78 : BitVec 32 := Scalar.remsi v75 v77
  let c0_i32_60 : BitVec 32 := 0#32
  let v80 : BitVec 1 := Scalar.cmpi .slt v78 c0_i32_60
  let c0_i32_61 : BitVec 32 := 0#32
  let v81 : BitVec 1 := Scalar.cmpi .slt v77 c0_i32_61
  let v82 : BitVec 1 := Scalar.xori v80 v81
  let c0_i32_59 : BitVec 32 := 0#32
  let v79 : BitVec 1 := Scalar.cmpi .ne v78 c0_i32_59
  let v83 : BitVec 1 := Scalar.andi v82 v79
  let v84 : BitVec 32 := Scalar.addi v78 v77
  let v85 : BitVec 32 := Scalar.select v83 v84 v78
  let c15_i32_91 : BitVec 32 := 15#32
  let v114 : BitVec 1 := Scalar.cmpi .eq v85 c15_i32_91
  let c4_i32_92 : BitVec 32 := 4#32
  let c14_i32_89 : BitVec 32 := 14#32
  let v112 : BitVec 1 := Scalar.cmpi .eq v85 c14_i32_89
  let c8_i32_90 : BitVec 32 := 8#32
  let c13_i32_87 : BitVec 32 := 13#32
  let v110 : BitVec 1 := Scalar.cmpi .eq v85 c13_i32_87
  let c12_i32_88 : BitVec 32 := 12#32
  let c12_i32_85 : BitVec 32 := 12#32
  let v108 : BitVec 1 := Scalar.cmpi .eq v85 c12_i32_85
  let c15_i32_86 : BitVec 32 := 15#32
  let c11_i32_83 : BitVec 32 := 11#32
  let v106 : BitVec 1 := Scalar.cmpi .eq v85 c11_i32_83
  let c11_i32_84 : BitVec 32 := 11#32
  let c10_i32_81 : BitVec 32 := 10#32
  let v104 : BitVec 1 := Scalar.cmpi .eq v85 c10_i32_81
  let c7_i32_82 : BitVec 32 := 7#32
  let c9_i32_79 : BitVec 32 := 9#32
  let v102 : BitVec 1 := Scalar.cmpi .eq v85 c9_i32_79
  let c3_i32_80 : BitVec 32 := 3#32
  let c8_i32_77 : BitVec 32 := 8#32
  let v100 : BitVec 1 := Scalar.cmpi .eq v85 c8_i32_77
  let c2_i32_78 : BitVec 32 := 2#32
  let c7_i32_75 : BitVec 32 := 7#32
  let v98 : BitVec 1 := Scalar.cmpi .eq v85 c7_i32_75
  let c6_i32_76 : BitVec 32 := 6#32
  let c6_i32_73 : BitVec 32 := 6#32
  let v96 : BitVec 1 := Scalar.cmpi .eq v85 c6_i32_73
  let c10_i32_74 : BitVec 32 := 10#32
  let c5_i32_71 : BitVec 32 := 5#32
  let v94 : BitVec 1 := Scalar.cmpi .eq v85 c5_i32_71
  let c14_i32_72 : BitVec 32 := 14#32
  let c4_i32_69 : BitVec 32 := 4#32
  let v92 : BitVec 1 := Scalar.cmpi .eq v85 c4_i32_69
  let c13_i32_70 : BitVec 32 := 13#32
  let c3_i32_67 : BitVec 32 := 3#32
  let v90 : BitVec 1 := Scalar.cmpi .eq v85 c3_i32_67
  let c9_i32_68 : BitVec 32 := 9#32
  let c2_i32_65 : BitVec 32 := 2#32
  let v88 : BitVec 1 := Scalar.cmpi .eq v85 c2_i32_65
  let c5_i32_66 : BitVec 32 := 5#32
  let c1_i32_62 : BitVec 32 := 1#32
  let v86 : BitVec 1 := Scalar.cmpi .eq v85 c1_i32_62
  let c1_i32_63 : BitVec 32 := 1#32
  let c0_i32_64 : BitVec 32 := 0#32
  let v87 : BitVec 32 := Scalar.select v86 c1_i32_63 c0_i32_64
  let v89 : BitVec 32 := Scalar.select v88 c5_i32_66 v87
  let v91 : BitVec 32 := Scalar.select v90 c9_i32_68 v89
  let v93 : BitVec 32 := Scalar.select v92 c13_i32_70 v91
  let v95 : BitVec 32 := Scalar.select v94 c14_i32_72 v93
  let v97 : BitVec 32 := Scalar.select v96 c10_i32_74 v95
  let v99 : BitVec 32 := Scalar.select v98 c6_i32_76 v97
  let v101 : BitVec 32 := Scalar.select v100 c2_i32_78 v99
  let v103 : BitVec 32 := Scalar.select v102 c3_i32_80 v101
  let v105 : BitVec 32 := Scalar.select v104 c7_i32_82 v103
  let v107 : BitVec 32 := Scalar.select v106 c11_i32_84 v105
  let v109 : BitVec 32 := Scalar.select v108 c15_i32_86 v107
  let v111 : BitVec 32 := Scalar.select v110 c12_i32_88 v109
  let v113 : BitVec 32 := Scalar.select v112 c8_i32_90 v111
  let v115 : BitVec 32 := Scalar.select v114 c4_i32_92 v113
  let c1_i32_459 : BitVec 32 := 1#32
  let v384 : BitVec 32 := Scalar.muli v115 c1_i32_459
  let v385 : BitVec 32 := Scalar.addi c0_i32_460 v384
  v385.toNat
def k0_off2 (d0 : Dev nD) (c0_i32_466 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c16_i32_465 : BitVec 32 := 16#32
  let v394 : BitVec 32 := Scalar.addi v32 c16_i32_465
  let v395 : BitVec 32 := Scalar.subi v394 c0_i32_466
  let c1_i32_467 : BitVec 32 := 1#32
  let v396 : BitVec 32 := Scalar.subi v395 c1_i32_467
  let c16_i32_468 : BitVec 32 := 16#32
  let c0_i32_469 : BitVec 32 := 0#32
  let v397 : BitVec 1 := Scalar.cmpi .eq c16_i32_468 c0_i32_469
  let c1_i32_470 : BitVec 32 := 1#32
  let v398 : BitVec 32 := Scalar.select v397 c1_i32_470 c16_i32_468
  let v399 : BitVec 32 := Scalar.remsi v396 v398
  let c0_i32_472 : BitVec 32 := 0#32
  let v401 : BitVec 1 := Scalar.cmpi .slt v399 c0_i32_472
  let c0_i32_473 : BitVec 32 := 0#32
  let v402 : BitVec 1 := Scalar.cmpi .slt v398 c0_i32_473
  let v403 : BitVec 1 := Scalar.xori v401 v402
  let c0_i32_471 : BitVec 32 := 0#32
  let v400 : BitVec 1 := Scalar.cmpi .ne v399 c0_i32_471
  let v404 : BitVec 1 := Scalar.andi v403 v400
  let v405 : BitVec 32 := Scalar.addi v399 v398
  let v406 : BitVec 32 := Scalar.select v404 v405 v399
  let c15_i32_503 : BitVec 32 := 15#32
  let v435 : BitVec 1 := Scalar.cmpi .eq v406 c15_i32_503
  let c4_i32_504 : BitVec 32 := 4#32
  let c14_i32_501 : BitVec 32 := 14#32
  let v433 : BitVec 1 := Scalar.cmpi .eq v406 c14_i32_501
  let c8_i32_502 : BitVec 32 := 8#32
  let c13_i32_499 : BitVec 32 := 13#32
  let v431 : BitVec 1 := Scalar.cmpi .eq v406 c13_i32_499
  let c12_i32_500 : BitVec 32 := 12#32
  let c12_i32_497 : BitVec 32 := 12#32
  let v429 : BitVec 1 := Scalar.cmpi .eq v406 c12_i32_497
  let c15_i32_498 : BitVec 32 := 15#32
  let c11_i32_495 : BitVec 32 := 11#32
  let v427 : BitVec 1 := Scalar.cmpi .eq v406 c11_i32_495
  let c11_i32_496 : BitVec 32 := 11#32
  let c10_i32_493 : BitVec 32 := 10#32
  let v425 : BitVec 1 := Scalar.cmpi .eq v406 c10_i32_493
  let c7_i32_494 : BitVec 32 := 7#32
  let c9_i32_491 : BitVec 32 := 9#32
  let v423 : BitVec 1 := Scalar.cmpi .eq v406 c9_i32_491
  let c3_i32_492 : BitVec 32 := 3#32
  let c8_i32_489 : BitVec 32 := 8#32
  let v421 : BitVec 1 := Scalar.cmpi .eq v406 c8_i32_489
  let c2_i32_490 : BitVec 32 := 2#32
  let c7_i32_487 : BitVec 32 := 7#32
  let v419 : BitVec 1 := Scalar.cmpi .eq v406 c7_i32_487
  let c6_i32_488 : BitVec 32 := 6#32
  let c6_i32_485 : BitVec 32 := 6#32
  let v417 : BitVec 1 := Scalar.cmpi .eq v406 c6_i32_485
  let c10_i32_486 : BitVec 32 := 10#32
  let c5_i32_483 : BitVec 32 := 5#32
  let v415 : BitVec 1 := Scalar.cmpi .eq v406 c5_i32_483
  let c14_i32_484 : BitVec 32 := 14#32
  let c4_i32_481 : BitVec 32 := 4#32
  let v413 : BitVec 1 := Scalar.cmpi .eq v406 c4_i32_481
  let c13_i32_482 : BitVec 32 := 13#32
  let c3_i32_479 : BitVec 32 := 3#32
  let v411 : BitVec 1 := Scalar.cmpi .eq v406 c3_i32_479
  let c9_i32_480 : BitVec 32 := 9#32
  let c2_i32_477 : BitVec 32 := 2#32
  let v409 : BitVec 1 := Scalar.cmpi .eq v406 c2_i32_477
  let c5_i32_478 : BitVec 32 := 5#32
  let c1_i32_474 : BitVec 32 := 1#32
  let v407 : BitVec 1 := Scalar.cmpi .eq v406 c1_i32_474
  let c1_i32_475 : BitVec 32 := 1#32
  let c0_i32_476 : BitVec 32 := 0#32
  let v408 : BitVec 32 := Scalar.select v407 c1_i32_475 c0_i32_476
  let v410 : BitVec 32 := Scalar.select v409 c5_i32_478 v408
  let v412 : BitVec 32 := Scalar.select v411 c9_i32_480 v410
  let v414 : BitVec 32 := Scalar.select v413 c13_i32_482 v412
  let v416 : BitVec 32 := Scalar.select v415 c14_i32_484 v414
  let v418 : BitVec 32 := Scalar.select v417 c10_i32_486 v416
  let v420 : BitVec 32 := Scalar.select v419 c6_i32_488 v418
  let v422 : BitVec 32 := Scalar.select v421 c2_i32_490 v420
  let v424 : BitVec 32 := Scalar.select v423 c3_i32_492 v422
  let v426 : BitVec 32 := Scalar.select v425 c7_i32_494 v424
  let v428 : BitVec 32 := Scalar.select v427 c11_i32_496 v426
  let v430 : BitVec 32 := Scalar.select v429 c15_i32_498 v428
  let v432 : BitVec 32 := Scalar.select v431 c12_i32_500 v430
  let v434 : BitVec 32 := Scalar.select v433 c8_i32_502 v432
  let v436 : BitVec 32 := Scalar.select v435 c4_i32_504 v434
  let c128_i32_514 : BitVec 32 := 128#32
  let v449 : BitVec 32 := Scalar.muli v436 c128_i32_514
  let c0_i32_515 : BitVec 32 := 0#32
  let v450 : BitVec 32 := Scalar.addi v449 c0_i32_515
  let v451 : Index := Scalar.indexCast v450
  let c0_516 : Index := 0#32
  ![v451.toNat, 0]
def k0_off3 (d0 : Dev nD) (c0_i32_517 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let v453 : BitVec 32 := Scalar.addi v32 c0_i32_517
  let c1_i32_518 : BitVec 32 := 1#32
  let v454 : BitVec 32 := Scalar.addi v453 c1_i32_518
  let c16_i32_519 : BitVec 32 := 16#32
  let c0_i32_520 : BitVec 32 := 0#32
  let v455 : BitVec 1 := Scalar.cmpi .eq c16_i32_519 c0_i32_520
  let c1_i32_521 : BitVec 32 := 1#32
  let v456 : BitVec 32 := Scalar.select v455 c1_i32_521 c16_i32_519
  let v457 : BitVec 32 := Scalar.remsi v454 v456
  let c0_i32_523 : BitVec 32 := 0#32
  let v459 : BitVec 1 := Scalar.cmpi .slt v457 c0_i32_523
  let c0_i32_524 : BitVec 32 := 0#32
  let v460 : BitVec 1 := Scalar.cmpi .slt v456 c0_i32_524
  let v461 : BitVec 1 := Scalar.xori v459 v460
  let c0_i32_522 : BitVec 32 := 0#32
  let v458 : BitVec 1 := Scalar.cmpi .ne v457 c0_i32_522
  let v462 : BitVec 1 := Scalar.andi v461 v458
  let v463 : BitVec 32 := Scalar.addi v457 v456
  let v464 : BitVec 32 := Scalar.select v462 v463 v457
  let c15_i32_554 : BitVec 32 := 15#32
  let v493 : BitVec 1 := Scalar.cmpi .eq v464 c15_i32_554
  let c4_i32_555 : BitVec 32 := 4#32
  let c14_i32_552 : BitVec 32 := 14#32
  let v491 : BitVec 1 := Scalar.cmpi .eq v464 c14_i32_552
  let c8_i32_553 : BitVec 32 := 8#32
  let c13_i32_550 : BitVec 32 := 13#32
  let v489 : BitVec 1 := Scalar.cmpi .eq v464 c13_i32_550
  let c12_i32_551 : BitVec 32 := 12#32
  let c12_i32_548 : BitVec 32 := 12#32
  let v487 : BitVec 1 := Scalar.cmpi .eq v464 c12_i32_548
  let c15_i32_549 : BitVec 32 := 15#32
  let c11_i32_546 : BitVec 32 := 11#32
  let v485 : BitVec 1 := Scalar.cmpi .eq v464 c11_i32_546
  let c11_i32_547 : BitVec 32 := 11#32
  let c10_i32_544 : BitVec 32 := 10#32
  let v483 : BitVec 1 := Scalar.cmpi .eq v464 c10_i32_544
  let c7_i32_545 : BitVec 32 := 7#32
  let c9_i32_542 : BitVec 32 := 9#32
  let v481 : BitVec 1 := Scalar.cmpi .eq v464 c9_i32_542
  let c3_i32_543 : BitVec 32 := 3#32
  let c8_i32_540 : BitVec 32 := 8#32
  let v479 : BitVec 1 := Scalar.cmpi .eq v464 c8_i32_540
  let c2_i32_541 : BitVec 32 := 2#32
  let c7_i32_538 : BitVec 32 := 7#32
  let v477 : BitVec 1 := Scalar.cmpi .eq v464 c7_i32_538
  let c6_i32_539 : BitVec 32 := 6#32
  let c6_i32_536 : BitVec 32 := 6#32
  let v475 : BitVec 1 := Scalar.cmpi .eq v464 c6_i32_536
  let c10_i32_537 : BitVec 32 := 10#32
  let c5_i32_534 : BitVec 32 := 5#32
  let v473 : BitVec 1 := Scalar.cmpi .eq v464 c5_i32_534
  let c14_i32_535 : BitVec 32 := 14#32
  let c4_i32_532 : BitVec 32 := 4#32
  let v471 : BitVec 1 := Scalar.cmpi .eq v464 c4_i32_532
  let c13_i32_533 : BitVec 32 := 13#32
  let c3_i32_530 : BitVec 32 := 3#32
  let v469 : BitVec 1 := Scalar.cmpi .eq v464 c3_i32_530
  let c9_i32_531 : BitVec 32 := 9#32
  let c2_i32_528 : BitVec 32 := 2#32
  let v467 : BitVec 1 := Scalar.cmpi .eq v464 c2_i32_528
  let c5_i32_529 : BitVec 32 := 5#32
  let c1_i32_525 : BitVec 32 := 1#32
  let v465 : BitVec 1 := Scalar.cmpi .eq v464 c1_i32_525
  let c1_i32_526 : BitVec 32 := 1#32
  let c0_i32_527 : BitVec 32 := 0#32
  let v466 : BitVec 32 := Scalar.select v465 c1_i32_526 c0_i32_527
  let v468 : BitVec 32 := Scalar.select v467 c5_i32_529 v466
  let v470 : BitVec 32 := Scalar.select v469 c9_i32_531 v468
  let v472 : BitVec 32 := Scalar.select v471 c13_i32_533 v470
  let v474 : BitVec 32 := Scalar.select v473 c14_i32_535 v472
  let v476 : BitVec 32 := Scalar.select v475 c10_i32_537 v474
  let v478 : BitVec 32 := Scalar.select v477 c6_i32_539 v476
  let v480 : BitVec 32 := Scalar.select v479 c2_i32_541 v478
  let v482 : BitVec 32 := Scalar.select v481 c3_i32_543 v480
  let v484 : BitVec 32 := Scalar.select v483 c7_i32_545 v482
  let v486 : BitVec 32 := Scalar.select v485 c11_i32_547 v484
  let v488 : BitVec 32 := Scalar.select v487 c15_i32_549 v486
  let v490 : BitVec 32 := Scalar.select v489 c12_i32_551 v488
  let v492 : BitVec 32 := Scalar.select v491 c8_i32_553 v490
  let v494 : BitVec 32 := Scalar.select v493 c4_i32_555 v492
  let c128_i32_565 : BitVec 32 := 128#32
  let v507 : BitVec 32 := Scalar.muli v494 c128_i32_565
  let c0_i32_566 : BitVec 32 := 0#32
  let v508 : BitVec 32 := Scalar.addi v507 c0_i32_566
  let v509 : Index := Scalar.indexCast v508
  let c0_567 : Index := 0#32
  ![v509.toNat, 0]
def k0_dev19 (d0 : Dev nD) : Nat :=
  let c0_i32_598 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c1_i32_16 : BitVec 32 := 1#32
  let v33 : BitVec 32 := Scalar.addi v32 c1_i32_16
  let c16_i32_17 : BitVec 32 := 16#32
  let c0_i32_18 : BitVec 32 := 0#32
  let v34 : BitVec 1 := Scalar.cmpi .eq c16_i32_17 c0_i32_18
  let c1_i32_19 : BitVec 32 := 1#32
  let v35 : BitVec 32 := Scalar.select v34 c1_i32_19 c16_i32_17
  let v36 : BitVec 32 := Scalar.remsi v33 v35
  let c0_i32_21 : BitVec 32 := 0#32
  let v38 : BitVec 1 := Scalar.cmpi .slt v36 c0_i32_21
  let c0_i32_22 : BitVec 32 := 0#32
  let v39 : BitVec 1 := Scalar.cmpi .slt v35 c0_i32_22
  let v40 : BitVec 1 := Scalar.xori v38 v39
  let c0_i32_20 : BitVec 32 := 0#32
  let v37 : BitVec 1 := Scalar.cmpi .ne v36 c0_i32_20
  let v41 : BitVec 1 := Scalar.andi v40 v37
  let v42 : BitVec 32 := Scalar.addi v36 v35
  let v43 : BitVec 32 := Scalar.select v41 v42 v36
  let c15_i32_52 : BitVec 32 := 15#32
  let v72 : BitVec 1 := Scalar.cmpi .eq v43 c15_i32_52
  let c4_i32_53 : BitVec 32 := 4#32
  let c14_i32_50 : BitVec 32 := 14#32
  let v70 : BitVec 1 := Scalar.cmpi .eq v43 c14_i32_50
  let c8_i32_51 : BitVec 32 := 8#32
  let c13_i32_48 : BitVec 32 := 13#32
  let v68 : BitVec 1 := Scalar.cmpi .eq v43 c13_i32_48
  let c12_i32_49 : BitVec 32 := 12#32
  let c12_i32_46 : BitVec 32 := 12#32
  let v66 : BitVec 1 := Scalar.cmpi .eq v43 c12_i32_46
  let c15_i32_47 : BitVec 32 := 15#32
  let c11_i32_44 : BitVec 32 := 11#32
  let v64 : BitVec 1 := Scalar.cmpi .eq v43 c11_i32_44
  let c11_i32_45 : BitVec 32 := 11#32
  let c10_i32_42 : BitVec 32 := 10#32
  let v62 : BitVec 1 := Scalar.cmpi .eq v43 c10_i32_42
  let c7_i32_43 : BitVec 32 := 7#32
  let c9_i32_40 : BitVec 32 := 9#32
  let v60 : BitVec 1 := Scalar.cmpi .eq v43 c9_i32_40
  let c3_i32_41 : BitVec 32 := 3#32
  let c8_i32_38 : BitVec 32 := 8#32
  let v58 : BitVec 1 := Scalar.cmpi .eq v43 c8_i32_38
  let c2_i32_39 : BitVec 32 := 2#32
  let c7_i32_36 : BitVec 32 := 7#32
  let v56 : BitVec 1 := Scalar.cmpi .eq v43 c7_i32_36
  let c6_i32_37 : BitVec 32 := 6#32
  let c6_i32_34 : BitVec 32 := 6#32
  let v54 : BitVec 1 := Scalar.cmpi .eq v43 c6_i32_34
  let c10_i32_35 : BitVec 32 := 10#32
  let c5_i32_32 : BitVec 32 := 5#32
  let v52 : BitVec 1 := Scalar.cmpi .eq v43 c5_i32_32
  let c14_i32_33 : BitVec 32 := 14#32
  let c4_i32_30 : BitVec 32 := 4#32
  let v50 : BitVec 1 := Scalar.cmpi .eq v43 c4_i32_30
  let c13_i32_31 : BitVec 32 := 13#32
  let c3_i32_28 : BitVec 32 := 3#32
  let v48 : BitVec 1 := Scalar.cmpi .eq v43 c3_i32_28
  let c9_i32_29 : BitVec 32 := 9#32
  let c2_i32_26 : BitVec 32 := 2#32
  let v46 : BitVec 1 := Scalar.cmpi .eq v43 c2_i32_26
  let c5_i32_27 : BitVec 32 := 5#32
  let c1_i32_23 : BitVec 32 := 1#32
  let v44 : BitVec 1 := Scalar.cmpi .eq v43 c1_i32_23
  let c1_i32_24 : BitVec 32 := 1#32
  let c0_i32_25 : BitVec 32 := 0#32
  let v45 : BitVec 32 := Scalar.select v44 c1_i32_24 c0_i32_25
  let v47 : BitVec 32 := Scalar.select v46 c5_i32_27 v45
  let v49 : BitVec 32 := Scalar.select v48 c9_i32_29 v47
  let v51 : BitVec 32 := Scalar.select v50 c13_i32_31 v49
  let v53 : BitVec 32 := Scalar.select v52 c14_i32_33 v51
  let v55 : BitVec 32 := Scalar.select v54 c10_i32_35 v53
  let v57 : BitVec 32 := Scalar.select v56 c6_i32_37 v55
  let v59 : BitVec 32 := Scalar.select v58 c2_i32_39 v57
  let v61 : BitVec 32 := Scalar.select v60 c3_i32_41 v59
  let v63 : BitVec 32 := Scalar.select v62 c7_i32_43 v61
  let v65 : BitVec 32 := Scalar.select v64 c11_i32_45 v63
  let v67 : BitVec 32 := Scalar.select v66 c15_i32_47 v65
  let v69 : BitVec 32 := Scalar.select v68 c12_i32_49 v67
  let v71 : BitVec 32 := Scalar.select v70 c8_i32_51 v69
  let v73 : BitVec 32 := Scalar.select v72 c4_i32_53 v71
  let c1_i32_597 : BitVec 32 := 1#32
  let v525 : BitVec 32 := Scalar.muli v73 c1_i32_597
  let v526 : BitVec 32 := Scalar.addi c0_i32_598 v525
  v526.toNat
def k0_dev20 (d0 : Dev nD) : Nat :=
  let c0_i32_633 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c16_i32_54 : BitVec 32 := 16#32
  let v74 : BitVec 32 := Scalar.addi v32 c16_i32_54
  let c1_i32_55 : BitVec 32 := 1#32
  let v75 : BitVec 32 := Scalar.subi v74 c1_i32_55
  let c16_i32_56 : BitVec 32 := 16#32
  let c0_i32_57 : BitVec 32 := 0#32
  let v76 : BitVec 1 := Scalar.cmpi .eq c16_i32_56 c0_i32_57
  let c1_i32_58 : BitVec 32 := 1#32
  let v77 : BitVec 32 := Scalar.select v76 c1_i32_58 c16_i32_56
  let v78 : BitVec 32 := Scalar.remsi v75 v77
  let c0_i32_60 : BitVec 32 := 0#32
  let v80 : BitVec 1 := Scalar.cmpi .slt v78 c0_i32_60
  let c0_i32_61 : BitVec 32 := 0#32
  let v81 : BitVec 1 := Scalar.cmpi .slt v77 c0_i32_61
  let v82 : BitVec 1 := Scalar.xori v80 v81
  let c0_i32_59 : BitVec 32 := 0#32
  let v79 : BitVec 1 := Scalar.cmpi .ne v78 c0_i32_59
  let v83 : BitVec 1 := Scalar.andi v82 v79
  let v84 : BitVec 32 := Scalar.addi v78 v77
  let v85 : BitVec 32 := Scalar.select v83 v84 v78
  let c15_i32_91 : BitVec 32 := 15#32
  let v114 : BitVec 1 := Scalar.cmpi .eq v85 c15_i32_91
  let c4_i32_92 : BitVec 32 := 4#32
  let c14_i32_89 : BitVec 32 := 14#32
  let v112 : BitVec 1 := Scalar.cmpi .eq v85 c14_i32_89
  let c8_i32_90 : BitVec 32 := 8#32
  let c13_i32_87 : BitVec 32 := 13#32
  let v110 : BitVec 1 := Scalar.cmpi .eq v85 c13_i32_87
  let c12_i32_88 : BitVec 32 := 12#32
  let c12_i32_85 : BitVec 32 := 12#32
  let v108 : BitVec 1 := Scalar.cmpi .eq v85 c12_i32_85
  let c15_i32_86 : BitVec 32 := 15#32
  let c11_i32_83 : BitVec 32 := 11#32
  let v106 : BitVec 1 := Scalar.cmpi .eq v85 c11_i32_83
  let c11_i32_84 : BitVec 32 := 11#32
  let c10_i32_81 : BitVec 32 := 10#32
  let v104 : BitVec 1 := Scalar.cmpi .eq v85 c10_i32_81
  let c7_i32_82 : BitVec 32 := 7#32
  let c9_i32_79 : BitVec 32 := 9#32
  let v102 : BitVec 1 := Scalar.cmpi .eq v85 c9_i32_79
  let c3_i32_80 : BitVec 32 := 3#32
  let c8_i32_77 : BitVec 32 := 8#32
  let v100 : BitVec 1 := Scalar.cmpi .eq v85 c8_i32_77
  let c2_i32_78 : BitVec 32 := 2#32
  let c7_i32_75 : BitVec 32 := 7#32
  let v98 : BitVec 1 := Scalar.cmpi .eq v85 c7_i32_75
  let c6_i32_76 : BitVec 32 := 6#32
  let c6_i32_73 : BitVec 32 := 6#32
  let v96 : BitVec 1 := Scalar.cmpi .eq v85 c6_i32_73
  let c10_i32_74 : BitVec 32 := 10#32
  let c5_i32_71 : BitVec 32 := 5#32
  let v94 : BitVec 1 := Scalar.cmpi .eq v85 c5_i32_71
  let c14_i32_72 : BitVec 32 := 14#32
  let c4_i32_69 : BitVec 32 := 4#32
  let v92 : BitVec 1 := Scalar.cmpi .eq v85 c4_i32_69
  let c13_i32_70 : BitVec 32 := 13#32
  let c3_i32_67 : BitVec 32 := 3#32
  let v90 : BitVec 1 := Scalar.cmpi .eq v85 c3_i32_67
  let c9_i32_68 : BitVec 32 := 9#32
  let c2_i32_65 : BitVec 32 := 2#32
  let v88 : BitVec 1 := Scalar.cmpi .eq v85 c2_i32_65
  let c5_i32_66 : BitVec 32 := 5#32
  let c1_i32_62 : BitVec 32 := 1#32
  let v86 : BitVec 1 := Scalar.cmpi .eq v85 c1_i32_62
  let c1_i32_63 : BitVec 32 := 1#32
  let c0_i32_64 : BitVec 32 := 0#32
  let v87 : BitVec 32 := Scalar.select v86 c1_i32_63 c0_i32_64
  let v89 : BitVec 32 := Scalar.select v88 c5_i32_66 v87
  let v91 : BitVec 32 := Scalar.select v90 c9_i32_68 v89
  let v93 : BitVec 32 := Scalar.select v92 c13_i32_70 v91
  let v95 : BitVec 32 := Scalar.select v94 c14_i32_72 v93
  let v97 : BitVec 32 := Scalar.select v96 c10_i32_74 v95
  let v99 : BitVec 32 := Scalar.select v98 c6_i32_76 v97
  let v101 : BitVec 32 := Scalar.select v100 c2_i32_78 v99
  let v103 : BitVec 32 := Scalar.select v102 c3_i32_80 v101
  let v105 : BitVec 32 := Scalar.select v104 c7_i32_82 v103
  let v107 : BitVec 32 := Scalar.select v106 c11_i32_84 v105
  let v109 : BitVec 32 := Scalar.select v108 c15_i32_86 v107
  let v111 : BitVec 32 := Scalar.select v110 c12_i32_88 v109
  let v113 : BitVec 32 := Scalar.select v112 c8_i32_90 v111
  let v115 : BitVec 32 := Scalar.select v114 c4_i32_92 v113
  let c1_i32_632 : BitVec 32 := 1#32
  let v549 : BitVec 32 := Scalar.muli v115 c1_i32_632
  let v550 : BitVec 32 := Scalar.addi c0_i32_633 v549
  v550.toNat
def k0_dev21 (d0 : Dev nD) : Nat :=
  let c0_i32_668 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c1_i32_16 : BitVec 32 := 1#32
  let v33 : BitVec 32 := Scalar.addi v32 c1_i32_16
  let c16_i32_17 : BitVec 32 := 16#32
  let c0_i32_18 : BitVec 32 := 0#32
  let v34 : BitVec 1 := Scalar.cmpi .eq c16_i32_17 c0_i32_18
  let c1_i32_19 : BitVec 32 := 1#32
  let v35 : BitVec 32 := Scalar.select v34 c1_i32_19 c16_i32_17
  let v36 : BitVec 32 := Scalar.remsi v33 v35
  let c0_i32_21 : BitVec 32 := 0#32
  let v38 : BitVec 1 := Scalar.cmpi .slt v36 c0_i32_21
  let c0_i32_22 : BitVec 32 := 0#32
  let v39 : BitVec 1 := Scalar.cmpi .slt v35 c0_i32_22
  let v40 : BitVec 1 := Scalar.xori v38 v39
  let c0_i32_20 : BitVec 32 := 0#32
  let v37 : BitVec 1 := Scalar.cmpi .ne v36 c0_i32_20
  let v41 : BitVec 1 := Scalar.andi v40 v37
  let v42 : BitVec 32 := Scalar.addi v36 v35
  let v43 : BitVec 32 := Scalar.select v41 v42 v36
  let c15_i32_52 : BitVec 32 := 15#32
  let v72 : BitVec 1 := Scalar.cmpi .eq v43 c15_i32_52
  let c4_i32_53 : BitVec 32 := 4#32
  let c14_i32_50 : BitVec 32 := 14#32
  let v70 : BitVec 1 := Scalar.cmpi .eq v43 c14_i32_50
  let c8_i32_51 : BitVec 32 := 8#32
  let c13_i32_48 : BitVec 32 := 13#32
  let v68 : BitVec 1 := Scalar.cmpi .eq v43 c13_i32_48
  let c12_i32_49 : BitVec 32 := 12#32
  let c12_i32_46 : BitVec 32 := 12#32
  let v66 : BitVec 1 := Scalar.cmpi .eq v43 c12_i32_46
  let c15_i32_47 : BitVec 32 := 15#32
  let c11_i32_44 : BitVec 32 := 11#32
  let v64 : BitVec 1 := Scalar.cmpi .eq v43 c11_i32_44
  let c11_i32_45 : BitVec 32 := 11#32
  let c10_i32_42 : BitVec 32 := 10#32
  let v62 : BitVec 1 := Scalar.cmpi .eq v43 c10_i32_42
  let c7_i32_43 : BitVec 32 := 7#32
  let c9_i32_40 : BitVec 32 := 9#32
  let v60 : BitVec 1 := Scalar.cmpi .eq v43 c9_i32_40
  let c3_i32_41 : BitVec 32 := 3#32
  let c8_i32_38 : BitVec 32 := 8#32
  let v58 : BitVec 1 := Scalar.cmpi .eq v43 c8_i32_38
  let c2_i32_39 : BitVec 32 := 2#32
  let c7_i32_36 : BitVec 32 := 7#32
  let v56 : BitVec 1 := Scalar.cmpi .eq v43 c7_i32_36
  let c6_i32_37 : BitVec 32 := 6#32
  let c6_i32_34 : BitVec 32 := 6#32
  let v54 : BitVec 1 := Scalar.cmpi .eq v43 c6_i32_34
  let c10_i32_35 : BitVec 32 := 10#32
  let c5_i32_32 : BitVec 32 := 5#32
  let v52 : BitVec 1 := Scalar.cmpi .eq v43 c5_i32_32
  let c14_i32_33 : BitVec 32 := 14#32
  let c4_i32_30 : BitVec 32 := 4#32
  let v50 : BitVec 1 := Scalar.cmpi .eq v43 c4_i32_30
  let c13_i32_31 : BitVec 32 := 13#32
  let c3_i32_28 : BitVec 32 := 3#32
  let v48 : BitVec 1 := Scalar.cmpi .eq v43 c3_i32_28
  let c9_i32_29 : BitVec 32 := 9#32
  let c2_i32_26 : BitVec 32 := 2#32
  let v46 : BitVec 1 := Scalar.cmpi .eq v43 c2_i32_26
  let c5_i32_27 : BitVec 32 := 5#32
  let c1_i32_23 : BitVec 32 := 1#32
  let v44 : BitVec 1 := Scalar.cmpi .eq v43 c1_i32_23
  let c1_i32_24 : BitVec 32 := 1#32
  let c0_i32_25 : BitVec 32 := 0#32
  let v45 : BitVec 32 := Scalar.select v44 c1_i32_24 c0_i32_25
  let v47 : BitVec 32 := Scalar.select v46 c5_i32_27 v45
  let v49 : BitVec 32 := Scalar.select v48 c9_i32_29 v47
  let v51 : BitVec 32 := Scalar.select v50 c13_i32_31 v49
  let v53 : BitVec 32 := Scalar.select v52 c14_i32_33 v51
  let v55 : BitVec 32 := Scalar.select v54 c10_i32_35 v53
  let v57 : BitVec 32 := Scalar.select v56 c6_i32_37 v55
  let v59 : BitVec 32 := Scalar.select v58 c2_i32_39 v57
  let v61 : BitVec 32 := Scalar.select v60 c3_i32_41 v59
  let v63 : BitVec 32 := Scalar.select v62 c7_i32_43 v61
  let v65 : BitVec 32 := Scalar.select v64 c11_i32_45 v63
  let v67 : BitVec 32 := Scalar.select v66 c15_i32_47 v65
  let v69 : BitVec 32 := Scalar.select v68 c12_i32_49 v67
  let v71 : BitVec 32 := Scalar.select v70 c8_i32_51 v69
  let v73 : BitVec 32 := Scalar.select v72 c4_i32_53 v71
  let c1_i32_667 : BitVec 32 := 1#32
  let v573 : BitVec 32 := Scalar.muli v73 c1_i32_667
  let v574 : BitVec 32 := Scalar.addi c0_i32_668 v573
  v574.toNat
def k0_dev22 (d0 : Dev nD) : Nat :=
  let c0_i32_703 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c16_i32_54 : BitVec 32 := 16#32
  let v74 : BitVec 32 := Scalar.addi v32 c16_i32_54
  let c1_i32_55 : BitVec 32 := 1#32
  let v75 : BitVec 32 := Scalar.subi v74 c1_i32_55
  let c16_i32_56 : BitVec 32 := 16#32
  let c0_i32_57 : BitVec 32 := 0#32
  let v76 : BitVec 1 := Scalar.cmpi .eq c16_i32_56 c0_i32_57
  let c1_i32_58 : BitVec 32 := 1#32
  let v77 : BitVec 32 := Scalar.select v76 c1_i32_58 c16_i32_56
  let v78 : BitVec 32 := Scalar.remsi v75 v77
  let c0_i32_60 : BitVec 32 := 0#32
  let v80 : BitVec 1 := Scalar.cmpi .slt v78 c0_i32_60
  let c0_i32_61 : BitVec 32 := 0#32
  let v81 : BitVec 1 := Scalar.cmpi .slt v77 c0_i32_61
  let v82 : BitVec 1 := Scalar.xori v80 v81
  let c0_i32_59 : BitVec 32 := 0#32
  let v79 : BitVec 1 := Scalar.cmpi .ne v78 c0_i32_59
  let v83 : BitVec 1 := Scalar.andi v82 v79
  let v84 : BitVec 32 := Scalar.addi v78 v77
  let v85 : BitVec 32 := Scalar.select v83 v84 v78
  let c15_i32_91 : BitVec 32 := 15#32
  let v114 : BitVec 1 := Scalar.cmpi .eq v85 c15_i32_91
  let c4_i32_92 : BitVec 32 := 4#32
  let c14_i32_89 : BitVec 32 := 14#32
  let v112 : BitVec 1 := Scalar.cmpi .eq v85 c14_i32_89
  let c8_i32_90 : BitVec 32 := 8#32
  let c13_i32_87 : BitVec 32 := 13#32
  let v110 : BitVec 1 := Scalar.cmpi .eq v85 c13_i32_87
  let c12_i32_88 : BitVec 32 := 12#32
  let c12_i32_85 : BitVec 32 := 12#32
  let v108 : BitVec 1 := Scalar.cmpi .eq v85 c12_i32_85
  let c15_i32_86 : BitVec 32 := 15#32
  let c11_i32_83 : BitVec 32 := 11#32
  let v106 : BitVec 1 := Scalar.cmpi .eq v85 c11_i32_83
  let c11_i32_84 : BitVec 32 := 11#32
  let c10_i32_81 : BitVec 32 := 10#32
  let v104 : BitVec 1 := Scalar.cmpi .eq v85 c10_i32_81
  let c7_i32_82 : BitVec 32 := 7#32
  let c9_i32_79 : BitVec 32 := 9#32
  let v102 : BitVec 1 := Scalar.cmpi .eq v85 c9_i32_79
  let c3_i32_80 : BitVec 32 := 3#32
  let c8_i32_77 : BitVec 32 := 8#32
  let v100 : BitVec 1 := Scalar.cmpi .eq v85 c8_i32_77
  let c2_i32_78 : BitVec 32 := 2#32
  let c7_i32_75 : BitVec 32 := 7#32
  let v98 : BitVec 1 := Scalar.cmpi .eq v85 c7_i32_75
  let c6_i32_76 : BitVec 32 := 6#32
  let c6_i32_73 : BitVec 32 := 6#32
  let v96 : BitVec 1 := Scalar.cmpi .eq v85 c6_i32_73
  let c10_i32_74 : BitVec 32 := 10#32
  let c5_i32_71 : BitVec 32 := 5#32
  let v94 : BitVec 1 := Scalar.cmpi .eq v85 c5_i32_71
  let c14_i32_72 : BitVec 32 := 14#32
  let c4_i32_69 : BitVec 32 := 4#32
  let v92 : BitVec 1 := Scalar.cmpi .eq v85 c4_i32_69
  let c13_i32_70 : BitVec 32 := 13#32
  let c3_i32_67 : BitVec 32 := 3#32
  let v90 : BitVec 1 := Scalar.cmpi .eq v85 c3_i32_67
  let c9_i32_68 : BitVec 32 := 9#32
  let c2_i32_65 : BitVec 32 := 2#32
  let v88 : BitVec 1 := Scalar.cmpi .eq v85 c2_i32_65
  let c5_i32_66 : BitVec 32 := 5#32
  let c1_i32_62 : BitVec 32 := 1#32
  let v86 : BitVec 1 := Scalar.cmpi .eq v85 c1_i32_62
  let c1_i32_63 : BitVec 32 := 1#32
  let c0_i32_64 : BitVec 32 := 0#32
  let v87 : BitVec 32 := Scalar.select v86 c1_i32_63 c0_i32_64
  let v89 : BitVec 32 := Scalar.select v88 c5_i32_66 v87
  let v91 : BitVec 32 := Scalar.select v90 c9_i32_68 v89
  let v93 : BitVec 32 := Scalar.select v92 c13_i32_70 v91
  let v95 : BitVec 32 := Scalar.select v94 c14_i32_72 v93
  let v97 : BitVec 32 := Scalar.select v96 c10_i32_74 v95
  let v99 : BitVec 32 := Scalar.select v98 c6_i32_76 v97
  let v101 : BitVec 32 := Scalar.select v100 c2_i32_78 v99
  let v103 : BitVec 32 := Scalar.select v102 c3_i32_80 v101
  let v105 : BitVec 32 := Scalar.select v104 c7_i32_82 v103
  let v107 : BitVec 32 := Scalar.select v106 c11_i32_84 v105
  let v109 : BitVec 32 := Scalar.select v108 c15_i32_86 v107
  let v111 : BitVec 32 := Scalar.select v110 c12_i32_88 v109
  let v113 : BitVec 32 := Scalar.select v112 c8_i32_90 v111
  let v115 : BitVec 32 := Scalar.select v114 c4_i32_92 v113
  let c1_i32_702 : BitVec 32 := 1#32
  let v597 : BitVec 32 := Scalar.muli v115 c1_i32_702
  let v598 : BitVec 32 := Scalar.addi c0_i32_703 v597
  v598.toNat
def k0_dev23 (d0 : Dev nD) : Nat :=
  let c0_i32_738 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c1_i32_16 : BitVec 32 := 1#32
  let v33 : BitVec 32 := Scalar.addi v32 c1_i32_16
  let c16_i32_17 : BitVec 32 := 16#32
  let c0_i32_18 : BitVec 32 := 0#32
  let v34 : BitVec 1 := Scalar.cmpi .eq c16_i32_17 c0_i32_18
  let c1_i32_19 : BitVec 32 := 1#32
  let v35 : BitVec 32 := Scalar.select v34 c1_i32_19 c16_i32_17
  let v36 : BitVec 32 := Scalar.remsi v33 v35
  let c0_i32_21 : BitVec 32 := 0#32
  let v38 : BitVec 1 := Scalar.cmpi .slt v36 c0_i32_21
  let c0_i32_22 : BitVec 32 := 0#32
  let v39 : BitVec 1 := Scalar.cmpi .slt v35 c0_i32_22
  let v40 : BitVec 1 := Scalar.xori v38 v39
  let c0_i32_20 : BitVec 32 := 0#32
  let v37 : BitVec 1 := Scalar.cmpi .ne v36 c0_i32_20
  let v41 : BitVec 1 := Scalar.andi v40 v37
  let v42 : BitVec 32 := Scalar.addi v36 v35
  let v43 : BitVec 32 := Scalar.select v41 v42 v36
  let c15_i32_52 : BitVec 32 := 15#32
  let v72 : BitVec 1 := Scalar.cmpi .eq v43 c15_i32_52
  let c4_i32_53 : BitVec 32 := 4#32
  let c14_i32_50 : BitVec 32 := 14#32
  let v70 : BitVec 1 := Scalar.cmpi .eq v43 c14_i32_50
  let c8_i32_51 : BitVec 32 := 8#32
  let c13_i32_48 : BitVec 32 := 13#32
  let v68 : BitVec 1 := Scalar.cmpi .eq v43 c13_i32_48
  let c12_i32_49 : BitVec 32 := 12#32
  let c12_i32_46 : BitVec 32 := 12#32
  let v66 : BitVec 1 := Scalar.cmpi .eq v43 c12_i32_46
  let c15_i32_47 : BitVec 32 := 15#32
  let c11_i32_44 : BitVec 32 := 11#32
  let v64 : BitVec 1 := Scalar.cmpi .eq v43 c11_i32_44
  let c11_i32_45 : BitVec 32 := 11#32
  let c10_i32_42 : BitVec 32 := 10#32
  let v62 : BitVec 1 := Scalar.cmpi .eq v43 c10_i32_42
  let c7_i32_43 : BitVec 32 := 7#32
  let c9_i32_40 : BitVec 32 := 9#32
  let v60 : BitVec 1 := Scalar.cmpi .eq v43 c9_i32_40
  let c3_i32_41 : BitVec 32 := 3#32
  let c8_i32_38 : BitVec 32 := 8#32
  let v58 : BitVec 1 := Scalar.cmpi .eq v43 c8_i32_38
  let c2_i32_39 : BitVec 32 := 2#32
  let c7_i32_36 : BitVec 32 := 7#32
  let v56 : BitVec 1 := Scalar.cmpi .eq v43 c7_i32_36
  let c6_i32_37 : BitVec 32 := 6#32
  let c6_i32_34 : BitVec 32 := 6#32
  let v54 : BitVec 1 := Scalar.cmpi .eq v43 c6_i32_34
  let c10_i32_35 : BitVec 32 := 10#32
  let c5_i32_32 : BitVec 32 := 5#32
  let v52 : BitVec 1 := Scalar.cmpi .eq v43 c5_i32_32
  let c14_i32_33 : BitVec 32 := 14#32
  let c4_i32_30 : BitVec 32 := 4#32
  let v50 : BitVec 1 := Scalar.cmpi .eq v43 c4_i32_30
  let c13_i32_31 : BitVec 32 := 13#32
  let c3_i32_28 : BitVec 32 := 3#32
  let v48 : BitVec 1 := Scalar.cmpi .eq v43 c3_i32_28
  let c9_i32_29 : BitVec 32 := 9#32
  let c2_i32_26 : BitVec 32 := 2#32
  let v46 : BitVec 1 := Scalar.cmpi .eq v43 c2_i32_26
  let c5_i32_27 : BitVec 32 := 5#32
  let c1_i32_23 : BitVec 32 := 1#32
  let v44 : BitVec 1 := Scalar.cmpi .eq v43 c1_i32_23
  let c1_i32_24 : BitVec 32 := 1#32
  let c0_i32_25 : BitVec 32 := 0#32
  let v45 : BitVec 32 := Scalar.select v44 c1_i32_24 c0_i32_25
  let v47 : BitVec 32 := Scalar.select v46 c5_i32_27 v45
  let v49 : BitVec 32 := Scalar.select v48 c9_i32_29 v47
  let v51 : BitVec 32 := Scalar.select v50 c13_i32_31 v49
  let v53 : BitVec 32 := Scalar.select v52 c14_i32_33 v51
  let v55 : BitVec 32 := Scalar.select v54 c10_i32_35 v53
  let v57 : BitVec 32 := Scalar.select v56 c6_i32_37 v55
  let v59 : BitVec 32 := Scalar.select v58 c2_i32_39 v57
  let v61 : BitVec 32 := Scalar.select v60 c3_i32_41 v59
  let v63 : BitVec 32 := Scalar.select v62 c7_i32_43 v61
  let v65 : BitVec 32 := Scalar.select v64 c11_i32_45 v63
  let v67 : BitVec 32 := Scalar.select v66 c15_i32_47 v65
  let v69 : BitVec 32 := Scalar.select v68 c12_i32_49 v67
  let v71 : BitVec 32 := Scalar.select v70 c8_i32_51 v69
  let v73 : BitVec 32 := Scalar.select v72 c4_i32_53 v71
  let c1_i32_737 : BitVec 32 := 1#32
  let v621 : BitVec 32 := Scalar.muli v73 c1_i32_737
  let v622 : BitVec 32 := Scalar.addi c0_i32_738 v621
  v622.toNat
def k0_dev24 (d0 : Dev nD) : Nat :=
  let c0_i32_773 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c16_i32_54 : BitVec 32 := 16#32
  let v74 : BitVec 32 := Scalar.addi v32 c16_i32_54
  let c1_i32_55 : BitVec 32 := 1#32
  let v75 : BitVec 32 := Scalar.subi v74 c1_i32_55
  let c16_i32_56 : BitVec 32 := 16#32
  let c0_i32_57 : BitVec 32 := 0#32
  let v76 : BitVec 1 := Scalar.cmpi .eq c16_i32_56 c0_i32_57
  let c1_i32_58 : BitVec 32 := 1#32
  let v77 : BitVec 32 := Scalar.select v76 c1_i32_58 c16_i32_56
  let v78 : BitVec 32 := Scalar.remsi v75 v77
  let c0_i32_60 : BitVec 32 := 0#32
  let v80 : BitVec 1 := Scalar.cmpi .slt v78 c0_i32_60
  let c0_i32_61 : BitVec 32 := 0#32
  let v81 : BitVec 1 := Scalar.cmpi .slt v77 c0_i32_61
  let v82 : BitVec 1 := Scalar.xori v80 v81
  let c0_i32_59 : BitVec 32 := 0#32
  let v79 : BitVec 1 := Scalar.cmpi .ne v78 c0_i32_59
  let v83 : BitVec 1 := Scalar.andi v82 v79
  let v84 : BitVec 32 := Scalar.addi v78 v77
  let v85 : BitVec 32 := Scalar.select v83 v84 v78
  let c15_i32_91 : BitVec 32 := 15#32
  let v114 : BitVec 1 := Scalar.cmpi .eq v85 c15_i32_91
  let c4_i32_92 : BitVec 32 := 4#32
  let c14_i32_89 : BitVec 32 := 14#32
  let v112 : BitVec 1 := Scalar.cmpi .eq v85 c14_i32_89
  let c8_i32_90 : BitVec 32 := 8#32
  let c13_i32_87 : BitVec 32 := 13#32
  let v110 : BitVec 1 := Scalar.cmpi .eq v85 c13_i32_87
  let c12_i32_88 : BitVec 32 := 12#32
  let c12_i32_85 : BitVec 32 := 12#32
  let v108 : BitVec 1 := Scalar.cmpi .eq v85 c12_i32_85
  let c15_i32_86 : BitVec 32 := 15#32
  let c11_i32_83 : BitVec 32 := 11#32
  let v106 : BitVec 1 := Scalar.cmpi .eq v85 c11_i32_83
  let c11_i32_84 : BitVec 32 := 11#32
  let c10_i32_81 : BitVec 32 := 10#32
  let v104 : BitVec 1 := Scalar.cmpi .eq v85 c10_i32_81
  let c7_i32_82 : BitVec 32 := 7#32
  let c9_i32_79 : BitVec 32 := 9#32
  let v102 : BitVec 1 := Scalar.cmpi .eq v85 c9_i32_79
  let c3_i32_80 : BitVec 32 := 3#32
  let c8_i32_77 : BitVec 32 := 8#32
  let v100 : BitVec 1 := Scalar.cmpi .eq v85 c8_i32_77
  let c2_i32_78 : BitVec 32 := 2#32
  let c7_i32_75 : BitVec 32 := 7#32
  let v98 : BitVec 1 := Scalar.cmpi .eq v85 c7_i32_75
  let c6_i32_76 : BitVec 32 := 6#32
  let c6_i32_73 : BitVec 32 := 6#32
  let v96 : BitVec 1 := Scalar.cmpi .eq v85 c6_i32_73
  let c10_i32_74 : BitVec 32 := 10#32
  let c5_i32_71 : BitVec 32 := 5#32
  let v94 : BitVec 1 := Scalar.cmpi .eq v85 c5_i32_71
  let c14_i32_72 : BitVec 32 := 14#32
  let c4_i32_69 : BitVec 32 := 4#32
  let v92 : BitVec 1 := Scalar.cmpi .eq v85 c4_i32_69
  let c13_i32_70 : BitVec 32 := 13#32
  let c3_i32_67 : BitVec 32 := 3#32
  let v90 : BitVec 1 := Scalar.cmpi .eq v85 c3_i32_67
  let c9_i32_68 : BitVec 32 := 9#32
  let c2_i32_65 : BitVec 32 := 2#32
  let v88 : BitVec 1 := Scalar.cmpi .eq v85 c2_i32_65
  let c5_i32_66 : BitVec 32 := 5#32
  let c1_i32_62 : BitVec 32 := 1#32
  let v86 : BitVec 1 := Scalar.cmpi .eq v85 c1_i32_62
  let c1_i32_63 : BitVec 32 := 1#32
  let c0_i32_64 : BitVec 32 := 0#32
  let v87 : BitVec 32 := Scalar.select v86 c1_i32_63 c0_i32_64
  let v89 : BitVec 32 := Scalar.select v88 c5_i32_66 v87
  let v91 : BitVec 32 := Scalar.select v90 c9_i32_68 v89
  let v93 : BitVec 32 := Scalar.select v92 c13_i32_70 v91
  let v95 : BitVec 32 := Scalar.select v94 c14_i32_72 v93
  let v97 : BitVec 32 := Scalar.select v96 c10_i32_74 v95
  let v99 : BitVec 32 := Scalar.select v98 c6_i32_76 v97
  let v101 : BitVec 32 := Scalar.select v100 c2_i32_78 v99
  let v103 : BitVec 32 := Scalar.select v102 c3_i32_80 v101
  let v105 : BitVec 32 := Scalar.select v104 c7_i32_82 v103
  let v107 : BitVec 32 := Scalar.select v106 c11_i32_84 v105
  let v109 : BitVec 32 := Scalar.select v108 c15_i32_86 v107
  let v111 : BitVec 32 := Scalar.select v110 c12_i32_88 v109
  let v113 : BitVec 32 := Scalar.select v112 c8_i32_90 v111
  let v115 : BitVec 32 := Scalar.select v114 c4_i32_92 v113
  let c1_i32_772 : BitVec 32 := 1#32
  let v645 : BitVec 32 := Scalar.muli v115 c1_i32_772
  let v646 : BitVec 32 := Scalar.addi c0_i32_773 v645
  v646.toNat
def k0_dev25 (d0 : Dev nD) : Nat :=
  let c0_i32_808 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c1_i32_16 : BitVec 32 := 1#32
  let v33 : BitVec 32 := Scalar.addi v32 c1_i32_16
  let c16_i32_17 : BitVec 32 := 16#32
  let c0_i32_18 : BitVec 32 := 0#32
  let v34 : BitVec 1 := Scalar.cmpi .eq c16_i32_17 c0_i32_18
  let c1_i32_19 : BitVec 32 := 1#32
  let v35 : BitVec 32 := Scalar.select v34 c1_i32_19 c16_i32_17
  let v36 : BitVec 32 := Scalar.remsi v33 v35
  let c0_i32_21 : BitVec 32 := 0#32
  let v38 : BitVec 1 := Scalar.cmpi .slt v36 c0_i32_21
  let c0_i32_22 : BitVec 32 := 0#32
  let v39 : BitVec 1 := Scalar.cmpi .slt v35 c0_i32_22
  let v40 : BitVec 1 := Scalar.xori v38 v39
  let c0_i32_20 : BitVec 32 := 0#32
  let v37 : BitVec 1 := Scalar.cmpi .ne v36 c0_i32_20
  let v41 : BitVec 1 := Scalar.andi v40 v37
  let v42 : BitVec 32 := Scalar.addi v36 v35
  let v43 : BitVec 32 := Scalar.select v41 v42 v36
  let c15_i32_52 : BitVec 32 := 15#32
  let v72 : BitVec 1 := Scalar.cmpi .eq v43 c15_i32_52
  let c4_i32_53 : BitVec 32 := 4#32
  let c14_i32_50 : BitVec 32 := 14#32
  let v70 : BitVec 1 := Scalar.cmpi .eq v43 c14_i32_50
  let c8_i32_51 : BitVec 32 := 8#32
  let c13_i32_48 : BitVec 32 := 13#32
  let v68 : BitVec 1 := Scalar.cmpi .eq v43 c13_i32_48
  let c12_i32_49 : BitVec 32 := 12#32
  let c12_i32_46 : BitVec 32 := 12#32
  let v66 : BitVec 1 := Scalar.cmpi .eq v43 c12_i32_46
  let c15_i32_47 : BitVec 32 := 15#32
  let c11_i32_44 : BitVec 32 := 11#32
  let v64 : BitVec 1 := Scalar.cmpi .eq v43 c11_i32_44
  let c11_i32_45 : BitVec 32 := 11#32
  let c10_i32_42 : BitVec 32 := 10#32
  let v62 : BitVec 1 := Scalar.cmpi .eq v43 c10_i32_42
  let c7_i32_43 : BitVec 32 := 7#32
  let c9_i32_40 : BitVec 32 := 9#32
  let v60 : BitVec 1 := Scalar.cmpi .eq v43 c9_i32_40
  let c3_i32_41 : BitVec 32 := 3#32
  let c8_i32_38 : BitVec 32 := 8#32
  let v58 : BitVec 1 := Scalar.cmpi .eq v43 c8_i32_38
  let c2_i32_39 : BitVec 32 := 2#32
  let c7_i32_36 : BitVec 32 := 7#32
  let v56 : BitVec 1 := Scalar.cmpi .eq v43 c7_i32_36
  let c6_i32_37 : BitVec 32 := 6#32
  let c6_i32_34 : BitVec 32 := 6#32
  let v54 : BitVec 1 := Scalar.cmpi .eq v43 c6_i32_34
  let c10_i32_35 : BitVec 32 := 10#32
  let c5_i32_32 : BitVec 32 := 5#32
  let v52 : BitVec 1 := Scalar.cmpi .eq v43 c5_i32_32
  let c14_i32_33 : BitVec 32 := 14#32
  let c4_i32_30 : BitVec 32 := 4#32
  let v50 : BitVec 1 := Scalar.cmpi .eq v43 c4_i32_30
  let c13_i32_31 : BitVec 32 := 13#32
  let c3_i32_28 : BitVec 32 := 3#32
  let v48 : BitVec 1 := Scalar.cmpi .eq v43 c3_i32_28
  let c9_i32_29 : BitVec 32 := 9#32
  let c2_i32_26 : BitVec 32 := 2#32
  let v46 : BitVec 1 := Scalar.cmpi .eq v43 c2_i32_26
  let c5_i32_27 : BitVec 32 := 5#32
  let c1_i32_23 : BitVec 32 := 1#32
  let v44 : BitVec 1 := Scalar.cmpi .eq v43 c1_i32_23
  let c1_i32_24 : BitVec 32 := 1#32
  let c0_i32_25 : BitVec 32 := 0#32
  let v45 : BitVec 32 := Scalar.select v44 c1_i32_24 c0_i32_25
  let v47 : BitVec 32 := Scalar.select v46 c5_i32_27 v45
  let v49 : BitVec 32 := Scalar.select v48 c9_i32_29 v47
  let v51 : BitVec 32 := Scalar.select v50 c13_i32_31 v49
  let v53 : BitVec 32 := Scalar.select v52 c14_i32_33 v51
  let v55 : BitVec 32 := Scalar.select v54 c10_i32_35 v53
  let v57 : BitVec 32 := Scalar.select v56 c6_i32_37 v55
  let v59 : BitVec 32 := Scalar.select v58 c2_i32_39 v57
  let v61 : BitVec 32 := Scalar.select v60 c3_i32_41 v59
  let v63 : BitVec 32 := Scalar.select v62 c7_i32_43 v61
  let v65 : BitVec 32 := Scalar.select v64 c11_i32_45 v63
  let v67 : BitVec 32 := Scalar.select v66 c15_i32_47 v65
  let v69 : BitVec 32 := Scalar.select v68 c12_i32_49 v67
  let v71 : BitVec 32 := Scalar.select v70 c8_i32_51 v69
  let v73 : BitVec 32 := Scalar.select v72 c4_i32_53 v71
  let c1_i32_807 : BitVec 32 := 1#32
  let v669 : BitVec 32 := Scalar.muli v73 c1_i32_807
  let v670 : BitVec 32 := Scalar.addi c0_i32_808 v669
  v670.toNat
def k0_dev26 (d0 : Dev nD) : Nat :=
  let c0_i32_843 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c16_i32_54 : BitVec 32 := 16#32
  let v74 : BitVec 32 := Scalar.addi v32 c16_i32_54
  let c1_i32_55 : BitVec 32 := 1#32
  let v75 : BitVec 32 := Scalar.subi v74 c1_i32_55
  let c16_i32_56 : BitVec 32 := 16#32
  let c0_i32_57 : BitVec 32 := 0#32
  let v76 : BitVec 1 := Scalar.cmpi .eq c16_i32_56 c0_i32_57
  let c1_i32_58 : BitVec 32 := 1#32
  let v77 : BitVec 32 := Scalar.select v76 c1_i32_58 c16_i32_56
  let v78 : BitVec 32 := Scalar.remsi v75 v77
  let c0_i32_60 : BitVec 32 := 0#32
  let v80 : BitVec 1 := Scalar.cmpi .slt v78 c0_i32_60
  let c0_i32_61 : BitVec 32 := 0#32
  let v81 : BitVec 1 := Scalar.cmpi .slt v77 c0_i32_61
  let v82 : BitVec 1 := Scalar.xori v80 v81
  let c0_i32_59 : BitVec 32 := 0#32
  let v79 : BitVec 1 := Scalar.cmpi .ne v78 c0_i32_59
  let v83 : BitVec 1 := Scalar.andi v82 v79
  let v84 : BitVec 32 := Scalar.addi v78 v77
  let v85 : BitVec 32 := Scalar.select v83 v84 v78
  let c15_i32_91 : BitVec 32 := 15#32
  let v114 : BitVec 1 := Scalar.cmpi .eq v85 c15_i32_91
  let c4_i32_92 : BitVec 32 := 4#32
  let c14_i32_89 : BitVec 32 := 14#32
  let v112 : BitVec 1 := Scalar.cmpi .eq v85 c14_i32_89
  let c8_i32_90 : BitVec 32 := 8#32
  let c13_i32_87 : BitVec 32 := 13#32
  let v110 : BitVec 1 := Scalar.cmpi .eq v85 c13_i32_87
  let c12_i32_88 : BitVec 32 := 12#32
  let c12_i32_85 : BitVec 32 := 12#32
  let v108 : BitVec 1 := Scalar.cmpi .eq v85 c12_i32_85
  let c15_i32_86 : BitVec 32 := 15#32
  let c11_i32_83 : BitVec 32 := 11#32
  let v106 : BitVec 1 := Scalar.cmpi .eq v85 c11_i32_83
  let c11_i32_84 : BitVec 32 := 11#32
  let c10_i32_81 : BitVec 32 := 10#32
  let v104 : BitVec 1 := Scalar.cmpi .eq v85 c10_i32_81
  let c7_i32_82 : BitVec 32 := 7#32
  let c9_i32_79 : BitVec 32 := 9#32
  let v102 : BitVec 1 := Scalar.cmpi .eq v85 c9_i32_79
  let c3_i32_80 : BitVec 32 := 3#32
  let c8_i32_77 : BitVec 32 := 8#32
  let v100 : BitVec 1 := Scalar.cmpi .eq v85 c8_i32_77
  let c2_i32_78 : BitVec 32 := 2#32
  let c7_i32_75 : BitVec 32 := 7#32
  let v98 : BitVec 1 := Scalar.cmpi .eq v85 c7_i32_75
  let c6_i32_76 : BitVec 32 := 6#32
  let c6_i32_73 : BitVec 32 := 6#32
  let v96 : BitVec 1 := Scalar.cmpi .eq v85 c6_i32_73
  let c10_i32_74 : BitVec 32 := 10#32
  let c5_i32_71 : BitVec 32 := 5#32
  let v94 : BitVec 1 := Scalar.cmpi .eq v85 c5_i32_71
  let c14_i32_72 : BitVec 32 := 14#32
  let c4_i32_69 : BitVec 32 := 4#32
  let v92 : BitVec 1 := Scalar.cmpi .eq v85 c4_i32_69
  let c13_i32_70 : BitVec 32 := 13#32
  let c3_i32_67 : BitVec 32 := 3#32
  let v90 : BitVec 1 := Scalar.cmpi .eq v85 c3_i32_67
  let c9_i32_68 : BitVec 32 := 9#32
  let c2_i32_65 : BitVec 32 := 2#32
  let v88 : BitVec 1 := Scalar.cmpi .eq v85 c2_i32_65
  let c5_i32_66 : BitVec 32 := 5#32
  let c1_i32_62 : BitVec 32 := 1#32
  let v86 : BitVec 1 := Scalar.cmpi .eq v85 c1_i32_62
  let c1_i32_63 : BitVec 32 := 1#32
  let c0_i32_64 : BitVec 32 := 0#32
  let v87 : BitVec 32 := Scalar.select v86 c1_i32_63 c0_i32_64
  let v89 : BitVec 32 := Scalar.select v88 c5_i32_66 v87
  let v91 : BitVec 32 := Scalar.select v90 c9_i32_68 v89
  let v93 : BitVec 32 := Scalar.select v92 c13_i32_70 v91
  let v95 : BitVec 32 := Scalar.select v94 c14_i32_72 v93
  let v97 : BitVec 32 := Scalar.select v96 c10_i32_74 v95
  let v99 : BitVec 32 := Scalar.select v98 c6_i32_76 v97
  let v101 : BitVec 32 := Scalar.select v100 c2_i32_78 v99
  let v103 : BitVec 32 := Scalar.select v102 c3_i32_80 v101
  let v105 : BitVec 32 := Scalar.select v104 c7_i32_82 v103
  let v107 : BitVec 32 := Scalar.select v106 c11_i32_84 v105
  let v109 : BitVec 32 := Scalar.select v108 c15_i32_86 v107
  let v111 : BitVec 32 := Scalar.select v110 c12_i32_88 v109
  let v113 : BitVec 32 := Scalar.select v112 c8_i32_90 v111
  let v115 : BitVec 32 := Scalar.select v114 c4_i32_92 v113
  let c1_i32_842 : BitVec 32 := 1#32
  let v693 : BitVec 32 := Scalar.muli v115 c1_i32_842
  let v694 : BitVec 32 := Scalar.addi c0_i32_843 v693
  v694.toNat
def k0_dev27 (d0 : Dev nD) : Nat :=
  let c0_i32_980 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c1_i32_16 : BitVec 32 := 1#32
  let v33 : BitVec 32 := Scalar.addi v32 c1_i32_16
  let c16_i32_17 : BitVec 32 := 16#32
  let c0_i32_18 : BitVec 32 := 0#32
  let v34 : BitVec 1 := Scalar.cmpi .eq c16_i32_17 c0_i32_18
  let c1_i32_19 : BitVec 32 := 1#32
  let v35 : BitVec 32 := Scalar.select v34 c1_i32_19 c16_i32_17
  let v36 : BitVec 32 := Scalar.remsi v33 v35
  let c0_i32_21 : BitVec 32 := 0#32
  let v38 : BitVec 1 := Scalar.cmpi .slt v36 c0_i32_21
  let c0_i32_22 : BitVec 32 := 0#32
  let v39 : BitVec 1 := Scalar.cmpi .slt v35 c0_i32_22
  let v40 : BitVec 1 := Scalar.xori v38 v39
  let c0_i32_20 : BitVec 32 := 0#32
  let v37 : BitVec 1 := Scalar.cmpi .ne v36 c0_i32_20
  let v41 : BitVec 1 := Scalar.andi v40 v37
  let v42 : BitVec 32 := Scalar.addi v36 v35
  let v43 : BitVec 32 := Scalar.select v41 v42 v36
  let c15_i32_52 : BitVec 32 := 15#32
  let v72 : BitVec 1 := Scalar.cmpi .eq v43 c15_i32_52
  let c4_i32_53 : BitVec 32 := 4#32
  let c14_i32_50 : BitVec 32 := 14#32
  let v70 : BitVec 1 := Scalar.cmpi .eq v43 c14_i32_50
  let c8_i32_51 : BitVec 32 := 8#32
  let c13_i32_48 : BitVec 32 := 13#32
  let v68 : BitVec 1 := Scalar.cmpi .eq v43 c13_i32_48
  let c12_i32_49 : BitVec 32 := 12#32
  let c12_i32_46 : BitVec 32 := 12#32
  let v66 : BitVec 1 := Scalar.cmpi .eq v43 c12_i32_46
  let c15_i32_47 : BitVec 32 := 15#32
  let c11_i32_44 : BitVec 32 := 11#32
  let v64 : BitVec 1 := Scalar.cmpi .eq v43 c11_i32_44
  let c11_i32_45 : BitVec 32 := 11#32
  let c10_i32_42 : BitVec 32 := 10#32
  let v62 : BitVec 1 := Scalar.cmpi .eq v43 c10_i32_42
  let c7_i32_43 : BitVec 32 := 7#32
  let c9_i32_40 : BitVec 32 := 9#32
  let v60 : BitVec 1 := Scalar.cmpi .eq v43 c9_i32_40
  let c3_i32_41 : BitVec 32 := 3#32
  let c8_i32_38 : BitVec 32 := 8#32
  let v58 : BitVec 1 := Scalar.cmpi .eq v43 c8_i32_38
  let c2_i32_39 : BitVec 32 := 2#32
  let c7_i32_36 : BitVec 32 := 7#32
  let v56 : BitVec 1 := Scalar.cmpi .eq v43 c7_i32_36
  let c6_i32_37 : BitVec 32 := 6#32
  let c6_i32_34 : BitVec 32 := 6#32
  let v54 : BitVec 1 := Scalar.cmpi .eq v43 c6_i32_34
  let c10_i32_35 : BitVec 32 := 10#32
  let c5_i32_32 : BitVec 32 := 5#32
  let v52 : BitVec 1 := Scalar.cmpi .eq v43 c5_i32_32
  let c14_i32_33 : BitVec 32 := 14#32
  let c4_i32_30 : BitVec 32 := 4#32
  let v50 : BitVec 1 := Scalar.cmpi .eq v43 c4_i32_30
  let c13_i32_31 : BitVec 32 := 13#32
  let c3_i32_28 : BitVec 32 := 3#32
  let v48 : BitVec 1 := Scalar.cmpi .eq v43 c3_i32_28
  let c9_i32_29 : BitVec 32 := 9#32
  let c2_i32_26 : BitVec 32 := 2#32
  let v46 : BitVec 1 := Scalar.cmpi .eq v43 c2_i32_26
  let c5_i32_27 : BitVec 32 := 5#32
  let c1_i32_23 : BitVec 32 := 1#32
  let v44 : BitVec 1 := Scalar.cmpi .eq v43 c1_i32_23
  let c1_i32_24 : BitVec 32 := 1#32
  let c0_i32_25 : BitVec 32 := 0#32
  let v45 : BitVec 32 := Scalar.select v44 c1_i32_24 c0_i32_25
  let v47 : BitVec 32 := Scalar.select v46 c5_i32_27 v45
  let v49 : BitVec 32 := Scalar.select v48 c9_i32_29 v47
  let v51 : BitVec 32 := Scalar.select v50 c13_i32_31 v49
  let v53 : BitVec 32 := Scalar.select v52 c14_i32_33 v51
  let v55 : BitVec 32 := Scalar.select v54 c10_i32_35 v53
  let v57 : BitVec 32 := Scalar.select v56 c6_i32_37 v55
  let v59 : BitVec 32 := Scalar.select v58 c2_i32_39 v57
  let v61 : BitVec 32 := Scalar.select v60 c3_i32_41 v59
  let v63 : BitVec 32 := Scalar.select v62 c7_i32_43 v61
  let v65 : BitVec 32 := Scalar.select v64 c11_i32_45 v63
  let v67 : BitVec 32 := Scalar.select v66 c15_i32_47 v65
  let v69 : BitVec 32 := Scalar.select v68 c12_i32_49 v67
  let v71 : BitVec 32 := Scalar.select v70 c8_i32_51 v69
  let v73 : BitVec 32 := Scalar.select v72 c4_i32_53 v71
  let c1_i32_979 : BitVec 32 := 1#32
  let v834 : BitVec 32 := Scalar.muli v73 c1_i32_979
  let v835 : BitVec 32 := Scalar.addi c0_i32_980 v834
  v835.toNat
def k0_dev28 (d0 : Dev nD) : Nat :=
  let c0_i32_1015 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c16_i32_54 : BitVec 32 := 16#32
  let v74 : BitVec 32 := Scalar.addi v32 c16_i32_54
  let c1_i32_55 : BitVec 32 := 1#32
  let v75 : BitVec 32 := Scalar.subi v74 c1_i32_55
  let c16_i32_56 : BitVec 32 := 16#32
  let c0_i32_57 : BitVec 32 := 0#32
  let v76 : BitVec 1 := Scalar.cmpi .eq c16_i32_56 c0_i32_57
  let c1_i32_58 : BitVec 32 := 1#32
  let v77 : BitVec 32 := Scalar.select v76 c1_i32_58 c16_i32_56
  let v78 : BitVec 32 := Scalar.remsi v75 v77
  let c0_i32_60 : BitVec 32 := 0#32
  let v80 : BitVec 1 := Scalar.cmpi .slt v78 c0_i32_60
  let c0_i32_61 : BitVec 32 := 0#32
  let v81 : BitVec 1 := Scalar.cmpi .slt v77 c0_i32_61
  let v82 : BitVec 1 := Scalar.xori v80 v81
  let c0_i32_59 : BitVec 32 := 0#32
  let v79 : BitVec 1 := Scalar.cmpi .ne v78 c0_i32_59
  let v83 : BitVec 1 := Scalar.andi v82 v79
  let v84 : BitVec 32 := Scalar.addi v78 v77
  let v85 : BitVec 32 := Scalar.select v83 v84 v78
  let c15_i32_91 : BitVec 32 := 15#32
  let v114 : BitVec 1 := Scalar.cmpi .eq v85 c15_i32_91
  let c4_i32_92 : BitVec 32 := 4#32
  let c14_i32_89 : BitVec 32 := 14#32
  let v112 : BitVec 1 := Scalar.cmpi .eq v85 c14_i32_89
  let c8_i32_90 : BitVec 32 := 8#32
  let c13_i32_87 : BitVec 32 := 13#32
  let v110 : BitVec 1 := Scalar.cmpi .eq v85 c13_i32_87
  let c12_i32_88 : BitVec 32 := 12#32
  let c12_i32_85 : BitVec 32 := 12#32
  let v108 : BitVec 1 := Scalar.cmpi .eq v85 c12_i32_85
  let c15_i32_86 : BitVec 32 := 15#32
  let c11_i32_83 : BitVec 32 := 11#32
  let v106 : BitVec 1 := Scalar.cmpi .eq v85 c11_i32_83
  let c11_i32_84 : BitVec 32 := 11#32
  let c10_i32_81 : BitVec 32 := 10#32
  let v104 : BitVec 1 := Scalar.cmpi .eq v85 c10_i32_81
  let c7_i32_82 : BitVec 32 := 7#32
  let c9_i32_79 : BitVec 32 := 9#32
  let v102 : BitVec 1 := Scalar.cmpi .eq v85 c9_i32_79
  let c3_i32_80 : BitVec 32 := 3#32
  let c8_i32_77 : BitVec 32 := 8#32
  let v100 : BitVec 1 := Scalar.cmpi .eq v85 c8_i32_77
  let c2_i32_78 : BitVec 32 := 2#32
  let c7_i32_75 : BitVec 32 := 7#32
  let v98 : BitVec 1 := Scalar.cmpi .eq v85 c7_i32_75
  let c6_i32_76 : BitVec 32 := 6#32
  let c6_i32_73 : BitVec 32 := 6#32
  let v96 : BitVec 1 := Scalar.cmpi .eq v85 c6_i32_73
  let c10_i32_74 : BitVec 32 := 10#32
  let c5_i32_71 : BitVec 32 := 5#32
  let v94 : BitVec 1 := Scalar.cmpi .eq v85 c5_i32_71
  let c14_i32_72 : BitVec 32 := 14#32
  let c4_i32_69 : BitVec 32 := 4#32
  let v92 : BitVec 1 := Scalar.cmpi .eq v85 c4_i32_69
  let c13_i32_70 : BitVec 32 := 13#32
  let c3_i32_67 : BitVec 32 := 3#32
  let v90 : BitVec 1 := Scalar.cmpi .eq v85 c3_i32_67
  let c9_i32_68 : BitVec 32 := 9#32
  let c2_i32_65 : BitVec 32 := 2#32
  let v88 : BitVec 1 := Scalar.cmpi .eq v85 c2_i32_65
  let c5_i32_66 : BitVec 32 := 5#32
  let c1_i32_62 : BitVec 32 := 1#32
  let v86 : BitVec 1 := Scalar.cmpi .eq v85 c1_i32_62
  let c1_i32_63 : BitVec 32 := 1#32
  let c0_i32_64 : BitVec 32 := 0#32
  let v87 : BitVec 32 := Scalar.select v86 c1_i32_63 c0_i32_64
  let v89 : BitVec 32 := Scalar.select v88 c5_i32_66 v87
  let v91 : BitVec 32 := Scalar.select v90 c9_i32_68 v89
  let v93 : BitVec 32 := Scalar.select v92 c13_i32_70 v91
  let v95 : BitVec 32 := Scalar.select v94 c14_i32_72 v93
  let v97 : BitVec 32 := Scalar.select v96 c10_i32_74 v95
  let v99 : BitVec 32 := Scalar.select v98 c6_i32_76 v97
  let v101 : BitVec 32 := Scalar.select v100 c2_i32_78 v99
  let v103 : BitVec 32 := Scalar.select v102 c3_i32_80 v101
  let v105 : BitVec 32 := Scalar.select v104 c7_i32_82 v103
  let v107 : BitVec 32 := Scalar.select v106 c11_i32_84 v105
  let v109 : BitVec 32 := Scalar.select v108 c15_i32_86 v107
  let v111 : BitVec 32 := Scalar.select v110 c12_i32_88 v109
  let v113 : BitVec 32 := Scalar.select v112 c8_i32_90 v111
  let v115 : BitVec 32 := Scalar.select v114 c4_i32_92 v113
  let c1_i32_1014 : BitVec 32 := 1#32
  let v858 : BitVec 32 := Scalar.muli v115 c1_i32_1014
  let v859 : BitVec 32 := Scalar.addi c0_i32_1015 v858
  v859.toNat
def k0_dev29 (d0 : Dev nD) : Nat :=
  let c0_i32_1050 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c1_i32_16 : BitVec 32 := 1#32
  let v33 : BitVec 32 := Scalar.addi v32 c1_i32_16
  let c16_i32_17 : BitVec 32 := 16#32
  let c0_i32_18 : BitVec 32 := 0#32
  let v34 : BitVec 1 := Scalar.cmpi .eq c16_i32_17 c0_i32_18
  let c1_i32_19 : BitVec 32 := 1#32
  let v35 : BitVec 32 := Scalar.select v34 c1_i32_19 c16_i32_17
  let v36 : BitVec 32 := Scalar.remsi v33 v35
  let c0_i32_21 : BitVec 32 := 0#32
  let v38 : BitVec 1 := Scalar.cmpi .slt v36 c0_i32_21
  let c0_i32_22 : BitVec 32 := 0#32
  let v39 : BitVec 1 := Scalar.cmpi .slt v35 c0_i32_22
  let v40 : BitVec 1 := Scalar.xori v38 v39
  let c0_i32_20 : BitVec 32 := 0#32
  let v37 : BitVec 1 := Scalar.cmpi .ne v36 c0_i32_20
  let v41 : BitVec 1 := Scalar.andi v40 v37
  let v42 : BitVec 32 := Scalar.addi v36 v35
  let v43 : BitVec 32 := Scalar.select v41 v42 v36
  let c15_i32_52 : BitVec 32 := 15#32
  let v72 : BitVec 1 := Scalar.cmpi .eq v43 c15_i32_52
  let c4_i32_53 : BitVec 32 := 4#32
  let c14_i32_50 : BitVec 32 := 14#32
  let v70 : BitVec 1 := Scalar.cmpi .eq v43 c14_i32_50
  let c8_i32_51 : BitVec 32 := 8#32
  let c13_i32_48 : BitVec 32 := 13#32
  let v68 : BitVec 1 := Scalar.cmpi .eq v43 c13_i32_48
  let c12_i32_49 : BitVec 32 := 12#32
  let c12_i32_46 : BitVec 32 := 12#32
  let v66 : BitVec 1 := Scalar.cmpi .eq v43 c12_i32_46
  let c15_i32_47 : BitVec 32 := 15#32
  let c11_i32_44 : BitVec 32 := 11#32
  let v64 : BitVec 1 := Scalar.cmpi .eq v43 c11_i32_44
  let c11_i32_45 : BitVec 32 := 11#32
  let c10_i32_42 : BitVec 32 := 10#32
  let v62 : BitVec 1 := Scalar.cmpi .eq v43 c10_i32_42
  let c7_i32_43 : BitVec 32 := 7#32
  let c9_i32_40 : BitVec 32 := 9#32
  let v60 : BitVec 1 := Scalar.cmpi .eq v43 c9_i32_40
  let c3_i32_41 : BitVec 32 := 3#32
  let c8_i32_38 : BitVec 32 := 8#32
  let v58 : BitVec 1 := Scalar.cmpi .eq v43 c8_i32_38
  let c2_i32_39 : BitVec 32 := 2#32
  let c7_i32_36 : BitVec 32 := 7#32
  let v56 : BitVec 1 := Scalar.cmpi .eq v43 c7_i32_36
  let c6_i32_37 : BitVec 32 := 6#32
  let c6_i32_34 : BitVec 32 := 6#32
  let v54 : BitVec 1 := Scalar.cmpi .eq v43 c6_i32_34
  let c10_i32_35 : BitVec 32 := 10#32
  let c5_i32_32 : BitVec 32 := 5#32
  let v52 : BitVec 1 := Scalar.cmpi .eq v43 c5_i32_32
  let c14_i32_33 : BitVec 32 := 14#32
  let c4_i32_30 : BitVec 32 := 4#32
  let v50 : BitVec 1 := Scalar.cmpi .eq v43 c4_i32_30
  let c13_i32_31 : BitVec 32 := 13#32
  let c3_i32_28 : BitVec 32 := 3#32
  let v48 : BitVec 1 := Scalar.cmpi .eq v43 c3_i32_28
  let c9_i32_29 : BitVec 32 := 9#32
  let c2_i32_26 : BitVec 32 := 2#32
  let v46 : BitVec 1 := Scalar.cmpi .eq v43 c2_i32_26
  let c5_i32_27 : BitVec 32 := 5#32
  let c1_i32_23 : BitVec 32 := 1#32
  let v44 : BitVec 1 := Scalar.cmpi .eq v43 c1_i32_23
  let c1_i32_24 : BitVec 32 := 1#32
  let c0_i32_25 : BitVec 32 := 0#32
  let v45 : BitVec 32 := Scalar.select v44 c1_i32_24 c0_i32_25
  let v47 : BitVec 32 := Scalar.select v46 c5_i32_27 v45
  let v49 : BitVec 32 := Scalar.select v48 c9_i32_29 v47
  let v51 : BitVec 32 := Scalar.select v50 c13_i32_31 v49
  let v53 : BitVec 32 := Scalar.select v52 c14_i32_33 v51
  let v55 : BitVec 32 := Scalar.select v54 c10_i32_35 v53
  let v57 : BitVec 32 := Scalar.select v56 c6_i32_37 v55
  let v59 : BitVec 32 := Scalar.select v58 c2_i32_39 v57
  let v61 : BitVec 32 := Scalar.select v60 c3_i32_41 v59
  let v63 : BitVec 32 := Scalar.select v62 c7_i32_43 v61
  let v65 : BitVec 32 := Scalar.select v64 c11_i32_45 v63
  let v67 : BitVec 32 := Scalar.select v66 c15_i32_47 v65
  let v69 : BitVec 32 := Scalar.select v68 c12_i32_49 v67
  let v71 : BitVec 32 := Scalar.select v70 c8_i32_51 v69
  let v73 : BitVec 32 := Scalar.select v72 c4_i32_53 v71
  let c1_i32_1049 : BitVec 32 := 1#32
  let v882 : BitVec 32 := Scalar.muli v73 c1_i32_1049
  let v883 : BitVec 32 := Scalar.addi c0_i32_1050 v882
  v883.toNat
def k0_dev30 (d0 : Dev nD) : Nat :=
  let c0_i32_1085 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c16_i32_54 : BitVec 32 := 16#32
  let v74 : BitVec 32 := Scalar.addi v32 c16_i32_54
  let c1_i32_55 : BitVec 32 := 1#32
  let v75 : BitVec 32 := Scalar.subi v74 c1_i32_55
  let c16_i32_56 : BitVec 32 := 16#32
  let c0_i32_57 : BitVec 32 := 0#32
  let v76 : BitVec 1 := Scalar.cmpi .eq c16_i32_56 c0_i32_57
  let c1_i32_58 : BitVec 32 := 1#32
  let v77 : BitVec 32 := Scalar.select v76 c1_i32_58 c16_i32_56
  let v78 : BitVec 32 := Scalar.remsi v75 v77
  let c0_i32_60 : BitVec 32 := 0#32
  let v80 : BitVec 1 := Scalar.cmpi .slt v78 c0_i32_60
  let c0_i32_61 : BitVec 32 := 0#32
  let v81 : BitVec 1 := Scalar.cmpi .slt v77 c0_i32_61
  let v82 : BitVec 1 := Scalar.xori v80 v81
  let c0_i32_59 : BitVec 32 := 0#32
  let v79 : BitVec 1 := Scalar.cmpi .ne v78 c0_i32_59
  let v83 : BitVec 1 := Scalar.andi v82 v79
  let v84 : BitVec 32 := Scalar.addi v78 v77
  let v85 : BitVec 32 := Scalar.select v83 v84 v78
  let c15_i32_91 : BitVec 32 := 15#32
  let v114 : BitVec 1 := Scalar.cmpi .eq v85 c15_i32_91
  let c4_i32_92 : BitVec 32 := 4#32
  let c14_i32_89 : BitVec 32 := 14#32
  let v112 : BitVec 1 := Scalar.cmpi .eq v85 c14_i32_89
  let c8_i32_90 : BitVec 32 := 8#32
  let c13_i32_87 : BitVec 32 := 13#32
  let v110 : BitVec 1 := Scalar.cmpi .eq v85 c13_i32_87
  let c12_i32_88 : BitVec 32 := 12#32
  let c12_i32_85 : BitVec 32 := 12#32
  let v108 : BitVec 1 := Scalar.cmpi .eq v85 c12_i32_85
  let c15_i32_86 : BitVec 32 := 15#32
  let c11_i32_83 : BitVec 32 := 11#32
  let v106 : BitVec 1 := Scalar.cmpi .eq v85 c11_i32_83
  let c11_i32_84 : BitVec 32 := 11#32
  let c10_i32_81 : BitVec 32 := 10#32
  let v104 : BitVec 1 := Scalar.cmpi .eq v85 c10_i32_81
  let c7_i32_82 : BitVec 32 := 7#32
  let c9_i32_79 : BitVec 32 := 9#32
  let v102 : BitVec 1 := Scalar.cmpi .eq v85 c9_i32_79
  let c3_i32_80 : BitVec 32 := 3#32
  let c8_i32_77 : BitVec 32 := 8#32
  let v100 : BitVec 1 := Scalar.cmpi .eq v85 c8_i32_77
  let c2_i32_78 : BitVec 32 := 2#32
  let c7_i32_75 : BitVec 32 := 7#32
  let v98 : BitVec 1 := Scalar.cmpi .eq v85 c7_i32_75
  let c6_i32_76 : BitVec 32 := 6#32
  let c6_i32_73 : BitVec 32 := 6#32
  let v96 : BitVec 1 := Scalar.cmpi .eq v85 c6_i32_73
  let c10_i32_74 : BitVec 32 := 10#32
  let c5_i32_71 : BitVec 32 := 5#32
  let v94 : BitVec 1 := Scalar.cmpi .eq v85 c5_i32_71
  let c14_i32_72 : BitVec 32 := 14#32
  let c4_i32_69 : BitVec 32 := 4#32
  let v92 : BitVec 1 := Scalar.cmpi .eq v85 c4_i32_69
  let c13_i32_70 : BitVec 32 := 13#32
  let c3_i32_67 : BitVec 32 := 3#32
  let v90 : BitVec 1 := Scalar.cmpi .eq v85 c3_i32_67
  let c9_i32_68 : BitVec 32 := 9#32
  let c2_i32_65 : BitVec 32 := 2#32
  let v88 : BitVec 1 := Scalar.cmpi .eq v85 c2_i32_65
  let c5_i32_66 : BitVec 32 := 5#32
  let c1_i32_62 : BitVec 32 := 1#32
  let v86 : BitVec 1 := Scalar.cmpi .eq v85 c1_i32_62
  let c1_i32_63 : BitVec 32 := 1#32
  let c0_i32_64 : BitVec 32 := 0#32
  let v87 : BitVec 32 := Scalar.select v86 c1_i32_63 c0_i32_64
  let v89 : BitVec 32 := Scalar.select v88 c5_i32_66 v87
  let v91 : BitVec 32 := Scalar.select v90 c9_i32_68 v89
  let v93 : BitVec 32 := Scalar.select v92 c13_i32_70 v91
  let v95 : BitVec 32 := Scalar.select v94 c14_i32_72 v93
  let v97 : BitVec 32 := Scalar.select v96 c10_i32_74 v95
  let v99 : BitVec 32 := Scalar.select v98 c6_i32_76 v97
  let v101 : BitVec 32 := Scalar.select v100 c2_i32_78 v99
  let v103 : BitVec 32 := Scalar.select v102 c3_i32_80 v101
  let v105 : BitVec 32 := Scalar.select v104 c7_i32_82 v103
  let v107 : BitVec 32 := Scalar.select v106 c11_i32_84 v105
  let v109 : BitVec 32 := Scalar.select v108 c15_i32_86 v107
  let v111 : BitVec 32 := Scalar.select v110 c12_i32_88 v109
  let v113 : BitVec 32 := Scalar.select v112 c8_i32_90 v111
  let v115 : BitVec 32 := Scalar.select v114 c4_i32_92 v113
  let c1_i32_1084 : BitVec 32 := 1#32
  let v906 : BitVec 32 := Scalar.muli v115 c1_i32_1084
  let v907 : BitVec 32 := Scalar.addi c0_i32_1085 v906
  v907.toNat
def k0_dev31 (d0 : Dev nD) : Nat :=
  let c0_i32_1120 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c1_i32_16 : BitVec 32 := 1#32
  let v33 : BitVec 32 := Scalar.addi v32 c1_i32_16
  let c16_i32_17 : BitVec 32 := 16#32
  let c0_i32_18 : BitVec 32 := 0#32
  let v34 : BitVec 1 := Scalar.cmpi .eq c16_i32_17 c0_i32_18
  let c1_i32_19 : BitVec 32 := 1#32
  let v35 : BitVec 32 := Scalar.select v34 c1_i32_19 c16_i32_17
  let v36 : BitVec 32 := Scalar.remsi v33 v35
  let c0_i32_21 : BitVec 32 := 0#32
  let v38 : BitVec 1 := Scalar.cmpi .slt v36 c0_i32_21
  let c0_i32_22 : BitVec 32 := 0#32
  let v39 : BitVec 1 := Scalar.cmpi .slt v35 c0_i32_22
  let v40 : BitVec 1 := Scalar.xori v38 v39
  let c0_i32_20 : BitVec 32 := 0#32
  let v37 : BitVec 1 := Scalar.cmpi .ne v36 c0_i32_20
  let v41 : BitVec 1 := Scalar.andi v40 v37
  let v42 : BitVec 32 := Scalar.addi v36 v35
  let v43 : BitVec 32 := Scalar.select v41 v42 v36
  let c15_i32_52 : BitVec 32 := 15#32
  let v72 : BitVec 1 := Scalar.cmpi .eq v43 c15_i32_52
  let c4_i32_53 : BitVec 32 := 4#32
  let c14_i32_50 : BitVec 32 := 14#32
  let v70 : BitVec 1 := Scalar.cmpi .eq v43 c14_i32_50
  let c8_i32_51 : BitVec 32 := 8#32
  let c13_i32_48 : BitVec 32 := 13#32
  let v68 : BitVec 1 := Scalar.cmpi .eq v43 c13_i32_48
  let c12_i32_49 : BitVec 32 := 12#32
  let c12_i32_46 : BitVec 32 := 12#32
  let v66 : BitVec 1 := Scalar.cmpi .eq v43 c12_i32_46
  let c15_i32_47 : BitVec 32 := 15#32
  let c11_i32_44 : BitVec 32 := 11#32
  let v64 : BitVec 1 := Scalar.cmpi .eq v43 c11_i32_44
  let c11_i32_45 : BitVec 32 := 11#32
  let c10_i32_42 : BitVec 32 := 10#32
  let v62 : BitVec 1 := Scalar.cmpi .eq v43 c10_i32_42
  let c7_i32_43 : BitVec 32 := 7#32
  let c9_i32_40 : BitVec 32 := 9#32
  let v60 : BitVec 1 := Scalar.cmpi .eq v43 c9_i32_40
  let c3_i32_41 : BitVec 32 := 3#32
  let c8_i32_38 : BitVec 32 := 8#32
  let v58 : BitVec 1 := Scalar.cmpi .eq v43 c8_i32_38
  let c2_i32_39 : BitVec 32 := 2#32
  let c7_i32_36 : BitVec 32 := 7#32
  let v56 : BitVec 1 := Scalar.cmpi .eq v43 c7_i32_36
  let c6_i32_37 : BitVec 32 := 6#32
  let c6_i32_34 : BitVec 32 := 6#32
  let v54 : BitVec 1 := Scalar.cmpi .eq v43 c6_i32_34
  let c10_i32_35 : BitVec 32 := 10#32
  let c5_i32_32 : BitVec 32 := 5#32
  let v52 : BitVec 1 := Scalar.cmpi .eq v43 c5_i32_32
  let c14_i32_33 : BitVec 32 := 14#32
  let c4_i32_30 : BitVec 32 := 4#32
  let v50 : BitVec 1 := Scalar.cmpi .eq v43 c4_i32_30
  let c13_i32_31 : BitVec 32 := 13#32
  let c3_i32_28 : BitVec 32 := 3#32
  let v48 : BitVec 1 := Scalar.cmpi .eq v43 c3_i32_28
  let c9_i32_29 : BitVec 32 := 9#32
  let c2_i32_26 : BitVec 32 := 2#32
  let v46 : BitVec 1 := Scalar.cmpi .eq v43 c2_i32_26
  let c5_i32_27 : BitVec 32 := 5#32
  let c1_i32_23 : BitVec 32 := 1#32
  let v44 : BitVec 1 := Scalar.cmpi .eq v43 c1_i32_23
  let c1_i32_24 : BitVec 32 := 1#32
  let c0_i32_25 : BitVec 32 := 0#32
  let v45 : BitVec 32 := Scalar.select v44 c1_i32_24 c0_i32_25
  let v47 : BitVec 32 := Scalar.select v46 c5_i32_27 v45
  let v49 : BitVec 32 := Scalar.select v48 c9_i32_29 v47
  let v51 : BitVec 32 := Scalar.select v50 c13_i32_31 v49
  let v53 : BitVec 32 := Scalar.select v52 c14_i32_33 v51
  let v55 : BitVec 32 := Scalar.select v54 c10_i32_35 v53
  let v57 : BitVec 32 := Scalar.select v56 c6_i32_37 v55
  let v59 : BitVec 32 := Scalar.select v58 c2_i32_39 v57
  let v61 : BitVec 32 := Scalar.select v60 c3_i32_41 v59
  let v63 : BitVec 32 := Scalar.select v62 c7_i32_43 v61
  let v65 : BitVec 32 := Scalar.select v64 c11_i32_45 v63
  let v67 : BitVec 32 := Scalar.select v66 c15_i32_47 v65
  let v69 : BitVec 32 := Scalar.select v68 c12_i32_49 v67
  let v71 : BitVec 32 := Scalar.select v70 c8_i32_51 v69
  let v73 : BitVec 32 := Scalar.select v72 c4_i32_53 v71
  let c1_i32_1119 : BitVec 32 := 1#32
  let v930 : BitVec 32 := Scalar.muli v73 c1_i32_1119
  let v931 : BitVec 32 := Scalar.addi c0_i32_1120 v930
  v931.toNat
def k0_dev32 (d0 : Dev nD) : Nat :=
  let c0_i32_1155 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c16_i32_54 : BitVec 32 := 16#32
  let v74 : BitVec 32 := Scalar.addi v32 c16_i32_54
  let c1_i32_55 : BitVec 32 := 1#32
  let v75 : BitVec 32 := Scalar.subi v74 c1_i32_55
  let c16_i32_56 : BitVec 32 := 16#32
  let c0_i32_57 : BitVec 32 := 0#32
  let v76 : BitVec 1 := Scalar.cmpi .eq c16_i32_56 c0_i32_57
  let c1_i32_58 : BitVec 32 := 1#32
  let v77 : BitVec 32 := Scalar.select v76 c1_i32_58 c16_i32_56
  let v78 : BitVec 32 := Scalar.remsi v75 v77
  let c0_i32_60 : BitVec 32 := 0#32
  let v80 : BitVec 1 := Scalar.cmpi .slt v78 c0_i32_60
  let c0_i32_61 : BitVec 32 := 0#32
  let v81 : BitVec 1 := Scalar.cmpi .slt v77 c0_i32_61
  let v82 : BitVec 1 := Scalar.xori v80 v81
  let c0_i32_59 : BitVec 32 := 0#32
  let v79 : BitVec 1 := Scalar.cmpi .ne v78 c0_i32_59
  let v83 : BitVec 1 := Scalar.andi v82 v79
  let v84 : BitVec 32 := Scalar.addi v78 v77
  let v85 : BitVec 32 := Scalar.select v83 v84 v78
  let c15_i32_91 : BitVec 32 := 15#32
  let v114 : BitVec 1 := Scalar.cmpi .eq v85 c15_i32_91
  let c4_i32_92 : BitVec 32 := 4#32
  let c14_i32_89 : BitVec 32 := 14#32
  let v112 : BitVec 1 := Scalar.cmpi .eq v85 c14_i32_89
  let c8_i32_90 : BitVec 32 := 8#32
  let c13_i32_87 : BitVec 32 := 13#32
  let v110 : BitVec 1 := Scalar.cmpi .eq v85 c13_i32_87
  let c12_i32_88 : BitVec 32 := 12#32
  let c12_i32_85 : BitVec 32 := 12#32
  let v108 : BitVec 1 := Scalar.cmpi .eq v85 c12_i32_85
  let c15_i32_86 : BitVec 32 := 15#32
  let c11_i32_83 : BitVec 32 := 11#32
  let v106 : BitVec 1 := Scalar.cmpi .eq v85 c11_i32_83
  let c11_i32_84 : BitVec 32 := 11#32
  let c10_i32_81 : BitVec 32 := 10#32
  let v104 : BitVec 1 := Scalar.cmpi .eq v85 c10_i32_81
  let c7_i32_82 : BitVec 32 := 7#32
  let c9_i32_79 : BitVec 32 := 9#32
  let v102 : BitVec 1 := Scalar.cmpi .eq v85 c9_i32_79
  let c3_i32_80 : BitVec 32 := 3#32
  let c8_i32_77 : BitVec 32 := 8#32
  let v100 : BitVec 1 := Scalar.cmpi .eq v85 c8_i32_77
  let c2_i32_78 : BitVec 32 := 2#32
  let c7_i32_75 : BitVec 32 := 7#32
  let v98 : BitVec 1 := Scalar.cmpi .eq v85 c7_i32_75
  let c6_i32_76 : BitVec 32 := 6#32
  let c6_i32_73 : BitVec 32 := 6#32
  let v96 : BitVec 1 := Scalar.cmpi .eq v85 c6_i32_73
  let c10_i32_74 : BitVec 32 := 10#32
  let c5_i32_71 : BitVec 32 := 5#32
  let v94 : BitVec 1 := Scalar.cmpi .eq v85 c5_i32_71
  let c14_i32_72 : BitVec 32 := 14#32
  let c4_i32_69 : BitVec 32 := 4#32
  let v92 : BitVec 1 := Scalar.cmpi .eq v85 c4_i32_69
  let c13_i32_70 : BitVec 32 := 13#32
  let c3_i32_67 : BitVec 32 := 3#32
  let v90 : BitVec 1 := Scalar.cmpi .eq v85 c3_i32_67
  let c9_i32_68 : BitVec 32 := 9#32
  let c2_i32_65 : BitVec 32 := 2#32
  let v88 : BitVec 1 := Scalar.cmpi .eq v85 c2_i32_65
  let c5_i32_66 : BitVec 32 := 5#32
  let c1_i32_62 : BitVec 32 := 1#32
  let v86 : BitVec 1 := Scalar.cmpi .eq v85 c1_i32_62
  let c1_i32_63 : BitVec 32 := 1#32
  let c0_i32_64 : BitVec 32 := 0#32
  let v87 : BitVec 32 := Scalar.select v86 c1_i32_63 c0_i32_64
  let v89 : BitVec 32 := Scalar.select v88 c5_i32_66 v87
  let v91 : BitVec 32 := Scalar.select v90 c9_i32_68 v89
  let v93 : BitVec 32 := Scalar.select v92 c13_i32_70 v91
  let v95 : BitVec 32 := Scalar.select v94 c14_i32_72 v93
  let v97 : BitVec 32 := Scalar.select v96 c10_i32_74 v95
  let v99 : BitVec 32 := Scalar.select v98 c6_i32_76 v97
  let v101 : BitVec 32 := Scalar.select v100 c2_i32_78 v99
  let v103 : BitVec 32 := Scalar.select v102 c3_i32_80 v101
  let v105 : BitVec 32 := Scalar.select v104 c7_i32_82 v103
  let v107 : BitVec 32 := Scalar.select v106 c11_i32_84 v105
  let v109 : BitVec 32 := Scalar.select v108 c15_i32_86 v107
  let v111 : BitVec 32 := Scalar.select v110 c12_i32_88 v109
  let v113 : BitVec 32 := Scalar.select v112 c8_i32_90 v111
  let v115 : BitVec 32 := Scalar.select v114 c4_i32_92 v113
  let c1_i32_1154 : BitVec 32 := 1#32
  let v954 : BitVec 32 := Scalar.muli v115 c1_i32_1154
  let v955 : BitVec 32 := Scalar.addi c0_i32_1155 v954
  v955.toNat
def k0_dev33 (d0 : Dev nD) : Nat :=
  let c0_i32_1190 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c1_i32_16 : BitVec 32 := 1#32
  let v33 : BitVec 32 := Scalar.addi v32 c1_i32_16
  let c16_i32_17 : BitVec 32 := 16#32
  let c0_i32_18 : BitVec 32 := 0#32
  let v34 : BitVec 1 := Scalar.cmpi .eq c16_i32_17 c0_i32_18
  let c1_i32_19 : BitVec 32 := 1#32
  let v35 : BitVec 32 := Scalar.select v34 c1_i32_19 c16_i32_17
  let v36 : BitVec 32 := Scalar.remsi v33 v35
  let c0_i32_21 : BitVec 32 := 0#32
  let v38 : BitVec 1 := Scalar.cmpi .slt v36 c0_i32_21
  let c0_i32_22 : BitVec 32 := 0#32
  let v39 : BitVec 1 := Scalar.cmpi .slt v35 c0_i32_22
  let v40 : BitVec 1 := Scalar.xori v38 v39
  let c0_i32_20 : BitVec 32 := 0#32
  let v37 : BitVec 1 := Scalar.cmpi .ne v36 c0_i32_20
  let v41 : BitVec 1 := Scalar.andi v40 v37
  let v42 : BitVec 32 := Scalar.addi v36 v35
  let v43 : BitVec 32 := Scalar.select v41 v42 v36
  let c15_i32_52 : BitVec 32 := 15#32
  let v72 : BitVec 1 := Scalar.cmpi .eq v43 c15_i32_52
  let c4_i32_53 : BitVec 32 := 4#32
  let c14_i32_50 : BitVec 32 := 14#32
  let v70 : BitVec 1 := Scalar.cmpi .eq v43 c14_i32_50
  let c8_i32_51 : BitVec 32 := 8#32
  let c13_i32_48 : BitVec 32 := 13#32
  let v68 : BitVec 1 := Scalar.cmpi .eq v43 c13_i32_48
  let c12_i32_49 : BitVec 32 := 12#32
  let c12_i32_46 : BitVec 32 := 12#32
  let v66 : BitVec 1 := Scalar.cmpi .eq v43 c12_i32_46
  let c15_i32_47 : BitVec 32 := 15#32
  let c11_i32_44 : BitVec 32 := 11#32
  let v64 : BitVec 1 := Scalar.cmpi .eq v43 c11_i32_44
  let c11_i32_45 : BitVec 32 := 11#32
  let c10_i32_42 : BitVec 32 := 10#32
  let v62 : BitVec 1 := Scalar.cmpi .eq v43 c10_i32_42
  let c7_i32_43 : BitVec 32 := 7#32
  let c9_i32_40 : BitVec 32 := 9#32
  let v60 : BitVec 1 := Scalar.cmpi .eq v43 c9_i32_40
  let c3_i32_41 : BitVec 32 := 3#32
  let c8_i32_38 : BitVec 32 := 8#32
  let v58 : BitVec 1 := Scalar.cmpi .eq v43 c8_i32_38
  let c2_i32_39 : BitVec 32 := 2#32
  let c7_i32_36 : BitVec 32 := 7#32
  let v56 : BitVec 1 := Scalar.cmpi .eq v43 c7_i32_36
  let c6_i32_37 : BitVec 32 := 6#32
  let c6_i32_34 : BitVec 32 := 6#32
  let v54 : BitVec 1 := Scalar.cmpi .eq v43 c6_i32_34
  let c10_i32_35 : BitVec 32 := 10#32
  let c5_i32_32 : BitVec 32 := 5#32
  let v52 : BitVec 1 := Scalar.cmpi .eq v43 c5_i32_32
  let c14_i32_33 : BitVec 32 := 14#32
  let c4_i32_30 : BitVec 32 := 4#32
  let v50 : BitVec 1 := Scalar.cmpi .eq v43 c4_i32_30
  let c13_i32_31 : BitVec 32 := 13#32
  let c3_i32_28 : BitVec 32 := 3#32
  let v48 : BitVec 1 := Scalar.cmpi .eq v43 c3_i32_28
  let c9_i32_29 : BitVec 32 := 9#32
  let c2_i32_26 : BitVec 32 := 2#32
  let v46 : BitVec 1 := Scalar.cmpi .eq v43 c2_i32_26
  let c5_i32_27 : BitVec 32 := 5#32
  let c1_i32_23 : BitVec 32 := 1#32
  let v44 : BitVec 1 := Scalar.cmpi .eq v43 c1_i32_23
  let c1_i32_24 : BitVec 32 := 1#32
  let c0_i32_25 : BitVec 32 := 0#32
  let v45 : BitVec 32 := Scalar.select v44 c1_i32_24 c0_i32_25
  let v47 : BitVec 32 := Scalar.select v46 c5_i32_27 v45
  let v49 : BitVec 32 := Scalar.select v48 c9_i32_29 v47
  let v51 : BitVec 32 := Scalar.select v50 c13_i32_31 v49
  let v53 : BitVec 32 := Scalar.select v52 c14_i32_33 v51
  let v55 : BitVec 32 := Scalar.select v54 c10_i32_35 v53
  let v57 : BitVec 32 := Scalar.select v56 c6_i32_37 v55
  let v59 : BitVec 32 := Scalar.select v58 c2_i32_39 v57
  let v61 : BitVec 32 := Scalar.select v60 c3_i32_41 v59
  let v63 : BitVec 32 := Scalar.select v62 c7_i32_43 v61
  let v65 : BitVec 32 := Scalar.select v64 c11_i32_45 v63
  let v67 : BitVec 32 := Scalar.select v66 c15_i32_47 v65
  let v69 : BitVec 32 := Scalar.select v68 c12_i32_49 v67
  let v71 : BitVec 32 := Scalar.select v70 c8_i32_51 v69
  let v73 : BitVec 32 := Scalar.select v72 c4_i32_53 v71
  let c1_i32_1189 : BitVec 32 := 1#32
  let v978 : BitVec 32 := Scalar.muli v73 c1_i32_1189
  let v979 : BitVec 32 := Scalar.addi c0_i32_1190 v978
  v979.toNat
def k0_dev34 (d0 : Dev nD) : Nat :=
  let c0_i32_1225 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c16_i32_54 : BitVec 32 := 16#32
  let v74 : BitVec 32 := Scalar.addi v32 c16_i32_54
  let c1_i32_55 : BitVec 32 := 1#32
  let v75 : BitVec 32 := Scalar.subi v74 c1_i32_55
  let c16_i32_56 : BitVec 32 := 16#32
  let c0_i32_57 : BitVec 32 := 0#32
  let v76 : BitVec 1 := Scalar.cmpi .eq c16_i32_56 c0_i32_57
  let c1_i32_58 : BitVec 32 := 1#32
  let v77 : BitVec 32 := Scalar.select v76 c1_i32_58 c16_i32_56
  let v78 : BitVec 32 := Scalar.remsi v75 v77
  let c0_i32_60 : BitVec 32 := 0#32
  let v80 : BitVec 1 := Scalar.cmpi .slt v78 c0_i32_60
  let c0_i32_61 : BitVec 32 := 0#32
  let v81 : BitVec 1 := Scalar.cmpi .slt v77 c0_i32_61
  let v82 : BitVec 1 := Scalar.xori v80 v81
  let c0_i32_59 : BitVec 32 := 0#32
  let v79 : BitVec 1 := Scalar.cmpi .ne v78 c0_i32_59
  let v83 : BitVec 1 := Scalar.andi v82 v79
  let v84 : BitVec 32 := Scalar.addi v78 v77
  let v85 : BitVec 32 := Scalar.select v83 v84 v78
  let c15_i32_91 : BitVec 32 := 15#32
  let v114 : BitVec 1 := Scalar.cmpi .eq v85 c15_i32_91
  let c4_i32_92 : BitVec 32 := 4#32
  let c14_i32_89 : BitVec 32 := 14#32
  let v112 : BitVec 1 := Scalar.cmpi .eq v85 c14_i32_89
  let c8_i32_90 : BitVec 32 := 8#32
  let c13_i32_87 : BitVec 32 := 13#32
  let v110 : BitVec 1 := Scalar.cmpi .eq v85 c13_i32_87
  let c12_i32_88 : BitVec 32 := 12#32
  let c12_i32_85 : BitVec 32 := 12#32
  let v108 : BitVec 1 := Scalar.cmpi .eq v85 c12_i32_85
  let c15_i32_86 : BitVec 32 := 15#32
  let c11_i32_83 : BitVec 32 := 11#32
  let v106 : BitVec 1 := Scalar.cmpi .eq v85 c11_i32_83
  let c11_i32_84 : BitVec 32 := 11#32
  let c10_i32_81 : BitVec 32 := 10#32
  let v104 : BitVec 1 := Scalar.cmpi .eq v85 c10_i32_81
  let c7_i32_82 : BitVec 32 := 7#32
  let c9_i32_79 : BitVec 32 := 9#32
  let v102 : BitVec 1 := Scalar.cmpi .eq v85 c9_i32_79
  let c3_i32_80 : BitVec 32 := 3#32
  let c8_i32_77 : BitVec 32 := 8#32
  let v100 : BitVec 1 := Scalar.cmpi .eq v85 c8_i32_77
  let c2_i32_78 : BitVec 32 := 2#32
  let c7_i32_75 : BitVec 32 := 7#32
  let v98 : BitVec 1 := Scalar.cmpi .eq v85 c7_i32_75
  let c6_i32_76 : BitVec 32 := 6#32
  let c6_i32_73 : BitVec 32 := 6#32
  let v96 : BitVec 1 := Scalar.cmpi .eq v85 c6_i32_73
  let c10_i32_74 : BitVec 32 := 10#32
  let c5_i32_71 : BitVec 32 := 5#32
  let v94 : BitVec 1 := Scalar.cmpi .eq v85 c5_i32_71
  let c14_i32_72 : BitVec 32 := 14#32
  let c4_i32_69 : BitVec 32 := 4#32
  let v92 : BitVec 1 := Scalar.cmpi .eq v85 c4_i32_69
  let c13_i32_70 : BitVec 32 := 13#32
  let c3_i32_67 : BitVec 32 := 3#32
  let v90 : BitVec 1 := Scalar.cmpi .eq v85 c3_i32_67
  let c9_i32_68 : BitVec 32 := 9#32
  let c2_i32_65 : BitVec 32 := 2#32
  let v88 : BitVec 1 := Scalar.cmpi .eq v85 c2_i32_65
  let c5_i32_66 : BitVec 32 := 5#32
  let c1_i32_62 : BitVec 32 := 1#32
  let v86 : BitVec 1 := Scalar.cmpi .eq v85 c1_i32_62
  let c1_i32_63 : BitVec 32 := 1#32
  let c0_i32_64 : BitVec 32 := 0#32
  let v87 : BitVec 32 := Scalar.select v86 c1_i32_63 c0_i32_64
  let v89 : BitVec 32 := Scalar.select v88 c5_i32_66 v87
  let v91 : BitVec 32 := Scalar.select v90 c9_i32_68 v89
  let v93 : BitVec 32 := Scalar.select v92 c13_i32_70 v91
  let v95 : BitVec 32 := Scalar.select v94 c14_i32_72 v93
  let v97 : BitVec 32 := Scalar.select v96 c10_i32_74 v95
  let v99 : BitVec 32 := Scalar.select v98 c6_i32_76 v97
  let v101 : BitVec 32 := Scalar.select v100 c2_i32_78 v99
  let v103 : BitVec 32 := Scalar.select v102 c3_i32_80 v101
  let v105 : BitVec 32 := Scalar.select v104 c7_i32_82 v103
  let v107 : BitVec 32 := Scalar.select v106 c11_i32_84 v105
  let v109 : BitVec 32 := Scalar.select v108 c15_i32_86 v107
  let v111 : BitVec 32 := Scalar.select v110 c12_i32_88 v109
  let v113 : BitVec 32 := Scalar.select v112 c8_i32_90 v111
  let v115 : BitVec 32 := Scalar.select v114 c4_i32_92 v113
  let c1_i32_1224 : BitVec 32 := 1#32
  let v1002 : BitVec 32 := Scalar.muli v115 c1_i32_1224
  let v1003 : BitVec 32 := Scalar.addi c0_i32_1225 v1002
  v1003.toNat
def k0_dev35 (d0 : Dev nD) : Nat :=
  let c0_i32_1362 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c1_i32_16 : BitVec 32 := 1#32
  let v33 : BitVec 32 := Scalar.addi v32 c1_i32_16
  let c16_i32_17 : BitVec 32 := 16#32
  let c0_i32_18 : BitVec 32 := 0#32
  let v34 : BitVec 1 := Scalar.cmpi .eq c16_i32_17 c0_i32_18
  let c1_i32_19 : BitVec 32 := 1#32
  let v35 : BitVec 32 := Scalar.select v34 c1_i32_19 c16_i32_17
  let v36 : BitVec 32 := Scalar.remsi v33 v35
  let c0_i32_21 : BitVec 32 := 0#32
  let v38 : BitVec 1 := Scalar.cmpi .slt v36 c0_i32_21
  let c0_i32_22 : BitVec 32 := 0#32
  let v39 : BitVec 1 := Scalar.cmpi .slt v35 c0_i32_22
  let v40 : BitVec 1 := Scalar.xori v38 v39
  let c0_i32_20 : BitVec 32 := 0#32
  let v37 : BitVec 1 := Scalar.cmpi .ne v36 c0_i32_20
  let v41 : BitVec 1 := Scalar.andi v40 v37
  let v42 : BitVec 32 := Scalar.addi v36 v35
  let v43 : BitVec 32 := Scalar.select v41 v42 v36
  let c15_i32_52 : BitVec 32 := 15#32
  let v72 : BitVec 1 := Scalar.cmpi .eq v43 c15_i32_52
  let c4_i32_53 : BitVec 32 := 4#32
  let c14_i32_50 : BitVec 32 := 14#32
  let v70 : BitVec 1 := Scalar.cmpi .eq v43 c14_i32_50
  let c8_i32_51 : BitVec 32 := 8#32
  let c13_i32_48 : BitVec 32 := 13#32
  let v68 : BitVec 1 := Scalar.cmpi .eq v43 c13_i32_48
  let c12_i32_49 : BitVec 32 := 12#32
  let c12_i32_46 : BitVec 32 := 12#32
  let v66 : BitVec 1 := Scalar.cmpi .eq v43 c12_i32_46
  let c15_i32_47 : BitVec 32 := 15#32
  let c11_i32_44 : BitVec 32 := 11#32
  let v64 : BitVec 1 := Scalar.cmpi .eq v43 c11_i32_44
  let c11_i32_45 : BitVec 32 := 11#32
  let c10_i32_42 : BitVec 32 := 10#32
  let v62 : BitVec 1 := Scalar.cmpi .eq v43 c10_i32_42
  let c7_i32_43 : BitVec 32 := 7#32
  let c9_i32_40 : BitVec 32 := 9#32
  let v60 : BitVec 1 := Scalar.cmpi .eq v43 c9_i32_40
  let c3_i32_41 : BitVec 32 := 3#32
  let c8_i32_38 : BitVec 32 := 8#32
  let v58 : BitVec 1 := Scalar.cmpi .eq v43 c8_i32_38
  let c2_i32_39 : BitVec 32 := 2#32
  let c7_i32_36 : BitVec 32 := 7#32
  let v56 : BitVec 1 := Scalar.cmpi .eq v43 c7_i32_36
  let c6_i32_37 : BitVec 32 := 6#32
  let c6_i32_34 : BitVec 32 := 6#32
  let v54 : BitVec 1 := Scalar.cmpi .eq v43 c6_i32_34
  let c10_i32_35 : BitVec 32 := 10#32
  let c5_i32_32 : BitVec 32 := 5#32
  let v52 : BitVec 1 := Scalar.cmpi .eq v43 c5_i32_32
  let c14_i32_33 : BitVec 32 := 14#32
  let c4_i32_30 : BitVec 32 := 4#32
  let v50 : BitVec 1 := Scalar.cmpi .eq v43 c4_i32_30
  let c13_i32_31 : BitVec 32 := 13#32
  let c3_i32_28 : BitVec 32 := 3#32
  let v48 : BitVec 1 := Scalar.cmpi .eq v43 c3_i32_28
  let c9_i32_29 : BitVec 32 := 9#32
  let c2_i32_26 : BitVec 32 := 2#32
  let v46 : BitVec 1 := Scalar.cmpi .eq v43 c2_i32_26
  let c5_i32_27 : BitVec 32 := 5#32
  let c1_i32_23 : BitVec 32 := 1#32
  let v44 : BitVec 1 := Scalar.cmpi .eq v43 c1_i32_23
  let c1_i32_24 : BitVec 32 := 1#32
  let c0_i32_25 : BitVec 32 := 0#32
  let v45 : BitVec 32 := Scalar.select v44 c1_i32_24 c0_i32_25
  let v47 : BitVec 32 := Scalar.select v46 c5_i32_27 v45
  let v49 : BitVec 32 := Scalar.select v48 c9_i32_29 v47
  let v51 : BitVec 32 := Scalar.select v50 c13_i32_31 v49
  let v53 : BitVec 32 := Scalar.select v52 c14_i32_33 v51
  let v55 : BitVec 32 := Scalar.select v54 c10_i32_35 v53
  let v57 : BitVec 32 := Scalar.select v56 c6_i32_37 v55
  let v59 : BitVec 32 := Scalar.select v58 c2_i32_39 v57
  let v61 : BitVec 32 := Scalar.select v60 c3_i32_41 v59
  let v63 : BitVec 32 := Scalar.select v62 c7_i32_43 v61
  let v65 : BitVec 32 := Scalar.select v64 c11_i32_45 v63
  let v67 : BitVec 32 := Scalar.select v66 c15_i32_47 v65
  let v69 : BitVec 32 := Scalar.select v68 c12_i32_49 v67
  let v71 : BitVec 32 := Scalar.select v70 c8_i32_51 v69
  let v73 : BitVec 32 := Scalar.select v72 c4_i32_53 v71
  let c1_i32_1361 : BitVec 32 := 1#32
  let v1143 : BitVec 32 := Scalar.muli v73 c1_i32_1361
  let v1144 : BitVec 32 := Scalar.addi c0_i32_1362 v1143
  v1144.toNat
def k0_dev36 (d0 : Dev nD) : Nat :=
  let c0_i32_1397 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c16_i32_54 : BitVec 32 := 16#32
  let v74 : BitVec 32 := Scalar.addi v32 c16_i32_54
  let c1_i32_55 : BitVec 32 := 1#32
  let v75 : BitVec 32 := Scalar.subi v74 c1_i32_55
  let c16_i32_56 : BitVec 32 := 16#32
  let c0_i32_57 : BitVec 32 := 0#32
  let v76 : BitVec 1 := Scalar.cmpi .eq c16_i32_56 c0_i32_57
  let c1_i32_58 : BitVec 32 := 1#32
  let v77 : BitVec 32 := Scalar.select v76 c1_i32_58 c16_i32_56
  let v78 : BitVec 32 := Scalar.remsi v75 v77
  let c0_i32_60 : BitVec 32 := 0#32
  let v80 : BitVec 1 := Scalar.cmpi .slt v78 c0_i32_60
  let c0_i32_61 : BitVec 32 := 0#32
  let v81 : BitVec 1 := Scalar.cmpi .slt v77 c0_i32_61
  let v82 : BitVec 1 := Scalar.xori v80 v81
  let c0_i32_59 : BitVec 32 := 0#32
  let v79 : BitVec 1 := Scalar.cmpi .ne v78 c0_i32_59
  let v83 : BitVec 1 := Scalar.andi v82 v79
  let v84 : BitVec 32 := Scalar.addi v78 v77
  let v85 : BitVec 32 := Scalar.select v83 v84 v78
  let c15_i32_91 : BitVec 32 := 15#32
  let v114 : BitVec 1 := Scalar.cmpi .eq v85 c15_i32_91
  let c4_i32_92 : BitVec 32 := 4#32
  let c14_i32_89 : BitVec 32 := 14#32
  let v112 : BitVec 1 := Scalar.cmpi .eq v85 c14_i32_89
  let c8_i32_90 : BitVec 32 := 8#32
  let c13_i32_87 : BitVec 32 := 13#32
  let v110 : BitVec 1 := Scalar.cmpi .eq v85 c13_i32_87
  let c12_i32_88 : BitVec 32 := 12#32
  let c12_i32_85 : BitVec 32 := 12#32
  let v108 : BitVec 1 := Scalar.cmpi .eq v85 c12_i32_85
  let c15_i32_86 : BitVec 32 := 15#32
  let c11_i32_83 : BitVec 32 := 11#32
  let v106 : BitVec 1 := Scalar.cmpi .eq v85 c11_i32_83
  let c11_i32_84 : BitVec 32 := 11#32
  let c10_i32_81 : BitVec 32 := 10#32
  let v104 : BitVec 1 := Scalar.cmpi .eq v85 c10_i32_81
  let c7_i32_82 : BitVec 32 := 7#32
  let c9_i32_79 : BitVec 32 := 9#32
  let v102 : BitVec 1 := Scalar.cmpi .eq v85 c9_i32_79
  let c3_i32_80 : BitVec 32 := 3#32
  let c8_i32_77 : BitVec 32 := 8#32
  let v100 : BitVec 1 := Scalar.cmpi .eq v85 c8_i32_77
  let c2_i32_78 : BitVec 32 := 2#32
  let c7_i32_75 : BitVec 32 := 7#32
  let v98 : BitVec 1 := Scalar.cmpi .eq v85 c7_i32_75
  let c6_i32_76 : BitVec 32 := 6#32
  let c6_i32_73 : BitVec 32 := 6#32
  let v96 : BitVec 1 := Scalar.cmpi .eq v85 c6_i32_73
  let c10_i32_74 : BitVec 32 := 10#32
  let c5_i32_71 : BitVec 32 := 5#32
  let v94 : BitVec 1 := Scalar.cmpi .eq v85 c5_i32_71
  let c14_i32_72 : BitVec 32 := 14#32
  let c4_i32_69 : BitVec 32 := 4#32
  let v92 : BitVec 1 := Scalar.cmpi .eq v85 c4_i32_69
  let c13_i32_70 : BitVec 32 := 13#32
  let c3_i32_67 : BitVec 32 := 3#32
  let v90 : BitVec 1 := Scalar.cmpi .eq v85 c3_i32_67
  let c9_i32_68 : BitVec 32 := 9#32
  let c2_i32_65 : BitVec 32 := 2#32
  let v88 : BitVec 1 := Scalar.cmpi .eq v85 c2_i32_65
  let c5_i32_66 : BitVec 32 := 5#32
  let c1_i32_62 : BitVec 32 := 1#32
  let v86 : BitVec 1 := Scalar.cmpi .eq v85 c1_i32_62
  let c1_i32_63 : BitVec 32 := 1#32
  let c0_i32_64 : BitVec 32 := 0#32
  let v87 : BitVec 32 := Scalar.select v86 c1_i32_63 c0_i32_64
  let v89 : BitVec 32 := Scalar.select v88 c5_i32_66 v87
  let v91 : BitVec 32 := Scalar.select v90 c9_i32_68 v89
  let v93 : BitVec 32 := Scalar.select v92 c13_i32_70 v91
  let v95 : BitVec 32 := Scalar.select v94 c14_i32_72 v93
  let v97 : BitVec 32 := Scalar.select v96 c10_i32_74 v95
  let v99 : BitVec 32 := Scalar.select v98 c6_i32_76 v97
  let v101 : BitVec 32 := Scalar.select v100 c2_i32_78 v99
  let v103 : BitVec 32 := Scalar.select v102 c3_i32_80 v101
  let v105 : BitVec 32 := Scalar.select v104 c7_i32_82 v103
  let v107 : BitVec 32 := Scalar.select v106 c11_i32_84 v105
  let v109 : BitVec 32 := Scalar.select v108 c15_i32_86 v107
  let v111 : BitVec 32 := Scalar.select v110 c12_i32_88 v109
  let v113 : BitVec 32 := Scalar.select v112 c8_i32_90 v111
  let v115 : BitVec 32 := Scalar.select v114 c4_i32_92 v113
  let c1_i32_1396 : BitVec 32 := 1#32
  let v1167 : BitVec 32 := Scalar.muli v115 c1_i32_1396
  let v1168 : BitVec 32 := Scalar.addi c0_i32_1397 v1167
  v1168.toNat
def k0_dev37 (d0 : Dev nD) : Nat :=
  let c0_i32_1432 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c1_i32_16 : BitVec 32 := 1#32
  let v33 : BitVec 32 := Scalar.addi v32 c1_i32_16
  let c16_i32_17 : BitVec 32 := 16#32
  let c0_i32_18 : BitVec 32 := 0#32
  let v34 : BitVec 1 := Scalar.cmpi .eq c16_i32_17 c0_i32_18
  let c1_i32_19 : BitVec 32 := 1#32
  let v35 : BitVec 32 := Scalar.select v34 c1_i32_19 c16_i32_17
  let v36 : BitVec 32 := Scalar.remsi v33 v35
  let c0_i32_21 : BitVec 32 := 0#32
  let v38 : BitVec 1 := Scalar.cmpi .slt v36 c0_i32_21
  let c0_i32_22 : BitVec 32 := 0#32
  let v39 : BitVec 1 := Scalar.cmpi .slt v35 c0_i32_22
  let v40 : BitVec 1 := Scalar.xori v38 v39
  let c0_i32_20 : BitVec 32 := 0#32
  let v37 : BitVec 1 := Scalar.cmpi .ne v36 c0_i32_20
  let v41 : BitVec 1 := Scalar.andi v40 v37
  let v42 : BitVec 32 := Scalar.addi v36 v35
  let v43 : BitVec 32 := Scalar.select v41 v42 v36
  let c15_i32_52 : BitVec 32 := 15#32
  let v72 : BitVec 1 := Scalar.cmpi .eq v43 c15_i32_52
  let c4_i32_53 : BitVec 32 := 4#32
  let c14_i32_50 : BitVec 32 := 14#32
  let v70 : BitVec 1 := Scalar.cmpi .eq v43 c14_i32_50
  let c8_i32_51 : BitVec 32 := 8#32
  let c13_i32_48 : BitVec 32 := 13#32
  let v68 : BitVec 1 := Scalar.cmpi .eq v43 c13_i32_48
  let c12_i32_49 : BitVec 32 := 12#32
  let c12_i32_46 : BitVec 32 := 12#32
  let v66 : BitVec 1 := Scalar.cmpi .eq v43 c12_i32_46
  let c15_i32_47 : BitVec 32 := 15#32
  let c11_i32_44 : BitVec 32 := 11#32
  let v64 : BitVec 1 := Scalar.cmpi .eq v43 c11_i32_44
  let c11_i32_45 : BitVec 32 := 11#32
  let c10_i32_42 : BitVec 32 := 10#32
  let v62 : BitVec 1 := Scalar.cmpi .eq v43 c10_i32_42
  let c7_i32_43 : BitVec 32 := 7#32
  let c9_i32_40 : BitVec 32 := 9#32
  let v60 : BitVec 1 := Scalar.cmpi .eq v43 c9_i32_40
  let c3_i32_41 : BitVec 32 := 3#32
  let c8_i32_38 : BitVec 32 := 8#32
  let v58 : BitVec 1 := Scalar.cmpi .eq v43 c8_i32_38
  let c2_i32_39 : BitVec 32 := 2#32
  let c7_i32_36 : BitVec 32 := 7#32
  let v56 : BitVec 1 := Scalar.cmpi .eq v43 c7_i32_36
  let c6_i32_37 : BitVec 32 := 6#32
  let c6_i32_34 : BitVec 32 := 6#32
  let v54 : BitVec 1 := Scalar.cmpi .eq v43 c6_i32_34
  let c10_i32_35 : BitVec 32 := 10#32
  let c5_i32_32 : BitVec 32 := 5#32
  let v52 : BitVec 1 := Scalar.cmpi .eq v43 c5_i32_32
  let c14_i32_33 : BitVec 32 := 14#32
  let c4_i32_30 : BitVec 32 := 4#32
  let v50 : BitVec 1 := Scalar.cmpi .eq v43 c4_i32_30
  let c13_i32_31 : BitVec 32 := 13#32
  let c3_i32_28 : BitVec 32 := 3#32
  let v48 : BitVec 1 := Scalar.cmpi .eq v43 c3_i32_28
  let c9_i32_29 : BitVec 32 := 9#32
  let c2_i32_26 : BitVec 32 := 2#32
  let v46 : BitVec 1 := Scalar.cmpi .eq v43 c2_i32_26
  let c5_i32_27 : BitVec 32 := 5#32
  let c1_i32_23 : BitVec 32 := 1#32
  let v44 : BitVec 1 := Scalar.cmpi .eq v43 c1_i32_23
  let c1_i32_24 : BitVec 32 := 1#32
  let c0_i32_25 : BitVec 32 := 0#32
  let v45 : BitVec 32 := Scalar.select v44 c1_i32_24 c0_i32_25
  let v47 : BitVec 32 := Scalar.select v46 c5_i32_27 v45
  let v49 : BitVec 32 := Scalar.select v48 c9_i32_29 v47
  let v51 : BitVec 32 := Scalar.select v50 c13_i32_31 v49
  let v53 : BitVec 32 := Scalar.select v52 c14_i32_33 v51
  let v55 : BitVec 32 := Scalar.select v54 c10_i32_35 v53
  let v57 : BitVec 32 := Scalar.select v56 c6_i32_37 v55
  let v59 : BitVec 32 := Scalar.select v58 c2_i32_39 v57
  let v61 : BitVec 32 := Scalar.select v60 c3_i32_41 v59
  let v63 : BitVec 32 := Scalar.select v62 c7_i32_43 v61
  let v65 : BitVec 32 := Scalar.select v64 c11_i32_45 v63
  let v67 : BitVec 32 := Scalar.select v66 c15_i32_47 v65
  let v69 : BitVec 32 := Scalar.select v68 c12_i32_49 v67
  let v71 : BitVec 32 := Scalar.select v70 c8_i32_51 v69
  let v73 : BitVec 32 := Scalar.select v72 c4_i32_53 v71
  let c1_i32_1431 : BitVec 32 := 1#32
  let v1191 : BitVec 32 := Scalar.muli v73 c1_i32_1431
  let v1192 : BitVec 32 := Scalar.addi c0_i32_1432 v1191
  v1192.toNat
def k0_dev38 (d0 : Dev nD) : Nat :=
  let c0_i32_1467 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c16_i32_54 : BitVec 32 := 16#32
  let v74 : BitVec 32 := Scalar.addi v32 c16_i32_54
  let c1_i32_55 : BitVec 32 := 1#32
  let v75 : BitVec 32 := Scalar.subi v74 c1_i32_55
  let c16_i32_56 : BitVec 32 := 16#32
  let c0_i32_57 : BitVec 32 := 0#32
  let v76 : BitVec 1 := Scalar.cmpi .eq c16_i32_56 c0_i32_57
  let c1_i32_58 : BitVec 32 := 1#32
  let v77 : BitVec 32 := Scalar.select v76 c1_i32_58 c16_i32_56
  let v78 : BitVec 32 := Scalar.remsi v75 v77
  let c0_i32_60 : BitVec 32 := 0#32
  let v80 : BitVec 1 := Scalar.cmpi .slt v78 c0_i32_60
  let c0_i32_61 : BitVec 32 := 0#32
  let v81 : BitVec 1 := Scalar.cmpi .slt v77 c0_i32_61
  let v82 : BitVec 1 := Scalar.xori v80 v81
  let c0_i32_59 : BitVec 32 := 0#32
  let v79 : BitVec 1 := Scalar.cmpi .ne v78 c0_i32_59
  let v83 : BitVec 1 := Scalar.andi v82 v79
  let v84 : BitVec 32 := Scalar.addi v78 v77
  let v85 : BitVec 32 := Scalar.select v83 v84 v78
  let c15_i32_91 : BitVec 32 := 15#32
  let v114 : BitVec 1 := Scalar.cmpi .eq v85 c15_i32_91
  let c4_i32_92 : BitVec 32 := 4#32
  let c14_i32_89 : BitVec 32 := 14#32
  let v112 : BitVec 1 := Scalar.cmpi .eq v85 c14_i32_89
  let c8_i32_90 : BitVec 32 := 8#32
  let c13_i32_87 : BitVec 32 := 13#32
  let v110 : BitVec 1 := Scalar.cmpi .eq v85 c13_i32_87
  let c12_i32_88 : BitVec 32 := 12#32
  let c12_i32_85 : BitVec 32 := 12#32
  let v108 : BitVec 1 := Scalar.cmpi .eq v85 c12_i32_85
  let c15_i32_86 : BitVec 32 := 15#32
  let c11_i32_83 : BitVec 32 := 11#32
  let v106 : BitVec 1 := Scalar.cmpi .eq v85 c11_i32_83
  let c11_i32_84 : BitVec 32 := 11#32
  let c10_i32_81 : BitVec 32 := 10#32
  let v104 : BitVec 1 := Scalar.cmpi .eq v85 c10_i32_81
  let c7_i32_82 : BitVec 32 := 7#32
  let c9_i32_79 : BitVec 32 := 9#32
  let v102 : BitVec 1 := Scalar.cmpi .eq v85 c9_i32_79
  let c3_i32_80 : BitVec 32 := 3#32
  let c8_i32_77 : BitVec 32 := 8#32
  let v100 : BitVec 1 := Scalar.cmpi .eq v85 c8_i32_77
  let c2_i32_78 : BitVec 32 := 2#32
  let c7_i32_75 : BitVec 32 := 7#32
  let v98 : BitVec 1 := Scalar.cmpi .eq v85 c7_i32_75
  let c6_i32_76 : BitVec 32 := 6#32
  let c6_i32_73 : BitVec 32 := 6#32
  let v96 : BitVec 1 := Scalar.cmpi .eq v85 c6_i32_73
  let c10_i32_74 : BitVec 32 := 10#32
  let c5_i32_71 : BitVec 32 := 5#32
  let v94 : BitVec 1 := Scalar.cmpi .eq v85 c5_i32_71
  let c14_i32_72 : BitVec 32 := 14#32
  let c4_i32_69 : BitVec 32 := 4#32
  let v92 : BitVec 1 := Scalar.cmpi .eq v85 c4_i32_69
  let c13_i32_70 : BitVec 32 := 13#32
  let c3_i32_67 : BitVec 32 := 3#32
  let v90 : BitVec 1 := Scalar.cmpi .eq v85 c3_i32_67
  let c9_i32_68 : BitVec 32 := 9#32
  let c2_i32_65 : BitVec 32 := 2#32
  let v88 : BitVec 1 := Scalar.cmpi .eq v85 c2_i32_65
  let c5_i32_66 : BitVec 32 := 5#32
  let c1_i32_62 : BitVec 32 := 1#32
  let v86 : BitVec 1 := Scalar.cmpi .eq v85 c1_i32_62
  let c1_i32_63 : BitVec 32 := 1#32
  let c0_i32_64 : BitVec 32 := 0#32
  let v87 : BitVec 32 := Scalar.select v86 c1_i32_63 c0_i32_64
  let v89 : BitVec 32 := Scalar.select v88 c5_i32_66 v87
  let v91 : BitVec 32 := Scalar.select v90 c9_i32_68 v89
  let v93 : BitVec 32 := Scalar.select v92 c13_i32_70 v91
  let v95 : BitVec 32 := Scalar.select v94 c14_i32_72 v93
  let v97 : BitVec 32 := Scalar.select v96 c10_i32_74 v95
  let v99 : BitVec 32 := Scalar.select v98 c6_i32_76 v97
  let v101 : BitVec 32 := Scalar.select v100 c2_i32_78 v99
  let v103 : BitVec 32 := Scalar.select v102 c3_i32_80 v101
  let v105 : BitVec 32 := Scalar.select v104 c7_i32_82 v103
  let v107 : BitVec 32 := Scalar.select v106 c11_i32_84 v105
  let v109 : BitVec 32 := Scalar.select v108 c15_i32_86 v107
  let v111 : BitVec 32 := Scalar.select v110 c12_i32_88 v109
  let v113 : BitVec 32 := Scalar.select v112 c8_i32_90 v111
  let v115 : BitVec 32 := Scalar.select v114 c4_i32_92 v113
  let c1_i32_1466 : BitVec 32 := 1#32
  let v1215 : BitVec 32 := Scalar.muli v115 c1_i32_1466
  let v1216 : BitVec 32 := Scalar.addi c0_i32_1467 v1215
  v1216.toNat
def k0_dev39 (d0 : Dev nD) : Nat :=
  let c0_i32_1502 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c1_i32_16 : BitVec 32 := 1#32
  let v33 : BitVec 32 := Scalar.addi v32 c1_i32_16
  let c16_i32_17 : BitVec 32 := 16#32
  let c0_i32_18 : BitVec 32 := 0#32
  let v34 : BitVec 1 := Scalar.cmpi .eq c16_i32_17 c0_i32_18
  let c1_i32_19 : BitVec 32 := 1#32
  let v35 : BitVec 32 := Scalar.select v34 c1_i32_19 c16_i32_17
  let v36 : BitVec 32 := Scalar.remsi v33 v35
  let c0_i32_21 : BitVec 32 := 0#32
  let v38 : BitVec 1 := Scalar.cmpi .slt v36 c0_i32_21
  let c0_i32_22 : BitVec 32 := 0#32
  let v39 : BitVec 1 := Scalar.cmpi .slt v35 c0_i32_22
  let v40 : BitVec 1 := Scalar.xori v38 v39
  let c0_i32_20 : BitVec 32 := 0#32
  let v37 : BitVec 1 := Scalar.cmpi .ne v36 c0_i32_20
  let v41 : BitVec 1 := Scalar.andi v40 v37
  let v42 : BitVec 32 := Scalar.addi v36 v35
  let v43 : BitVec 32 := Scalar.select v41 v42 v36
  let c15_i32_52 : BitVec 32 := 15#32
  let v72 : BitVec 1 := Scalar.cmpi .eq v43 c15_i32_52
  let c4_i32_53 : BitVec 32 := 4#32
  let c14_i32_50 : BitVec 32 := 14#32
  let v70 : BitVec 1 := Scalar.cmpi .eq v43 c14_i32_50
  let c8_i32_51 : BitVec 32 := 8#32
  let c13_i32_48 : BitVec 32 := 13#32
  let v68 : BitVec 1 := Scalar.cmpi .eq v43 c13_i32_48
  let c12_i32_49 : BitVec 32 := 12#32
  let c12_i32_46 : BitVec 32 := 12#32
  let v66 : BitVec 1 := Scalar.cmpi .eq v43 c12_i32_46
  let c15_i32_47 : BitVec 32 := 15#32
  let c11_i32_44 : BitVec 32 := 11#32
  let v64 : BitVec 1 := Scalar.cmpi .eq v43 c11_i32_44
  let c11_i32_45 : BitVec 32 := 11#32
  let c10_i32_42 : BitVec 32 := 10#32
  let v62 : BitVec 1 := Scalar.cmpi .eq v43 c10_i32_42
  let c7_i32_43 : BitVec 32 := 7#32
  let c9_i32_40 : BitVec 32 := 9#32
  let v60 : BitVec 1 := Scalar.cmpi .eq v43 c9_i32_40
  let c3_i32_41 : BitVec 32 := 3#32
  let c8_i32_38 : BitVec 32 := 8#32
  let v58 : BitVec 1 := Scalar.cmpi .eq v43 c8_i32_38
  let c2_i32_39 : BitVec 32 := 2#32
  let c7_i32_36 : BitVec 32 := 7#32
  let v56 : BitVec 1 := Scalar.cmpi .eq v43 c7_i32_36
  let c6_i32_37 : BitVec 32 := 6#32
  let c6_i32_34 : BitVec 32 := 6#32
  let v54 : BitVec 1 := Scalar.cmpi .eq v43 c6_i32_34
  let c10_i32_35 : BitVec 32 := 10#32
  let c5_i32_32 : BitVec 32 := 5#32
  let v52 : BitVec 1 := Scalar.cmpi .eq v43 c5_i32_32
  let c14_i32_33 : BitVec 32 := 14#32
  let c4_i32_30 : BitVec 32 := 4#32
  let v50 : BitVec 1 := Scalar.cmpi .eq v43 c4_i32_30
  let c13_i32_31 : BitVec 32 := 13#32
  let c3_i32_28 : BitVec 32 := 3#32
  let v48 : BitVec 1 := Scalar.cmpi .eq v43 c3_i32_28
  let c9_i32_29 : BitVec 32 := 9#32
  let c2_i32_26 : BitVec 32 := 2#32
  let v46 : BitVec 1 := Scalar.cmpi .eq v43 c2_i32_26
  let c5_i32_27 : BitVec 32 := 5#32
  let c1_i32_23 : BitVec 32 := 1#32
  let v44 : BitVec 1 := Scalar.cmpi .eq v43 c1_i32_23
  let c1_i32_24 : BitVec 32 := 1#32
  let c0_i32_25 : BitVec 32 := 0#32
  let v45 : BitVec 32 := Scalar.select v44 c1_i32_24 c0_i32_25
  let v47 : BitVec 32 := Scalar.select v46 c5_i32_27 v45
  let v49 : BitVec 32 := Scalar.select v48 c9_i32_29 v47
  let v51 : BitVec 32 := Scalar.select v50 c13_i32_31 v49
  let v53 : BitVec 32 := Scalar.select v52 c14_i32_33 v51
  let v55 : BitVec 32 := Scalar.select v54 c10_i32_35 v53
  let v57 : BitVec 32 := Scalar.select v56 c6_i32_37 v55
  let v59 : BitVec 32 := Scalar.select v58 c2_i32_39 v57
  let v61 : BitVec 32 := Scalar.select v60 c3_i32_41 v59
  let v63 : BitVec 32 := Scalar.select v62 c7_i32_43 v61
  let v65 : BitVec 32 := Scalar.select v64 c11_i32_45 v63
  let v67 : BitVec 32 := Scalar.select v66 c15_i32_47 v65
  let v69 : BitVec 32 := Scalar.select v68 c12_i32_49 v67
  let v71 : BitVec 32 := Scalar.select v70 c8_i32_51 v69
  let v73 : BitVec 32 := Scalar.select v72 c4_i32_53 v71
  let c1_i32_1501 : BitVec 32 := 1#32
  let v1239 : BitVec 32 := Scalar.muli v73 c1_i32_1501
  let v1240 : BitVec 32 := Scalar.addi c0_i32_1502 v1239
  v1240.toNat
def k0_dev40 (d0 : Dev nD) : Nat :=
  let c0_i32_1537 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c16_i32_54 : BitVec 32 := 16#32
  let v74 : BitVec 32 := Scalar.addi v32 c16_i32_54
  let c1_i32_55 : BitVec 32 := 1#32
  let v75 : BitVec 32 := Scalar.subi v74 c1_i32_55
  let c16_i32_56 : BitVec 32 := 16#32
  let c0_i32_57 : BitVec 32 := 0#32
  let v76 : BitVec 1 := Scalar.cmpi .eq c16_i32_56 c0_i32_57
  let c1_i32_58 : BitVec 32 := 1#32
  let v77 : BitVec 32 := Scalar.select v76 c1_i32_58 c16_i32_56
  let v78 : BitVec 32 := Scalar.remsi v75 v77
  let c0_i32_60 : BitVec 32 := 0#32
  let v80 : BitVec 1 := Scalar.cmpi .slt v78 c0_i32_60
  let c0_i32_61 : BitVec 32 := 0#32
  let v81 : BitVec 1 := Scalar.cmpi .slt v77 c0_i32_61
  let v82 : BitVec 1 := Scalar.xori v80 v81
  let c0_i32_59 : BitVec 32 := 0#32
  let v79 : BitVec 1 := Scalar.cmpi .ne v78 c0_i32_59
  let v83 : BitVec 1 := Scalar.andi v82 v79
  let v84 : BitVec 32 := Scalar.addi v78 v77
  let v85 : BitVec 32 := Scalar.select v83 v84 v78
  let c15_i32_91 : BitVec 32 := 15#32
  let v114 : BitVec 1 := Scalar.cmpi .eq v85 c15_i32_91
  let c4_i32_92 : BitVec 32 := 4#32
  let c14_i32_89 : BitVec 32 := 14#32
  let v112 : BitVec 1 := Scalar.cmpi .eq v85 c14_i32_89
  let c8_i32_90 : BitVec 32 := 8#32
  let c13_i32_87 : BitVec 32 := 13#32
  let v110 : BitVec 1 := Scalar.cmpi .eq v85 c13_i32_87
  let c12_i32_88 : BitVec 32 := 12#32
  let c12_i32_85 : BitVec 32 := 12#32
  let v108 : BitVec 1 := Scalar.cmpi .eq v85 c12_i32_85
  let c15_i32_86 : BitVec 32 := 15#32
  let c11_i32_83 : BitVec 32 := 11#32
  let v106 : BitVec 1 := Scalar.cmpi .eq v85 c11_i32_83
  let c11_i32_84 : BitVec 32 := 11#32
  let c10_i32_81 : BitVec 32 := 10#32
  let v104 : BitVec 1 := Scalar.cmpi .eq v85 c10_i32_81
  let c7_i32_82 : BitVec 32 := 7#32
  let c9_i32_79 : BitVec 32 := 9#32
  let v102 : BitVec 1 := Scalar.cmpi .eq v85 c9_i32_79
  let c3_i32_80 : BitVec 32 := 3#32
  let c8_i32_77 : BitVec 32 := 8#32
  let v100 : BitVec 1 := Scalar.cmpi .eq v85 c8_i32_77
  let c2_i32_78 : BitVec 32 := 2#32
  let c7_i32_75 : BitVec 32 := 7#32
  let v98 : BitVec 1 := Scalar.cmpi .eq v85 c7_i32_75
  let c6_i32_76 : BitVec 32 := 6#32
  let c6_i32_73 : BitVec 32 := 6#32
  let v96 : BitVec 1 := Scalar.cmpi .eq v85 c6_i32_73
  let c10_i32_74 : BitVec 32 := 10#32
  let c5_i32_71 : BitVec 32 := 5#32
  let v94 : BitVec 1 := Scalar.cmpi .eq v85 c5_i32_71
  let c14_i32_72 : BitVec 32 := 14#32
  let c4_i32_69 : BitVec 32 := 4#32
  let v92 : BitVec 1 := Scalar.cmpi .eq v85 c4_i32_69
  let c13_i32_70 : BitVec 32 := 13#32
  let c3_i32_67 : BitVec 32 := 3#32
  let v90 : BitVec 1 := Scalar.cmpi .eq v85 c3_i32_67
  let c9_i32_68 : BitVec 32 := 9#32
  let c2_i32_65 : BitVec 32 := 2#32
  let v88 : BitVec 1 := Scalar.cmpi .eq v85 c2_i32_65
  let c5_i32_66 : BitVec 32 := 5#32
  let c1_i32_62 : BitVec 32 := 1#32
  let v86 : BitVec 1 := Scalar.cmpi .eq v85 c1_i32_62
  let c1_i32_63 : BitVec 32 := 1#32
  let c0_i32_64 : BitVec 32 := 0#32
  let v87 : BitVec 32 := Scalar.select v86 c1_i32_63 c0_i32_64
  let v89 : BitVec 32 := Scalar.select v88 c5_i32_66 v87
  let v91 : BitVec 32 := Scalar.select v90 c9_i32_68 v89
  let v93 : BitVec 32 := Scalar.select v92 c13_i32_70 v91
  let v95 : BitVec 32 := Scalar.select v94 c14_i32_72 v93
  let v97 : BitVec 32 := Scalar.select v96 c10_i32_74 v95
  let v99 : BitVec 32 := Scalar.select v98 c6_i32_76 v97
  let v101 : BitVec 32 := Scalar.select v100 c2_i32_78 v99
  let v103 : BitVec 32 := Scalar.select v102 c3_i32_80 v101
  let v105 : BitVec 32 := Scalar.select v104 c7_i32_82 v103
  let v107 : BitVec 32 := Scalar.select v106 c11_i32_84 v105
  let v109 : BitVec 32 := Scalar.select v108 c15_i32_86 v107
  let v111 : BitVec 32 := Scalar.select v110 c12_i32_88 v109
  let v113 : BitVec 32 := Scalar.select v112 c8_i32_90 v111
  let v115 : BitVec 32 := Scalar.select v114 c4_i32_92 v113
  let c1_i32_1536 : BitVec 32 := 1#32
  let v1263 : BitVec 32 := Scalar.muli v115 c1_i32_1536
  let v1264 : BitVec 32 := Scalar.addi c0_i32_1537 v1263
  v1264.toNat
def k0_dev41 (d0 : Dev nD) : Nat :=
  let c0_i32_1572 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c1_i32_16 : BitVec 32 := 1#32
  let v33 : BitVec 32 := Scalar.addi v32 c1_i32_16
  let c16_i32_17 : BitVec 32 := 16#32
  let c0_i32_18 : BitVec 32 := 0#32
  let v34 : BitVec 1 := Scalar.cmpi .eq c16_i32_17 c0_i32_18
  let c1_i32_19 : BitVec 32 := 1#32
  let v35 : BitVec 32 := Scalar.select v34 c1_i32_19 c16_i32_17
  let v36 : BitVec 32 := Scalar.remsi v33 v35
  let c0_i32_21 : BitVec 32 := 0#32
  let v38 : BitVec 1 := Scalar.cmpi .slt v36 c0_i32_21
  let c0_i32_22 : BitVec 32 := 0#32
  let v39 : BitVec 1 := Scalar.cmpi .slt v35 c0_i32_22
  let v40 : BitVec 1 := Scalar.xori v38 v39
  let c0_i32_20 : BitVec 32 := 0#32
  let v37 : BitVec 1 := Scalar.cmpi .ne v36 c0_i32_20
  let v41 : BitVec 1 := Scalar.andi v40 v37
  let v42 : BitVec 32 := Scalar.addi v36 v35
  let v43 : BitVec 32 := Scalar.select v41 v42 v36
  let c15_i32_52 : BitVec 32 := 15#32
  let v72 : BitVec 1 := Scalar.cmpi .eq v43 c15_i32_52
  let c4_i32_53 : BitVec 32 := 4#32
  let c14_i32_50 : BitVec 32 := 14#32
  let v70 : BitVec 1 := Scalar.cmpi .eq v43 c14_i32_50
  let c8_i32_51 : BitVec 32 := 8#32
  let c13_i32_48 : BitVec 32 := 13#32
  let v68 : BitVec 1 := Scalar.cmpi .eq v43 c13_i32_48
  let c12_i32_49 : BitVec 32 := 12#32
  let c12_i32_46 : BitVec 32 := 12#32
  let v66 : BitVec 1 := Scalar.cmpi .eq v43 c12_i32_46
  let c15_i32_47 : BitVec 32 := 15#32
  let c11_i32_44 : BitVec 32 := 11#32
  let v64 : BitVec 1 := Scalar.cmpi .eq v43 c11_i32_44
  let c11_i32_45 : BitVec 32 := 11#32
  let c10_i32_42 : BitVec 32 := 10#32
  let v62 : BitVec 1 := Scalar.cmpi .eq v43 c10_i32_42
  let c7_i32_43 : BitVec 32 := 7#32
  let c9_i32_40 : BitVec 32 := 9#32
  let v60 : BitVec 1 := Scalar.cmpi .eq v43 c9_i32_40
  let c3_i32_41 : BitVec 32 := 3#32
  let c8_i32_38 : BitVec 32 := 8#32
  let v58 : BitVec 1 := Scalar.cmpi .eq v43 c8_i32_38
  let c2_i32_39 : BitVec 32 := 2#32
  let c7_i32_36 : BitVec 32 := 7#32
  let v56 : BitVec 1 := Scalar.cmpi .eq v43 c7_i32_36
  let c6_i32_37 : BitVec 32 := 6#32
  let c6_i32_34 : BitVec 32 := 6#32
  let v54 : BitVec 1 := Scalar.cmpi .eq v43 c6_i32_34
  let c10_i32_35 : BitVec 32 := 10#32
  let c5_i32_32 : BitVec 32 := 5#32
  let v52 : BitVec 1 := Scalar.cmpi .eq v43 c5_i32_32
  let c14_i32_33 : BitVec 32 := 14#32
  let c4_i32_30 : BitVec 32 := 4#32
  let v50 : BitVec 1 := Scalar.cmpi .eq v43 c4_i32_30
  let c13_i32_31 : BitVec 32 := 13#32
  let c3_i32_28 : BitVec 32 := 3#32
  let v48 : BitVec 1 := Scalar.cmpi .eq v43 c3_i32_28
  let c9_i32_29 : BitVec 32 := 9#32
  let c2_i32_26 : BitVec 32 := 2#32
  let v46 : BitVec 1 := Scalar.cmpi .eq v43 c2_i32_26
  let c5_i32_27 : BitVec 32 := 5#32
  let c1_i32_23 : BitVec 32 := 1#32
  let v44 : BitVec 1 := Scalar.cmpi .eq v43 c1_i32_23
  let c1_i32_24 : BitVec 32 := 1#32
  let c0_i32_25 : BitVec 32 := 0#32
  let v45 : BitVec 32 := Scalar.select v44 c1_i32_24 c0_i32_25
  let v47 : BitVec 32 := Scalar.select v46 c5_i32_27 v45
  let v49 : BitVec 32 := Scalar.select v48 c9_i32_29 v47
  let v51 : BitVec 32 := Scalar.select v50 c13_i32_31 v49
  let v53 : BitVec 32 := Scalar.select v52 c14_i32_33 v51
  let v55 : BitVec 32 := Scalar.select v54 c10_i32_35 v53
  let v57 : BitVec 32 := Scalar.select v56 c6_i32_37 v55
  let v59 : BitVec 32 := Scalar.select v58 c2_i32_39 v57
  let v61 : BitVec 32 := Scalar.select v60 c3_i32_41 v59
  let v63 : BitVec 32 := Scalar.select v62 c7_i32_43 v61
  let v65 : BitVec 32 := Scalar.select v64 c11_i32_45 v63
  let v67 : BitVec 32 := Scalar.select v66 c15_i32_47 v65
  let v69 : BitVec 32 := Scalar.select v68 c12_i32_49 v67
  let v71 : BitVec 32 := Scalar.select v70 c8_i32_51 v69
  let v73 : BitVec 32 := Scalar.select v72 c4_i32_53 v71
  let c1_i32_1571 : BitVec 32 := 1#32
  let v1287 : BitVec 32 := Scalar.muli v73 c1_i32_1571
  let v1288 : BitVec 32 := Scalar.addi c0_i32_1572 v1287
  v1288.toNat
def k0_dev42 (d0 : Dev nD) : Nat :=
  let c0_i32_1607 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c16_i32_54 : BitVec 32 := 16#32
  let v74 : BitVec 32 := Scalar.addi v32 c16_i32_54
  let c1_i32_55 : BitVec 32 := 1#32
  let v75 : BitVec 32 := Scalar.subi v74 c1_i32_55
  let c16_i32_56 : BitVec 32 := 16#32
  let c0_i32_57 : BitVec 32 := 0#32
  let v76 : BitVec 1 := Scalar.cmpi .eq c16_i32_56 c0_i32_57
  let c1_i32_58 : BitVec 32 := 1#32
  let v77 : BitVec 32 := Scalar.select v76 c1_i32_58 c16_i32_56
  let v78 : BitVec 32 := Scalar.remsi v75 v77
  let c0_i32_60 : BitVec 32 := 0#32
  let v80 : BitVec 1 := Scalar.cmpi .slt v78 c0_i32_60
  let c0_i32_61 : BitVec 32 := 0#32
  let v81 : BitVec 1 := Scalar.cmpi .slt v77 c0_i32_61
  let v82 : BitVec 1 := Scalar.xori v80 v81
  let c0_i32_59 : BitVec 32 := 0#32
  let v79 : BitVec 1 := Scalar.cmpi .ne v78 c0_i32_59
  let v83 : BitVec 1 := Scalar.andi v82 v79
  let v84 : BitVec 32 := Scalar.addi v78 v77
  let v85 : BitVec 32 := Scalar.select v83 v84 v78
  let c15_i32_91 : BitVec 32 := 15#32
  let v114 : BitVec 1 := Scalar.cmpi .eq v85 c15_i32_91
  let c4_i32_92 : BitVec 32 := 4#32
  let c14_i32_89 : BitVec 32 := 14#32
  let v112 : BitVec 1 := Scalar.cmpi .eq v85 c14_i32_89
  let c8_i32_90 : BitVec 32 := 8#32
  let c13_i32_87 : BitVec 32 := 13#32
  let v110 : BitVec 1 := Scalar.cmpi .eq v85 c13_i32_87
  let c12_i32_88 : BitVec 32 := 12#32
  let c12_i32_85 : BitVec 32 := 12#32
  let v108 : BitVec 1 := Scalar.cmpi .eq v85 c12_i32_85
  let c15_i32_86 : BitVec 32 := 15#32
  let c11_i32_83 : BitVec 32 := 11#32
  let v106 : BitVec 1 := Scalar.cmpi .eq v85 c11_i32_83
  let c11_i32_84 : BitVec 32 := 11#32
  let c10_i32_81 : BitVec 32 := 10#32
  let v104 : BitVec 1 := Scalar.cmpi .eq v85 c10_i32_81
  let c7_i32_82 : BitVec 32 := 7#32
  let c9_i32_79 : BitVec 32 := 9#32
  let v102 : BitVec 1 := Scalar.cmpi .eq v85 c9_i32_79
  let c3_i32_80 : BitVec 32 := 3#32
  let c8_i32_77 : BitVec 32 := 8#32
  let v100 : BitVec 1 := Scalar.cmpi .eq v85 c8_i32_77
  let c2_i32_78 : BitVec 32 := 2#32
  let c7_i32_75 : BitVec 32 := 7#32
  let v98 : BitVec 1 := Scalar.cmpi .eq v85 c7_i32_75
  let c6_i32_76 : BitVec 32 := 6#32
  let c6_i32_73 : BitVec 32 := 6#32
  let v96 : BitVec 1 := Scalar.cmpi .eq v85 c6_i32_73
  let c10_i32_74 : BitVec 32 := 10#32
  let c5_i32_71 : BitVec 32 := 5#32
  let v94 : BitVec 1 := Scalar.cmpi .eq v85 c5_i32_71
  let c14_i32_72 : BitVec 32 := 14#32
  let c4_i32_69 : BitVec 32 := 4#32
  let v92 : BitVec 1 := Scalar.cmpi .eq v85 c4_i32_69
  let c13_i32_70 : BitVec 32 := 13#32
  let c3_i32_67 : BitVec 32 := 3#32
  let v90 : BitVec 1 := Scalar.cmpi .eq v85 c3_i32_67
  let c9_i32_68 : BitVec 32 := 9#32
  let c2_i32_65 : BitVec 32 := 2#32
  let v88 : BitVec 1 := Scalar.cmpi .eq v85 c2_i32_65
  let c5_i32_66 : BitVec 32 := 5#32
  let c1_i32_62 : BitVec 32 := 1#32
  let v86 : BitVec 1 := Scalar.cmpi .eq v85 c1_i32_62
  let c1_i32_63 : BitVec 32 := 1#32
  let c0_i32_64 : BitVec 32 := 0#32
  let v87 : BitVec 32 := Scalar.select v86 c1_i32_63 c0_i32_64
  let v89 : BitVec 32 := Scalar.select v88 c5_i32_66 v87
  let v91 : BitVec 32 := Scalar.select v90 c9_i32_68 v89
  let v93 : BitVec 32 := Scalar.select v92 c13_i32_70 v91
  let v95 : BitVec 32 := Scalar.select v94 c14_i32_72 v93
  let v97 : BitVec 32 := Scalar.select v96 c10_i32_74 v95
  let v99 : BitVec 32 := Scalar.select v98 c6_i32_76 v97
  let v101 : BitVec 32 := Scalar.select v100 c2_i32_78 v99
  let v103 : BitVec 32 := Scalar.select v102 c3_i32_80 v101
  let v105 : BitVec 32 := Scalar.select v104 c7_i32_82 v103
  let v107 : BitVec 32 := Scalar.select v106 c11_i32_84 v105
  let v109 : BitVec 32 := Scalar.select v108 c15_i32_86 v107
  let v111 : BitVec 32 := Scalar.select v110 c12_i32_88 v109
  let v113 : BitVec 32 := Scalar.select v112 c8_i32_90 v111
  let v115 : BitVec 32 := Scalar.select v114 c4_i32_92 v113
  let c1_i32_1606 : BitVec 32 := 1#32
  let v1311 : BitVec 32 := Scalar.muli v115 c1_i32_1606
  let v1312 : BitVec 32 := Scalar.addi c0_i32_1607 v1311
  v1312.toNat
def k0_dev43 (d0 : Dev nD) : Nat :=
  let c0_i32_1744 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c1_i32_16 : BitVec 32 := 1#32
  let v33 : BitVec 32 := Scalar.addi v32 c1_i32_16
  let c16_i32_17 : BitVec 32 := 16#32
  let c0_i32_18 : BitVec 32 := 0#32
  let v34 : BitVec 1 := Scalar.cmpi .eq c16_i32_17 c0_i32_18
  let c1_i32_19 : BitVec 32 := 1#32
  let v35 : BitVec 32 := Scalar.select v34 c1_i32_19 c16_i32_17
  let v36 : BitVec 32 := Scalar.remsi v33 v35
  let c0_i32_21 : BitVec 32 := 0#32
  let v38 : BitVec 1 := Scalar.cmpi .slt v36 c0_i32_21
  let c0_i32_22 : BitVec 32 := 0#32
  let v39 : BitVec 1 := Scalar.cmpi .slt v35 c0_i32_22
  let v40 : BitVec 1 := Scalar.xori v38 v39
  let c0_i32_20 : BitVec 32 := 0#32
  let v37 : BitVec 1 := Scalar.cmpi .ne v36 c0_i32_20
  let v41 : BitVec 1 := Scalar.andi v40 v37
  let v42 : BitVec 32 := Scalar.addi v36 v35
  let v43 : BitVec 32 := Scalar.select v41 v42 v36
  let c15_i32_52 : BitVec 32 := 15#32
  let v72 : BitVec 1 := Scalar.cmpi .eq v43 c15_i32_52
  let c4_i32_53 : BitVec 32 := 4#32
  let c14_i32_50 : BitVec 32 := 14#32
  let v70 : BitVec 1 := Scalar.cmpi .eq v43 c14_i32_50
  let c8_i32_51 : BitVec 32 := 8#32
  let c13_i32_48 : BitVec 32 := 13#32
  let v68 : BitVec 1 := Scalar.cmpi .eq v43 c13_i32_48
  let c12_i32_49 : BitVec 32 := 12#32
  let c12_i32_46 : BitVec 32 := 12#32
  let v66 : BitVec 1 := Scalar.cmpi .eq v43 c12_i32_46
  let c15_i32_47 : BitVec 32 := 15#32
  let c11_i32_44 : BitVec 32 := 11#32
  let v64 : BitVec 1 := Scalar.cmpi .eq v43 c11_i32_44
  let c11_i32_45 : BitVec 32 := 11#32
  let c10_i32_42 : BitVec 32 := 10#32
  let v62 : BitVec 1 := Scalar.cmpi .eq v43 c10_i32_42
  let c7_i32_43 : BitVec 32 := 7#32
  let c9_i32_40 : BitVec 32 := 9#32
  let v60 : BitVec 1 := Scalar.cmpi .eq v43 c9_i32_40
  let c3_i32_41 : BitVec 32 := 3#32
  let c8_i32_38 : BitVec 32 := 8#32
  let v58 : BitVec 1 := Scalar.cmpi .eq v43 c8_i32_38
  let c2_i32_39 : BitVec 32 := 2#32
  let c7_i32_36 : BitVec 32 := 7#32
  let v56 : BitVec 1 := Scalar.cmpi .eq v43 c7_i32_36
  let c6_i32_37 : BitVec 32 := 6#32
  let c6_i32_34 : BitVec 32 := 6#32
  let v54 : BitVec 1 := Scalar.cmpi .eq v43 c6_i32_34
  let c10_i32_35 : BitVec 32 := 10#32
  let c5_i32_32 : BitVec 32 := 5#32
  let v52 : BitVec 1 := Scalar.cmpi .eq v43 c5_i32_32
  let c14_i32_33 : BitVec 32 := 14#32
  let c4_i32_30 : BitVec 32 := 4#32
  let v50 : BitVec 1 := Scalar.cmpi .eq v43 c4_i32_30
  let c13_i32_31 : BitVec 32 := 13#32
  let c3_i32_28 : BitVec 32 := 3#32
  let v48 : BitVec 1 := Scalar.cmpi .eq v43 c3_i32_28
  let c9_i32_29 : BitVec 32 := 9#32
  let c2_i32_26 : BitVec 32 := 2#32
  let v46 : BitVec 1 := Scalar.cmpi .eq v43 c2_i32_26
  let c5_i32_27 : BitVec 32 := 5#32
  let c1_i32_23 : BitVec 32 := 1#32
  let v44 : BitVec 1 := Scalar.cmpi .eq v43 c1_i32_23
  let c1_i32_24 : BitVec 32 := 1#32
  let c0_i32_25 : BitVec 32 := 0#32
  let v45 : BitVec 32 := Scalar.select v44 c1_i32_24 c0_i32_25
  let v47 : BitVec 32 := Scalar.select v46 c5_i32_27 v45
  let v49 : BitVec 32 := Scalar.select v48 c9_i32_29 v47
  let v51 : BitVec 32 := Scalar.select v50 c13_i32_31 v49
  let v53 : BitVec 32 := Scalar.select v52 c14_i32_33 v51
  let v55 : BitVec 32 := Scalar.select v54 c10_i32_35 v53
  let v57 : BitVec 32 := Scalar.select v56 c6_i32_37 v55
  let v59 : BitVec 32 := Scalar.select v58 c2_i32_39 v57
  let v61 : BitVec 32 := Scalar.select v60 c3_i32_41 v59
  let v63 : BitVec 32 := Scalar.select v62 c7_i32_43 v61
  let v65 : BitVec 32 := Scalar.select v64 c11_i32_45 v63
  let v67 : BitVec 32 := Scalar.select v66 c15_i32_47 v65
  let v69 : BitVec 32 := Scalar.select v68 c12_i32_49 v67
  let v71 : BitVec 32 := Scalar.select v70 c8_i32_51 v69
  let v73 : BitVec 32 := Scalar.select v72 c4_i32_53 v71
  let c1_i32_1743 : BitVec 32 := 1#32
  let v1452 : BitVec 32 := Scalar.muli v73 c1_i32_1743
  let v1453 : BitVec 32 := Scalar.addi c0_i32_1744 v1452
  v1453.toNat
def k0_dev44 (d0 : Dev nD) : Nat :=
  let c0_i32_1779 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c16_i32_54 : BitVec 32 := 16#32
  let v74 : BitVec 32 := Scalar.addi v32 c16_i32_54
  let c1_i32_55 : BitVec 32 := 1#32
  let v75 : BitVec 32 := Scalar.subi v74 c1_i32_55
  let c16_i32_56 : BitVec 32 := 16#32
  let c0_i32_57 : BitVec 32 := 0#32
  let v76 : BitVec 1 := Scalar.cmpi .eq c16_i32_56 c0_i32_57
  let c1_i32_58 : BitVec 32 := 1#32
  let v77 : BitVec 32 := Scalar.select v76 c1_i32_58 c16_i32_56
  let v78 : BitVec 32 := Scalar.remsi v75 v77
  let c0_i32_60 : BitVec 32 := 0#32
  let v80 : BitVec 1 := Scalar.cmpi .slt v78 c0_i32_60
  let c0_i32_61 : BitVec 32 := 0#32
  let v81 : BitVec 1 := Scalar.cmpi .slt v77 c0_i32_61
  let v82 : BitVec 1 := Scalar.xori v80 v81
  let c0_i32_59 : BitVec 32 := 0#32
  let v79 : BitVec 1 := Scalar.cmpi .ne v78 c0_i32_59
  let v83 : BitVec 1 := Scalar.andi v82 v79
  let v84 : BitVec 32 := Scalar.addi v78 v77
  let v85 : BitVec 32 := Scalar.select v83 v84 v78
  let c15_i32_91 : BitVec 32 := 15#32
  let v114 : BitVec 1 := Scalar.cmpi .eq v85 c15_i32_91
  let c4_i32_92 : BitVec 32 := 4#32
  let c14_i32_89 : BitVec 32 := 14#32
  let v112 : BitVec 1 := Scalar.cmpi .eq v85 c14_i32_89
  let c8_i32_90 : BitVec 32 := 8#32
  let c13_i32_87 : BitVec 32 := 13#32
  let v110 : BitVec 1 := Scalar.cmpi .eq v85 c13_i32_87
  let c12_i32_88 : BitVec 32 := 12#32
  let c12_i32_85 : BitVec 32 := 12#32
  let v108 : BitVec 1 := Scalar.cmpi .eq v85 c12_i32_85
  let c15_i32_86 : BitVec 32 := 15#32
  let c11_i32_83 : BitVec 32 := 11#32
  let v106 : BitVec 1 := Scalar.cmpi .eq v85 c11_i32_83
  let c11_i32_84 : BitVec 32 := 11#32
  let c10_i32_81 : BitVec 32 := 10#32
  let v104 : BitVec 1 := Scalar.cmpi .eq v85 c10_i32_81
  let c7_i32_82 : BitVec 32 := 7#32
  let c9_i32_79 : BitVec 32 := 9#32
  let v102 : BitVec 1 := Scalar.cmpi .eq v85 c9_i32_79
  let c3_i32_80 : BitVec 32 := 3#32
  let c8_i32_77 : BitVec 32 := 8#32
  let v100 : BitVec 1 := Scalar.cmpi .eq v85 c8_i32_77
  let c2_i32_78 : BitVec 32 := 2#32
  let c7_i32_75 : BitVec 32 := 7#32
  let v98 : BitVec 1 := Scalar.cmpi .eq v85 c7_i32_75
  let c6_i32_76 : BitVec 32 := 6#32
  let c6_i32_73 : BitVec 32 := 6#32
  let v96 : BitVec 1 := Scalar.cmpi .eq v85 c6_i32_73
  let c10_i32_74 : BitVec 32 := 10#32
  let c5_i32_71 : BitVec 32 := 5#32
  let v94 : BitVec 1 := Scalar.cmpi .eq v85 c5_i32_71
  let c14_i32_72 : BitVec 32 := 14#32
  let c4_i32_69 : BitVec 32 := 4#32
  let v92 : BitVec 1 := Scalar.cmpi .eq v85 c4_i32_69
  let c13_i32_70 : BitVec 32 := 13#32
  let c3_i32_67 : BitVec 32 := 3#32
  let v90 : BitVec 1 := Scalar.cmpi .eq v85 c3_i32_67
  let c9_i32_68 : BitVec 32 := 9#32
  let c2_i32_65 : BitVec 32 := 2#32
  let v88 : BitVec 1 := Scalar.cmpi .eq v85 c2_i32_65
  let c5_i32_66 : BitVec 32 := 5#32
  let c1_i32_62 : BitVec 32 := 1#32
  let v86 : BitVec 1 := Scalar.cmpi .eq v85 c1_i32_62
  let c1_i32_63 : BitVec 32 := 1#32
  let c0_i32_64 : BitVec 32 := 0#32
  let v87 : BitVec 32 := Scalar.select v86 c1_i32_63 c0_i32_64
  let v89 : BitVec 32 := Scalar.select v88 c5_i32_66 v87
  let v91 : BitVec 32 := Scalar.select v90 c9_i32_68 v89
  let v93 : BitVec 32 := Scalar.select v92 c13_i32_70 v91
  let v95 : BitVec 32 := Scalar.select v94 c14_i32_72 v93
  let v97 : BitVec 32 := Scalar.select v96 c10_i32_74 v95
  let v99 : BitVec 32 := Scalar.select v98 c6_i32_76 v97
  let v101 : BitVec 32 := Scalar.select v100 c2_i32_78 v99
  let v103 : BitVec 32 := Scalar.select v102 c3_i32_80 v101
  let v105 : BitVec 32 := Scalar.select v104 c7_i32_82 v103
  let v107 : BitVec 32 := Scalar.select v106 c11_i32_84 v105
  let v109 : BitVec 32 := Scalar.select v108 c15_i32_86 v107
  let v111 : BitVec 32 := Scalar.select v110 c12_i32_88 v109
  let v113 : BitVec 32 := Scalar.select v112 c8_i32_90 v111
  let v115 : BitVec 32 := Scalar.select v114 c4_i32_92 v113
  let c1_i32_1778 : BitVec 32 := 1#32
  let v1476 : BitVec 32 := Scalar.muli v115 c1_i32_1778
  let v1477 : BitVec 32 := Scalar.addi c0_i32_1779 v1476
  v1477.toNat
def k0_dev45 (d0 : Dev nD) : Nat :=
  let c0_i32_1814 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c1_i32_16 : BitVec 32 := 1#32
  let v33 : BitVec 32 := Scalar.addi v32 c1_i32_16
  let c16_i32_17 : BitVec 32 := 16#32
  let c0_i32_18 : BitVec 32 := 0#32
  let v34 : BitVec 1 := Scalar.cmpi .eq c16_i32_17 c0_i32_18
  let c1_i32_19 : BitVec 32 := 1#32
  let v35 : BitVec 32 := Scalar.select v34 c1_i32_19 c16_i32_17
  let v36 : BitVec 32 := Scalar.remsi v33 v35
  let c0_i32_21 : BitVec 32 := 0#32
  let v38 : BitVec 1 := Scalar.cmpi .slt v36 c0_i32_21
  let c0_i32_22 : BitVec 32 := 0#32
  let v39 : BitVec 1 := Scalar.cmpi .slt v35 c0_i32_22
  let v40 : BitVec 1 := Scalar.xori v38 v39
  let c0_i32_20 : BitVec 32 := 0#32
  let v37 : BitVec 1 := Scalar.cmpi .ne v36 c0_i32_20
  let v41 : BitVec 1 := Scalar.andi v40 v37
  let v42 : BitVec 32 := Scalar.addi v36 v35
  let v43 : BitVec 32 := Scalar.select v41 v42 v36
  let c15_i32_52 : BitVec 32 := 15#32
  let v72 : BitVec 1 := Scalar.cmpi .eq v43 c15_i32_52
  let c4_i32_53 : BitVec 32 := 4#32
  let c14_i32_50 : BitVec 32 := 14#32
  let v70 : BitVec 1 := Scalar.cmpi .eq v43 c14_i32_50
  let c8_i32_51 : BitVec 32 := 8#32
  let c13_i32_48 : BitVec 32 := 13#32
  let v68 : BitVec 1 := Scalar.cmpi .eq v43 c13_i32_48
  let c12_i32_49 : BitVec 32 := 12#32
  let c12_i32_46 : BitVec 32 := 12#32
  let v66 : BitVec 1 := Scalar.cmpi .eq v43 c12_i32_46
  let c15_i32_47 : BitVec 32 := 15#32
  let c11_i32_44 : BitVec 32 := 11#32
  let v64 : BitVec 1 := Scalar.cmpi .eq v43 c11_i32_44
  let c11_i32_45 : BitVec 32 := 11#32
  let c10_i32_42 : BitVec 32 := 10#32
  let v62 : BitVec 1 := Scalar.cmpi .eq v43 c10_i32_42
  let c7_i32_43 : BitVec 32 := 7#32
  let c9_i32_40 : BitVec 32 := 9#32
  let v60 : BitVec 1 := Scalar.cmpi .eq v43 c9_i32_40
  let c3_i32_41 : BitVec 32 := 3#32
  let c8_i32_38 : BitVec 32 := 8#32
  let v58 : BitVec 1 := Scalar.cmpi .eq v43 c8_i32_38
  let c2_i32_39 : BitVec 32 := 2#32
  let c7_i32_36 : BitVec 32 := 7#32
  let v56 : BitVec 1 := Scalar.cmpi .eq v43 c7_i32_36
  let c6_i32_37 : BitVec 32 := 6#32
  let c6_i32_34 : BitVec 32 := 6#32
  let v54 : BitVec 1 := Scalar.cmpi .eq v43 c6_i32_34
  let c10_i32_35 : BitVec 32 := 10#32
  let c5_i32_32 : BitVec 32 := 5#32
  let v52 : BitVec 1 := Scalar.cmpi .eq v43 c5_i32_32
  let c14_i32_33 : BitVec 32 := 14#32
  let c4_i32_30 : BitVec 32 := 4#32
  let v50 : BitVec 1 := Scalar.cmpi .eq v43 c4_i32_30
  let c13_i32_31 : BitVec 32 := 13#32
  let c3_i32_28 : BitVec 32 := 3#32
  let v48 : BitVec 1 := Scalar.cmpi .eq v43 c3_i32_28
  let c9_i32_29 : BitVec 32 := 9#32
  let c2_i32_26 : BitVec 32 := 2#32
  let v46 : BitVec 1 := Scalar.cmpi .eq v43 c2_i32_26
  let c5_i32_27 : BitVec 32 := 5#32
  let c1_i32_23 : BitVec 32 := 1#32
  let v44 : BitVec 1 := Scalar.cmpi .eq v43 c1_i32_23
  let c1_i32_24 : BitVec 32 := 1#32
  let c0_i32_25 : BitVec 32 := 0#32
  let v45 : BitVec 32 := Scalar.select v44 c1_i32_24 c0_i32_25
  let v47 : BitVec 32 := Scalar.select v46 c5_i32_27 v45
  let v49 : BitVec 32 := Scalar.select v48 c9_i32_29 v47
  let v51 : BitVec 32 := Scalar.select v50 c13_i32_31 v49
  let v53 : BitVec 32 := Scalar.select v52 c14_i32_33 v51
  let v55 : BitVec 32 := Scalar.select v54 c10_i32_35 v53
  let v57 : BitVec 32 := Scalar.select v56 c6_i32_37 v55
  let v59 : BitVec 32 := Scalar.select v58 c2_i32_39 v57
  let v61 : BitVec 32 := Scalar.select v60 c3_i32_41 v59
  let v63 : BitVec 32 := Scalar.select v62 c7_i32_43 v61
  let v65 : BitVec 32 := Scalar.select v64 c11_i32_45 v63
  let v67 : BitVec 32 := Scalar.select v66 c15_i32_47 v65
  let v69 : BitVec 32 := Scalar.select v68 c12_i32_49 v67
  let v71 : BitVec 32 := Scalar.select v70 c8_i32_51 v69
  let v73 : BitVec 32 := Scalar.select v72 c4_i32_53 v71
  let c1_i32_1813 : BitVec 32 := 1#32
  let v1500 : BitVec 32 := Scalar.muli v73 c1_i32_1813
  let v1501 : BitVec 32 := Scalar.addi c0_i32_1814 v1500
  v1501.toNat
def k0_dev46 (d0 : Dev nD) : Nat :=
  let c0_i32_1849 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c16_i32_54 : BitVec 32 := 16#32
  let v74 : BitVec 32 := Scalar.addi v32 c16_i32_54
  let c1_i32_55 : BitVec 32 := 1#32
  let v75 : BitVec 32 := Scalar.subi v74 c1_i32_55
  let c16_i32_56 : BitVec 32 := 16#32
  let c0_i32_57 : BitVec 32 := 0#32
  let v76 : BitVec 1 := Scalar.cmpi .eq c16_i32_56 c0_i32_57
  let c1_i32_58 : BitVec 32 := 1#32
  let v77 : BitVec 32 := Scalar.select v76 c1_i32_58 c16_i32_56
  let v78 : BitVec 32 := Scalar.remsi v75 v77
  let c0_i32_60 : BitVec 32 := 0#32
  let v80 : BitVec 1 := Scalar.cmpi .slt v78 c0_i32_60
  let c0_i32_61 : BitVec 32 := 0#32
  let v81 : BitVec 1 := Scalar.cmpi .slt v77 c0_i32_61
  let v82 : BitVec 1 := Scalar.xori v80 v81
  let c0_i32_59 : BitVec 32 := 0#32
  let v79 : BitVec 1 := Scalar.cmpi .ne v78 c0_i32_59
  let v83 : BitVec 1 := Scalar.andi v82 v79
  let v84 : BitVec 32 := Scalar.addi v78 v77
  let v85 : BitVec 32 := Scalar.select v83 v84 v78
  let c15_i32_91 : BitVec 32 := 15#32
  let v114 : BitVec 1 := Scalar.cmpi .eq v85 c15_i32_91
  let c4_i32_92 : BitVec 32 := 4#32
  let c14_i32_89 : BitVec 32 := 14#32
  let v112 : BitVec 1 := Scalar.cmpi .eq v85 c14_i32_89
  let c8_i32_90 : BitVec 32 := 8#32
  let c13_i32_87 : BitVec 32 := 13#32
  let v110 : BitVec 1 := Scalar.cmpi .eq v85 c13_i32_87
  let c12_i32_88 : BitVec 32 := 12#32
  let c12_i32_85 : BitVec 32 := 12#32
  let v108 : BitVec 1 := Scalar.cmpi .eq v85 c12_i32_85
  let c15_i32_86 : BitVec 32 := 15#32
  let c11_i32_83 : BitVec 32 := 11#32
  let v106 : BitVec 1 := Scalar.cmpi .eq v85 c11_i32_83
  let c11_i32_84 : BitVec 32 := 11#32
  let c10_i32_81 : BitVec 32 := 10#32
  let v104 : BitVec 1 := Scalar.cmpi .eq v85 c10_i32_81
  let c7_i32_82 : BitVec 32 := 7#32
  let c9_i32_79 : BitVec 32 := 9#32
  let v102 : BitVec 1 := Scalar.cmpi .eq v85 c9_i32_79
  let c3_i32_80 : BitVec 32 := 3#32
  let c8_i32_77 : BitVec 32 := 8#32
  let v100 : BitVec 1 := Scalar.cmpi .eq v85 c8_i32_77
  let c2_i32_78 : BitVec 32 := 2#32
  let c7_i32_75 : BitVec 32 := 7#32
  let v98 : BitVec 1 := Scalar.cmpi .eq v85 c7_i32_75
  let c6_i32_76 : BitVec 32 := 6#32
  let c6_i32_73 : BitVec 32 := 6#32
  let v96 : BitVec 1 := Scalar.cmpi .eq v85 c6_i32_73
  let c10_i32_74 : BitVec 32 := 10#32
  let c5_i32_71 : BitVec 32 := 5#32
  let v94 : BitVec 1 := Scalar.cmpi .eq v85 c5_i32_71
  let c14_i32_72 : BitVec 32 := 14#32
  let c4_i32_69 : BitVec 32 := 4#32
  let v92 : BitVec 1 := Scalar.cmpi .eq v85 c4_i32_69
  let c13_i32_70 : BitVec 32 := 13#32
  let c3_i32_67 : BitVec 32 := 3#32
  let v90 : BitVec 1 := Scalar.cmpi .eq v85 c3_i32_67
  let c9_i32_68 : BitVec 32 := 9#32
  let c2_i32_65 : BitVec 32 := 2#32
  let v88 : BitVec 1 := Scalar.cmpi .eq v85 c2_i32_65
  let c5_i32_66 : BitVec 32 := 5#32
  let c1_i32_62 : BitVec 32 := 1#32
  let v86 : BitVec 1 := Scalar.cmpi .eq v85 c1_i32_62
  let c1_i32_63 : BitVec 32 := 1#32
  let c0_i32_64 : BitVec 32 := 0#32
  let v87 : BitVec 32 := Scalar.select v86 c1_i32_63 c0_i32_64
  let v89 : BitVec 32 := Scalar.select v88 c5_i32_66 v87
  let v91 : BitVec 32 := Scalar.select v90 c9_i32_68 v89
  let v93 : BitVec 32 := Scalar.select v92 c13_i32_70 v91
  let v95 : BitVec 32 := Scalar.select v94 c14_i32_72 v93
  let v97 : BitVec 32 := Scalar.select v96 c10_i32_74 v95
  let v99 : BitVec 32 := Scalar.select v98 c6_i32_76 v97
  let v101 : BitVec 32 := Scalar.select v100 c2_i32_78 v99
  let v103 : BitVec 32 := Scalar.select v102 c3_i32_80 v101
  let v105 : BitVec 32 := Scalar.select v104 c7_i32_82 v103
  let v107 : BitVec 32 := Scalar.select v106 c11_i32_84 v105
  let v109 : BitVec 32 := Scalar.select v108 c15_i32_86 v107
  let v111 : BitVec 32 := Scalar.select v110 c12_i32_88 v109
  let v113 : BitVec 32 := Scalar.select v112 c8_i32_90 v111
  let v115 : BitVec 32 := Scalar.select v114 c4_i32_92 v113
  let c1_i32_1848 : BitVec 32 := 1#32
  let v1524 : BitVec 32 := Scalar.muli v115 c1_i32_1848
  let v1525 : BitVec 32 := Scalar.addi c0_i32_1849 v1524
  v1525.toNat
def k0_dev47 (d0 : Dev nD) : Nat :=
  let c0_i32_1884 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c1_i32_16 : BitVec 32 := 1#32
  let v33 : BitVec 32 := Scalar.addi v32 c1_i32_16
  let c16_i32_17 : BitVec 32 := 16#32
  let c0_i32_18 : BitVec 32 := 0#32
  let v34 : BitVec 1 := Scalar.cmpi .eq c16_i32_17 c0_i32_18
  let c1_i32_19 : BitVec 32 := 1#32
  let v35 : BitVec 32 := Scalar.select v34 c1_i32_19 c16_i32_17
  let v36 : BitVec 32 := Scalar.remsi v33 v35
  let c0_i32_21 : BitVec 32 := 0#32
  let v38 : BitVec 1 := Scalar.cmpi .slt v36 c0_i32_21
  let c0_i32_22 : BitVec 32 := 0#32
  let v39 : BitVec 1 := Scalar.cmpi .slt v35 c0_i32_22
  let v40 : BitVec 1 := Scalar.xori v38 v39
  let c0_i32_20 : BitVec 32 := 0#32
  let v37 : BitVec 1 := Scalar.cmpi .ne v36 c0_i32_20
  let v41 : BitVec 1 := Scalar.andi v40 v37
  let v42 : BitVec 32 := Scalar.addi v36 v35
  let v43 : BitVec 32 := Scalar.select v41 v42 v36
  let c15_i32_52 : BitVec 32 := 15#32
  let v72 : BitVec 1 := Scalar.cmpi .eq v43 c15_i32_52
  let c4_i32_53 : BitVec 32 := 4#32
  let c14_i32_50 : BitVec 32 := 14#32
  let v70 : BitVec 1 := Scalar.cmpi .eq v43 c14_i32_50
  let c8_i32_51 : BitVec 32 := 8#32
  let c13_i32_48 : BitVec 32 := 13#32
  let v68 : BitVec 1 := Scalar.cmpi .eq v43 c13_i32_48
  let c12_i32_49 : BitVec 32 := 12#32
  let c12_i32_46 : BitVec 32 := 12#32
  let v66 : BitVec 1 := Scalar.cmpi .eq v43 c12_i32_46
  let c15_i32_47 : BitVec 32 := 15#32
  let c11_i32_44 : BitVec 32 := 11#32
  let v64 : BitVec 1 := Scalar.cmpi .eq v43 c11_i32_44
  let c11_i32_45 : BitVec 32 := 11#32
  let c10_i32_42 : BitVec 32 := 10#32
  let v62 : BitVec 1 := Scalar.cmpi .eq v43 c10_i32_42
  let c7_i32_43 : BitVec 32 := 7#32
  let c9_i32_40 : BitVec 32 := 9#32
  let v60 : BitVec 1 := Scalar.cmpi .eq v43 c9_i32_40
  let c3_i32_41 : BitVec 32 := 3#32
  let c8_i32_38 : BitVec 32 := 8#32
  let v58 : BitVec 1 := Scalar.cmpi .eq v43 c8_i32_38
  let c2_i32_39 : BitVec 32 := 2#32
  let c7_i32_36 : BitVec 32 := 7#32
  let v56 : BitVec 1 := Scalar.cmpi .eq v43 c7_i32_36
  let c6_i32_37 : BitVec 32 := 6#32
  let c6_i32_34 : BitVec 32 := 6#32
  let v54 : BitVec 1 := Scalar.cmpi .eq v43 c6_i32_34
  let c10_i32_35 : BitVec 32 := 10#32
  let c5_i32_32 : BitVec 32 := 5#32
  let v52 : BitVec 1 := Scalar.cmpi .eq v43 c5_i32_32
  let c14_i32_33 : BitVec 32 := 14#32
  let c4_i32_30 : BitVec 32 := 4#32
  let v50 : BitVec 1 := Scalar.cmpi .eq v43 c4_i32_30
  let c13_i32_31 : BitVec 32 := 13#32
  let c3_i32_28 : BitVec 32 := 3#32
  let v48 : BitVec 1 := Scalar.cmpi .eq v43 c3_i32_28
  let c9_i32_29 : BitVec 32 := 9#32
  let c2_i32_26 : BitVec 32 := 2#32
  let v46 : BitVec 1 := Scalar.cmpi .eq v43 c2_i32_26
  let c5_i32_27 : BitVec 32 := 5#32
  let c1_i32_23 : BitVec 32 := 1#32
  let v44 : BitVec 1 := Scalar.cmpi .eq v43 c1_i32_23
  let c1_i32_24 : BitVec 32 := 1#32
  let c0_i32_25 : BitVec 32 := 0#32
  let v45 : BitVec 32 := Scalar.select v44 c1_i32_24 c0_i32_25
  let v47 : BitVec 32 := Scalar.select v46 c5_i32_27 v45
  let v49 : BitVec 32 := Scalar.select v48 c9_i32_29 v47
  let v51 : BitVec 32 := Scalar.select v50 c13_i32_31 v49
  let v53 : BitVec 32 := Scalar.select v52 c14_i32_33 v51
  let v55 : BitVec 32 := Scalar.select v54 c10_i32_35 v53
  let v57 : BitVec 32 := Scalar.select v56 c6_i32_37 v55
  let v59 : BitVec 32 := Scalar.select v58 c2_i32_39 v57
  let v61 : BitVec 32 := Scalar.select v60 c3_i32_41 v59
  let v63 : BitVec 32 := Scalar.select v62 c7_i32_43 v61
  let v65 : BitVec 32 := Scalar.select v64 c11_i32_45 v63
  let v67 : BitVec 32 := Scalar.select v66 c15_i32_47 v65
  let v69 : BitVec 32 := Scalar.select v68 c12_i32_49 v67
  let v71 : BitVec 32 := Scalar.select v70 c8_i32_51 v69
  let v73 : BitVec 32 := Scalar.select v72 c4_i32_53 v71
  let c1_i32_1883 : BitVec 32 := 1#32
  let v1548 : BitVec 32 := Scalar.muli v73 c1_i32_1883
  let v1549 : BitVec 32 := Scalar.addi c0_i32_1884 v1548
  v1549.toNat
def k0_dev48 (d0 : Dev nD) : Nat :=
  let c0_i32_1919 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c16_i32_54 : BitVec 32 := 16#32
  let v74 : BitVec 32 := Scalar.addi v32 c16_i32_54
  let c1_i32_55 : BitVec 32 := 1#32
  let v75 : BitVec 32 := Scalar.subi v74 c1_i32_55
  let c16_i32_56 : BitVec 32 := 16#32
  let c0_i32_57 : BitVec 32 := 0#32
  let v76 : BitVec 1 := Scalar.cmpi .eq c16_i32_56 c0_i32_57
  let c1_i32_58 : BitVec 32 := 1#32
  let v77 : BitVec 32 := Scalar.select v76 c1_i32_58 c16_i32_56
  let v78 : BitVec 32 := Scalar.remsi v75 v77
  let c0_i32_60 : BitVec 32 := 0#32
  let v80 : BitVec 1 := Scalar.cmpi .slt v78 c0_i32_60
  let c0_i32_61 : BitVec 32 := 0#32
  let v81 : BitVec 1 := Scalar.cmpi .slt v77 c0_i32_61
  let v82 : BitVec 1 := Scalar.xori v80 v81
  let c0_i32_59 : BitVec 32 := 0#32
  let v79 : BitVec 1 := Scalar.cmpi .ne v78 c0_i32_59
  let v83 : BitVec 1 := Scalar.andi v82 v79
  let v84 : BitVec 32 := Scalar.addi v78 v77
  let v85 : BitVec 32 := Scalar.select v83 v84 v78
  let c15_i32_91 : BitVec 32 := 15#32
  let v114 : BitVec 1 := Scalar.cmpi .eq v85 c15_i32_91
  let c4_i32_92 : BitVec 32 := 4#32
  let c14_i32_89 : BitVec 32 := 14#32
  let v112 : BitVec 1 := Scalar.cmpi .eq v85 c14_i32_89
  let c8_i32_90 : BitVec 32 := 8#32
  let c13_i32_87 : BitVec 32 := 13#32
  let v110 : BitVec 1 := Scalar.cmpi .eq v85 c13_i32_87
  let c12_i32_88 : BitVec 32 := 12#32
  let c12_i32_85 : BitVec 32 := 12#32
  let v108 : BitVec 1 := Scalar.cmpi .eq v85 c12_i32_85
  let c15_i32_86 : BitVec 32 := 15#32
  let c11_i32_83 : BitVec 32 := 11#32
  let v106 : BitVec 1 := Scalar.cmpi .eq v85 c11_i32_83
  let c11_i32_84 : BitVec 32 := 11#32
  let c10_i32_81 : BitVec 32 := 10#32
  let v104 : BitVec 1 := Scalar.cmpi .eq v85 c10_i32_81
  let c7_i32_82 : BitVec 32 := 7#32
  let c9_i32_79 : BitVec 32 := 9#32
  let v102 : BitVec 1 := Scalar.cmpi .eq v85 c9_i32_79
  let c3_i32_80 : BitVec 32 := 3#32
  let c8_i32_77 : BitVec 32 := 8#32
  let v100 : BitVec 1 := Scalar.cmpi .eq v85 c8_i32_77
  let c2_i32_78 : BitVec 32 := 2#32
  let c7_i32_75 : BitVec 32 := 7#32
  let v98 : BitVec 1 := Scalar.cmpi .eq v85 c7_i32_75
  let c6_i32_76 : BitVec 32 := 6#32
  let c6_i32_73 : BitVec 32 := 6#32
  let v96 : BitVec 1 := Scalar.cmpi .eq v85 c6_i32_73
  let c10_i32_74 : BitVec 32 := 10#32
  let c5_i32_71 : BitVec 32 := 5#32
  let v94 : BitVec 1 := Scalar.cmpi .eq v85 c5_i32_71
  let c14_i32_72 : BitVec 32 := 14#32
  let c4_i32_69 : BitVec 32 := 4#32
  let v92 : BitVec 1 := Scalar.cmpi .eq v85 c4_i32_69
  let c13_i32_70 : BitVec 32 := 13#32
  let c3_i32_67 : BitVec 32 := 3#32
  let v90 : BitVec 1 := Scalar.cmpi .eq v85 c3_i32_67
  let c9_i32_68 : BitVec 32 := 9#32
  let c2_i32_65 : BitVec 32 := 2#32
  let v88 : BitVec 1 := Scalar.cmpi .eq v85 c2_i32_65
  let c5_i32_66 : BitVec 32 := 5#32
  let c1_i32_62 : BitVec 32 := 1#32
  let v86 : BitVec 1 := Scalar.cmpi .eq v85 c1_i32_62
  let c1_i32_63 : BitVec 32 := 1#32
  let c0_i32_64 : BitVec 32 := 0#32
  let v87 : BitVec 32 := Scalar.select v86 c1_i32_63 c0_i32_64
  let v89 : BitVec 32 := Scalar.select v88 c5_i32_66 v87
  let v91 : BitVec 32 := Scalar.select v90 c9_i32_68 v89
  let v93 : BitVec 32 := Scalar.select v92 c13_i32_70 v91
  let v95 : BitVec 32 := Scalar.select v94 c14_i32_72 v93
  let v97 : BitVec 32 := Scalar.select v96 c10_i32_74 v95
  let v99 : BitVec 32 := Scalar.select v98 c6_i32_76 v97
  let v101 : BitVec 32 := Scalar.select v100 c2_i32_78 v99
  let v103 : BitVec 32 := Scalar.select v102 c3_i32_80 v101
  let v105 : BitVec 32 := Scalar.select v104 c7_i32_82 v103
  let v107 : BitVec 32 := Scalar.select v106 c11_i32_84 v105
  let v109 : BitVec 32 := Scalar.select v108 c15_i32_86 v107
  let v111 : BitVec 32 := Scalar.select v110 c12_i32_88 v109
  let v113 : BitVec 32 := Scalar.select v112 c8_i32_90 v111
  let v115 : BitVec 32 := Scalar.select v114 c4_i32_92 v113
  let c1_i32_1918 : BitVec 32 := 1#32
  let v1572 : BitVec 32 := Scalar.muli v115 c1_i32_1918
  let v1573 : BitVec 32 := Scalar.addi c0_i32_1919 v1572
  v1573.toNat
def k0_dev49 (d0 : Dev nD) : Nat :=
  let c0_i32_1954 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c1_i32_16 : BitVec 32 := 1#32
  let v33 : BitVec 32 := Scalar.addi v32 c1_i32_16
  let c16_i32_17 : BitVec 32 := 16#32
  let c0_i32_18 : BitVec 32 := 0#32
  let v34 : BitVec 1 := Scalar.cmpi .eq c16_i32_17 c0_i32_18
  let c1_i32_19 : BitVec 32 := 1#32
  let v35 : BitVec 32 := Scalar.select v34 c1_i32_19 c16_i32_17
  let v36 : BitVec 32 := Scalar.remsi v33 v35
  let c0_i32_21 : BitVec 32 := 0#32
  let v38 : BitVec 1 := Scalar.cmpi .slt v36 c0_i32_21
  let c0_i32_22 : BitVec 32 := 0#32
  let v39 : BitVec 1 := Scalar.cmpi .slt v35 c0_i32_22
  let v40 : BitVec 1 := Scalar.xori v38 v39
  let c0_i32_20 : BitVec 32 := 0#32
  let v37 : BitVec 1 := Scalar.cmpi .ne v36 c0_i32_20
  let v41 : BitVec 1 := Scalar.andi v40 v37
  let v42 : BitVec 32 := Scalar.addi v36 v35
  let v43 : BitVec 32 := Scalar.select v41 v42 v36
  let c15_i32_52 : BitVec 32 := 15#32
  let v72 : BitVec 1 := Scalar.cmpi .eq v43 c15_i32_52
  let c4_i32_53 : BitVec 32 := 4#32
  let c14_i32_50 : BitVec 32 := 14#32
  let v70 : BitVec 1 := Scalar.cmpi .eq v43 c14_i32_50
  let c8_i32_51 : BitVec 32 := 8#32
  let c13_i32_48 : BitVec 32 := 13#32
  let v68 : BitVec 1 := Scalar.cmpi .eq v43 c13_i32_48
  let c12_i32_49 : BitVec 32 := 12#32
  let c12_i32_46 : BitVec 32 := 12#32
  let v66 : BitVec 1 := Scalar.cmpi .eq v43 c12_i32_46
  let c15_i32_47 : BitVec 32 := 15#32
  let c11_i32_44 : BitVec 32 := 11#32
  let v64 : BitVec 1 := Scalar.cmpi .eq v43 c11_i32_44
  let c11_i32_45 : BitVec 32 := 11#32
  let c10_i32_42 : BitVec 32 := 10#32
  let v62 : BitVec 1 := Scalar.cmpi .eq v43 c10_i32_42
  let c7_i32_43 : BitVec 32 := 7#32
  let c9_i32_40 : BitVec 32 := 9#32
  let v60 : BitVec 1 := Scalar.cmpi .eq v43 c9_i32_40
  let c3_i32_41 : BitVec 32 := 3#32
  let c8_i32_38 : BitVec 32 := 8#32
  let v58 : BitVec 1 := Scalar.cmpi .eq v43 c8_i32_38
  let c2_i32_39 : BitVec 32 := 2#32
  let c7_i32_36 : BitVec 32 := 7#32
  let v56 : BitVec 1 := Scalar.cmpi .eq v43 c7_i32_36
  let c6_i32_37 : BitVec 32 := 6#32
  let c6_i32_34 : BitVec 32 := 6#32
  let v54 : BitVec 1 := Scalar.cmpi .eq v43 c6_i32_34
  let c10_i32_35 : BitVec 32 := 10#32
  let c5_i32_32 : BitVec 32 := 5#32
  let v52 : BitVec 1 := Scalar.cmpi .eq v43 c5_i32_32
  let c14_i32_33 : BitVec 32 := 14#32
  let c4_i32_30 : BitVec 32 := 4#32
  let v50 : BitVec 1 := Scalar.cmpi .eq v43 c4_i32_30
  let c13_i32_31 : BitVec 32 := 13#32
  let c3_i32_28 : BitVec 32 := 3#32
  let v48 : BitVec 1 := Scalar.cmpi .eq v43 c3_i32_28
  let c9_i32_29 : BitVec 32 := 9#32
  let c2_i32_26 : BitVec 32 := 2#32
  let v46 : BitVec 1 := Scalar.cmpi .eq v43 c2_i32_26
  let c5_i32_27 : BitVec 32 := 5#32
  let c1_i32_23 : BitVec 32 := 1#32
  let v44 : BitVec 1 := Scalar.cmpi .eq v43 c1_i32_23
  let c1_i32_24 : BitVec 32 := 1#32
  let c0_i32_25 : BitVec 32 := 0#32
  let v45 : BitVec 32 := Scalar.select v44 c1_i32_24 c0_i32_25
  let v47 : BitVec 32 := Scalar.select v46 c5_i32_27 v45
  let v49 : BitVec 32 := Scalar.select v48 c9_i32_29 v47
  let v51 : BitVec 32 := Scalar.select v50 c13_i32_31 v49
  let v53 : BitVec 32 := Scalar.select v52 c14_i32_33 v51
  let v55 : BitVec 32 := Scalar.select v54 c10_i32_35 v53
  let v57 : BitVec 32 := Scalar.select v56 c6_i32_37 v55
  let v59 : BitVec 32 := Scalar.select v58 c2_i32_39 v57
  let v61 : BitVec 32 := Scalar.select v60 c3_i32_41 v59
  let v63 : BitVec 32 := Scalar.select v62 c7_i32_43 v61
  let v65 : BitVec 32 := Scalar.select v64 c11_i32_45 v63
  let v67 : BitVec 32 := Scalar.select v66 c15_i32_47 v65
  let v69 : BitVec 32 := Scalar.select v68 c12_i32_49 v67
  let v71 : BitVec 32 := Scalar.select v70 c8_i32_51 v69
  let v73 : BitVec 32 := Scalar.select v72 c4_i32_53 v71
  let c1_i32_1953 : BitVec 32 := 1#32
  let v1596 : BitVec 32 := Scalar.muli v73 c1_i32_1953
  let v1597 : BitVec 32 := Scalar.addi c0_i32_1954 v1596
  v1597.toNat
def k0_dev50 (d0 : Dev nD) : Nat :=
  let c0_i32_1989 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c16_i32_54 : BitVec 32 := 16#32
  let v74 : BitVec 32 := Scalar.addi v32 c16_i32_54
  let c1_i32_55 : BitVec 32 := 1#32
  let v75 : BitVec 32 := Scalar.subi v74 c1_i32_55
  let c16_i32_56 : BitVec 32 := 16#32
  let c0_i32_57 : BitVec 32 := 0#32
  let v76 : BitVec 1 := Scalar.cmpi .eq c16_i32_56 c0_i32_57
  let c1_i32_58 : BitVec 32 := 1#32
  let v77 : BitVec 32 := Scalar.select v76 c1_i32_58 c16_i32_56
  let v78 : BitVec 32 := Scalar.remsi v75 v77
  let c0_i32_60 : BitVec 32 := 0#32
  let v80 : BitVec 1 := Scalar.cmpi .slt v78 c0_i32_60
  let c0_i32_61 : BitVec 32 := 0#32
  let v81 : BitVec 1 := Scalar.cmpi .slt v77 c0_i32_61
  let v82 : BitVec 1 := Scalar.xori v80 v81
  let c0_i32_59 : BitVec 32 := 0#32
  let v79 : BitVec 1 := Scalar.cmpi .ne v78 c0_i32_59
  let v83 : BitVec 1 := Scalar.andi v82 v79
  let v84 : BitVec 32 := Scalar.addi v78 v77
  let v85 : BitVec 32 := Scalar.select v83 v84 v78
  let c15_i32_91 : BitVec 32 := 15#32
  let v114 : BitVec 1 := Scalar.cmpi .eq v85 c15_i32_91
  let c4_i32_92 : BitVec 32 := 4#32
  let c14_i32_89 : BitVec 32 := 14#32
  let v112 : BitVec 1 := Scalar.cmpi .eq v85 c14_i32_89
  let c8_i32_90 : BitVec 32 := 8#32
  let c13_i32_87 : BitVec 32 := 13#32
  let v110 : BitVec 1 := Scalar.cmpi .eq v85 c13_i32_87
  let c12_i32_88 : BitVec 32 := 12#32
  let c12_i32_85 : BitVec 32 := 12#32
  let v108 : BitVec 1 := Scalar.cmpi .eq v85 c12_i32_85
  let c15_i32_86 : BitVec 32 := 15#32
  let c11_i32_83 : BitVec 32 := 11#32
  let v106 : BitVec 1 := Scalar.cmpi .eq v85 c11_i32_83
  let c11_i32_84 : BitVec 32 := 11#32
  let c10_i32_81 : BitVec 32 := 10#32
  let v104 : BitVec 1 := Scalar.cmpi .eq v85 c10_i32_81
  let c7_i32_82 : BitVec 32 := 7#32
  let c9_i32_79 : BitVec 32 := 9#32
  let v102 : BitVec 1 := Scalar.cmpi .eq v85 c9_i32_79
  let c3_i32_80 : BitVec 32 := 3#32
  let c8_i32_77 : BitVec 32 := 8#32
  let v100 : BitVec 1 := Scalar.cmpi .eq v85 c8_i32_77
  let c2_i32_78 : BitVec 32 := 2#32
  let c7_i32_75 : BitVec 32 := 7#32
  let v98 : BitVec 1 := Scalar.cmpi .eq v85 c7_i32_75
  let c6_i32_76 : BitVec 32 := 6#32
  let c6_i32_73 : BitVec 32 := 6#32
  let v96 : BitVec 1 := Scalar.cmpi .eq v85 c6_i32_73
  let c10_i32_74 : BitVec 32 := 10#32
  let c5_i32_71 : BitVec 32 := 5#32
  let v94 : BitVec 1 := Scalar.cmpi .eq v85 c5_i32_71
  let c14_i32_72 : BitVec 32 := 14#32
  let c4_i32_69 : BitVec 32 := 4#32
  let v92 : BitVec 1 := Scalar.cmpi .eq v85 c4_i32_69
  let c13_i32_70 : BitVec 32 := 13#32
  let c3_i32_67 : BitVec 32 := 3#32
  let v90 : BitVec 1 := Scalar.cmpi .eq v85 c3_i32_67
  let c9_i32_68 : BitVec 32 := 9#32
  let c2_i32_65 : BitVec 32 := 2#32
  let v88 : BitVec 1 := Scalar.cmpi .eq v85 c2_i32_65
  let c5_i32_66 : BitVec 32 := 5#32
  let c1_i32_62 : BitVec 32 := 1#32
  let v86 : BitVec 1 := Scalar.cmpi .eq v85 c1_i32_62
  let c1_i32_63 : BitVec 32 := 1#32
  let c0_i32_64 : BitVec 32 := 0#32
  let v87 : BitVec 32 := Scalar.select v86 c1_i32_63 c0_i32_64
  let v89 : BitVec 32 := Scalar.select v88 c5_i32_66 v87
  let v91 : BitVec 32 := Scalar.select v90 c9_i32_68 v89
  let v93 : BitVec 32 := Scalar.select v92 c13_i32_70 v91
  let v95 : BitVec 32 := Scalar.select v94 c14_i32_72 v93
  let v97 : BitVec 32 := Scalar.select v96 c10_i32_74 v95
  let v99 : BitVec 32 := Scalar.select v98 c6_i32_76 v97
  let v101 : BitVec 32 := Scalar.select v100 c2_i32_78 v99
  let v103 : BitVec 32 := Scalar.select v102 c3_i32_80 v101
  let v105 : BitVec 32 := Scalar.select v104 c7_i32_82 v103
  let v107 : BitVec 32 := Scalar.select v106 c11_i32_84 v105
  let v109 : BitVec 32 := Scalar.select v108 c15_i32_86 v107
  let v111 : BitVec 32 := Scalar.select v110 c12_i32_88 v109
  let v113 : BitVec 32 := Scalar.select v112 c8_i32_90 v111
  let v115 : BitVec 32 := Scalar.select v114 c4_i32_92 v113
  let c1_i32_1988 : BitVec 32 := 1#32
  let v1620 : BitVec 32 := Scalar.muli v115 c1_i32_1988
  let v1621 : BitVec 32 := Scalar.addi c0_i32_1989 v1620
  v1621.toNat
def k0_dev51 (d0 : Dev nD) : Nat :=
  let c0_i32_2127 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c1_i32_16 : BitVec 32 := 1#32
  let v33 : BitVec 32 := Scalar.addi v32 c1_i32_16
  let c16_i32_17 : BitVec 32 := 16#32
  let c0_i32_18 : BitVec 32 := 0#32
  let v34 : BitVec 1 := Scalar.cmpi .eq c16_i32_17 c0_i32_18
  let c1_i32_19 : BitVec 32 := 1#32
  let v35 : BitVec 32 := Scalar.select v34 c1_i32_19 c16_i32_17
  let v36 : BitVec 32 := Scalar.remsi v33 v35
  let c0_i32_21 : BitVec 32 := 0#32
  let v38 : BitVec 1 := Scalar.cmpi .slt v36 c0_i32_21
  let c0_i32_22 : BitVec 32 := 0#32
  let v39 : BitVec 1 := Scalar.cmpi .slt v35 c0_i32_22
  let v40 : BitVec 1 := Scalar.xori v38 v39
  let c0_i32_20 : BitVec 32 := 0#32
  let v37 : BitVec 1 := Scalar.cmpi .ne v36 c0_i32_20
  let v41 : BitVec 1 := Scalar.andi v40 v37
  let v42 : BitVec 32 := Scalar.addi v36 v35
  let v43 : BitVec 32 := Scalar.select v41 v42 v36
  let c15_i32_52 : BitVec 32 := 15#32
  let v72 : BitVec 1 := Scalar.cmpi .eq v43 c15_i32_52
  let c4_i32_53 : BitVec 32 := 4#32
  let c14_i32_50 : BitVec 32 := 14#32
  let v70 : BitVec 1 := Scalar.cmpi .eq v43 c14_i32_50
  let c8_i32_51 : BitVec 32 := 8#32
  let c13_i32_48 : BitVec 32 := 13#32
  let v68 : BitVec 1 := Scalar.cmpi .eq v43 c13_i32_48
  let c12_i32_49 : BitVec 32 := 12#32
  let c12_i32_46 : BitVec 32 := 12#32
  let v66 : BitVec 1 := Scalar.cmpi .eq v43 c12_i32_46
  let c15_i32_47 : BitVec 32 := 15#32
  let c11_i32_44 : BitVec 32 := 11#32
  let v64 : BitVec 1 := Scalar.cmpi .eq v43 c11_i32_44
  let c11_i32_45 : BitVec 32 := 11#32
  let c10_i32_42 : BitVec 32 := 10#32
  let v62 : BitVec 1 := Scalar.cmpi .eq v43 c10_i32_42
  let c7_i32_43 : BitVec 32 := 7#32
  let c9_i32_40 : BitVec 32 := 9#32
  let v60 : BitVec 1 := Scalar.cmpi .eq v43 c9_i32_40
  let c3_i32_41 : BitVec 32 := 3#32
  let c8_i32_38 : BitVec 32 := 8#32
  let v58 : BitVec 1 := Scalar.cmpi .eq v43 c8_i32_38
  let c2_i32_39 : BitVec 32 := 2#32
  let c7_i32_36 : BitVec 32 := 7#32
  let v56 : BitVec 1 := Scalar.cmpi .eq v43 c7_i32_36
  let c6_i32_37 : BitVec 32 := 6#32
  let c6_i32_34 : BitVec 32 := 6#32
  let v54 : BitVec 1 := Scalar.cmpi .eq v43 c6_i32_34
  let c10_i32_35 : BitVec 32 := 10#32
  let c5_i32_32 : BitVec 32 := 5#32
  let v52 : BitVec 1 := Scalar.cmpi .eq v43 c5_i32_32
  let c14_i32_33 : BitVec 32 := 14#32
  let c4_i32_30 : BitVec 32 := 4#32
  let v50 : BitVec 1 := Scalar.cmpi .eq v43 c4_i32_30
  let c13_i32_31 : BitVec 32 := 13#32
  let c3_i32_28 : BitVec 32 := 3#32
  let v48 : BitVec 1 := Scalar.cmpi .eq v43 c3_i32_28
  let c9_i32_29 : BitVec 32 := 9#32
  let c2_i32_26 : BitVec 32 := 2#32
  let v46 : BitVec 1 := Scalar.cmpi .eq v43 c2_i32_26
  let c5_i32_27 : BitVec 32 := 5#32
  let c1_i32_23 : BitVec 32 := 1#32
  let v44 : BitVec 1 := Scalar.cmpi .eq v43 c1_i32_23
  let c1_i32_24 : BitVec 32 := 1#32
  let c0_i32_25 : BitVec 32 := 0#32
  let v45 : BitVec 32 := Scalar.select v44 c1_i32_24 c0_i32_25
  let v47 : BitVec 32 := Scalar.select v46 c5_i32_27 v45
  let v49 : BitVec 32 := Scalar.select v48 c9_i32_29 v47
  let v51 : BitVec 32 := Scalar.select v50 c13_i32_31 v49
  let v53 : BitVec 32 := Scalar.select v52 c14_i32_33 v51
  let v55 : BitVec 32 := Scalar.select v54 c10_i32_35 v53
  let v57 : BitVec 32 := Scalar.select v56 c6_i32_37 v55
  let v59 : BitVec 32 := Scalar.select v58 c2_i32_39 v57
  let v61 : BitVec 32 := Scalar.select v60 c3_i32_41 v59
  let v63 : BitVec 32 := Scalar.select v62 c7_i32_43 v61
  let v65 : BitVec 32 := Scalar.select v64 c11_i32_45 v63
  let v67 : BitVec 32 := Scalar.select v66 c15_i32_47 v65
  let v69 : BitVec 32 := Scalar.select v68 c12_i32_49 v67
  let v71 : BitVec 32 := Scalar.select v70 c8_i32_51 v69
  let v73 : BitVec 32 := Scalar.select v72 c4_i32_53 v71
  let c1_i32_2126 : BitVec 32 := 1#32
  let v1761 : BitVec 32 := Scalar.muli v73 c1_i32_2126
  let v1762 : BitVec 32 := Scalar.addi c0_i32_2127 v1761
  v1762.toNat
def k0_dev52 (d0 : Dev nD) : Nat :=
  let c0_i32_2162 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c16_i32_54 : BitVec 32 := 16#32
  let v74 : BitVec 32 := Scalar.addi v32 c16_i32_54
  let c1_i32_55 : BitVec 32 := 1#32
  let v75 : BitVec 32 := Scalar.subi v74 c1_i32_55
  let c16_i32_56 : BitVec 32 := 16#32
  let c0_i32_57 : BitVec 32 := 0#32
  let v76 : BitVec 1 := Scalar.cmpi .eq c16_i32_56 c0_i32_57
  let c1_i32_58 : BitVec 32 := 1#32
  let v77 : BitVec 32 := Scalar.select v76 c1_i32_58 c16_i32_56
  let v78 : BitVec 32 := Scalar.remsi v75 v77
  let c0_i32_60 : BitVec 32 := 0#32
  let v80 : BitVec 1 := Scalar.cmpi .slt v78 c0_i32_60
  let c0_i32_61 : BitVec 32 := 0#32
  let v81 : BitVec 1 := Scalar.cmpi .slt v77 c0_i32_61
  let v82 : BitVec 1 := Scalar.xori v80 v81
  let c0_i32_59 : BitVec 32 := 0#32
  let v79 : BitVec 1 := Scalar.cmpi .ne v78 c0_i32_59
  let v83 : BitVec 1 := Scalar.andi v82 v79
  let v84 : BitVec 32 := Scalar.addi v78 v77
  let v85 : BitVec 32 := Scalar.select v83 v84 v78
  let c15_i32_91 : BitVec 32 := 15#32
  let v114 : BitVec 1 := Scalar.cmpi .eq v85 c15_i32_91
  let c4_i32_92 : BitVec 32 := 4#32
  let c14_i32_89 : BitVec 32 := 14#32
  let v112 : BitVec 1 := Scalar.cmpi .eq v85 c14_i32_89
  let c8_i32_90 : BitVec 32 := 8#32
  let c13_i32_87 : BitVec 32 := 13#32
  let v110 : BitVec 1 := Scalar.cmpi .eq v85 c13_i32_87
  let c12_i32_88 : BitVec 32 := 12#32
  let c12_i32_85 : BitVec 32 := 12#32
  let v108 : BitVec 1 := Scalar.cmpi .eq v85 c12_i32_85
  let c15_i32_86 : BitVec 32 := 15#32
  let c11_i32_83 : BitVec 32 := 11#32
  let v106 : BitVec 1 := Scalar.cmpi .eq v85 c11_i32_83
  let c11_i32_84 : BitVec 32 := 11#32
  let c10_i32_81 : BitVec 32 := 10#32
  let v104 : BitVec 1 := Scalar.cmpi .eq v85 c10_i32_81
  let c7_i32_82 : BitVec 32 := 7#32
  let c9_i32_79 : BitVec 32 := 9#32
  let v102 : BitVec 1 := Scalar.cmpi .eq v85 c9_i32_79
  let c3_i32_80 : BitVec 32 := 3#32
  let c8_i32_77 : BitVec 32 := 8#32
  let v100 : BitVec 1 := Scalar.cmpi .eq v85 c8_i32_77
  let c2_i32_78 : BitVec 32 := 2#32
  let c7_i32_75 : BitVec 32 := 7#32
  let v98 : BitVec 1 := Scalar.cmpi .eq v85 c7_i32_75
  let c6_i32_76 : BitVec 32 := 6#32
  let c6_i32_73 : BitVec 32 := 6#32
  let v96 : BitVec 1 := Scalar.cmpi .eq v85 c6_i32_73
  let c10_i32_74 : BitVec 32 := 10#32
  let c5_i32_71 : BitVec 32 := 5#32
  let v94 : BitVec 1 := Scalar.cmpi .eq v85 c5_i32_71
  let c14_i32_72 : BitVec 32 := 14#32
  let c4_i32_69 : BitVec 32 := 4#32
  let v92 : BitVec 1 := Scalar.cmpi .eq v85 c4_i32_69
  let c13_i32_70 : BitVec 32 := 13#32
  let c3_i32_67 : BitVec 32 := 3#32
  let v90 : BitVec 1 := Scalar.cmpi .eq v85 c3_i32_67
  let c9_i32_68 : BitVec 32 := 9#32
  let c2_i32_65 : BitVec 32 := 2#32
  let v88 : BitVec 1 := Scalar.cmpi .eq v85 c2_i32_65
  let c5_i32_66 : BitVec 32 := 5#32
  let c1_i32_62 : BitVec 32 := 1#32
  let v86 : BitVec 1 := Scalar.cmpi .eq v85 c1_i32_62
  let c1_i32_63 : BitVec 32 := 1#32
  let c0_i32_64 : BitVec 32 := 0#32
  let v87 : BitVec 32 := Scalar.select v86 c1_i32_63 c0_i32_64
  let v89 : BitVec 32 := Scalar.select v88 c5_i32_66 v87
  let v91 : BitVec 32 := Scalar.select v90 c9_i32_68 v89
  let v93 : BitVec 32 := Scalar.select v92 c13_i32_70 v91
  let v95 : BitVec 32 := Scalar.select v94 c14_i32_72 v93
  let v97 : BitVec 32 := Scalar.select v96 c10_i32_74 v95
  let v99 : BitVec 32 := Scalar.select v98 c6_i32_76 v97
  let v101 : BitVec 32 := Scalar.select v100 c2_i32_78 v99
  let v103 : BitVec 32 := Scalar.select v102 c3_i32_80 v101
  let v105 : BitVec 32 := Scalar.select v104 c7_i32_82 v103
  let v107 : BitVec 32 := Scalar.select v106 c11_i32_84 v105
  let v109 : BitVec 32 := Scalar.select v108 c15_i32_86 v107
  let v111 : BitVec 32 := Scalar.select v110 c12_i32_88 v109
  let v113 : BitVec 32 := Scalar.select v112 c8_i32_90 v111
  let v115 : BitVec 32 := Scalar.select v114 c4_i32_92 v113
  let c1_i32_2161 : BitVec 32 := 1#32
  let v1785 : BitVec 32 := Scalar.muli v115 c1_i32_2161
  let v1786 : BitVec 32 := Scalar.addi c0_i32_2162 v1785
  v1786.toNat
def k0_dev53 (d0 : Dev nD) : Nat :=
  let c0_i32_2197 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c1_i32_16 : BitVec 32 := 1#32
  let v33 : BitVec 32 := Scalar.addi v32 c1_i32_16
  let c16_i32_17 : BitVec 32 := 16#32
  let c0_i32_18 : BitVec 32 := 0#32
  let v34 : BitVec 1 := Scalar.cmpi .eq c16_i32_17 c0_i32_18
  let c1_i32_19 : BitVec 32 := 1#32
  let v35 : BitVec 32 := Scalar.select v34 c1_i32_19 c16_i32_17
  let v36 : BitVec 32 := Scalar.remsi v33 v35
  let c0_i32_21 : BitVec 32 := 0#32
  let v38 : BitVec 1 := Scalar.cmpi .slt v36 c0_i32_21
  let c0_i32_22 : BitVec 32 := 0#32
  let v39 : BitVec 1 := Scalar.cmpi .slt v35 c0_i32_22
  let v40 : BitVec 1 := Scalar.xori v38 v39
  let c0_i32_20 : BitVec 32 := 0#32
  let v37 : BitVec 1 := Scalar.cmpi .ne v36 c0_i32_20
  let v41 : BitVec 1 := Scalar.andi v40 v37
  let v42 : BitVec 32 := Scalar.addi v36 v35
  let v43 : BitVec 32 := Scalar.select v41 v42 v36
  let c15_i32_52 : BitVec 32 := 15#32
  let v72 : BitVec 1 := Scalar.cmpi .eq v43 c15_i32_52
  let c4_i32_53 : BitVec 32 := 4#32
  let c14_i32_50 : BitVec 32 := 14#32
  let v70 : BitVec 1 := Scalar.cmpi .eq v43 c14_i32_50
  let c8_i32_51 : BitVec 32 := 8#32
  let c13_i32_48 : BitVec 32 := 13#32
  let v68 : BitVec 1 := Scalar.cmpi .eq v43 c13_i32_48
  let c12_i32_49 : BitVec 32 := 12#32
  let c12_i32_46 : BitVec 32 := 12#32
  let v66 : BitVec 1 := Scalar.cmpi .eq v43 c12_i32_46
  let c15_i32_47 : BitVec 32 := 15#32
  let c11_i32_44 : BitVec 32 := 11#32
  let v64 : BitVec 1 := Scalar.cmpi .eq v43 c11_i32_44
  let c11_i32_45 : BitVec 32 := 11#32
  let c10_i32_42 : BitVec 32 := 10#32
  let v62 : BitVec 1 := Scalar.cmpi .eq v43 c10_i32_42
  let c7_i32_43 : BitVec 32 := 7#32
  let c9_i32_40 : BitVec 32 := 9#32
  let v60 : BitVec 1 := Scalar.cmpi .eq v43 c9_i32_40
  let c3_i32_41 : BitVec 32 := 3#32
  let c8_i32_38 : BitVec 32 := 8#32
  let v58 : BitVec 1 := Scalar.cmpi .eq v43 c8_i32_38
  let c2_i32_39 : BitVec 32 := 2#32
  let c7_i32_36 : BitVec 32 := 7#32
  let v56 : BitVec 1 := Scalar.cmpi .eq v43 c7_i32_36
  let c6_i32_37 : BitVec 32 := 6#32
  let c6_i32_34 : BitVec 32 := 6#32
  let v54 : BitVec 1 := Scalar.cmpi .eq v43 c6_i32_34
  let c10_i32_35 : BitVec 32 := 10#32
  let c5_i32_32 : BitVec 32 := 5#32
  let v52 : BitVec 1 := Scalar.cmpi .eq v43 c5_i32_32
  let c14_i32_33 : BitVec 32 := 14#32
  let c4_i32_30 : BitVec 32 := 4#32
  let v50 : BitVec 1 := Scalar.cmpi .eq v43 c4_i32_30
  let c13_i32_31 : BitVec 32 := 13#32
  let c3_i32_28 : BitVec 32 := 3#32
  let v48 : BitVec 1 := Scalar.cmpi .eq v43 c3_i32_28
  let c9_i32_29 : BitVec 32 := 9#32
  let c2_i32_26 : BitVec 32 := 2#32
  let v46 : BitVec 1 := Scalar.cmpi .eq v43 c2_i32_26
  let c5_i32_27 : BitVec 32 := 5#32
  let c1_i32_23 : BitVec 32 := 1#32
  let v44 : BitVec 1 := Scalar.cmpi .eq v43 c1_i32_23
  let c1_i32_24 : BitVec 32 := 1#32
  let c0_i32_25 : BitVec 32 := 0#32
  let v45 : BitVec 32 := Scalar.select v44 c1_i32_24 c0_i32_25
  let v47 : BitVec 32 := Scalar.select v46 c5_i32_27 v45
  let v49 : BitVec 32 := Scalar.select v48 c9_i32_29 v47
  let v51 : BitVec 32 := Scalar.select v50 c13_i32_31 v49
  let v53 : BitVec 32 := Scalar.select v52 c14_i32_33 v51
  let v55 : BitVec 32 := Scalar.select v54 c10_i32_35 v53
  let v57 : BitVec 32 := Scalar.select v56 c6_i32_37 v55
  let v59 : BitVec 32 := Scalar.select v58 c2_i32_39 v57
  let v61 : BitVec 32 := Scalar.select v60 c3_i32_41 v59
  let v63 : BitVec 32 := Scalar.select v62 c7_i32_43 v61
  let v65 : BitVec 32 := Scalar.select v64 c11_i32_45 v63
  let v67 : BitVec 32 := Scalar.select v66 c15_i32_47 v65
  let v69 : BitVec 32 := Scalar.select v68 c12_i32_49 v67
  let v71 : BitVec 32 := Scalar.select v70 c8_i32_51 v69
  let v73 : BitVec 32 := Scalar.select v72 c4_i32_53 v71
  let c1_i32_2196 : BitVec 32 := 1#32
  let v1809 : BitVec 32 := Scalar.muli v73 c1_i32_2196
  let v1810 : BitVec 32 := Scalar.addi c0_i32_2197 v1809
  v1810.toNat
def k0_dev54 (d0 : Dev nD) : Nat :=
  let c0_i32_2232 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c16_i32_54 : BitVec 32 := 16#32
  let v74 : BitVec 32 := Scalar.addi v32 c16_i32_54
  let c1_i32_55 : BitVec 32 := 1#32
  let v75 : BitVec 32 := Scalar.subi v74 c1_i32_55
  let c16_i32_56 : BitVec 32 := 16#32
  let c0_i32_57 : BitVec 32 := 0#32
  let v76 : BitVec 1 := Scalar.cmpi .eq c16_i32_56 c0_i32_57
  let c1_i32_58 : BitVec 32 := 1#32
  let v77 : BitVec 32 := Scalar.select v76 c1_i32_58 c16_i32_56
  let v78 : BitVec 32 := Scalar.remsi v75 v77
  let c0_i32_60 : BitVec 32 := 0#32
  let v80 : BitVec 1 := Scalar.cmpi .slt v78 c0_i32_60
  let c0_i32_61 : BitVec 32 := 0#32
  let v81 : BitVec 1 := Scalar.cmpi .slt v77 c0_i32_61
  let v82 : BitVec 1 := Scalar.xori v80 v81
  let c0_i32_59 : BitVec 32 := 0#32
  let v79 : BitVec 1 := Scalar.cmpi .ne v78 c0_i32_59
  let v83 : BitVec 1 := Scalar.andi v82 v79
  let v84 : BitVec 32 := Scalar.addi v78 v77
  let v85 : BitVec 32 := Scalar.select v83 v84 v78
  let c15_i32_91 : BitVec 32 := 15#32
  let v114 : BitVec 1 := Scalar.cmpi .eq v85 c15_i32_91
  let c4_i32_92 : BitVec 32 := 4#32
  let c14_i32_89 : BitVec 32 := 14#32
  let v112 : BitVec 1 := Scalar.cmpi .eq v85 c14_i32_89
  let c8_i32_90 : BitVec 32 := 8#32
  let c13_i32_87 : BitVec 32 := 13#32
  let v110 : BitVec 1 := Scalar.cmpi .eq v85 c13_i32_87
  let c12_i32_88 : BitVec 32 := 12#32
  let c12_i32_85 : BitVec 32 := 12#32
  let v108 : BitVec 1 := Scalar.cmpi .eq v85 c12_i32_85
  let c15_i32_86 : BitVec 32 := 15#32
  let c11_i32_83 : BitVec 32 := 11#32
  let v106 : BitVec 1 := Scalar.cmpi .eq v85 c11_i32_83
  let c11_i32_84 : BitVec 32 := 11#32
  let c10_i32_81 : BitVec 32 := 10#32
  let v104 : BitVec 1 := Scalar.cmpi .eq v85 c10_i32_81
  let c7_i32_82 : BitVec 32 := 7#32
  let c9_i32_79 : BitVec 32 := 9#32
  let v102 : BitVec 1 := Scalar.cmpi .eq v85 c9_i32_79
  let c3_i32_80 : BitVec 32 := 3#32
  let c8_i32_77 : BitVec 32 := 8#32
  let v100 : BitVec 1 := Scalar.cmpi .eq v85 c8_i32_77
  let c2_i32_78 : BitVec 32 := 2#32
  let c7_i32_75 : BitVec 32 := 7#32
  let v98 : BitVec 1 := Scalar.cmpi .eq v85 c7_i32_75
  let c6_i32_76 : BitVec 32 := 6#32
  let c6_i32_73 : BitVec 32 := 6#32
  let v96 : BitVec 1 := Scalar.cmpi .eq v85 c6_i32_73
  let c10_i32_74 : BitVec 32 := 10#32
  let c5_i32_71 : BitVec 32 := 5#32
  let v94 : BitVec 1 := Scalar.cmpi .eq v85 c5_i32_71
  let c14_i32_72 : BitVec 32 := 14#32
  let c4_i32_69 : BitVec 32 := 4#32
  let v92 : BitVec 1 := Scalar.cmpi .eq v85 c4_i32_69
  let c13_i32_70 : BitVec 32 := 13#32
  let c3_i32_67 : BitVec 32 := 3#32
  let v90 : BitVec 1 := Scalar.cmpi .eq v85 c3_i32_67
  let c9_i32_68 : BitVec 32 := 9#32
  let c2_i32_65 : BitVec 32 := 2#32
  let v88 : BitVec 1 := Scalar.cmpi .eq v85 c2_i32_65
  let c5_i32_66 : BitVec 32 := 5#32
  let c1_i32_62 : BitVec 32 := 1#32
  let v86 : BitVec 1 := Scalar.cmpi .eq v85 c1_i32_62
  let c1_i32_63 : BitVec 32 := 1#32
  let c0_i32_64 : BitVec 32 := 0#32
  let v87 : BitVec 32 := Scalar.select v86 c1_i32_63 c0_i32_64
  let v89 : BitVec 32 := Scalar.select v88 c5_i32_66 v87
  let v91 : BitVec 32 := Scalar.select v90 c9_i32_68 v89
  let v93 : BitVec 32 := Scalar.select v92 c13_i32_70 v91
  let v95 : BitVec 32 := Scalar.select v94 c14_i32_72 v93
  let v97 : BitVec 32 := Scalar.select v96 c10_i32_74 v95
  let v99 : BitVec 32 := Scalar.select v98 c6_i32_76 v97
  let v101 : BitVec 32 := Scalar.select v100 c2_i32_78 v99
  let v103 : BitVec 32 := Scalar.select v102 c3_i32_80 v101
  let v105 : BitVec 32 := Scalar.select v104 c7_i32_82 v103
  let v107 : BitVec 32 := Scalar.select v106 c11_i32_84 v105
  let v109 : BitVec 32 := Scalar.select v108 c15_i32_86 v107
  let v111 : BitVec 32 := Scalar.select v110 c12_i32_88 v109
  let v113 : BitVec 32 := Scalar.select v112 c8_i32_90 v111
  let v115 : BitVec 32 := Scalar.select v114 c4_i32_92 v113
  let c1_i32_2231 : BitVec 32 := 1#32
  let v1833 : BitVec 32 := Scalar.muli v115 c1_i32_2231
  let v1834 : BitVec 32 := Scalar.addi c0_i32_2232 v1833
  v1834.toNat
def k0_dev55 (d0 : Dev nD) : Nat :=
  let c0_i32_2267 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c1_i32_16 : BitVec 32 := 1#32
  let v33 : BitVec 32 := Scalar.addi v32 c1_i32_16
  let c16_i32_17 : BitVec 32 := 16#32
  let c0_i32_18 : BitVec 32 := 0#32
  let v34 : BitVec 1 := Scalar.cmpi .eq c16_i32_17 c0_i32_18
  let c1_i32_19 : BitVec 32 := 1#32
  let v35 : BitVec 32 := Scalar.select v34 c1_i32_19 c16_i32_17
  let v36 : BitVec 32 := Scalar.remsi v33 v35
  let c0_i32_21 : BitVec 32 := 0#32
  let v38 : BitVec 1 := Scalar.cmpi .slt v36 c0_i32_21
  let c0_i32_22 : BitVec 32 := 0#32
  let v39 : BitVec 1 := Scalar.cmpi .slt v35 c0_i32_22
  let v40 : BitVec 1 := Scalar.xori v38 v39
  let c0_i32_20 : BitVec 32 := 0#32
  let v37 : BitVec 1 := Scalar.cmpi .ne v36 c0_i32_20
  let v41 : BitVec 1 := Scalar.andi v40 v37
  let v42 : BitVec 32 := Scalar.addi v36 v35
  let v43 : BitVec 32 := Scalar.select v41 v42 v36
  let c15_i32_52 : BitVec 32 := 15#32
  let v72 : BitVec 1 := Scalar.cmpi .eq v43 c15_i32_52
  let c4_i32_53 : BitVec 32 := 4#32
  let c14_i32_50 : BitVec 32 := 14#32
  let v70 : BitVec 1 := Scalar.cmpi .eq v43 c14_i32_50
  let c8_i32_51 : BitVec 32 := 8#32
  let c13_i32_48 : BitVec 32 := 13#32
  let v68 : BitVec 1 := Scalar.cmpi .eq v43 c13_i32_48
  let c12_i32_49 : BitVec 32 := 12#32
  let c12_i32_46 : BitVec 32 := 12#32
  let v66 : BitVec 1 := Scalar.cmpi .eq v43 c12_i32_46
  let c15_i32_47 : BitVec 32 := 15#32
  let c11_i32_44 : BitVec 32 := 11#32
  let v64 : BitVec 1 := Scalar.cmpi .eq v43 c11_i32_44
  let c11_i32_45 : BitVec 32 := 11#32
  let c10_i32_42 : BitVec 32 := 10#32
  let v62 : BitVec 1 := Scalar.cmpi .eq v43 c10_i32_42
  let c7_i32_43 : BitVec 32 := 7#32
  let c9_i32_40 : BitVec 32 := 9#32
  let v60 : BitVec 1 := Scalar.cmpi .eq v43 c9_i32_40
  let c3_i32_41 : BitVec 32 := 3#32
  let c8_i32_38 : BitVec 32 := 8#32
  let v58 : BitVec 1 := Scalar.cmpi .eq v43 c8_i32_38
  let c2_i32_39 : BitVec 32 := 2#32
  let c7_i32_36 : BitVec 32 := 7#32
  let v56 : BitVec 1 := Scalar.cmpi .eq v43 c7_i32_36
  let c6_i32_37 : BitVec 32 := 6#32
  let c6_i32_34 : BitVec 32 := 6#32
  let v54 : BitVec 1 := Scalar.cmpi .eq v43 c6_i32_34
  let c10_i32_35 : BitVec 32 := 10#32
  let c5_i32_32 : BitVec 32 := 5#32
  let v52 : BitVec 1 := Scalar.cmpi .eq v43 c5_i32_32
  let c14_i32_33 : BitVec 32 := 14#32
  let c4_i32_30 : BitVec 32 := 4#32
  let v50 : BitVec 1 := Scalar.cmpi .eq v43 c4_i32_30
  let c13_i32_31 : BitVec 32 := 13#32
  let c3_i32_28 : BitVec 32 := 3#32
  let v48 : BitVec 1 := Scalar.cmpi .eq v43 c3_i32_28
  let c9_i32_29 : BitVec 32 := 9#32
  let c2_i32_26 : BitVec 32 := 2#32
  let v46 : BitVec 1 := Scalar.cmpi .eq v43 c2_i32_26
  let c5_i32_27 : BitVec 32 := 5#32
  let c1_i32_23 : BitVec 32 := 1#32
  let v44 : BitVec 1 := Scalar.cmpi .eq v43 c1_i32_23
  let c1_i32_24 : BitVec 32 := 1#32
  let c0_i32_25 : BitVec 32 := 0#32
  let v45 : BitVec 32 := Scalar.select v44 c1_i32_24 c0_i32_25
  let v47 : BitVec 32 := Scalar.select v46 c5_i32_27 v45
  let v49 : BitVec 32 := Scalar.select v48 c9_i32_29 v47
  let v51 : BitVec 32 := Scalar.select v50 c13_i32_31 v49
  let v53 : BitVec 32 := Scalar.select v52 c14_i32_33 v51
  let v55 : BitVec 32 := Scalar.select v54 c10_i32_35 v53
  let v57 : BitVec 32 := Scalar.select v56 c6_i32_37 v55
  let v59 : BitVec 32 := Scalar.select v58 c2_i32_39 v57
  let v61 : BitVec 32 := Scalar.select v60 c3_i32_41 v59
  let v63 : BitVec 32 := Scalar.select v62 c7_i32_43 v61
  let v65 : BitVec 32 := Scalar.select v64 c11_i32_45 v63
  let v67 : BitVec 32 := Scalar.select v66 c15_i32_47 v65
  let v69 : BitVec 32 := Scalar.select v68 c12_i32_49 v67
  let v71 : BitVec 32 := Scalar.select v70 c8_i32_51 v69
  let v73 : BitVec 32 := Scalar.select v72 c4_i32_53 v71
  let c1_i32_2266 : BitVec 32 := 1#32
  let v1857 : BitVec 32 := Scalar.muli v73 c1_i32_2266
  let v1858 : BitVec 32 := Scalar.addi c0_i32_2267 v1857
  v1858.toNat
def k0_dev56 (d0 : Dev nD) : Nat :=
  let c0_i32_2302 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c16_i32_54 : BitVec 32 := 16#32
  let v74 : BitVec 32 := Scalar.addi v32 c16_i32_54
  let c1_i32_55 : BitVec 32 := 1#32
  let v75 : BitVec 32 := Scalar.subi v74 c1_i32_55
  let c16_i32_56 : BitVec 32 := 16#32
  let c0_i32_57 : BitVec 32 := 0#32
  let v76 : BitVec 1 := Scalar.cmpi .eq c16_i32_56 c0_i32_57
  let c1_i32_58 : BitVec 32 := 1#32
  let v77 : BitVec 32 := Scalar.select v76 c1_i32_58 c16_i32_56
  let v78 : BitVec 32 := Scalar.remsi v75 v77
  let c0_i32_60 : BitVec 32 := 0#32
  let v80 : BitVec 1 := Scalar.cmpi .slt v78 c0_i32_60
  let c0_i32_61 : BitVec 32 := 0#32
  let v81 : BitVec 1 := Scalar.cmpi .slt v77 c0_i32_61
  let v82 : BitVec 1 := Scalar.xori v80 v81
  let c0_i32_59 : BitVec 32 := 0#32
  let v79 : BitVec 1 := Scalar.cmpi .ne v78 c0_i32_59
  let v83 : BitVec 1 := Scalar.andi v82 v79
  let v84 : BitVec 32 := Scalar.addi v78 v77
  let v85 : BitVec 32 := Scalar.select v83 v84 v78
  let c15_i32_91 : BitVec 32 := 15#32
  let v114 : BitVec 1 := Scalar.cmpi .eq v85 c15_i32_91
  let c4_i32_92 : BitVec 32 := 4#32
  let c14_i32_89 : BitVec 32 := 14#32
  let v112 : BitVec 1 := Scalar.cmpi .eq v85 c14_i32_89
  let c8_i32_90 : BitVec 32 := 8#32
  let c13_i32_87 : BitVec 32 := 13#32
  let v110 : BitVec 1 := Scalar.cmpi .eq v85 c13_i32_87
  let c12_i32_88 : BitVec 32 := 12#32
  let c12_i32_85 : BitVec 32 := 12#32
  let v108 : BitVec 1 := Scalar.cmpi .eq v85 c12_i32_85
  let c15_i32_86 : BitVec 32 := 15#32
  let c11_i32_83 : BitVec 32 := 11#32
  let v106 : BitVec 1 := Scalar.cmpi .eq v85 c11_i32_83
  let c11_i32_84 : BitVec 32 := 11#32
  let c10_i32_81 : BitVec 32 := 10#32
  let v104 : BitVec 1 := Scalar.cmpi .eq v85 c10_i32_81
  let c7_i32_82 : BitVec 32 := 7#32
  let c9_i32_79 : BitVec 32 := 9#32
  let v102 : BitVec 1 := Scalar.cmpi .eq v85 c9_i32_79
  let c3_i32_80 : BitVec 32 := 3#32
  let c8_i32_77 : BitVec 32 := 8#32
  let v100 : BitVec 1 := Scalar.cmpi .eq v85 c8_i32_77
  let c2_i32_78 : BitVec 32 := 2#32
  let c7_i32_75 : BitVec 32 := 7#32
  let v98 : BitVec 1 := Scalar.cmpi .eq v85 c7_i32_75
  let c6_i32_76 : BitVec 32 := 6#32
  let c6_i32_73 : BitVec 32 := 6#32
  let v96 : BitVec 1 := Scalar.cmpi .eq v85 c6_i32_73
  let c10_i32_74 : BitVec 32 := 10#32
  let c5_i32_71 : BitVec 32 := 5#32
  let v94 : BitVec 1 := Scalar.cmpi .eq v85 c5_i32_71
  let c14_i32_72 : BitVec 32 := 14#32
  let c4_i32_69 : BitVec 32 := 4#32
  let v92 : BitVec 1 := Scalar.cmpi .eq v85 c4_i32_69
  let c13_i32_70 : BitVec 32 := 13#32
  let c3_i32_67 : BitVec 32 := 3#32
  let v90 : BitVec 1 := Scalar.cmpi .eq v85 c3_i32_67
  let c9_i32_68 : BitVec 32 := 9#32
  let c2_i32_65 : BitVec 32 := 2#32
  let v88 : BitVec 1 := Scalar.cmpi .eq v85 c2_i32_65
  let c5_i32_66 : BitVec 32 := 5#32
  let c1_i32_62 : BitVec 32 := 1#32
  let v86 : BitVec 1 := Scalar.cmpi .eq v85 c1_i32_62
  let c1_i32_63 : BitVec 32 := 1#32
  let c0_i32_64 : BitVec 32 := 0#32
  let v87 : BitVec 32 := Scalar.select v86 c1_i32_63 c0_i32_64
  let v89 : BitVec 32 := Scalar.select v88 c5_i32_66 v87
  let v91 : BitVec 32 := Scalar.select v90 c9_i32_68 v89
  let v93 : BitVec 32 := Scalar.select v92 c13_i32_70 v91
  let v95 : BitVec 32 := Scalar.select v94 c14_i32_72 v93
  let v97 : BitVec 32 := Scalar.select v96 c10_i32_74 v95
  let v99 : BitVec 32 := Scalar.select v98 c6_i32_76 v97
  let v101 : BitVec 32 := Scalar.select v100 c2_i32_78 v99
  let v103 : BitVec 32 := Scalar.select v102 c3_i32_80 v101
  let v105 : BitVec 32 := Scalar.select v104 c7_i32_82 v103
  let v107 : BitVec 32 := Scalar.select v106 c11_i32_84 v105
  let v109 : BitVec 32 := Scalar.select v108 c15_i32_86 v107
  let v111 : BitVec 32 := Scalar.select v110 c12_i32_88 v109
  let v113 : BitVec 32 := Scalar.select v112 c8_i32_90 v111
  let v115 : BitVec 32 := Scalar.select v114 c4_i32_92 v113
  let c1_i32_2301 : BitVec 32 := 1#32
  let v1881 : BitVec 32 := Scalar.muli v115 c1_i32_2301
  let v1882 : BitVec 32 := Scalar.addi c0_i32_2302 v1881
  v1882.toNat
def k0_dev57 (d0 : Dev nD) : Nat :=
  let c0_i32_2337 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c1_i32_16 : BitVec 32 := 1#32
  let v33 : BitVec 32 := Scalar.addi v32 c1_i32_16
  let c16_i32_17 : BitVec 32 := 16#32
  let c0_i32_18 : BitVec 32 := 0#32
  let v34 : BitVec 1 := Scalar.cmpi .eq c16_i32_17 c0_i32_18
  let c1_i32_19 : BitVec 32 := 1#32
  let v35 : BitVec 32 := Scalar.select v34 c1_i32_19 c16_i32_17
  let v36 : BitVec 32 := Scalar.remsi v33 v35
  let c0_i32_21 : BitVec 32 := 0#32
  let v38 : BitVec 1 := Scalar.cmpi .slt v36 c0_i32_21
  let c0_i32_22 : BitVec 32 := 0#32
  let v39 : BitVec 1 := Scalar.cmpi .slt v35 c0_i32_22
  let v40 : BitVec 1 := Scalar.xori v38 v39
  let c0_i32_20 : BitVec 32 := 0#32
  let v37 : BitVec 1 := Scalar.cmpi .ne v36 c0_i32_20
  let v41 : BitVec 1 := Scalar.andi v40 v37
  let v42 : BitVec 32 := Scalar.addi v36 v35
  let v43 : BitVec 32 := Scalar.select v41 v42 v36
  let c15_i32_52 : BitVec 32 := 15#32
  let v72 : BitVec 1 := Scalar.cmpi .eq v43 c15_i32_52
  let c4_i32_53 : BitVec 32 := 4#32
  let c14_i32_50 : BitVec 32 := 14#32
  let v70 : BitVec 1 := Scalar.cmpi .eq v43 c14_i32_50
  let c8_i32_51 : BitVec 32 := 8#32
  let c13_i32_48 : BitVec 32 := 13#32
  let v68 : BitVec 1 := Scalar.cmpi .eq v43 c13_i32_48
  let c12_i32_49 : BitVec 32 := 12#32
  let c12_i32_46 : BitVec 32 := 12#32
  let v66 : BitVec 1 := Scalar.cmpi .eq v43 c12_i32_46
  let c15_i32_47 : BitVec 32 := 15#32
  let c11_i32_44 : BitVec 32 := 11#32
  let v64 : BitVec 1 := Scalar.cmpi .eq v43 c11_i32_44
  let c11_i32_45 : BitVec 32 := 11#32
  let c10_i32_42 : BitVec 32 := 10#32
  let v62 : BitVec 1 := Scalar.cmpi .eq v43 c10_i32_42
  let c7_i32_43 : BitVec 32 := 7#32
  let c9_i32_40 : BitVec 32 := 9#32
  let v60 : BitVec 1 := Scalar.cmpi .eq v43 c9_i32_40
  let c3_i32_41 : BitVec 32 := 3#32
  let c8_i32_38 : BitVec 32 := 8#32
  let v58 : BitVec 1 := Scalar.cmpi .eq v43 c8_i32_38
  let c2_i32_39 : BitVec 32 := 2#32
  let c7_i32_36 : BitVec 32 := 7#32
  let v56 : BitVec 1 := Scalar.cmpi .eq v43 c7_i32_36
  let c6_i32_37 : BitVec 32 := 6#32
  let c6_i32_34 : BitVec 32 := 6#32
  let v54 : BitVec 1 := Scalar.cmpi .eq v43 c6_i32_34
  let c10_i32_35 : BitVec 32 := 10#32
  let c5_i32_32 : BitVec 32 := 5#32
  let v52 : BitVec 1 := Scalar.cmpi .eq v43 c5_i32_32
  let c14_i32_33 : BitVec 32 := 14#32
  let c4_i32_30 : BitVec 32 := 4#32
  let v50 : BitVec 1 := Scalar.cmpi .eq v43 c4_i32_30
  let c13_i32_31 : BitVec 32 := 13#32
  let c3_i32_28 : BitVec 32 := 3#32
  let v48 : BitVec 1 := Scalar.cmpi .eq v43 c3_i32_28
  let c9_i32_29 : BitVec 32 := 9#32
  let c2_i32_26 : BitVec 32 := 2#32
  let v46 : BitVec 1 := Scalar.cmpi .eq v43 c2_i32_26
  let c5_i32_27 : BitVec 32 := 5#32
  let c1_i32_23 : BitVec 32 := 1#32
  let v44 : BitVec 1 := Scalar.cmpi .eq v43 c1_i32_23
  let c1_i32_24 : BitVec 32 := 1#32
  let c0_i32_25 : BitVec 32 := 0#32
  let v45 : BitVec 32 := Scalar.select v44 c1_i32_24 c0_i32_25
  let v47 : BitVec 32 := Scalar.select v46 c5_i32_27 v45
  let v49 : BitVec 32 := Scalar.select v48 c9_i32_29 v47
  let v51 : BitVec 32 := Scalar.select v50 c13_i32_31 v49
  let v53 : BitVec 32 := Scalar.select v52 c14_i32_33 v51
  let v55 : BitVec 32 := Scalar.select v54 c10_i32_35 v53
  let v57 : BitVec 32 := Scalar.select v56 c6_i32_37 v55
  let v59 : BitVec 32 := Scalar.select v58 c2_i32_39 v57
  let v61 : BitVec 32 := Scalar.select v60 c3_i32_41 v59
  let v63 : BitVec 32 := Scalar.select v62 c7_i32_43 v61
  let v65 : BitVec 32 := Scalar.select v64 c11_i32_45 v63
  let v67 : BitVec 32 := Scalar.select v66 c15_i32_47 v65
  let v69 : BitVec 32 := Scalar.select v68 c12_i32_49 v67
  let v71 : BitVec 32 := Scalar.select v70 c8_i32_51 v69
  let v73 : BitVec 32 := Scalar.select v72 c4_i32_53 v71
  let c1_i32_2336 : BitVec 32 := 1#32
  let v1905 : BitVec 32 := Scalar.muli v73 c1_i32_2336
  let v1906 : BitVec 32 := Scalar.addi c0_i32_2337 v1905
  v1906.toNat
def k0_dev58 (d0 : Dev nD) : Nat :=
  let c0_i32_2372 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c16_i32_54 : BitVec 32 := 16#32
  let v74 : BitVec 32 := Scalar.addi v32 c16_i32_54
  let c1_i32_55 : BitVec 32 := 1#32
  let v75 : BitVec 32 := Scalar.subi v74 c1_i32_55
  let c16_i32_56 : BitVec 32 := 16#32
  let c0_i32_57 : BitVec 32 := 0#32
  let v76 : BitVec 1 := Scalar.cmpi .eq c16_i32_56 c0_i32_57
  let c1_i32_58 : BitVec 32 := 1#32
  let v77 : BitVec 32 := Scalar.select v76 c1_i32_58 c16_i32_56
  let v78 : BitVec 32 := Scalar.remsi v75 v77
  let c0_i32_60 : BitVec 32 := 0#32
  let v80 : BitVec 1 := Scalar.cmpi .slt v78 c0_i32_60
  let c0_i32_61 : BitVec 32 := 0#32
  let v81 : BitVec 1 := Scalar.cmpi .slt v77 c0_i32_61
  let v82 : BitVec 1 := Scalar.xori v80 v81
  let c0_i32_59 : BitVec 32 := 0#32
  let v79 : BitVec 1 := Scalar.cmpi .ne v78 c0_i32_59
  let v83 : BitVec 1 := Scalar.andi v82 v79
  let v84 : BitVec 32 := Scalar.addi v78 v77
  let v85 : BitVec 32 := Scalar.select v83 v84 v78
  let c15_i32_91 : BitVec 32 := 15#32
  let v114 : BitVec 1 := Scalar.cmpi .eq v85 c15_i32_91
  let c4_i32_92 : BitVec 32 := 4#32
  let c14_i32_89 : BitVec 32 := 14#32
  let v112 : BitVec 1 := Scalar.cmpi .eq v85 c14_i32_89
  let c8_i32_90 : BitVec 32 := 8#32
  let c13_i32_87 : BitVec 32 := 13#32
  let v110 : BitVec 1 := Scalar.cmpi .eq v85 c13_i32_87
  let c12_i32_88 : BitVec 32 := 12#32
  let c12_i32_85 : BitVec 32 := 12#32
  let v108 : BitVec 1 := Scalar.cmpi .eq v85 c12_i32_85
  let c15_i32_86 : BitVec 32 := 15#32
  let c11_i32_83 : BitVec 32 := 11#32
  let v106 : BitVec 1 := Scalar.cmpi .eq v85 c11_i32_83
  let c11_i32_84 : BitVec 32 := 11#32
  let c10_i32_81 : BitVec 32 := 10#32
  let v104 : BitVec 1 := Scalar.cmpi .eq v85 c10_i32_81
  let c7_i32_82 : BitVec 32 := 7#32
  let c9_i32_79 : BitVec 32 := 9#32
  let v102 : BitVec 1 := Scalar.cmpi .eq v85 c9_i32_79
  let c3_i32_80 : BitVec 32 := 3#32
  let c8_i32_77 : BitVec 32 := 8#32
  let v100 : BitVec 1 := Scalar.cmpi .eq v85 c8_i32_77
  let c2_i32_78 : BitVec 32 := 2#32
  let c7_i32_75 : BitVec 32 := 7#32
  let v98 : BitVec 1 := Scalar.cmpi .eq v85 c7_i32_75
  let c6_i32_76 : BitVec 32 := 6#32
  let c6_i32_73 : BitVec 32 := 6#32
  let v96 : BitVec 1 := Scalar.cmpi .eq v85 c6_i32_73
  let c10_i32_74 : BitVec 32 := 10#32
  let c5_i32_71 : BitVec 32 := 5#32
  let v94 : BitVec 1 := Scalar.cmpi .eq v85 c5_i32_71
  let c14_i32_72 : BitVec 32 := 14#32
  let c4_i32_69 : BitVec 32 := 4#32
  let v92 : BitVec 1 := Scalar.cmpi .eq v85 c4_i32_69
  let c13_i32_70 : BitVec 32 := 13#32
  let c3_i32_67 : BitVec 32 := 3#32
  let v90 : BitVec 1 := Scalar.cmpi .eq v85 c3_i32_67
  let c9_i32_68 : BitVec 32 := 9#32
  let c2_i32_65 : BitVec 32 := 2#32
  let v88 : BitVec 1 := Scalar.cmpi .eq v85 c2_i32_65
  let c5_i32_66 : BitVec 32 := 5#32
  let c1_i32_62 : BitVec 32 := 1#32
  let v86 : BitVec 1 := Scalar.cmpi .eq v85 c1_i32_62
  let c1_i32_63 : BitVec 32 := 1#32
  let c0_i32_64 : BitVec 32 := 0#32
  let v87 : BitVec 32 := Scalar.select v86 c1_i32_63 c0_i32_64
  let v89 : BitVec 32 := Scalar.select v88 c5_i32_66 v87
  let v91 : BitVec 32 := Scalar.select v90 c9_i32_68 v89
  let v93 : BitVec 32 := Scalar.select v92 c13_i32_70 v91
  let v95 : BitVec 32 := Scalar.select v94 c14_i32_72 v93
  let v97 : BitVec 32 := Scalar.select v96 c10_i32_74 v95
  let v99 : BitVec 32 := Scalar.select v98 c6_i32_76 v97
  let v101 : BitVec 32 := Scalar.select v100 c2_i32_78 v99
  let v103 : BitVec 32 := Scalar.select v102 c3_i32_80 v101
  let v105 : BitVec 32 := Scalar.select v104 c7_i32_82 v103
  let v107 : BitVec 32 := Scalar.select v106 c11_i32_84 v105
  let v109 : BitVec 32 := Scalar.select v108 c15_i32_86 v107
  let v111 : BitVec 32 := Scalar.select v110 c12_i32_88 v109
  let v113 : BitVec 32 := Scalar.select v112 c8_i32_90 v111
  let v115 : BitVec 32 := Scalar.select v114 c4_i32_92 v113
  let c1_i32_2371 : BitVec 32 := 1#32
  let v1929 : BitVec 32 := Scalar.muli v115 c1_i32_2371
  let v1930 : BitVec 32 := Scalar.addi c0_i32_2372 v1929
  v1930.toNat
def k0_dev59 (d0 : Dev nD) : Nat :=
  let c0_i32_2510 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c1_i32_16 : BitVec 32 := 1#32
  let v33 : BitVec 32 := Scalar.addi v32 c1_i32_16
  let c16_i32_17 : BitVec 32 := 16#32
  let c0_i32_18 : BitVec 32 := 0#32
  let v34 : BitVec 1 := Scalar.cmpi .eq c16_i32_17 c0_i32_18
  let c1_i32_19 : BitVec 32 := 1#32
  let v35 : BitVec 32 := Scalar.select v34 c1_i32_19 c16_i32_17
  let v36 : BitVec 32 := Scalar.remsi v33 v35
  let c0_i32_21 : BitVec 32 := 0#32
  let v38 : BitVec 1 := Scalar.cmpi .slt v36 c0_i32_21
  let c0_i32_22 : BitVec 32 := 0#32
  let v39 : BitVec 1 := Scalar.cmpi .slt v35 c0_i32_22
  let v40 : BitVec 1 := Scalar.xori v38 v39
  let c0_i32_20 : BitVec 32 := 0#32
  let v37 : BitVec 1 := Scalar.cmpi .ne v36 c0_i32_20
  let v41 : BitVec 1 := Scalar.andi v40 v37
  let v42 : BitVec 32 := Scalar.addi v36 v35
  let v43 : BitVec 32 := Scalar.select v41 v42 v36
  let c15_i32_52 : BitVec 32 := 15#32
  let v72 : BitVec 1 := Scalar.cmpi .eq v43 c15_i32_52
  let c4_i32_53 : BitVec 32 := 4#32
  let c14_i32_50 : BitVec 32 := 14#32
  let v70 : BitVec 1 := Scalar.cmpi .eq v43 c14_i32_50
  let c8_i32_51 : BitVec 32 := 8#32
  let c13_i32_48 : BitVec 32 := 13#32
  let v68 : BitVec 1 := Scalar.cmpi .eq v43 c13_i32_48
  let c12_i32_49 : BitVec 32 := 12#32
  let c12_i32_46 : BitVec 32 := 12#32
  let v66 : BitVec 1 := Scalar.cmpi .eq v43 c12_i32_46
  let c15_i32_47 : BitVec 32 := 15#32
  let c11_i32_44 : BitVec 32 := 11#32
  let v64 : BitVec 1 := Scalar.cmpi .eq v43 c11_i32_44
  let c11_i32_45 : BitVec 32 := 11#32
  let c10_i32_42 : BitVec 32 := 10#32
  let v62 : BitVec 1 := Scalar.cmpi .eq v43 c10_i32_42
  let c7_i32_43 : BitVec 32 := 7#32
  let c9_i32_40 : BitVec 32 := 9#32
  let v60 : BitVec 1 := Scalar.cmpi .eq v43 c9_i32_40
  let c3_i32_41 : BitVec 32 := 3#32
  let c8_i32_38 : BitVec 32 := 8#32
  let v58 : BitVec 1 := Scalar.cmpi .eq v43 c8_i32_38
  let c2_i32_39 : BitVec 32 := 2#32
  let c7_i32_36 : BitVec 32 := 7#32
  let v56 : BitVec 1 := Scalar.cmpi .eq v43 c7_i32_36
  let c6_i32_37 : BitVec 32 := 6#32
  let c6_i32_34 : BitVec 32 := 6#32
  let v54 : BitVec 1 := Scalar.cmpi .eq v43 c6_i32_34
  let c10_i32_35 : BitVec 32 := 10#32
  let c5_i32_32 : BitVec 32 := 5#32
  let v52 : BitVec 1 := Scalar.cmpi .eq v43 c5_i32_32
  let c14_i32_33 : BitVec 32 := 14#32
  let c4_i32_30 : BitVec 32 := 4#32
  let v50 : BitVec 1 := Scalar.cmpi .eq v43 c4_i32_30
  let c13_i32_31 : BitVec 32 := 13#32
  let c3_i32_28 : BitVec 32 := 3#32
  let v48 : BitVec 1 := Scalar.cmpi .eq v43 c3_i32_28
  let c9_i32_29 : BitVec 32 := 9#32
  let c2_i32_26 : BitVec 32 := 2#32
  let v46 : BitVec 1 := Scalar.cmpi .eq v43 c2_i32_26
  let c5_i32_27 : BitVec 32 := 5#32
  let c1_i32_23 : BitVec 32 := 1#32
  let v44 : BitVec 1 := Scalar.cmpi .eq v43 c1_i32_23
  let c1_i32_24 : BitVec 32 := 1#32
  let c0_i32_25 : BitVec 32 := 0#32
  let v45 : BitVec 32 := Scalar.select v44 c1_i32_24 c0_i32_25
  let v47 : BitVec 32 := Scalar.select v46 c5_i32_27 v45
  let v49 : BitVec 32 := Scalar.select v48 c9_i32_29 v47
  let v51 : BitVec 32 := Scalar.select v50 c13_i32_31 v49
  let v53 : BitVec 32 := Scalar.select v52 c14_i32_33 v51
  let v55 : BitVec 32 := Scalar.select v54 c10_i32_35 v53
  let v57 : BitVec 32 := Scalar.select v56 c6_i32_37 v55
  let v59 : BitVec 32 := Scalar.select v58 c2_i32_39 v57
  let v61 : BitVec 32 := Scalar.select v60 c3_i32_41 v59
  let v63 : BitVec 32 := Scalar.select v62 c7_i32_43 v61
  let v65 : BitVec 32 := Scalar.select v64 c11_i32_45 v63
  let v67 : BitVec 32 := Scalar.select v66 c15_i32_47 v65
  let v69 : BitVec 32 := Scalar.select v68 c12_i32_49 v67
  let v71 : BitVec 32 := Scalar.select v70 c8_i32_51 v69
  let v73 : BitVec 32 := Scalar.select v72 c4_i32_53 v71
  let c1_i32_2509 : BitVec 32 := 1#32
  let v2070 : BitVec 32 := Scalar.muli v73 c1_i32_2509
  let v2071 : BitVec 32 := Scalar.addi c0_i32_2510 v2070
  v2071.toNat
def k0_dev60 (d0 : Dev nD) : Nat :=
  let c0_i32_2568 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c1_i32_16 : BitVec 32 := 1#32
  let v33 : BitVec 32 := Scalar.addi v32 c1_i32_16
  let c16_i32_17 : BitVec 32 := 16#32
  let c0_i32_18 : BitVec 32 := 0#32
  let v34 : BitVec 1 := Scalar.cmpi .eq c16_i32_17 c0_i32_18
  let c1_i32_19 : BitVec 32 := 1#32
  let v35 : BitVec 32 := Scalar.select v34 c1_i32_19 c16_i32_17
  let v36 : BitVec 32 := Scalar.remsi v33 v35
  let c0_i32_21 : BitVec 32 := 0#32
  let v38 : BitVec 1 := Scalar.cmpi .slt v36 c0_i32_21
  let c0_i32_22 : BitVec 32 := 0#32
  let v39 : BitVec 1 := Scalar.cmpi .slt v35 c0_i32_22
  let v40 : BitVec 1 := Scalar.xori v38 v39
  let c0_i32_20 : BitVec 32 := 0#32
  let v37 : BitVec 1 := Scalar.cmpi .ne v36 c0_i32_20
  let v41 : BitVec 1 := Scalar.andi v40 v37
  let v42 : BitVec 32 := Scalar.addi v36 v35
  let v43 : BitVec 32 := Scalar.select v41 v42 v36
  let c15_i32_52 : BitVec 32 := 15#32
  let v72 : BitVec 1 := Scalar.cmpi .eq v43 c15_i32_52
  let c4_i32_53 : BitVec 32 := 4#32
  let c14_i32_50 : BitVec 32 := 14#32
  let v70 : BitVec 1 := Scalar.cmpi .eq v43 c14_i32_50
  let c8_i32_51 : BitVec 32 := 8#32
  let c13_i32_48 : BitVec 32 := 13#32
  let v68 : BitVec 1 := Scalar.cmpi .eq v43 c13_i32_48
  let c12_i32_49 : BitVec 32 := 12#32
  let c12_i32_46 : BitVec 32 := 12#32
  let v66 : BitVec 1 := Scalar.cmpi .eq v43 c12_i32_46
  let c15_i32_47 : BitVec 32 := 15#32
  let c11_i32_44 : BitVec 32 := 11#32
  let v64 : BitVec 1 := Scalar.cmpi .eq v43 c11_i32_44
  let c11_i32_45 : BitVec 32 := 11#32
  let c10_i32_42 : BitVec 32 := 10#32
  let v62 : BitVec 1 := Scalar.cmpi .eq v43 c10_i32_42
  let c7_i32_43 : BitVec 32 := 7#32
  let c9_i32_40 : BitVec 32 := 9#32
  let v60 : BitVec 1 := Scalar.cmpi .eq v43 c9_i32_40
  let c3_i32_41 : BitVec 32 := 3#32
  let c8_i32_38 : BitVec 32 := 8#32
  let v58 : BitVec 1 := Scalar.cmpi .eq v43 c8_i32_38
  let c2_i32_39 : BitVec 32 := 2#32
  let c7_i32_36 : BitVec 32 := 7#32
  let v56 : BitVec 1 := Scalar.cmpi .eq v43 c7_i32_36
  let c6_i32_37 : BitVec 32 := 6#32
  let c6_i32_34 : BitVec 32 := 6#32
  let v54 : BitVec 1 := Scalar.cmpi .eq v43 c6_i32_34
  let c10_i32_35 : BitVec 32 := 10#32
  let c5_i32_32 : BitVec 32 := 5#32
  let v52 : BitVec 1 := Scalar.cmpi .eq v43 c5_i32_32
  let c14_i32_33 : BitVec 32 := 14#32
  let c4_i32_30 : BitVec 32 := 4#32
  let v50 : BitVec 1 := Scalar.cmpi .eq v43 c4_i32_30
  let c13_i32_31 : BitVec 32 := 13#32
  let c3_i32_28 : BitVec 32 := 3#32
  let v48 : BitVec 1 := Scalar.cmpi .eq v43 c3_i32_28
  let c9_i32_29 : BitVec 32 := 9#32
  let c2_i32_26 : BitVec 32 := 2#32
  let v46 : BitVec 1 := Scalar.cmpi .eq v43 c2_i32_26
  let c5_i32_27 : BitVec 32 := 5#32
  let c1_i32_23 : BitVec 32 := 1#32
  let v44 : BitVec 1 := Scalar.cmpi .eq v43 c1_i32_23
  let c1_i32_24 : BitVec 32 := 1#32
  let c0_i32_25 : BitVec 32 := 0#32
  let v45 : BitVec 32 := Scalar.select v44 c1_i32_24 c0_i32_25
  let v47 : BitVec 32 := Scalar.select v46 c5_i32_27 v45
  let v49 : BitVec 32 := Scalar.select v48 c9_i32_29 v47
  let v51 : BitVec 32 := Scalar.select v50 c13_i32_31 v49
  let v53 : BitVec 32 := Scalar.select v52 c14_i32_33 v51
  let v55 : BitVec 32 := Scalar.select v54 c10_i32_35 v53
  let v57 : BitVec 32 := Scalar.select v56 c6_i32_37 v55
  let v59 : BitVec 32 := Scalar.select v58 c2_i32_39 v57
  let v61 : BitVec 32 := Scalar.select v60 c3_i32_41 v59
  let v63 : BitVec 32 := Scalar.select v62 c7_i32_43 v61
  let v65 : BitVec 32 := Scalar.select v64 c11_i32_45 v63
  let v67 : BitVec 32 := Scalar.select v66 c15_i32_47 v65
  let v69 : BitVec 32 := Scalar.select v68 c12_i32_49 v67
  let v71 : BitVec 32 := Scalar.select v70 c8_i32_51 v69
  let v73 : BitVec 32 := Scalar.select v72 c4_i32_53 v71
  let c1_i32_2567 : BitVec 32 := 1#32
  let v2108 : BitVec 32 := Scalar.muli v73 c1_i32_2567
  let v2109 : BitVec 32 := Scalar.addi c0_i32_2568 v2108
  v2109.toNat
def k0_dev61 (d0 : Dev nD) : Nat :=
  let c0_i32_2649 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c16_i32_54 : BitVec 32 := 16#32
  let v74 : BitVec 32 := Scalar.addi v32 c16_i32_54
  let c1_i32_55 : BitVec 32 := 1#32
  let v75 : BitVec 32 := Scalar.subi v74 c1_i32_55
  let c16_i32_56 : BitVec 32 := 16#32
  let c0_i32_57 : BitVec 32 := 0#32
  let v76 : BitVec 1 := Scalar.cmpi .eq c16_i32_56 c0_i32_57
  let c1_i32_58 : BitVec 32 := 1#32
  let v77 : BitVec 32 := Scalar.select v76 c1_i32_58 c16_i32_56
  let v78 : BitVec 32 := Scalar.remsi v75 v77
  let c0_i32_60 : BitVec 32 := 0#32
  let v80 : BitVec 1 := Scalar.cmpi .slt v78 c0_i32_60
  let c0_i32_61 : BitVec 32 := 0#32
  let v81 : BitVec 1 := Scalar.cmpi .slt v77 c0_i32_61
  let v82 : BitVec 1 := Scalar.xori v80 v81
  let c0_i32_59 : BitVec 32 := 0#32
  let v79 : BitVec 1 := Scalar.cmpi .ne v78 c0_i32_59
  let v83 : BitVec 1 := Scalar.andi v82 v79
  let v84 : BitVec 32 := Scalar.addi v78 v77
  let v85 : BitVec 32 := Scalar.select v83 v84 v78
  let c15_i32_91 : BitVec 32 := 15#32
  let v114 : BitVec 1 := Scalar.cmpi .eq v85 c15_i32_91
  let c4_i32_92 : BitVec 32 := 4#32
  let c14_i32_89 : BitVec 32 := 14#32
  let v112 : BitVec 1 := Scalar.cmpi .eq v85 c14_i32_89
  let c8_i32_90 : BitVec 32 := 8#32
  let c13_i32_87 : BitVec 32 := 13#32
  let v110 : BitVec 1 := Scalar.cmpi .eq v85 c13_i32_87
  let c12_i32_88 : BitVec 32 := 12#32
  let c12_i32_85 : BitVec 32 := 12#32
  let v108 : BitVec 1 := Scalar.cmpi .eq v85 c12_i32_85
  let c15_i32_86 : BitVec 32 := 15#32
  let c11_i32_83 : BitVec 32 := 11#32
  let v106 : BitVec 1 := Scalar.cmpi .eq v85 c11_i32_83
  let c11_i32_84 : BitVec 32 := 11#32
  let c10_i32_81 : BitVec 32 := 10#32
  let v104 : BitVec 1 := Scalar.cmpi .eq v85 c10_i32_81
  let c7_i32_82 : BitVec 32 := 7#32
  let c9_i32_79 : BitVec 32 := 9#32
  let v102 : BitVec 1 := Scalar.cmpi .eq v85 c9_i32_79
  let c3_i32_80 : BitVec 32 := 3#32
  let c8_i32_77 : BitVec 32 := 8#32
  let v100 : BitVec 1 := Scalar.cmpi .eq v85 c8_i32_77
  let c2_i32_78 : BitVec 32 := 2#32
  let c7_i32_75 : BitVec 32 := 7#32
  let v98 : BitVec 1 := Scalar.cmpi .eq v85 c7_i32_75
  let c6_i32_76 : BitVec 32 := 6#32
  let c6_i32_73 : BitVec 32 := 6#32
  let v96 : BitVec 1 := Scalar.cmpi .eq v85 c6_i32_73
  let c10_i32_74 : BitVec 32 := 10#32
  let c5_i32_71 : BitVec 32 := 5#32
  let v94 : BitVec 1 := Scalar.cmpi .eq v85 c5_i32_71
  let c14_i32_72 : BitVec 32 := 14#32
  let c4_i32_69 : BitVec 32 := 4#32
  let v92 : BitVec 1 := Scalar.cmpi .eq v85 c4_i32_69
  let c13_i32_70 : BitVec 32 := 13#32
  let c3_i32_67 : BitVec 32 := 3#32
  let v90 : BitVec 1 := Scalar.cmpi .eq v85 c3_i32_67
  let c9_i32_68 : BitVec 32 := 9#32
  let c2_i32_65 : BitVec 32 := 2#32
  let v88 : BitVec 1 := Scalar.cmpi .eq v85 c2_i32_65
  let c5_i32_66 : BitVec 32 := 5#32
  let c1_i32_62 : BitVec 32 := 1#32
  let v86 : BitVec 1 := Scalar.cmpi .eq v85 c1_i32_62
  let c1_i32_63 : BitVec 32 := 1#32
  let c0_i32_64 : BitVec 32 := 0#32
  let v87 : BitVec 32 := Scalar.select v86 c1_i32_63 c0_i32_64
  let v89 : BitVec 32 := Scalar.select v88 c5_i32_66 v87
  let v91 : BitVec 32 := Scalar.select v90 c9_i32_68 v89
  let v93 : BitVec 32 := Scalar.select v92 c13_i32_70 v91
  let v95 : BitVec 32 := Scalar.select v94 c14_i32_72 v93
  let v97 : BitVec 32 := Scalar.select v96 c10_i32_74 v95
  let v99 : BitVec 32 := Scalar.select v98 c6_i32_76 v97
  let v101 : BitVec 32 := Scalar.select v100 c2_i32_78 v99
  let v103 : BitVec 32 := Scalar.select v102 c3_i32_80 v101
  let v105 : BitVec 32 := Scalar.select v104 c7_i32_82 v103
  let v107 : BitVec 32 := Scalar.select v106 c11_i32_84 v105
  let v109 : BitVec 32 := Scalar.select v108 c15_i32_86 v107
  let v111 : BitVec 32 := Scalar.select v110 c12_i32_88 v109
  let v113 : BitVec 32 := Scalar.select v112 c8_i32_90 v111
  let v115 : BitVec 32 := Scalar.select v114 c4_i32_92 v113
  let c1_i32_2648 : BitVec 32 := 1#32
  let v2160 : BitVec 32 := Scalar.muli v115 c1_i32_2648
  let v2161 : BitVec 32 := Scalar.addi c0_i32_2649 v2160
  v2161.toNat
def k0_dev62 (d0 : Dev nD) : Nat :=
  let c0_i32_2707 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c16_i32_54 : BitVec 32 := 16#32
  let v74 : BitVec 32 := Scalar.addi v32 c16_i32_54
  let c1_i32_55 : BitVec 32 := 1#32
  let v75 : BitVec 32 := Scalar.subi v74 c1_i32_55
  let c16_i32_56 : BitVec 32 := 16#32
  let c0_i32_57 : BitVec 32 := 0#32
  let v76 : BitVec 1 := Scalar.cmpi .eq c16_i32_56 c0_i32_57
  let c1_i32_58 : BitVec 32 := 1#32
  let v77 : BitVec 32 := Scalar.select v76 c1_i32_58 c16_i32_56
  let v78 : BitVec 32 := Scalar.remsi v75 v77
  let c0_i32_60 : BitVec 32 := 0#32
  let v80 : BitVec 1 := Scalar.cmpi .slt v78 c0_i32_60
  let c0_i32_61 : BitVec 32 := 0#32
  let v81 : BitVec 1 := Scalar.cmpi .slt v77 c0_i32_61
  let v82 : BitVec 1 := Scalar.xori v80 v81
  let c0_i32_59 : BitVec 32 := 0#32
  let v79 : BitVec 1 := Scalar.cmpi .ne v78 c0_i32_59
  let v83 : BitVec 1 := Scalar.andi v82 v79
  let v84 : BitVec 32 := Scalar.addi v78 v77
  let v85 : BitVec 32 := Scalar.select v83 v84 v78
  let c15_i32_91 : BitVec 32 := 15#32
  let v114 : BitVec 1 := Scalar.cmpi .eq v85 c15_i32_91
  let c4_i32_92 : BitVec 32 := 4#32
  let c14_i32_89 : BitVec 32 := 14#32
  let v112 : BitVec 1 := Scalar.cmpi .eq v85 c14_i32_89
  let c8_i32_90 : BitVec 32 := 8#32
  let c13_i32_87 : BitVec 32 := 13#32
  let v110 : BitVec 1 := Scalar.cmpi .eq v85 c13_i32_87
  let c12_i32_88 : BitVec 32 := 12#32
  let c12_i32_85 : BitVec 32 := 12#32
  let v108 : BitVec 1 := Scalar.cmpi .eq v85 c12_i32_85
  let c15_i32_86 : BitVec 32 := 15#32
  let c11_i32_83 : BitVec 32 := 11#32
  let v106 : BitVec 1 := Scalar.cmpi .eq v85 c11_i32_83
  let c11_i32_84 : BitVec 32 := 11#32
  let c10_i32_81 : BitVec 32 := 10#32
  let v104 : BitVec 1 := Scalar.cmpi .eq v85 c10_i32_81
  let c7_i32_82 : BitVec 32 := 7#32
  let c9_i32_79 : BitVec 32 := 9#32
  let v102 : BitVec 1 := Scalar.cmpi .eq v85 c9_i32_79
  let c3_i32_80 : BitVec 32 := 3#32
  let c8_i32_77 : BitVec 32 := 8#32
  let v100 : BitVec 1 := Scalar.cmpi .eq v85 c8_i32_77
  let c2_i32_78 : BitVec 32 := 2#32
  let c7_i32_75 : BitVec 32 := 7#32
  let v98 : BitVec 1 := Scalar.cmpi .eq v85 c7_i32_75
  let c6_i32_76 : BitVec 32 := 6#32
  let c6_i32_73 : BitVec 32 := 6#32
  let v96 : BitVec 1 := Scalar.cmpi .eq v85 c6_i32_73
  let c10_i32_74 : BitVec 32 := 10#32
  let c5_i32_71 : BitVec 32 := 5#32
  let v94 : BitVec 1 := Scalar.cmpi .eq v85 c5_i32_71
  let c14_i32_72 : BitVec 32 := 14#32
  let c4_i32_69 : BitVec 32 := 4#32
  let v92 : BitVec 1 := Scalar.cmpi .eq v85 c4_i32_69
  let c13_i32_70 : BitVec 32 := 13#32
  let c3_i32_67 : BitVec 32 := 3#32
  let v90 : BitVec 1 := Scalar.cmpi .eq v85 c3_i32_67
  let c9_i32_68 : BitVec 32 := 9#32
  let c2_i32_65 : BitVec 32 := 2#32
  let v88 : BitVec 1 := Scalar.cmpi .eq v85 c2_i32_65
  let c5_i32_66 : BitVec 32 := 5#32
  let c1_i32_62 : BitVec 32 := 1#32
  let v86 : BitVec 1 := Scalar.cmpi .eq v85 c1_i32_62
  let c1_i32_63 : BitVec 32 := 1#32
  let c0_i32_64 : BitVec 32 := 0#32
  let v87 : BitVec 32 := Scalar.select v86 c1_i32_63 c0_i32_64
  let v89 : BitVec 32 := Scalar.select v88 c5_i32_66 v87
  let v91 : BitVec 32 := Scalar.select v90 c9_i32_68 v89
  let v93 : BitVec 32 := Scalar.select v92 c13_i32_70 v91
  let v95 : BitVec 32 := Scalar.select v94 c14_i32_72 v93
  let v97 : BitVec 32 := Scalar.select v96 c10_i32_74 v95
  let v99 : BitVec 32 := Scalar.select v98 c6_i32_76 v97
  let v101 : BitVec 32 := Scalar.select v100 c2_i32_78 v99
  let v103 : BitVec 32 := Scalar.select v102 c3_i32_80 v101
  let v105 : BitVec 32 := Scalar.select v104 c7_i32_82 v103
  let v107 : BitVec 32 := Scalar.select v106 c11_i32_84 v105
  let v109 : BitVec 32 := Scalar.select v108 c15_i32_86 v107
  let v111 : BitVec 32 := Scalar.select v110 c12_i32_88 v109
  let v113 : BitVec 32 := Scalar.select v112 c8_i32_90 v111
  let v115 : BitVec 32 := Scalar.select v114 c4_i32_92 v113
  let c1_i32_2706 : BitVec 32 := 1#32
  let v2198 : BitVec 32 := Scalar.muli v115 c1_i32_2706
  let v2199 : BitVec 32 := Scalar.addi c0_i32_2707 v2198
  v2199.toNat
def k0_off4 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c16_i32_2907 : BitVec 32 := 16#32
  let v2381 : BitVec 32 := Scalar.addi v32 c16_i32_2907
  let c7_i32_2908 : BitVec 32 := 7#32
  let v2382 : BitVec 32 := Scalar.subi v2381 c7_i32_2908
  let c1_i32_2909 : BitVec 32 := 1#32
  let v2383 : BitVec 32 := Scalar.subi v2382 c1_i32_2909
  let c16_i32_2910 : BitVec 32 := 16#32
  let c0_i32_2911 : BitVec 32 := 0#32
  let v2384 : BitVec 1 := Scalar.cmpi .eq c16_i32_2910 c0_i32_2911
  let c1_i32_2912 : BitVec 32 := 1#32
  let v2385 : BitVec 32 := Scalar.select v2384 c1_i32_2912 c16_i32_2910
  let v2386 : BitVec 32 := Scalar.remsi v2383 v2385
  let c0_i32_2914 : BitVec 32 := 0#32
  let v2388 : BitVec 1 := Scalar.cmpi .slt v2386 c0_i32_2914
  let c0_i32_2915 : BitVec 32 := 0#32
  let v2389 : BitVec 1 := Scalar.cmpi .slt v2385 c0_i32_2915
  let v2390 : BitVec 1 := Scalar.xori v2388 v2389
  let c0_i32_2913 : BitVec 32 := 0#32
  let v2387 : BitVec 1 := Scalar.cmpi .ne v2386 c0_i32_2913
  let v2391 : BitVec 1 := Scalar.andi v2390 v2387
  let v2392 : BitVec 32 := Scalar.addi v2386 v2385
  let v2393 : BitVec 32 := Scalar.select v2391 v2392 v2386
  let c15_i32_2945 : BitVec 32 := 15#32
  let v2422 : BitVec 1 := Scalar.cmpi .eq v2393 c15_i32_2945
  let c4_i32_2946 : BitVec 32 := 4#32
  let c14_i32_2943 : BitVec 32 := 14#32
  let v2420 : BitVec 1 := Scalar.cmpi .eq v2393 c14_i32_2943
  let c8_i32_2944 : BitVec 32 := 8#32
  let c13_i32_2941 : BitVec 32 := 13#32
  let v2418 : BitVec 1 := Scalar.cmpi .eq v2393 c13_i32_2941
  let c12_i32_2942 : BitVec 32 := 12#32
  let c12_i32_2939 : BitVec 32 := 12#32
  let v2416 : BitVec 1 := Scalar.cmpi .eq v2393 c12_i32_2939
  let c15_i32_2940 : BitVec 32 := 15#32
  let c11_i32_2937 : BitVec 32 := 11#32
  let v2414 : BitVec 1 := Scalar.cmpi .eq v2393 c11_i32_2937
  let c11_i32_2938 : BitVec 32 := 11#32
  let c10_i32_2935 : BitVec 32 := 10#32
  let v2412 : BitVec 1 := Scalar.cmpi .eq v2393 c10_i32_2935
  let c7_i32_2936 : BitVec 32 := 7#32
  let c9_i32_2933 : BitVec 32 := 9#32
  let v2410 : BitVec 1 := Scalar.cmpi .eq v2393 c9_i32_2933
  let c3_i32_2934 : BitVec 32 := 3#32
  let c8_i32_2931 : BitVec 32 := 8#32
  let v2408 : BitVec 1 := Scalar.cmpi .eq v2393 c8_i32_2931
  let c2_i32_2932 : BitVec 32 := 2#32
  let c7_i32_2929 : BitVec 32 := 7#32
  let v2406 : BitVec 1 := Scalar.cmpi .eq v2393 c7_i32_2929
  let c6_i32_2930 : BitVec 32 := 6#32
  let c6_i32_2927 : BitVec 32 := 6#32
  let v2404 : BitVec 1 := Scalar.cmpi .eq v2393 c6_i32_2927
  let c10_i32_2928 : BitVec 32 := 10#32
  let c5_i32_2925 : BitVec 32 := 5#32
  let v2402 : BitVec 1 := Scalar.cmpi .eq v2393 c5_i32_2925
  let c14_i32_2926 : BitVec 32 := 14#32
  let c4_i32_2923 : BitVec 32 := 4#32
  let v2400 : BitVec 1 := Scalar.cmpi .eq v2393 c4_i32_2923
  let c13_i32_2924 : BitVec 32 := 13#32
  let c3_i32_2921 : BitVec 32 := 3#32
  let v2398 : BitVec 1 := Scalar.cmpi .eq v2393 c3_i32_2921
  let c9_i32_2922 : BitVec 32 := 9#32
  let c2_i32_2919 : BitVec 32 := 2#32
  let v2396 : BitVec 1 := Scalar.cmpi .eq v2393 c2_i32_2919
  let c5_i32_2920 : BitVec 32 := 5#32
  let c1_i32_2916 : BitVec 32 := 1#32
  let v2394 : BitVec 1 := Scalar.cmpi .eq v2393 c1_i32_2916
  let c1_i32_2917 : BitVec 32 := 1#32
  let c0_i32_2918 : BitVec 32 := 0#32
  let v2395 : BitVec 32 := Scalar.select v2394 c1_i32_2917 c0_i32_2918
  let v2397 : BitVec 32 := Scalar.select v2396 c5_i32_2920 v2395
  let v2399 : BitVec 32 := Scalar.select v2398 c9_i32_2922 v2397
  let v2401 : BitVec 32 := Scalar.select v2400 c13_i32_2924 v2399
  let v2403 : BitVec 32 := Scalar.select v2402 c14_i32_2926 v2401
  let v2405 : BitVec 32 := Scalar.select v2404 c10_i32_2928 v2403
  let v2407 : BitVec 32 := Scalar.select v2406 c6_i32_2930 v2405
  let v2409 : BitVec 32 := Scalar.select v2408 c2_i32_2932 v2407
  let v2411 : BitVec 32 := Scalar.select v2410 c3_i32_2934 v2409
  let v2413 : BitVec 32 := Scalar.select v2412 c7_i32_2936 v2411
  let v2415 : BitVec 32 := Scalar.select v2414 c11_i32_2938 v2413
  let v2417 : BitVec 32 := Scalar.select v2416 c15_i32_2940 v2415
  let v2419 : BitVec 32 := Scalar.select v2418 c12_i32_2942 v2417
  let v2421 : BitVec 32 := Scalar.select v2420 c8_i32_2944 v2419
  let v2423 : BitVec 32 := Scalar.select v2422 c4_i32_2946 v2421
  let c128_i32_2956 : BitVec 32 := 128#32
  let v2436 : BitVec 32 := Scalar.muli v2423 c128_i32_2956
  let c0_i32_2957 : BitVec 32 := 0#32
  let v2437 : BitVec 32 := Scalar.addi v2436 c0_i32_2957
  let v2438 : Index := Scalar.indexCast v2437
  let c0_2958 : Index := 0#32
  ![v2438.toNat, 0]
def k0_off5 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_14 : BitVec 32 := 15#32
  let v31 : BitVec 1 := Scalar.cmpi .eq v2 c15_i32_14
  let c12_i32_15 : BitVec 32 := 12#32
  let c14_i32_12 : BitVec 32 := 14#32
  let v29 : BitVec 1 := Scalar.cmpi .eq v2 c14_i32_12
  let c5_i32_13 : BitVec 32 := 5#32
  let c13_i32_10 : BitVec 32 := 13#32
  let v27 : BitVec 1 := Scalar.cmpi .eq v2 c13_i32_10
  let c4_i32_11 : BitVec 32 := 4#32
  let c12_i32 : BitVec 32 := 12#32
  let v25 : BitVec 1 := Scalar.cmpi .eq v2 c12_i32
  let c13_i32 : BitVec 32 := 13#32
  let c11_i32 : BitVec 32 := 11#32
  let v23 : BitVec 1 := Scalar.cmpi .eq v2 c11_i32
  let c11_i32_9 : BitVec 32 := 11#32
  let c10_i32_7 : BitVec 32 := 10#32
  let v21 : BitVec 1 := Scalar.cmpi .eq v2 c10_i32_7
  let c6_i32_8 : BitVec 32 := 6#32
  let c9_i32_5 : BitVec 32 := 9#32
  let v19 : BitVec 1 := Scalar.cmpi .eq v2 c9_i32_5
  let c3_i32_6 : BitVec 32 := 3#32
  let c8_i32_4 : BitVec 32 := 8#32
  let v17 : BitVec 1 := Scalar.cmpi .eq v2 c8_i32_4
  let c14_i32 : BitVec 32 := 14#32
  let c7_i32_3 : BitVec 32 := 7#32
  let v15 : BitVec 1 := Scalar.cmpi .eq v2 c7_i32_3
  let c10_i32 : BitVec 32 := 10#32
  let c6_i32 : BitVec 32 := 6#32
  let v13 : BitVec 1 := Scalar.cmpi .eq v2 c6_i32
  let c7_i32 : BitVec 32 := 7#32
  let c5_i32 : BitVec 32 := 5#32
  let v11 : BitVec 1 := Scalar.cmpi .eq v2 c5_i32
  let c2_i32_2 : BitVec 32 := 2#32
  let c4_i32 : BitVec 32 := 4#32
  let v9 : BitVec 1 := Scalar.cmpi .eq v2 c4_i32
  let c15_i32 : BitVec 32 := 15#32
  let c3_i32 : BitVec 32 := 3#32
  let v7 : BitVec 1 := Scalar.cmpi .eq v2 c3_i32
  let c9_i32 : BitVec 32 := 9#32
  let c2_i32 : BitVec 32 := 2#32
  let v5 : BitVec 1 := Scalar.cmpi .eq v2 c2_i32
  let c8_i32 : BitVec 32 := 8#32
  let c1_i32_0 : BitVec 32 := 1#32
  let v3 : BitVec 1 := Scalar.cmpi .eq v2 c1_i32_0
  let c1_i32_1 : BitVec 32 := 1#32
  let c0_i32 : BitVec 32 := 0#32
  let v4 : BitVec 32 := Scalar.select v3 c1_i32_1 c0_i32
  let v6 : BitVec 32 := Scalar.select v5 c8_i32 v4
  let v8 : BitVec 32 := Scalar.select v7 c9_i32 v6
  let v10 : BitVec 32 := Scalar.select v9 c15_i32 v8
  let v12 : BitVec 32 := Scalar.select v11 c2_i32_2 v10
  let v14 : BitVec 32 := Scalar.select v13 c7_i32 v12
  let v16 : BitVec 32 := Scalar.select v15 c10_i32 v14
  let v18 : BitVec 32 := Scalar.select v17 c14_i32 v16
  let v20 : BitVec 32 := Scalar.select v19 c3_i32_6 v18
  let v22 : BitVec 32 := Scalar.select v21 c6_i32_8 v20
  let v24 : BitVec 32 := Scalar.select v23 c11_i32_9 v22
  let v26 : BitVec 32 := Scalar.select v25 c13_i32 v24
  let v28 : BitVec 32 := Scalar.select v27 c4_i32_11 v26
  let v30 : BitVec 32 := Scalar.select v29 c5_i32_13 v28
  let v32 : BitVec 32 := Scalar.select v31 c12_i32_15 v30
  let c7_i32_2959 : BitVec 32 := 7#32
  let v2440 : BitVec 32 := Scalar.addi v32 c7_i32_2959
  let c1_i32_2960 : BitVec 32 := 1#32
  let v2441 : BitVec 32 := Scalar.addi v2440 c1_i32_2960
  let c16_i32_2961 : BitVec 32 := 16#32
  let c0_i32_2962 : BitVec 32 := 0#32
  let v2442 : BitVec 1 := Scalar.cmpi .eq c16_i32_2961 c0_i32_2962
  let c1_i32_2963 : BitVec 32 := 1#32
  let v2443 : BitVec 32 := Scalar.select v2442 c1_i32_2963 c16_i32_2961
  let v2444 : BitVec 32 := Scalar.remsi v2441 v2443
  let c0_i32_2965 : BitVec 32 := 0#32
  let v2446 : BitVec 1 := Scalar.cmpi .slt v2444 c0_i32_2965
  let c0_i32_2966 : BitVec 32 := 0#32
  let v2447 : BitVec 1 := Scalar.cmpi .slt v2443 c0_i32_2966
  let v2448 : BitVec 1 := Scalar.xori v2446 v2447
  let c0_i32_2964 : BitVec 32 := 0#32
  let v2445 : BitVec 1 := Scalar.cmpi .ne v2444 c0_i32_2964
  let v2449 : BitVec 1 := Scalar.andi v2448 v2445
  let v2450 : BitVec 32 := Scalar.addi v2444 v2443
  let v2451 : BitVec 32 := Scalar.select v2449 v2450 v2444
  let c15_i32_2996 : BitVec 32 := 15#32
  let v2480 : BitVec 1 := Scalar.cmpi .eq v2451 c15_i32_2996
  let c4_i32_2997 : BitVec 32 := 4#32
  let c14_i32_2994 : BitVec 32 := 14#32
  let v2478 : BitVec 1 := Scalar.cmpi .eq v2451 c14_i32_2994
  let c8_i32_2995 : BitVec 32 := 8#32
  let c13_i32_2992 : BitVec 32 := 13#32
  let v2476 : BitVec 1 := Scalar.cmpi .eq v2451 c13_i32_2992
  let c12_i32_2993 : BitVec 32 := 12#32
  let c12_i32_2990 : BitVec 32 := 12#32
  let v2474 : BitVec 1 := Scalar.cmpi .eq v2451 c12_i32_2990
  let c15_i32_2991 : BitVec 32 := 15#32
  let c11_i32_2988 : BitVec 32 := 11#32
  let v2472 : BitVec 1 := Scalar.cmpi .eq v2451 c11_i32_2988
  let c11_i32_2989 : BitVec 32 := 11#32
  let c10_i32_2986 : BitVec 32 := 10#32
  let v2470 : BitVec 1 := Scalar.cmpi .eq v2451 c10_i32_2986
  let c7_i32_2987 : BitVec 32 := 7#32
  let c9_i32_2984 : BitVec 32 := 9#32
  let v2468 : BitVec 1 := Scalar.cmpi .eq v2451 c9_i32_2984
  let c3_i32_2985 : BitVec 32 := 3#32
  let c8_i32_2982 : BitVec 32 := 8#32
  let v2466 : BitVec 1 := Scalar.cmpi .eq v2451 c8_i32_2982
  let c2_i32_2983 : BitVec 32 := 2#32
  let c7_i32_2980 : BitVec 32 := 7#32
  let v2464 : BitVec 1 := Scalar.cmpi .eq v2451 c7_i32_2980
  let c6_i32_2981 : BitVec 32 := 6#32
  let c6_i32_2978 : BitVec 32 := 6#32
  let v2462 : BitVec 1 := Scalar.cmpi .eq v2451 c6_i32_2978
  let c10_i32_2979 : BitVec 32 := 10#32
  let c5_i32_2976 : BitVec 32 := 5#32
  let v2460 : BitVec 1 := Scalar.cmpi .eq v2451 c5_i32_2976
  let c14_i32_2977 : BitVec 32 := 14#32
  let c4_i32_2974 : BitVec 32 := 4#32
  let v2458 : BitVec 1 := Scalar.cmpi .eq v2451 c4_i32_2974
  let c13_i32_2975 : BitVec 32 := 13#32
  let c3_i32_2972 : BitVec 32 := 3#32
  let v2456 : BitVec 1 := Scalar.cmpi .eq v2451 c3_i32_2972
  let c9_i32_2973 : BitVec 32 := 9#32
  let c2_i32_2970 : BitVec 32 := 2#32
  let v2454 : BitVec 1 := Scalar.cmpi .eq v2451 c2_i32_2970
  let c5_i32_2971 : BitVec 32 := 5#32
  let c1_i32_2967 : BitVec 32 := 1#32
  let v2452 : BitVec 1 := Scalar.cmpi .eq v2451 c1_i32_2967
  let c1_i32_2968 : BitVec 32 := 1#32
  let c0_i32_2969 : BitVec 32 := 0#32
  let v2453 : BitVec 32 := Scalar.select v2452 c1_i32_2968 c0_i32_2969
  let v2455 : BitVec 32 := Scalar.select v2454 c5_i32_2971 v2453
  let v2457 : BitVec 32 := Scalar.select v2456 c9_i32_2973 v2455
  let v2459 : BitVec 32 := Scalar.select v2458 c13_i32_2975 v2457
  let v2461 : BitVec 32 := Scalar.select v2460 c14_i32_2977 v2459
  let v2463 : BitVec 32 := Scalar.select v2462 c10_i32_2979 v2461
  let v2465 : BitVec 32 := Scalar.select v2464 c6_i32_2981 v2463
  let v2467 : BitVec 32 := Scalar.select v2466 c2_i32_2983 v2465
  let v2469 : BitVec 32 := Scalar.select v2468 c3_i32_2985 v2467
  let v2471 : BitVec 32 := Scalar.select v2470 c7_i32_2987 v2469
  let v2473 : BitVec 32 := Scalar.select v2472 c11_i32_2989 v2471
  let v2475 : BitVec 32 := Scalar.select v2474 c15_i32_2991 v2473
  let v2477 : BitVec 32 := Scalar.select v2476 c12_i32_2993 v2475
  let v2479 : BitVec 32 := Scalar.select v2478 c8_i32_2995 v2477
  let v2481 : BitVec 32 := Scalar.select v2480 c4_i32_2997 v2479
  let c128_i32_3006 : BitVec 32 := 128#32
  let v2494 : BitVec 32 := Scalar.muli v2481 c128_i32_3006
  let c64_i32_3007 : BitVec 32 := 64#32
  let v2495 : BitVec 32 := Scalar.addi v2494 c64_i32_3007
  let v2496 : Index := Scalar.indexCast v2495
  let c0_3008 : Index := 0#32
  ![v2496.toNat, 0]
abbrev stage0_0 : Fin 1 → Memref sig .tc .vmem S128x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S2048x2048 : Shape := ⟨2, ![2048, 2048]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S_, .f32⟩
  | .hbm, ⟨8, _⟩ => ⟨S2048x2048, .f32⟩
  | .hbm, ⟨9, _⟩ => ⟨S2048x2048, .f32⟩
  | .hbm, ⟨10, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== ClippedIdeal.lean ====
abbrev S2048x2048 : Shape := ⟨2, ![2048, 2048]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S2048x2048, .f32⟩
  | .hbm, ⟨9, _⟩ => ⟨S2048x2048, .f32⟩
  | .hbm, ⟨10, _⟩ => ⟨S_, .f32⟩
  | .hbm, ⟨11, _⟩ => ⟨S2048x2048, .f32⟩
  | .hbm, ⟨12, _⟩ => ⟨S2048x2048, .f32⟩
  | .hbm, ⟨13, _⟩ => ⟨S2048x2048, .f32⟩
  | .hbm, ⟨14, _⟩ => ⟨S2048x2048, .f32⟩
  | .hbm, ⟨15, _⟩ => ⟨S_, .f32⟩
  | .hbm, ⟨16, _⟩ => ⟨S2048x2048, .f32⟩
  | .hbm, ⟨17, _⟩ => ⟨S2048x2048, .f32⟩
  | .hbm, ⟨18, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_cst_0 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩

abbrev nD : Nat := 1
abbrev τ : Topo := Topo.v7x

variable {F : FTy → Type} [FloatOps F]
-- ==== Proof.ProgIdeal.lean ====
/-
The kernel body written once per KIND of step.

The printed body is a straight line of 256 memory operations. All but a few of them come in three kinds — start a hop
of one of the two rings, wait for a hop, multiply one received chunk — at varying ring, hop and quarter. Here each
kind is one definition in those indices, and `body_eq` says the printed body is the sequence of them.

A ring is a `Bool`: `true` moves chunks to the RIGHT neighbour (`comm_r`, `send_r`, `recv_r`), `false` to the LEFT one
(`comm_l`, `send_l`, `recv_l`). A hop `h` of quarter `s` copies 32 rows: rows `32 s …` of the own block for hop 0, of
the slot the hop before arrived in otherwise, into slot `h % 4` of the neighbour.
-/
module

public import proofs.«01_k».proof.Proof.Gen.KernelIdeal.Skeleton
public import Idealize.ShloMosaic.Lib.Pipeline.Regions

@[expose] public section

noncomputable section

namespace Cert.KernelIdeal.Ring

open Cert.KernelIdeal Cert.KernelIdeal.Gen
open Idealize.ShloMosaic Idealize.SL.Sem

variable {F : FTy → Type} [FloatOps F]

/-! ## Buffers, slots and semaphores -/

/-- The slot hop `h` arrives in. -/
abbrev slot (h : ℕ) : Fin 4 := ⟨h % 4, Nat.mod_lt _ (by decide)⟩

/-- The own block in bf16. -/
abbrev xM : Memref sig .tc .vmem S128x2048 .bf16 := Memref.whole cc0_scratch0
/-- The own columns of the weight in bf16. -/
abbrev wM : Memref sig .tc .vmem S2048x128 .bf16 := Memref.whole cc0_scratch3
/-- A ring's four slots. -/
def cM (ρ : Bool) : Memref sig .tc .vmem S4x128x2048 .bf16 := cond ρ (Memref.whole cc0_scratch1) (Memref.whole cc0_scratch2)

theorem cM_whole (ρ : Bool) : (cM ρ).IsWhole := by cases ρ <;> exact Memref.isWhole_whole _

theorem inb_piece : ∀ k s : Fin 4, ∀ a, (![k.val, 32 * s.val, 0] : Fin 3 → Nat) a + S1x32x2048.size a ≤ S4x128x2048.size a := by
  decide
theorem words_piece : ∀ k s : Fin 4,
    (Rect.unit (s := S4x128x2048) ![k.val, 32 * s.val, 0] S1x32x2048.size (inb_piece k s)).WholeWords (EltTy.packing .bf16) := by
  decide
theorem inb_own : ∀ s : Fin 4, ∀ a, (![32 * s.val, 0] : Fin 2 → Nat) a + S32x2048.size a ≤ S128x2048.size a := by decide
theorem words_own : ∀ s : Fin 4,
    (Rect.unit (s := S128x2048) ![32 * s.val, 0] S32x2048.size (inb_own s)).WholeWords (EltTy.packing .bf16) := by decide
theorem inb_sem : ∀ k s : Fin 4, ∀ a, (![k.val, s.val] : Fin 2 → Nat) a + S1x1.size a ≤ S4x4.size a := by decide
theorem inb_slot : ∀ k : Fin 4, ∀ a, (![k.val, 0, 0] : Fin 3 → Nat) a + S1x128x2048.size a ≤ S4x128x2048.size a := by decide

/-- Quarter `s` of slot `k` of ring `ρ`. -/
def piece (ρ : Bool) (k s : Fin 4) : Memref sig .tc .vmem S32x2048 .bf16 :=
  ((cM ρ).slice (Rect.unit (s := S4x128x2048) ![k.val, 32 * s.val, 0] S1x32x2048.size (inb_piece k s)) (fun _ => rfl)).squeeze
    S32x2048 squeezes_S1x32x2048_S32x2048

theorem piece_words (ρ : Bool) (k s : Fin 4) : (piece ρ k s).view.WordExact :=
  ((cM_whole ρ).wordExact_slice rfl _ (words_piece k s)).reshape _ _

/-- Quarter `s` of the own block. -/
def own (s : Fin 4) : Memref sig .tc .vmem S32x2048 .bf16 :=
  xM.slice (Rect.unit (s := S128x2048) ![32 * s.val, 0] S32x2048.size (inb_own s)) (fun _ => rfl)

theorem own_words (s : Fin 4) : (own s).view.WordExact :=
  (Memref.isWhole_whole cc0_scratch0).wordExact_slice rfl _ (words_own s)

/-- What hop `h` of quarter `s` copies from. -/
def src (ρ : Bool) : ℕ → Fin 4 → Memref sig .tc .vmem S32x2048 .bf16
  | 0, s => own s
  | h + 1, s => piece ρ (slot h) s

theorem src_words (ρ : Bool) : ∀ (h : ℕ) (s : Fin 4), (src ρ h s).view.WordExact
  | 0, s => own_words s
  | h + 1, s => piece_words ρ (slot h) s

/-- The semaphore the sender of slot `k`, quarter `s` waits on. -/
def sSem (ρ : Bool) (k s : Fin 4) : DmaSem sig :=
  (((cond ρ cc0_scratch4 cc0_scratch6).slice (Rect.unit (s := S4x4) ![k.val, s.val] S1x1.size (inb_sem k s))).squeeze S_
    squeezes_S1x1_S_).sem
/-- The semaphore the receiver of slot `k`, quarter `s` waits on. -/
def rSem (ρ : Bool) (k s : Fin 4) : DmaSem sig :=
  (((cond ρ cc0_scratch5 cc0_scratch7).slice (Rect.unit (s := S4x4) ![k.val, s.val] S1x1.size (inb_sem k s))).squeeze S_
    squeezes_S1x1_S_).sem
/-- The barrier semaphore. -/
def barS : Sem sig := (SemArray.scalar (sig.barrier 0 rfl) : Sems sig S_).sem

/-- The neighbour ring `ρ` moves chunks to. -/
def nbr (ρ : Bool) (d : Dev nD) : Dev nD := cond ρ ⟨k0_dev2 d, k0_dev2_lt d⟩ ⟨k0_dev1 d, k0_dev1_lt d⟩

/-- Hop `h` of quarter `s` takes place: all quarters for the first seven hops; of the last hop the first half travels
    to the right and the second to the left. -/
def live (ρ : Bool) (h : ℕ) (s : Fin 4) : Bool := decide (h < 7) || (decide (h = 7) && (decide (s.val < 2) == ρ))

/-! ## The steps -/

/-- Start hop `h` of quarter `s`. -/
def start (ρ : Bool) (h : ℕ) (s : Fin 4) (d : Dev nD) : Prog (TpuEff nD τ sig (Elt F) Λ₀ .tc) PUnit :=
  Prog.lift (.enqueueDma (src ρ h s) (.remote (Dev.tc (nbr ρ d)) (piece ρ (slot h) s) (.dma (sSem ρ (slot h) s)))
    (.dma (rSem ρ (slot h) s)) (src_words ρ h s) (piece_words ρ (slot h) s) ⟨⟨rfl, Or.inl rfl⟩, trivial⟩)

/-- Wait for hop `h` of quarter `s` to arrive. -/
def waitRecv (ρ : Bool) (h : ℕ) (s : Fin 4) : Prog (TpuEff nD τ sig (Elt F) Λ₀ .tc) PUnit :=
  Prog.lift (.waitDma2 (rSem ρ (slot h) s) (src ρ h s) (piece ρ (slot h) s) (src_words ρ h s) (piece_words ρ (slot h) s))

/-- Wait for the own hop `h` of quarter `s` to have left. -/
def waitSend (ρ : Bool) (h : ℕ) (s : Fin 4) : Prog (TpuEff nD τ sig (Elt F) Λ₀ .tc) PUnit :=
  Prog.lift (.waitDma2 (sSem ρ (slot h) s) (piece ρ (slot h) s) (src ρ h s) (piece_words ρ (slot h) s) (src_words ρ h s))

/-- Both waits of hop `h` of quarter `s`, if it takes place. -/
def waits (ρ : Bool) (h : ℕ) (s : Fin 4) : Prog (TpuEff nD τ sig (Elt F) Λ₀ .tc) PUnit :=
  cond (live ρ h s) (do waitRecv ρ h s; waitSend ρ h s) (pure ⟨⟩)

/-- The start of hop `h` of quarter `s`, if it takes place. -/
def starts (ρ : Bool) (h : ℕ) (s : Fin 4) (d : Dev nD) : Prog (TpuEff nD τ sig (Elt F) Λ₀ .tc) PUnit :=
  cond (live ρ h s) (start ρ h s d) (pure ⟨⟩)

/-- Quarter `s` of iteration `h`: on either ring, wait for the hop and pass it on. -/
def quarter (h : ℕ) (d : Dev nD) (s : Fin 4) : Prog (TpuEff nD τ sig (Elt F) Λ₀ .tc) PUnit := do
  waits true h s
  starts true (h + 1) s d
  waits false h s
  starts false (h + 1) s d

/-- The four quarters of iteration `h`. -/
def quarters (h : ℕ) (d : Dev nD) : Prog (TpuEff nD τ sig (Elt F) Λ₀ .tc) PUnit := do
  quarter h d 0
  quarter h d 1
  quarter h d 2
  quarter h d 3

/-- Where the product of hop `h`'s chunk of ring `ρ` goes in the result. -/
def gOff (ρ : Bool) (h : Fin 7) (d : Dev nD) : Fin 2 → ℕ :=
  cond ρ (k0_off2 d (BitVec.ofNat 32 h.val)) (k0_off3 d (BitVec.ofNat 32 h.val))

theorem gOff_inb (ρ : Bool) (h : Fin 7) (d : Dev nD) : ∀ a, gOff ρ h d a + S128x128.size a ≤ S2048x128.size a := by
  cases ρ
  · exact k0_off3_inb d h
  · exact k0_off2_inb d h

variable (arg0 : Memref sig .tc .vmem S128x2048 .bf16) (arg1 : Memref sig .tc .vmem S2048x128 .bf16)
  (arg2 : Memref sig .tc .vmem S2048x128 .f32)

/-- Multiply the chunk hop `h` of ring `ρ` brought. -/
def gemm (ρ : Bool) (h : Fin 7) (d : Dev nD) : Prog (TpuEff nD τ sig (Elt F) Λ₀ .tc) PUnit := do
  let a : Vec F S1x128x2048 .bf16 ← Prog.lift (.load (cM ρ)
    (Rect.unit (s := S4x128x2048) ![(slot h.val).val, 0, 0] S1x128x2048.size (inb_slot (slot h.val))).toLoadRect
    (View.loadsAt_vmem h_S1x128x2048))
  let w : Vec F S2048x128 .bf16 ← Prog.lift (.load wM
    (Rect.unit (s := S2048x128) ![0, 0] S2048x128.size inb_S2048x128_S2048x128_0_0).toLoadRect (View.loadsAt_vmem h_S2048x128))
  let _ : Vec F S128x128 .f32 ← Prog.lift (.load arg2
    (Rect.unit (s := S2048x128) (gOff ρ h d) S128x128.size (gOff_inb ρ h d)).toLoadRect (View.loadsAt_vmem h_S128x128))
  Prog.lift (.store arg2 (Rect.unit (s := S2048x128) (gOff ρ h d) S128x128.size (gOff_inb ρ h d)) (k0_pay8 a w) Finset.univ
    (View.stores_vmem_bits_univ h_S128x128 rfl) (.inl rfl))

/-- Iteration `h` of the first seven. -/
def iter (h : Fin 7) (d : Dev nD) : Prog (TpuEff nD τ sig (Elt F) Λ₀ .tc) PUnit := do
  quarters h.val d
  gemm arg2 true h d
  gemm arg2 false h d

/-- Multiply the own block. -/
def gemmOwn (d : Dev nD) : Prog (TpuEff nD τ sig (Elt F) Λ₀ .tc) PUnit := do
  let a : Vec F S128x2048 .bf16 ← Prog.lift (.load xM
    (Rect.unit (s := S128x2048) ![0, 0] S128x2048.size inb_S128x2048_S128x2048_0_0).toLoadRect (View.loadsAt_vmem h_S128x2048))
  let w : Vec F S2048x128 .bf16 ← Prog.lift (.load wM
    (Rect.unit (s := S2048x128) ![0, 0] S2048x128.size inb_S2048x128_S2048x128_0_0).toLoadRect (View.loadsAt_vmem h_S2048x128))
  let _ : Vec F S128x128 .f32 ← Prog.lift (.load arg2
    (Rect.unit (s := S2048x128) (k0_off1 d) S128x128.size (k0_off1_inb d)).toLoadRect (View.loadsAt_vmem h_S128x128))
  Prog.lift (.store arg2 (Rect.unit (s := S2048x128) (k0_off1 d) S128x128.size (k0_off1_inb d)) (k0_pay4 a w) Finset.univ
    (View.stores_vmem_bits_univ h_S128x128 rfl) (.inl rfl))

/-- Where the last hop's half of ring `ρ` lies in its slot, -/
def hRow (ρ : Bool) : ℕ := cond ρ 0 64
theorem hRow_inb : ∀ ρ : Bool, ∀ a, (![3, hRow ρ, 0] : Fin 3 → Nat) a + S1x64x2048.size a ≤ S4x128x2048.size a := by decide
/-- and where its product goes. -/
def hOff (ρ : Bool) (d : Dev nD) : Fin 2 → ℕ := cond ρ (k0_off4 d) (k0_off5 d)
theorem hOff_inb (ρ : Bool) (d : Dev nD) : ∀ a, hOff ρ d a + S64x128.size a ≤ S2048x128.size a := by
  cases ρ
  · exact k0_off5_inb d
  · exact k0_off4_inb d

/-- Multiply the half the last hop of ring `ρ` brought. -/
def gemmHalf (ρ : Bool) (d : Dev nD) : Prog (TpuEff nD τ sig (Elt F) Λ₀ .tc) PUnit := do
  let a : Vec F S1x64x2048 .bf16 ← Prog.lift (.load (cM ρ)
    (Rect.unit (s := S4x128x2048) ![3, hRow ρ, 0] S1x64x2048.size (hRow_inb ρ)).toLoadRect (View.loadsAt_vmem h_S1x64x2048))
  let w : Vec F S2048x128 .bf16 ← Prog.lift (.load wM
    (Rect.unit (s := S2048x128) ![0, 0] S2048x128.size inb_S2048x128_S2048x128_0_0).toLoadRect (View.loadsAt_vmem h_S2048x128))
  let _ : Vec F S64x128 .f32 ← Prog.lift (.load arg2
    (Rect.unit (s := S2048x128) (hOff ρ d) S64x128.size (hOff_inb ρ d)).toLoadRect (View.loadsAt_vmem h_S64x128))
  Prog.lift (.store arg2 (Rect.unit (s := S2048x128) (hOff ρ d) S64x128.size (hOff_inb ρ d)) (k0_pay27 a w) Finset.univ
    (View.stores_vmem_bits_univ h_S64x128 rfl) (.inl rfl))

/-- Signal the neighbour on side `ρ` that this device has entered. -/
def hello (ρ : Bool) (d : Dev nD) : Prog (TpuEff nD τ sig (Elt F) Λ₀ .tc) PUnit := semSignalWord (nbr ρ d) barS 1#32

/-- Copy the own block into scratch. -/
def fillX : Prog (TpuEff nD τ sig (Elt F) Λ₀ .tc) PUnit := do
  let a : Vec F S128x2048 .bf16 ← Prog.lift (.load arg0
    (Rect.unit (s := S128x2048) ![0, 0] S128x2048.size inb_S128x2048_S128x2048_0_0).toLoadRect (View.loadsAt_vmem h_S128x2048))
  let _ : Vec F S128x2048 .bf16 ← Prog.lift (.load xM
    (Rect.unit (s := S128x2048) ![0, 0] S128x2048.size inb_S128x2048_S128x2048_0_0).toLoadRect (View.loadsAt_vmem h_S128x2048))
  Prog.lift (.store xM (Rect.unit (s := S128x2048) ![0, 0] S128x2048.size inb_S128x2048_S128x2048_0_0) (k0_pay2 a) Finset.univ
    (View.stores_vmem h_S128x2048 ((Memref.isWhole_whole cc0_scratch0).storeExact_slice rfl _ packedbf16_S128x2048_S128x2048_0_0)
      (fun _ => rfl)) (.inl rfl))

/-- Copy the own columns of the weight into scratch. -/
def fillW : Prog (TpuEff nD τ sig (Elt F) Λ₀ .tc) PUnit := do
  let a : Vec F S2048x128 .bf16 ← Prog.lift (.load arg1
    (Rect.unit (s := S2048x128) ![0, 0] S2048x128.size inb_S2048x128_S2048x128_0_0).toLoadRect (View.loadsAt_vmem h_S2048x128))
  let _ : Vec F S2048x128 .bf16 ← Prog.lift (.load wM
    (Rect.unit (s := S2048x128) ![0, 0] S2048x128.size inb_S2048x128_S2048x128_0_0).toLoadRect (View.loadsAt_vmem h_S2048x128))
  Prog.lift (.store wM (Rect.unit (s := S2048x128) ![0, 0] S2048x128.size inb_S2048x128_S2048x128_0_0) (k0_pay3 a) Finset.univ
    (View.stores_vmem h_S2048x128 ((Memref.isWhole_whole cc0_scratch3).storeExact_slice rfl _ packedbf16_S2048x128_S2048x128_0_0)
      (fun _ => rfl)) (.inl rfl))

/-- Start hop 0 of quarter `s` on both rings. -/
def first (d : Dev nD) (s : Fin 4) : Prog (TpuEff nD τ sig (Elt F) Λ₀ .tc) PUnit := do
  start true 0 s d
  start false 0 s d

/-- Start hop 0 on both rings. -/
def firsts (d : Dev nD) : Prog (TpuEff nD τ sig (Elt F) Λ₀ .tc) PUnit := do
  first d 0
  first d 1
  first d 2
  first d 3

/-- The last iteration: the waits of the last hop. -/
def last (d : Dev nD) : Prog (TpuEff nD τ sig (Elt F) Λ₀ .tc) PUnit := quarters 7 d

/-- The seven full iterations. -/
def iters (d : Dev nD) : Prog (TpuEff nD τ sig (Elt F) Λ₀ .tc) PUnit := do
  iter arg2 0 d
  iter arg2 1 d
  iter arg2 2 d
  iter arg2 3 d
  iter arg2 4 d
  iter arg2 5 d
  iter arg2 6 d

/-- The body, step by step. -/
def body : Prog (TpuEff nD τ sig (Elt F) Λ₀ .tc) PUnit := do
  let d : Dev nD ← Prog.lift .deviceId
  hello false d
  hello true d
  fillX arg0
  semWaitWord barS 2#32
  firsts d
  fillW arg1
  gemmOwn arg2 d
  iters arg2 d
  last d
  gemmHalf arg2 true d
  gemmHalf arg2 false d

set_option maxRecDepth 1000000 in
/-- The printed body is the sequence of steps. -/
theorem body_eq (harg0 : arg0.IsWhole) (harg1 : arg1.IsWhole) (harg2 : arg2.IsWhole) :
    cc0_body (F := F) arg0 harg0 arg1 harg1 arg2 harg2 (Memref.whole cc0_scratch0) (Memref.isWhole_whole _)
      (Memref.whole cc0_scratch1) (Memref.isWhole_whole _) (Memref.whole cc0_scratch2) (Memref.isWhole_whole _)
      (Memref.whole cc0_scratch3) (Memref.isWhole_whole _) cc0_scratch4 cc0_scratch5 cc0_scratch6 cc0_scratch7
    = body arg0 arg1 arg2 := by
  chain_rfl

end Cert.KernelIdeal.Ring
-- ==== Proof.SchedIdeal.lean ====
/-
The protocol of the two rings: who hands what to whom, and when.

Every copy between devices has a number `n = 8 h + 2 s + b`: hop `h`, quarter `s`, to the right if `b = 0` and to the
left if `b = 1`. Copy `n` of a device goes to `dst n c`, into the quarter `pcN n` of a slot there, and completes on two
semaphores: `sndS n` at the sender, `rcvS n` at the receiver. Buffers and semaphores depend on `n % 32` only, so each of
the 32 cell pairs sees two rounds, `n / 32`.

What the messages carry:

* the entry signal of a device to a neighbour: the whole ring of slots this neighbour is going to write;
* the arrival of copy `n`: the quarter, holding the rows it brought, and — the flow control — the quarter `giveNo n`
  of the SENDER's other-ring slots, which this device's copy `giveNo n` will overwrite, once the sender has done with
  what lay in it (`give`). Copies of the one ring so pace those of the other;
* the departure of copy `n`: the share of its source that was lent to it.
-/
module

public import proofs.«01_k».proof.Proof.ProgIdeal
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The ghost state's algebra: the pipeline's own rounds beside the rings' -/

abbrev UB : Type := URounds (GSem nD τ sig) Bool
abbrev UU : Type := UR sig nD τ × UB

local notation "𝕄" => MT nD τ sig ℕ (Elt F) ℕ UU ℕ

abbrev EP : Emb (UR sig nD τ) (MT nD τ sig ℕ (Elt F) ℕ UU ℕ) := embL
abbrev ER : Emb UB (MT nD τ sig ℕ (Elt F) ℕ UU ℕ) := embR

/-! ## The neighbours -/

set_option maxRecDepth 100000 in
theorem nbr_nbr (ρ : Bool) (c : Dev nD) : nbr (!ρ) (nbr ρ c) = c := by revert ρ c; decide
theorem nbr_nbr' (ρ : Bool) (c : Dev nD) : nbr ρ (nbr (!ρ) c) = c := by
  cases ρ
  · exact nbr_nbr true c
  · exact nbr_nbr false c

/-- The device `h` steps up ring `ρ`: whose block arrives `h` hops later. -/
def back (ρ : Bool) : ℕ → Dev nD → Dev nD
  | 0, c => c
  | h + 1, c => back ρ h (nbr (!ρ) c)

theorem back_succ (ρ : Bool) (h : ℕ) (c : Dev nD) : back ρ (h + 1) c = back ρ h (nbr (!ρ) c) := rfl
theorem back_nbr (ρ : Bool) (h : ℕ) (c : Dev nD) : back ρ (h + 1) (nbr ρ c) = back ρ h c :=
  (back_succ ρ h (nbr ρ c)).trans (congrArg (back ρ h) (nbr_nbr ρ c))

/-! ## The copies by number -/

/-- The ring copy `n` travels on. -/
abbrev ring (n : ℕ) : Bool := decide (n % 2 = 0)
/-- Its quarter. -/
abbrev qt (n : ℕ) : Fin 4 := ⟨n / 2 % 4, Nat.mod_lt _ (by decide)⟩
/-- Copy `n` takes place. -/
def Live (n : ℕ) : Prop := n < 56 ∨ n = 56 ∨ n = 58 ∨ n = 61 ∨ n = 63
instance : DecidablePred Live := fun n => by unfold Live; infer_instance

theorem live_eq : ∀ n < 72, live (ring n) (n / 8) (qt n) = decide (Live n) := by decide

/-- The quarter of a slot it lands in. -/
abbrev pcN (n : ℕ) : Memref sig .tc .vmem S32x2048 .bf16 := piece (ring n) (slot (n / 8)) (qt n)
/-- The quarter it is read from. -/
abbrev srcN (n : ℕ) : Memref sig .tc .vmem S32x2048 .bf16 := src (ring n) (n / 8) (qt n)
/-- The two semaphores it completes on. -/
abbrev sndS (n : ℕ) : DmaSem sig := sSem (ring n) (slot (n / 8)) (qt n)
abbrev rcvS (n : ℕ) : DmaSem sig := rSem (ring n) (slot (n / 8)) (qt n)
/-- The device it goes to. -/
abbrev dst (n : ℕ) (c : Dev nD) : Dev nD := nbr (ring n) c

abbrev sndC (c : Dev nD) (n : ℕ) : GSem nD τ sig := ((c : Thread nD τ), .dma (sndS n))
abbrev rcvC (c : Dev nD) (n : ℕ) : GSem nD τ sig := ((c : Thread nD τ), .dma (rcvS n))
abbrev barC (c : Dev nD) : GSem nD τ sig := ((c : Thread nD τ), .reg barS)

theorem ring_congr {n m : ℕ} (h : n % 32 = m % 32) : ring n = ring m := by
  unfold ring; rw [show n % 2 = m % 2 by omega]
theorem slot_congr {n m : ℕ} (h : n % 32 = m % 32) : slot (n / 8) = slot (m / 8) := Fin.ext (by show n / 8 % 4 = m / 8 % 4; omega)
theorem qt_congr {n m : ℕ} (h : n % 32 = m % 32) : qt n = qt m := Fin.ext (by show n / 2 % 4 = m / 2 % 4; omega)
theorem pcN_congr {n m : ℕ} (h : n % 32 = m % 32) : pcN n = pcN m := by unfold pcN; rw [ring_congr h, slot_congr h, qt_congr h]
theorem sndS_congr {n m : ℕ} (h : n % 32 = m % 32) : sndS n = sndS m := by unfold sndS; rw [ring_congr h, slot_congr h, qt_congr h]
theorem rcvS_congr {n m : ℕ} (h : n % 32 = m % 32) : rcvS n = rcvS m := by unfold rcvS; rw [ring_congr h, slot_congr h, qt_congr h]

theorem ring_add8 (n : ℕ) : ring (n + 8) = ring n := by unfold ring; rw [show (n + 8) % 2 = n % 2 by omega]
theorem qt_add8 (n : ℕ) : qt (n + 8) = qt n := Fin.ext (by show (n + 8) / 2 % 4 = n / 2 % 4; omega)
theorem srcN_add8 (n : ℕ) : srcN (n + 8) = pcN n := by
  unfold srcN pcN; rw [ring_add8, qt_add8, Nat.add_div_right n (by decide)]; rfl
theorem srcN_lt8 {n : ℕ} (h : n < 8) : srcN n = own (qt n) := by
  unfold srcN; rw [Nat.div_eq_of_lt h]; rfl

theorem sSem_val (ρ : Bool) (k s : Fin 4) : (sSem ρ k s).val = 3 + cond ρ 0 32 + 4 * k.val + s.val := by revert ρ k s; decide
theorem rSem_val (ρ : Bool) (k s : Fin 4) : (rSem ρ k s).val = 19 + cond ρ 0 32 + 4 * k.val + s.val := by revert ρ k s; decide
theorem cond_ring (n : ℕ) : cond (ring n) 0 32 = 32 * (n % 2) := by
  unfold ring
  rcases Nat.mod_two_eq_zero_or_one n with h | h <;> rw [h] <;> rfl
theorem sndS_val (n : ℕ) : (sndS n).val = 3 + 32 * (n % 2) + 4 * (n / 8 % 4) + n / 2 % 4 := by unfold sndS; rw [sSem_val, cond_ring]
theorem rcvS_val (n : ℕ) : (rcvS n).val = 19 + 32 * (n % 2) + 4 * (n / 8 % 4) + n / 2 % 4 := by unfold rcvS; rw [rSem_val, cond_ring]

/-- The number below 32 whose cell has index `q`. -/
def codeOf (q : ℕ) : ℕ := 8 * ((q - 3) % 16 / 4) + 2 * ((q - 3) % 4) + (q - 3) / 32
/-- Whether that cell is a receiver's. -/
def isRcv (q : ℕ) : Prop := (q - 3) / 16 % 2 = 1
instance : DecidablePred isRcv := fun q => by unfold isRcv; infer_instance

theorem code_tab : ∀ b < 2, ∀ k < 4, ∀ s < 4,
    codeOf (3 + 32 * b + 4 * k + s) = 8 * k + 2 * s + b ∧ codeOf (19 + 32 * b + 4 * k + s) = 8 * k + 2 * s + b
      ∧ ¬ isRcv (3 + 32 * b + 4 * k + s) ∧ isRcv (19 + 32 * b + 4 * k + s) := by decide
theorem code_at (n : ℕ) :
    codeOf (sndS n).val = n % 32 ∧ codeOf (rcvS n).val = n % 32 ∧ ¬ isRcv (sndS n).val ∧ isRcv (rcvS n).val := by
  rw [sndS_val, rcvS_val, show n % 32 = 8 * (n / 8 % 4) + 2 * (n / 2 % 4) + n % 2 by omega]
  exact code_tab _ (Nat.mod_lt _ (by decide)) _ (Nat.mod_lt _ (by decide)) _ (Nat.mod_lt _ (by decide))

/-! ## Contents -/

/-- A block of rows as the contents of a ring's slots: every slot holds it. -/
def bufOf : (ρ : Bool) → Vec F S128x2048 .bf16 → (cM ρ).view.ty.Contents (Elt F)
  | true, x => fun j : S4x128x2048.Idx => x (Shape.pair (d := ![128, 2048]) (j 1) (j 2))
  | false, x => fun j : S4x128x2048.Idx => x (Shape.pair (d := ![128, 2048]) (j 1) (j 2))

omit [FloatOps F] in
/-- A quarter of any slot reads the quarter of the block. -/
theorem read_piece (ρ : Bool) (k s : Fin 4) (x : Vec F S128x2048 .bf16) :
    (piece ρ k s).view.read (Elt F) (bufOf ρ x) = (own s).view.read (Elt F) x := by
  have key (i : S32x2048.Idx) : Shape.reshapeEquiv squeezes_S1x32x2048_S32x2048.numel_eq i
        = (Fin.cons ⟨0, Nat.one_pos⟩ i : S1x32x2048.Idx) :=
    Shape.reshapeEquiv_cons_one (d := ![32, 2048]) _ i
  have side (i : S32x2048.Idx) :
      x (Shape.pair (d := ![128, 2048])
        ((Rect.unit (s := S4x128x2048) ![k.val, 32 * s.val, 0] S1x32x2048.size (inb_piece k s)).emb
          (Shape.reshapeEquiv squeezes_S1x32x2048_S32x2048.numel_eq i) 1)
        ((Rect.unit (s := S4x128x2048) ![k.val, 32 * s.val, 0] S1x32x2048.size (inb_piece k s)).emb
          (Shape.reshapeEquiv squeezes_S1x32x2048_S32x2048.numel_eq i) 2))
      = x ((Rect.unit (s := S128x2048) ![32 * s.val, 0] S32x2048.size (inb_own s)).emb i) := by
    rw [key i]
    refine congrArg x (funext fun a => Fin.ext ?_)
    fin_cases a <;> rfl
  funext i
  cases ρ
  · exact side i
  · exact side i

/-- The credit of one copy. -/
abbrev N : ℕ := (piece true 0 0).view.dmaCredit
theorem N_pos : 0 < N := View.dmaCredit_pos _ (by decide)
theorem credit_piece (ρ : Bool) (k s : Fin 4) : (piece ρ k s).view.dmaCredit = N := by cases ρ <;> rfl
theorem credit_own (s : Fin 4) : (own s).view.dmaCredit = N := rfl
theorem credit_src (ρ : Bool) (h : ℕ) (s : Fin 4) : (src ρ h s).view.dmaCredit = N := by
  cases h with
  | zero => exact credit_own s
  | succ h => exact credit_piece ρ _ s

end Cert.KernelIdeal.Ring
-- ==== Proof.ProtoIdeal.lean ====
/-
The rounds schedule of the rings: what each message hands over (`give`, `rcvPay`, `sndPay`, `barPay`), the schedule
itself and its tables, and the levels that order the waits.
-/
module

public import proofs.«01_k».proof.Proof.SchedIdeal

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## What is held -/

/-- The rows of block `x` as contents of the buffer of `pcN n`. -/
def rowsAt (c : Dev nD) (n : ℕ) (x : Vec F S128x2048 .bf16) : Buf (Elt F) ((pcN n).view.loc (c : Thread nD τ)) := bufOf (ring n) x
/-- The same for the own block. -/
def ownAt (c : Dev nD) (s : Fin 4) (x : Vec F S128x2048 .bf16) : Buf (Elt F) ((own s).view.loc (c : Thread nD τ)) := x

/-- A share of quarter `pcN n` of device `c`, holding the rows of block `x`. -/
def held (c : Dev nD) (n : ℕ) (q : PosShare TreeShare) (x : Vec F S128x2048 .bf16) : sProp 𝕄 :=
  (pcN n).view.loc (c : Thread nD τ) ↦[(pcN n).view.set]{q} rowsAt c n x

/-- Quarter `pcN n` of device `c`, holding anything. -/
def free (c : Dev nD) (n : ℕ) : sProp 𝕄 :=
  iprop(∃ f : Buf (Elt F) ((pcN n).view.loc (c : Thread nD τ)), (pcN n).view.loc (c : Thread nD τ) ↦[(pcN n).view.set]{fullShare} f)

/-- The share of the own block lent to the first copy of ring `ρ`. -/
abbrev lent (ρ : Bool) : PosShare TreeShare := cond ρ fullShare.right.left fullShare.right.right

instance held_storable (c : Dev nD) (n q) (x : Vec F S128x2048 .bf16) : BI.Storable (upEmb : UEmb _ 𝕄) (held c n q x) := by
  unfold held; infer_instance
instance free_storable (c : Dev nD) (n : ℕ) : BI.Storable (upEmb : UEmb _ 𝕄) (free (F := F) c n) := by
  unfold free; infer_instance

omit [FloatOps F] in
theorem free_congr (c : Dev nD) {n m : ℕ} (h : n % 32 = m % 32) : free (F := F) c n = free c m := by
  unfold free; rw [pcN_congr h]

omit [FloatOps F] in
theorem held_free (c : Dev nD) (n : ℕ) (x : Vec F S128x2048 .bf16) : held c n fullShare x ⊢ free (F := F) c n := by
  unfold held free
  iintro H
  iexists rowsAt c n x
  iexact H

omit [FloatOps F] in
/-- A received quarter is two halves: one to keep, one to lend. -/
theorem held_halves (c : Dev nD) (n : ℕ) (x : Vec F S128x2048 .bf16) :
    held c n fullShare x ⊣⊢ iprop(held c n fullShare.left x ∗ held c n fullShare.right x) := by
  unfold held
  exact pointsTo_share (PosShare.mem_left_op_right fullShare)

/-- The copy that the arrival of copy `n` lets its receiver make. -/
def giveNo (n : ℕ) : ℕ := if n % 2 = 0 then n + 9 else n + 15

variable (X : Dev nD → Vec F S128x2048 .bf16)

/-- The block copy `n` brings to device `c`. -/
abbrev got (c : Dev nD) (n : ℕ) : Vec F S128x2048 .bf16 := X (back (ring n) (n / 8 + 1) c)

/-- What the arrival of copy `n` at device `c` hands over beside the rows: the quarter that `c`'s own copy `giveNo n` is
    to overwrite, at the device copy `n` came from, and that this device is at the second round of its cell. -/
def give (c : Dev nD) (n : ℕ) : sProp 𝕄 :=
  if Live (giveNo n) ∧ 32 ≤ giveNo n then
    iprop(free (dst (giveNo n) c) (giveNo n) ∗ reached ER (rcvC (dst (giveNo n) c) (giveNo n)) 1)
  else iprop(emp)

def rcvPay (c : Dev nD) (n : ℕ) : sProp 𝕄 := iprop(held c n fullShare (got X c n) ∗ give c n)

/-- The share of its source that is lent to copy `n`. -/
def sndPay (c : Dev nD) (n : ℕ) : sProp 𝕄 :=
  if n < 8 then (own (qt n)).view.loc (c : Thread nD τ) ↦[(own (qt n)).view.set]{lent (ring n)} ownAt c (qt n) (X c)
  else held c (n - 8) fullShare.left (got X c (n - 8))

/-- What the neighbour on side `ρ` hands over on entry: its slots of ring `ρ`. -/
def barPay (c : Dev nD) (ρ : Bool) : sProp 𝕄 :=
  bigSep ((Finset.range 32).filter fun n => ring n = ρ) fun n => free (nbr ρ c) n

instance give_storable (c : Dev nD) (n : ℕ) : BI.Storable (upEmb : UEmb _ 𝕄) (give (F := F) c n) := by
  unfold give; split <;> infer_instance
instance rcvPay_storable (c : Dev nD) (n : ℕ) : BI.Storable (upEmb : UEmb _ 𝕄) (rcvPay X c n) := by
  unfold rcvPay; infer_instance
instance sndPay_storable (c : Dev nD) (n : ℕ) : BI.Storable (upEmb : UEmb _ 𝕄) (sndPay X c n) := by
  unfold sndPay; split <;> infer_instance
instance barPay_storable (c : Dev nD) (ρ : Bool) : BI.Storable (upEmb : UEmb _ 𝕄) (barPay (F := F) c ρ) := by
  unfold barPay; infer_instance

/-! ## The schedule -/

/-- The number of the copy that round `r` of the cell with index `q` sees. -/
abbrev numOf (q r : ℕ) : ℕ := codeOf q + 32 * r

/-- A barrier cell has one round, a unit from either neighbour; the cells of a copy one duty in each round whose copy
    takes place. -/
def sched : Rounds.Schedule (GSem nD τ sig) Bool 𝕄 where
  duties g r := match g.2 with
    | .reg _ => if r = 0 then Finset.univ else ∅
    | .dma q => if Live (numOf q.val r) then {true} else ∅
  unitless _ := False
  amount g _ _ := match g.2 with
    | .reg _ => 1
    | .dma _ => N
  payload g r d := match g.2 with
    | .reg _ => barPay g.1.1 d
    | .dma q => if isRcv q.val then rcvPay X g.1.1 (numOf q.val r) else sndPay X g.1.1 (numOf q.val r)
  amount_pos g _ _ _ := by
    rcases g with ⟨t, _ | _⟩
    · exact Nat.one_pos
    · exact N_pos

instance sched_storable (g : GSem nD τ sig) (r : ℕ) (d : Bool) :
    BI.Storable (upEmb : UEmb _ 𝕄) ((sched X).payload g r d) := by
  rcases g with ⟨t, _ | q⟩
  · exact barPay_storable _ _
  · show BI.Storable upEmb (if isRcv q.val then _ else _)
    split
    · exact rcvPay_storable X _ _
    · exact sndPay_storable X _ _

section Tables
variable (c : Dev nD)

omit [FloatOps F] in
theorem numOf_snd (n : ℕ) : numOf (sndS n).val (n / 32) = n := by unfold numOf; rw [(code_at n).1]; omega
omit [FloatOps F] in
theorem numOf_rcv (n : ℕ) : numOf (rcvS n).val (n / 32) = n := by unfold numOf; rw [(code_at n).2.1]; omega

omit [FloatOps F] in
theorem duties_bar : (sched X).duties (barC c) 0 = Finset.univ := rfl
omit [FloatOps F] in
theorem duties_snd {n : ℕ} (h : Live n) : (sched X).duties (sndC c n) (n / 32) = {true} := by
  show (if Live (numOf (sndS n).val (n / 32)) then _ else _) = _
  rw [numOf_snd, if_pos h]
omit [FloatOps F] in
theorem duties_rcv {n : ℕ} (h : Live n) : (sched X).duties (rcvC c n) (n / 32) = {true} := by
  show (if Live (numOf (rcvS n).val (n / 32)) then _ else _) = _
  rw [numOf_rcv, if_pos h]
omit [FloatOps F] in
theorem duties_bar_later : ∀ r, 1 ≤ r → (sched X).duties (barC c) r = ∅ := fun r hr => if_neg (by omega)
omit [FloatOps F] in
/-- No duty is left once the copies of a cell have all been waited for. -/
theorem duties_snd_later {n : ℕ} (h : ∀ r, n / 32 ≤ r → ¬ Live (n % 32 + 32 * r)) :
    ∀ r, n / 32 ≤ r → (sched X).duties (sndC c n) r = ∅ := fun r hr => by
  show (if Live (numOf (sndS n).val r) then _ else _) = _
  unfold numOf; rw [(code_at n).1, if_neg (h r hr)]
omit [FloatOps F] in
theorem duties_rcv_later {n : ℕ} (h : ∀ r, n / 32 ≤ r → ¬ Live (n % 32 + 32 * r)) :
    ∀ r, n / 32 ≤ r → (sched X).duties (rcvC c n) r = ∅ := fun r hr => by
  show (if Live (numOf (rcvS n).val r) then _ else _) = _
  unfold numOf; rw [(code_at n).2.1, if_neg (h r hr)]

omit [FloatOps F] in
theorem expect_bar : (sched X).expect (barC c) 0 = 2 := by
  unfold Schedule.expect Schedule.amountOf
  rw [duties_bar]; rfl
omit [FloatOps F] in
theorem expect_snd {n : ℕ} (h : Live n) : (sched X).expect (sndC c n) (n / 32) = N := by
  unfold Schedule.expect Schedule.amountOf
  rw [duties_snd X c h, Finset.sum_singleton]; rfl
omit [FloatOps F] in
theorem expect_rcv {n : ℕ} (h : Live n) : (sched X).expect (rcvC c n) (n / 32) = N := by
  unfold Schedule.expect Schedule.amountOf
  rw [duties_rcv X c h, Finset.sum_singleton]; rfl

omit [FloatOps F] in
theorem payload_snd (n : ℕ) (d : Bool) : (sched X).payload (sndC c n) (n / 32) d = sndPay X c n := by
  show (if isRcv (sndS n).val then _ else sndPay X c (numOf (sndS n).val (n / 32))) = _
  rw [if_neg (code_at n).2.2.1, numOf_snd]
omit [FloatOps F] in
theorem payload_rcv (n : ℕ) (d : Bool) : (sched X).payload (rcvC c n) (n / 32) d = rcvPay X c n := by
  show (if isRcv (rcvS n).val then rcvPay X c (numOf (rcvS n).val (n / 32)) else _) = _
  rw [if_pos (code_at n).2.2.2, numOf_rcv]

omit [FloatOps F] in
theorem rest_bar : bigSep ((sched X).duties (barC c) 0 \ ∅) (fun d => (sched X).payload (barC c) 0 d)
    = iprop(barPay c true ∗ barPay c false) := by
  rw [Finset.sdiff_empty, duties_bar, bigSep_univ_eq_bigSepL [true, false] (by decide) (by decide), bigSepL_cons_cons, bigSepL_singleton]
  rfl
omit [FloatOps F] in
theorem rest_snd {n : ℕ} (h : Live n) :
    bigSep ((sched X).duties (sndC c n) (n / 32) \ ∅) (fun d => (sched X).payload (sndC c n) (n / 32) d) = sndPay X c n := by
  rw [Finset.sdiff_empty, duties_snd X c h, bigSep_singleton, payload_snd]
omit [FloatOps F] in
theorem rest_rcv {n : ℕ} (h : Live n) :
    bigSep ((sched X).duties (rcvC c n) (n / 32) \ ∅) (fun d => (sched X).payload (rcvC c n) (n / 32) d) = rcvPay X c n := by
  rw [Finset.sdiff_empty, duties_rcv X c h, bigSep_singleton, payload_rcv]

end Tables

/-! ## The levels: an index is its own level. Senders' cells are waited for at 0, barriers at 1, the arrival of hop `h`
at `h + 2`; a device that waits for hop `h` owes arrivals of hop `h + 1` and later only. -/

def L (g : GSem nD τ sig) : Finset ℕ := if g.1.2 = .tc then Finset.range 10 else ∅
def lv (_ : GSem nD τ sig) (i : ℕ) : ℕ := i

theorem L_of_ne (g : GSem nD τ sig) (h : g.1.2 ≠ .tc) : L g = ∅ := if_neg h
theorem L_tc (c : Dev nD) (sm : SemLoc sig) : L ((c : Thread nD τ), sm) = Finset.range 10 := if_pos rfl

/-- What device `c` owes for its copies in `S`: the arrival of each. -/
def dues (S : Finset ℕ) (c : Dev nD) : CellTallies nD τ sig ℕ := ∑ n ∈ S, tallyAt (rcvC (dst n c) n) (n / 8 + 2) N

theorem dues_pos {S : Finset ℕ} {c : Dev nD} {g : GSem nD τ sig} {i : ℕ} (h : 0 < dues S c g i) :
    ∃ n ∈ S, g = rcvC (dst n c) n ∧ i = n / 8 + 2 := by
  unfold dues at h
  rw [Finset.sum_apply, Finsupp.finsetSum_apply] at h
  obtain ⟨n, hn, hp⟩ := Finset.exists_ne_zero_of_sum_ne_zero (Nat.ne_of_gt h)
  rw [tallyAt_apply] at hp
  refine ⟨n, hn, ?_⟩
  by_contra hc
  exact hp (if_neg hc)

omit [FloatOps F] in
/-- A wait at index `i` is fine while all dues are of later hops. -/
theorem mayWait_dues (c : Dev nD) (sm : SemLoc sig) (i : ℕ) (S : Finset ℕ) (hi : i < 10)
    (hS : ∀ n ∈ S, i < n / 8 + 2 ∧ n < 64) :
    (levAts L lv : sProp 𝕄) ⊢ MayWait (c : Thread nD τ) sm i (dues S c) := by
  refine MayOwe.of_cut (L := L) (lev := lv) i (fun p hp => ?_) (fun g u hg => ?_) (fun p hp => ?_) (fun g u hg => ?_)
  · rw [Finset.mem_singleton.mp hp, L_tc]; exact Finset.mem_range.mpr hi
  · obtain ⟨n, hn, rfl, rfl⟩ := dues_pos hg
    rw [L_tc]; have := hS n hn; exact Finset.mem_range.mpr (by omega)
  · rw [Finset.mem_singleton.mp hp]; exact Nat.le_refl i
  · obtain ⟨n, hn, rfl, rfl⟩ := dues_pos hg
    exact (hS n hn).1

end Cert.KernelIdeal.Ring
-- ==== Proof.StepIdeal.lean ====
/-
The rules of one copy: starting it, waiting for its arrival, waiting for it to have left.
-/
module

public import proofs.«01_k».proof.Proof.ProtoIdeal

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

abbrev 𝒱₀ : Variants := Variants.none

/-- The triple of a part of the body on device `c`. -/
abbrev wpc (c : Dev nD) (p : Prog (TpuEff nD τ sig (Elt F) Λ₀ .tc) PUnit) (Q : PUnit → sProp 𝕄) : sProp 𝕄 :=
  wp frame (wpE (defs₀ (F := F)) 𝒱₀ (c : Thread nD τ) none) Set.univ p Q

omit [FloatOps F] in
/-- Contents that read the same through a memref are the same to hold. -/
theorem pointsTo_of_read (c : Dev nD) {s : Shape} {e : EltTy} (m : Memref sig .tc .vmem s e) (q : PosShare TreeShare)
    (f g : Buf (Elt F) (m.view.loc (c : Thread nD τ))) (h : m.view.read (Elt F) f = m.view.read (Elt F) g) :
    (m.view.loc (c : Thread nD τ) ↦[m.view.set]{q} f : sProp 𝕄) = m.view.loc (c : Thread nD τ) ↦[m.view.set]{q} g :=
  pointsTo_congr fun i hi => by
    obtain ⟨x, -, rfl⟩ := Finset.mem_map.mp hi
    have := congrFun h x
    rw [View.read_apply, View.read_apply] at this
    exact (cast_inj _).mp this

omit [FloatOps F] in
theorem read_write_univ {s : Shape} {e : EltTy} (m : Memref sig .tc .vmem s e) (f : m.view.ty.Contents (Elt F)) (w : s.Idx → Elt F e) :
    m.view.read (Elt F) (m.view.write (Elt F) f w Finset.univ) = w := by
  funext x
  rw [View.read_apply, View.write_emb_of_mem _ _ (Finset.mem_univ _), cast_cast, cast_eq]

omit [FloatOps F] in
/-- A quarter overwritten by the rows of a block holds them. -/
theorem landed (c : Dev nD) (n : ℕ) (fd : Buf (Elt F) ((pcN n).view.loc (c : Thread nD τ))) (x : Vec F S128x2048 .bf16)
    (w : S32x2048.Idx → Elt F .bf16) (hw : w = (own (qt n)).view.read (Elt F) x) :
    ((pcN n).view.loc (c : Thread nD τ) ↦[(pcN n).view.set]{fullShare} (pcN n).view.write (Elt F) fd w Finset.univ : sProp 𝕄)
      ⊢ held c n fullShare x :=
  Entails.of_eq (pointsTo_of_read c (pcN n) fullShare _ (rowsAt c n x)
    ((read_write_univ (pcN n) fd w).trans (hw.trans (read_piece (ring n) (slot (n / 8)) (qt n) x).symm)))

variable (X : Dev nD → Vec F S128x2048 .bf16)

/-- Starting copy `n`, its source held at some share of the block the copy brings. -/
theorem wp_start (c : Dev nD) (n : ℕ) (hn : Live n) (κ₁ κ₂ : ℕ) (q : PosShare TreeShare)
    (fs : Buf (Elt F) ((srcN n).view.loc (c : Thread nD τ)))
    (fd : Buf (Elt F) ((pcN n).view.loc (dst n c : Thread nD τ)))
    (hfs : (srcN n).view.read (Elt F) fs = (own (qt n)).view.read (Elt F) (got X (dst n c) n))
    (hsnd : ((srcN n).view.loc (c : Thread nD τ) ↦[(srcN n).view.set]{q} fs : sProp 𝕄) ⊢ sndPay X c n)
    (O O₀ : CellTallies nD τ sig ℕ) (hO : O₀ = O + tallyAt (rcvC (dst n c) n) (n / 8 + 2) N) (W : Waits sig ℕ)
    (Q : PUnit → sProp 𝕄) :
    iprop(cellInv ER (sched X) κ₁ (sndC c n) ∗ cellInv ER (sched X) κ₂ (rcvC (dst n c) n)
        ∗ ((srcN n).view.loc (c : Thread nD τ) ↦[(srcN n).view.set]{q} fs)
        ∗ (((pcN n).view.loc (dst n c : Thread nD τ) ↦[(pcN n).view.set]{fullShare} fd) ∗ give (dst n c) n)
        ∗ owes (c : Thread nD τ) O₀ W
        ∗ dutyTok ER (sndC c n) (n / 32) true ∗ reached ER (sndC c n) (n / 32)
        ∗ dutyTok ER (rcvC (dst n c) n) (n / 32) true ∗ reached ER (rcvC (dst n c) n) (n / 32))
      ⊢ iprop(((cred (tallyAt (sndC c n) 0 N) ∗ owes (c : Thread nD τ) O W) -∗ Q ⟨⟩)
          -∗ wpc c (start (ring n) (n / 8) (qt n) c) Q) := by
  have h := Rounds.wp_send_pointsTo_with (α := PUnit) (k := .ret) (Q := Q) 𝒱₀ ER (sched X) (c : Thread nD τ) none (c' := (dst n c : Thread nD τ))
    (src := srcN n) (dst := pcN n) (sS := .dma (sndS n)) (sem := .dma (rcvS n)) (hsc := rfl)
    (hsrc := src_words _ _ _) (hdst := piece_words _ _ _) (hsem := ⟨⟨rfl, Or.inl rfl⟩, trivial⟩)
    (q := q) (fs := fs) (fd := fd) (F := give (dst n c) n) (κ₁ := κ₁) (κ₂ := κ₂) (r₁ := n / 32) (r₂ := n / 32) (d₁ := true) (d₂ := true) (defs := defs₀ (F := F)) (Γ := .empty) (Es := Set.univ)
    (by rw [duties_snd X c hn]; exact Finset.mem_singleton_self _) (by rw [duties_rcv X _ hn]; exact Finset.mem_singleton_self _)
    (n / 8 + 2) 0 N (credit_piece _ _ _) rfl rfl O hO (W := W) (by rw [payload_snd]; exact hsnd)
    (by
      rw [payload_rcv]; unfold rcvPay
      exact sep_mono_left (landed (dst n c) n fd _ _ hfs))
  refine h.trans ?_
  iintro H Hk
  iapply H
  iintro Hc
  rw [wp_ret]; imodintro
  iapply Hk; iexact Hc

/-- Waiting for copy `n` to arrive. -/
theorem wp_arrive (c : Dev nD) (n : ℕ) (hn : Live n) (κ : ℕ) (O : CellTallies nD τ sig ℕ) (W : Waits sig ℕ) (Q : PUnit → sProp 𝕄) :
    iprop(cellInv ER (sched X) κ (rcvC c n) ∗ cred (tallyAt (rcvC c n) (n / 8 + 2) N) ∗ owes (c : Thread nD τ) O W
        ∗ MayWait (c : Thread nD τ) (.dma (rcvS n)) (n / 8 + 2) O ∗ atPos ER (rcvC c n) (n / 32) ∅ 0)
      ⊢ iprop(((owes (c : Thread nD τ) O (insert (.dma (rcvS n), n / 8 + 2) W) ∗ atPos ER (rcvC c n) (n / 32 + 1) ∅ 0
            ∗ reached ER (rcvC c n) (n / 32 + 1) ∗ rcvPay X c n) -∗ Q ⟨⟩)
          -∗ wpc c (waitRecv (ring n) (n / 8) (qt n)) Q) := by
  have h := Rounds.wp_wait_rest_token (α := PUnit) (k := .ret) (Q := Q) 𝒱₀ ER (sched X) (c : Thread nD τ) none (κ := κ) (defs := defs₀ (F := F)) (Γ := .empty)
    (wpE_waitDma2_eq (sem := rcvS n) (src := srcN n) (dst := pcN n) (hsrc := src_words _ _ _) (hdst := piece_words _ _ _)
      𝒱₀ (c : Thread nD τ) none Set.univ) (Set.mem_univ _) (n / 8 + 2) (O := O) (W := W) (R := n / 32) (m := 0) (T := ∅)
    (by rw [Nat.zero_add, expect_rcv X c hn])
  rw [rest_rcv X c hn, credit_piece] at h
  refine h.trans ?_
  iintro H Hk
  iapply H
  iintro Hc
  rw [wp_ret]; imodintro
  iapply Hk; iexact Hc

/-- Waiting for copy `n` to have left. -/
theorem wp_left (c : Dev nD) (n : ℕ) (hn : Live n) (κ : ℕ) (O : CellTallies nD τ sig ℕ) (W : Waits sig ℕ) (Q : PUnit → sProp 𝕄) :
    iprop(cellInv ER (sched X) κ (sndC c n) ∗ cred (tallyAt (sndC c n) 0 N) ∗ owes (c : Thread nD τ) O W
        ∗ MayWait (c : Thread nD τ) (.dma (sndS n)) 0 O ∗ atPos ER (sndC c n) (n / 32) ∅ 0)
      ⊢ iprop(((owes (c : Thread nD τ) O (insert (.dma (sndS n), 0) W) ∗ atPos ER (sndC c n) (n / 32 + 1) ∅ 0
            ∗ reached ER (sndC c n) (n / 32 + 1) ∗ sndPay X c n) -∗ Q ⟨⟩)
          -∗ wpc c (waitSend (ring n) (n / 8) (qt n)) Q) := by
  have h := Rounds.wp_wait_rest_token (α := PUnit) (k := .ret) (Q := Q) 𝒱₀ ER (sched X) (c : Thread nD τ) none (κ := κ) (defs := defs₀ (F := F)) (Γ := .empty)
    (wpE_waitDma2_eq (sem := sndS n) (src := pcN n) (dst := srcN n) (hsrc := piece_words _ _ _) (hdst := src_words _ _ _)
      𝒱₀ (c : Thread nD τ) none Set.univ) (Set.mem_univ _) 0 (O := O) (W := W) (R := n / 32) (m := 0) (T := ∅)
    (by rw [Nat.zero_add, expect_snd X c hn])
  rw [rest_snd X c hn, credit_src] at h
  refine h.trans ?_
  iintro H Hk
  iapply H
  iintro Hc
  rw [wp_ret]; imodintro
  iapply Hk; iexact Hc

end Cert.KernelIdeal.Ring
-- ==== Proof.PoolIdeal.lean ====
/-
The state of a device between two steps of its body, and the rules of the two steps.

Everything a device holds for its copies is indexed by the copy's number, so its state is a handful of pools, each the
numbers below 96 that satisfy a predicate of two counters: `w`, the number of copies waited for, and `u`, the number of
copies started. Every rule moves one number in or out of a pool.
-/
module

public import proofs.«01_k».proof.Proof.StepIdeal

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## Pools -/

/-- The numbers below 96 that satisfy `p`. -/
def nums (p : ℕ → Prop) : Finset ℕ := @Finset.filter ℕ p (fun n => Classical.propDecidable (p n)) (Finset.range 96)

theorem mem_nums {p : ℕ → Prop} {n : ℕ} : n ∈ nums p ↔ n < 96 ∧ p n := by
  letI : DecidablePred p := fun n => Classical.propDecidable (p n)
  exact Finset.mem_filter.trans (and_congr_left' Finset.mem_range)

theorem nums_congr {p p' : ℕ → Prop} (h : ∀ n < 96, p n ↔ p' n) : nums p = nums p' :=
  Finset.ext fun n => by rw [mem_nums, mem_nums]; exact and_congr_right (h n)

theorem nums_erase {p p' : ℕ → Prop} {a : ℕ} (h : ∀ n < 96, p' n ↔ (p n ∧ n ≠ a)) : (nums p).erase a = nums p' :=
  Finset.ext fun n => by
    rw [Finset.mem_erase, mem_nums, mem_nums]
    exact ⟨fun ⟨h1, h2, h3⟩ => ⟨h2, (h n h2).mpr ⟨h3, h1⟩⟩, fun ⟨h1, h2⟩ => ⟨((h n h1).mp h2).2, h1, ((h n h1).mp h2).1⟩⟩

/-- One resource for each number that satisfies `p`. -/
def pool (p : ℕ → Prop) (Φ : ℕ → sProp 𝕄) : sProp 𝕄 := bigSep (nums p) Φ

omit [FloatOps F] in
theorem pool_congr {p p' : ℕ → Prop} (h : ∀ n < 96, p n ↔ p' n) (Φ : ℕ → sProp 𝕄) : pool p Φ = pool p' Φ := by
  unfold pool; rw [nums_congr h]

omit [FloatOps F] in
/-- One number more or less. -/
theorem pool_step {p p' : ℕ → Prop} (a : ℕ) (ha : a < 96) (hp : p a) (h : ∀ n < 96, p' n ↔ (p n ∧ n ≠ a)) (Φ : ℕ → sProp 𝕄) :
    pool p Φ = iprop(Φ a ∗ pool p' Φ) := by
  unfold pool; rw [bigSep_erase (mem_nums.mpr ⟨ha, hp⟩), nums_erase h]; rfl

omit [FloatOps F] in
theorem pool_get {p : ℕ → Prop} (a : ℕ) (ha : a < 96) (hp : p a) (Φ : ℕ → sProp 𝕄) : pool p Φ ⊢ Φ a :=
  bigSep_elim (mem_nums.mpr ⟨ha, hp⟩)

/-! ## Which numbers each pool has -/

/-- Device `c`'s own quarter that copy `n` landed in has been handed over to be overwritten. -/
def Gone (u n : ℕ) : Prop := Live (n + 32) ∧ (n % 2 = 0 ∧ n + 17 < u ∨ n % 2 = 1 ∧ n + 23 < u)
/-- The copy whose arrival makes the target of copy `n` free. -/
def giver (n : ℕ) : ℕ := if n % 2 = 0 then n - 15 else n - 9

/-- Copies not started. -/
def NS (u n : ℕ) : Prop := Live n ∧ u ≤ n
/-- Copies started and not known to have left. -/
def FL (w u n : ℕ) : Prop := Live n ∧ w ≤ n ∧ n < u
/-- Copies not arrived. -/
def RC (w n : ℕ) : Prop := Live n ∧ w ≤ n
/-- Copies not started whose targets are free. -/
def TG (w u n : ℕ) : Prop := Live n ∧ u ≤ n ∧ (n < 32 ∨ giver n < w)
/-- Copies arrived whose rows are still there: the half that is kept, -/
def KP (w u n : ℕ) : Prop := Live n ∧ n < w ∧ ¬ Gone u n
/-- and, by the copy it is lent to, the half that is lent, while it is here. -/
def SR (w u n : ℕ) : Prop := n < 72 ∧ (n < 8 ∨ (Live (n - 8) ∧ n < w + 8 ∧ ¬ Gone u (n - 8))) ∧ ¬ FL w u n
/-- The rounds the cells are at. -/
def PS (w n : ℕ) : Prop := (w ≤ n ∨ ¬ Live n) ∧ (n < 32 ∨ (n - 32 < w ∧ Live (n - 32)))

/-! ## What each pool holds -/

variable (X : Dev nD → Vec F S128x2048 .bf16) (c : Dev nD)

def toks (n : ℕ) : sProp 𝕄 := iprop(dutyTok ER (sndC c n) (n / 32) true ∗ dutyTok ER (rcvC (dst n c) n) (n / 32) true)
def flying (n : ℕ) : sProp 𝕄 := cred (tallyAt (sndC c n) 0 N)
def coming (n : ℕ) : sProp 𝕄 := cred (tallyAt (rcvC c n) (n / 8 + 2) N)
def target (n : ℕ) : sProp 𝕄 := iprop(free (dst n c) n ∗ reached ER (rcvC (dst n c) n) (n / 32))
def kept (n : ℕ) : sProp 𝕄 := held c n fullShare.right (got X c n)
def at_ (n : ℕ) : sProp 𝕄 :=
  iprop((atPos ER (sndC c n) (n / 32) ∅ 0 ∗ atPos ER (rcvC c n) (n / 32) ∅ 0)
    ∗ reached ER (sndC c n) (n / 32) ∗ reached ER (rcvC c n) (n / 32))

/-- The cells a device uses: its barrier and, by the number below 32, its senders' (`false`) and receivers' (`true`). -/
abbrev kcell (ck : Dev nD × Option (Fin 32 × Bool)) : GSem nD τ sig := match ck.2 with
  | none => barC ck.1
  | some (i, false) => sndC ck.1 i.val
  | some (i, true) => rcvC ck.1 i.val

/-- A name for the invariant of each of them. -/
abbrev Names : Type := Dev nD × Option (Fin 32 × Bool) → ℕ

/-- What is known throughout: every cell's invariant, that every cell has reached its first round, and the levels. -/
def known (K : Names) : sProp 𝕄 :=
  iprop((bigSep Finset.univ fun ck => cellInv ER (sched X) (K ck) (kcell ck))
    ∗ (bigSep Finset.univ fun ck => reached ER (kcell ck) 0) ∗ levAts L lv)

instance known_persistent (K : Names) : BI.Persistent (known X K) := by unfold known; infer_instance

abbrev codeN (n : ℕ) : Fin 32 := ⟨n % 32, Nat.mod_lt _ (by decide)⟩

omit [FloatOps F] in
theorem known_inv (K : Names) (ck : Dev nD × Option (Fin 32 × Bool)) : known X K ⊢ cellInv ER (sched X) (K ck) (kcell ck) := by
  have h : (bigSep Finset.univ fun ck => (cellInv ER (sched X) (K ck) (kcell ck) : sProp 𝕄)) ⊢ cellInv ER (sched X) (K ck) (kcell ck) :=
    bigSep_elim (Finset.mem_univ ck)
  unfold known
  iintro ⟨H, -⟩
  iapply h
  iexact H
omit [FloatOps F] in
theorem known_reached (K : Names) (ck : Dev nD × Option (Fin 32 × Bool)) : known X K ⊢ reached ER (kcell ck) 0 := by
  have h : (bigSep Finset.univ fun ck => (reached ER (kcell ck) 0 : sProp 𝕄)) ⊢ reached ER (kcell ck) 0 :=
    bigSep_elim (Finset.mem_univ ck)
  unfold known
  iintro ⟨-, H, -⟩
  iapply h
  iexact H
omit [FloatOps F] in
theorem known_lev (K : Names) : known X K ⊢ (levAts L lv : sProp 𝕄) := by
  unfold known
  iintro ⟨-, -, H⟩
  iexact H

omit [FloatOps F] in
theorem known_snd (K : Names) (n : ℕ) : known X K ⊢ cellInv ER (sched X) (K (c, some (codeN n, false))) (sndC c n) := by
  have h := known_inv X K (c, some (codeN n, false))
  have e : kcell (c, some (codeN n, false)) = sndC c n := by
    show sndC c (n % 32) = sndC c n
    unfold sndC; rw [sndS_congr (Nat.mod_mod n 32)]
  rw [e] at h; exact h
omit [FloatOps F] in
theorem known_rcv (K : Names) (n : ℕ) : known X K ⊢ cellInv ER (sched X) (K (c, some (codeN n, true))) (rcvC c n) := by
  have h := known_inv X K (c, some (codeN n, true))
  have e : kcell (c, some (codeN n, true)) = rcvC c n := by
    show rcvC c (n % 32) = rcvC c n
    unfold rcvC; rw [rcvS_congr (Nat.mod_mod n 32)]
  rw [e] at h; exact h

/-- What device `c` owes. -/
def owing (u : ℕ) : sProp 𝕄 := iprop(∃ W, owes (c : Thread nD τ) (dues (nums (NS u)) c) W)

/-- The state after the waits for the copies below `w` and the starts of the copies below `u`. -/
def St (K : Names) (w u : ℕ) : sProp 𝕄 :=
  iprop(known X K ∗ pool (NS u) (toks c) ∗ pool (FL w u) (flying c) ∗ pool (RC w) (coming c) ∗ pool (TG w u) (target c)
    ∗ pool (KP w u) (kept X c) ∗ pool (SR w u) (sndPay X c) ∗ pool (PS w) (at_ c) ∗ owing c u)

set_option maxRecDepth 10000 in
omit [FloatOps F] in
/-- A wait at level `i` is fine once every copy that could be owed lies later. -/
theorem known_mayWait (K : Names) (sm : SemLoc sig) (i u : ℕ) (hi : i < 10) (hu : ∀ n, u ≤ n → i < n / 8 + 2) :
    known X K ⊢ MayWait (c : Thread nD τ) sm i (dues (nums (NS u)) c) :=
  have h : ∀ n ∈ nums (NS u), i < n / 8 + 2 ∧ n < 64 := fun n hn => by
    have := (mem_nums.mp hn).2
    exact ⟨hu n this.2, by unfold NS Live at this; omega⟩
  (known_lev X K).trans (mayWait_dues (F := F) c sm i (nums (NS u)) hi h)

/-! ## Waiting -/

omit [FloatOps F] in
/-- What the arrival of copy `w` hands over is a target. -/
theorem take_give {w : ℕ} (hw : Live w) :
    iprop(give c w ∗ pool (TG w (w + 8)) (target (F := F) c)) ⊢ pool (TG (w + 1) (w + 8)) (target c) := by
  by_cases h : Live (giveNo w) ∧ 32 ≤ giveNo w
  · have e : give (F := F) c w = target c (giveNo w) := by
      unfold give target
      rw [if_pos h, show giveNo w / 32 = 1 by have := h.1; unfold Live at this; omega]
    rw [e]
    exact Entails.of_eq (pool_step (giveNo w) (by have := h.1; unfold Live at this; omega)
      (by refine ⟨h.1, ?_, Or.inr ?_⟩ <;> (try unfold giver) <;> unfold giveNo <;> split_ifs <;> omega)
      (fun n hn => by
        have h1 := h.1; have h2 := h.2
        unfold TG giver giveNo at *; unfold Live at *; split_ifs at * <;> omega) _).symm
  · have e : give (F := F) c w = iprop(emp) := if_neg h
    rw [e, pool_congr (p := TG w (w + 8)) (p' := TG (w + 1) (w + 8)) (fun n hn => by
        unfold TG giver giveNo at *; unfold Live at *; split_ifs at * <;> omega)]
    exact BI.emp_sep.1

omit [FloatOps F] in
theorem held_snd (n : ℕ) : held c n fullShare.left (got X c n) = sndPay X c (n + 8) := by
  unfold sndPay
  rw [if_neg (by omega), Nat.add_sub_cancel]

omit [FloatOps F] in
theorem take_src {w : ℕ} (hw : Live w) :
    iprop(sndPay X c w ∗ sndPay X c (w + 8) ∗ pool (SR w (w + 8)) (sndPay X c)) ⊢ pool (SR (w + 1) (w + 8)) (sndPay X c) := by
  have hb : w < 64 := by unfold Live at hw; omega
  have e1 : pool (fun n => SR (w + 1) (w + 8) n ∧ n ≠ w) (sndPay X c)
      = iprop(sndPay X c (w + 8) ∗ pool (SR w (w + 8)) (sndPay X c)) :=
    pool_step (w + 8) (by omega) (by unfold SR FL Gone Live at *; omega) (fun n hn => by unfold SR FL Gone Live at *; omega) _
  have e2 : pool (SR (w + 1) (w + 8)) (sndPay X c)
      = iprop(sndPay X c w ∗ pool (fun n => SR (w + 1) (w + 8) n ∧ n ≠ w) (sndPay X c)) :=
    pool_step w (by omega) (by unfold SR FL Gone Live at *; omega) (fun n hn => Iff.rfl) _
  rw [e2, e1]

omit [FloatOps F] in
/-- A cell of copy `w` goes to its next round. -/
theorem move_at {w : ℕ} (hw : Live w) : ∃ q : ℕ → Prop,
    pool (PS w) (at_ c) = iprop(at_ c w ∗ pool q (at_ (F := F) c)) ∧ pool (PS (w + 1)) (at_ c) = iprop(at_ c (w + 32) ∗ pool q (at_ (F := F) c)) := by
  have hb : w < 64 := by unfold Live at hw; omega
  refine ⟨fun n => PS w n ∧ n ≠ w, pool_step w (by omega) ?_ (fun n hn => Iff.rfl) _, pool_step (w + 32) (by omega) ?_ (fun n hn => ?_) _⟩
    <;> unfold PS Live at * <;> omega

omit [FloatOps F] in
theorem at_next (w : ℕ) : at_ (F := F) c (w + 32)
    = iprop((atPos ER (sndC c w) (w / 32 + 1) ∅ 0 ∗ atPos ER (rcvC c w) (w / 32 + 1) ∅ 0)
      ∗ reached ER (sndC c w) (w / 32 + 1) ∗ reached ER (rcvC c w) (w / 32 + 1)) := by
  unfold at_ sndC rcvC
  rw [show (w + 32) / 32 = w / 32 + 1 by omega, sndS_congr (n := w + 32) (m := w) (by omega), rcvS_congr (n := w + 32) (m := w) (by omega)]

set_option maxHeartbeats 1600000 in
/-- The waits of copy `w`. -/
theorem waits_step (K : Names) {w : ℕ} (hw : w < 64) :
    St X c K w (w + 8) ⊢ wpc c (waits (ring w) (w / 8) (qt w)) fun _ => St X c K (w + 1) (w + 8) := by
  by_cases hl : Live w
  · obtain ⟨q, hq1, hq2⟩ := move_at (F := F) c hl
    unfold waits
    rw [live_eq w (by omega), decide_eq_true hl, cond_true, wpc, wp_bind]
    unfold St owing
    rw [hq1, hq2, at_next,
      pool_step (p := FL w (w + 8)) (p' := FL (w + 1) (w + 8)) w (by omega) (by unfold FL; exact ⟨hl, by omega, by omega⟩)
        (fun n hn => by unfold FL Live at *; omega) (flying c),
      pool_step (p := RC w) (p' := RC (w + 1)) w (by omega) ⟨hl, by omega⟩ (fun n hn => by unfold RC Live at *; omega) (coming c),
      pool_step (p := KP (w + 1) (w + 8)) (p' := KP w (w + 8)) w (by omega) (by unfold KP Gone Live at *; omega)
        (fun n hn => by unfold KP Gone Live at *; omega) (kept X c)]
    unfold at_
    iintro ⟨#HK, Hns, ⟨Hcs, Hfl⟩, ⟨Hcr, Hrc⟩, Htg, Hkp, Hsr, ⟨⟨⟨Has, Har⟩, -, -⟩, Hps⟩, ⟨%W, HO⟩⟩
    iapply (wp_arrive X c w hl (K (c, some (codeN w, true))) (dues (nums (NS (w + 8))) c) W) $$ [Hcr HO Har]
    · isplitr; · iapply (known_rcv X c K w); iexact HK
      isplitl [Hcr]; · unfold coming; iexact Hcr
      isplitl [HO]; · iexact HO
      isplitr
      · iapply (known_mayWait X c K (.dma (rcvS w)) (w / 8 + 2) (w + 8) (by omega) (fun n hn => by omega))
        iexact HK
      iexact Har
    iintro ⟨HO, Har, Hrr, Hpay⟩
    iapply (wp_left X c w hl (K (c, some (codeN w, false))) (dues (nums (NS (w + 8))) c) _) $$ [Hcs HO Has]
    · isplitr; · iapply (known_snd X c K w); iexact HK
      isplitl [Hcs]; · unfold flying; iexact Hcs
      isplitl [HO]; · iexact HO
      isplitr
      · iapply (known_mayWait X c K (.dma (sndS w)) 0 (w + 8) (by omega) (fun n hn => by omega))
        iexact HK
      iexact Has
    iintro ⟨HO, Has, Hrs, Hsp⟩
    unfold rcvPay
    icases Hpay with ⟨Hh, Hg⟩
    ihave Hh2 := (held_halves c w (got X c w)).1 $$ Hh
    icases Hh2 with ⟨Hhl, Hhr⟩
    isplitr; · iexact HK
    isplitl [Hns]; · iexact Hns
    isplitl [Hfl]; · iexact Hfl
    isplitl [Hrc]; · iexact Hrc
    isplitl [Hg Htg]
    · iapply (take_give c hl)
      isplitl [Hg] <;> iassumption
    isplitl [Hhr Hkp]
    · isplitl [Hhr]
      · unfold kept; iexact Hhr
      iexact Hkp
    isplitl [Hhl Hsp Hsr]
    · iapply (take_src X c hl)
      isplitl [Hsp]; · iexact Hsp
      isplitl [Hhl]
      · rw [← held_snd]; iexact Hhl
      iexact Hsr
    isplitl [Has Har Hrs Hrr Hps]
    · isplitr [Hps]
      · isplitl [Has Har]
        · isplitl [Has] <;> iassumption
        isplitl [Hrs] <;> iassumption
      iexact Hps
    iexists _; iexact HO
  · unfold waits
    rw [live_eq w (by omega), decide_eq_false hl, cond_false, wpc, Prog.pure_eq_ret, wp_ret]
    unfold St
    rw [pool_congr (p := FL w (w + 8)) (p' := FL (w + 1) (w + 8)) (fun n hn => by unfold FL Live at *; omega),
      pool_congr (p := RC w) (p' := RC (w + 1)) (fun n hn => by unfold RC Live at *; omega),
      pool_congr (p := TG w (w + 8)) (p' := TG (w + 1) (w + 8)) (fun n hn => by
        unfold TG giver Live at *; split_ifs <;> omega),
      pool_congr (p := KP w (w + 8)) (p' := KP (w + 1) (w + 8)) (fun n hn => by unfold KP Gone Live at *; omega),
      pool_congr (p := SR w (w + 8)) (p' := SR (w + 1) (w + 8)) (fun n hn => by unfold SR FL Gone Live at *; omega),
      pool_congr (p := PS w) (p' := PS (w + 1)) (fun n hn => by unfold PS Live at *; omega)]
    exact fupd_intro

end Cert.KernelIdeal.Ring
-- ==== Proof.StartIdeal.lean ====
/-
The rule of starting a copy, and the rounds of both rules.
-/
module

public import proofs.«01_k».proof.Proof.PoolIdeal

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (X : Dev nD → Vec F S128x2048 .bf16) (c : Dev nD)

/-! ## Starting -/

omit [FloatOps F] in
theorem src_own (n : ℕ) (x : Vec F S128x2048 .bf16) (q : PosShare TreeShare) (m : Memref sig .tc .vmem S32x2048 .bf16) (hm : m = own (qt n)) :
    ∃ fs : Buf (Elt F) (m.view.loc (c : Thread nD τ)), m.view.read (Elt F) fs = (own (qt n)).view.read (Elt F) x
      ∧ (m.view.loc (c : Thread nD τ) ↦[m.view.set]{q} fs : sProp 𝕄)
        = ((own (qt n)).view.loc (c : Thread nD τ) ↦[(own (qt n)).view.set]{q} ownAt c (qt n) x) := by
  subst hm; exact ⟨ownAt c (qt n) x, rfl, rfl⟩

omit [FloatOps F] in
theorem src_slot (n : ℕ) (x : Vec F S128x2048 .bf16) (q : PosShare TreeShare) (m : Memref sig .tc .vmem S32x2048 .bf16) (hm : m = pcN n) :
    ∃ fs : Buf (Elt F) (m.view.loc (c : Thread nD τ)), m.view.read (Elt F) fs = (own (qt n)).view.read (Elt F) x
      ∧ (m.view.loc (c : Thread nD τ) ↦[m.view.set]{q} fs : sProp 𝕄) = held c n q x := by
  subst hm; exact ⟨rowsAt c n x, read_piece (ring n) (slot (n / 8)) (qt n) x, rfl⟩

omit [FloatOps F] in
theorem got_dst (n : ℕ) : got X (dst n c) n = X (back (ring n) (n / 8) c) := congrArg X (back_nbr (ring n) (n / 8) c)

omit [FloatOps F] in
/-- The source of copy `n` holds the quarter it is to bring. -/
theorem src_holds (n : ℕ) : ∃ (q : PosShare TreeShare) (fs : Buf (Elt F) ((srcN n).view.loc (c : Thread nD τ))),
    (srcN n).view.read (Elt F) fs = (own (qt n)).view.read (Elt F) (got X (dst n c) n)
      ∧ ((srcN n).view.loc (c : Thread nD τ) ↦[(srcN n).view.set]{q} fs : sProp 𝕄) = sndPay X c n := by
  by_cases h : n < 8
  · have e : got X (dst n c) n = X c := (got_dst X c n).trans (by rw [Nat.div_eq_of_lt h]; rfl)
    obtain ⟨fs, h1, h2⟩ := src_own (F := F) c n (X c) (lent (ring n)) (srcN n) (srcN_lt8 h)
    refine ⟨lent (ring n), fs, ?_, h2.trans ?_⟩
    · rw [e]; exact h1
    · unfold sndPay; rw [if_pos h]
  · obtain ⟨m, rfl⟩ : ∃ m, n = m + 8 := ⟨n - 8, by omega⟩
    have e : got X (dst (m + 8) c) (m + 8) = got X c m :=
      (got_dst X c (m + 8)).trans (by rw [ring_add8, Nat.add_div_right m (by decide)])
    obtain ⟨fs, h1, h2⟩ := src_slot (F := F) c m (got X c m) fullShare.left (srcN (m + 8)) (srcN_add8 m)
    refine ⟨fullShare.left, fs, ?_, h2.trans (held_snd X c m)⟩
    rw [e, qt_add8]; exact h1

theorem ring_giveNo (n : ℕ) : ring (giveNo n) = !ring n := by
  unfold ring giveNo
  split_ifs with h
  · rw [decide_eq_true h, decide_eq_false (by omega)]; rfl
  · rw [decide_eq_false h, decide_eq_true (by omega)]; rfl

theorem dst_give (n : ℕ) : dst (giveNo n) (dst n c) = c := by
  unfold dst
  rw [ring_giveNo]
  exact nbr_nbr (ring n) c

omit [FloatOps F] in
theorem at_mark {w : ℕ} (n : ℕ) (hn : n < 96) (hp : PS w n) :
    pool (PS w) (at_ (F := F) c) ⊢ iprop((reached ER (sndC c n) (n / 32) ∗ reached ER (rcvC c n) (n / 32)) ∗ pool (PS w) (at_ c)) := by
  rw [pool_step (p := PS w) (p' := fun k => PS w k ∧ k ≠ n) n hn hp (fun k hk => Iff.rfl)]
  unfold at_
  iintro ⟨⟨Ha, #H1, #H2⟩, H⟩
  isplitr
  · isplitr
    · iexact H1
    · iexact H2
  isplitr [H]
  · isplitl [Ha]; · iexact Ha
    isplitr
    · iexact H1
    · iexact H2
  iexact H

/-- The counters while copy `u` is started. -/
def Starting (w u : ℕ) : Prop := Live u ∧ (u < 8 ∧ w = 0 ∨ w + 7 = u)

/-- Copy `m + 32` of the other ring is the one that the arrival of copy `u` lets its receiver make. -/
def Frees (u m : ℕ) : Prop := u % 2 = 0 ∧ u = m + 23 ∨ u % 2 = 1 ∧ u = m + 17

/-- Nothing but quarter `m` goes with copy `u`. -/
theorem gone_step {u m n : ℕ} (hm : Frees u m) (hl : Live (m + 32)) : Gone (u + 1) n ↔ (Gone u n ∨ n = m) := by
  unfold Gone
  constructor
  · rintro ⟨h1, h2⟩
    by_cases h : n = m
    · exact Or.inr h
    · exact Or.inl ⟨h1, by unfold Frees at hm; omega⟩
  · rintro (⟨h1, h2⟩ | rfl)
    · exact ⟨h1, by omega⟩
    · exact ⟨hl, by unfold Frees at hm; omega⟩

theorem kp_give {w u m n : ℕ} (hw : w + 7 = u) (hm : Frees u m) (hl : Live (m + 32)) :
    KP w (u + 1) n ↔ (KP w u n ∧ n ≠ m) := by
  unfold KP; rw [gone_step hm hl, not_or, and_assoc, and_assoc]

theorem fl_step {w u n : ℕ} (hw : w ≤ u) (hu : Live u) : FL w (u + 1) n ↔ (FL w u n ∨ n = u) := by
  unfold FL
  constructor
  · rintro ⟨h1, h2, h3⟩
    by_cases h : n = u
    · exact Or.inr h
    · exact Or.inl ⟨h1, h2, by omega⟩
  · rintro (⟨h1, h2, h3⟩ | rfl)
    · exact ⟨h1, h2, by omega⟩
    · exact ⟨hu, by omega, by omega⟩

theorem sr_give {w u m n : ℕ} (hw : w + 7 = u) (hu : Live u) (hm : Frees u m) (hl : Live (m + 32)) :
    SR w (u + 1) n ↔ ((SR w u n ∧ n ≠ u) ∧ n ≠ m + 8) := by
  unfold SR
  rw [fl_step (by omega) hu, gone_step hm hl, not_or, not_or]
  constructor
  · rintro ⟨h1, h2, h3, h4⟩
    refine ⟨⟨⟨h1, ?_, h3⟩, h4⟩, ?_⟩
    · rcases h2 with h | ⟨a, b, d, e⟩
      · exact Or.inl h
      · exact Or.inr ⟨a, b, d⟩
    · rcases h2 with h | ⟨a, b, d, e⟩ <;> omega
  · rintro ⟨⟨⟨h1, h2, h3⟩, h4⟩, h5⟩
    refine ⟨h1, ?_, h3, h4⟩
    by_cases h : n < 8
    · exact Or.inl h
    · rcases h2 with h' | ⟨a, b, d⟩
      · exact Or.inl h'
      · exact Or.inr ⟨a, b, d, by omega⟩

theorem gone_same {u n : ℕ} (hg : ¬ (Live (giveNo u) ∧ 32 ≤ giveNo u)) : Gone (u + 1) n ↔ Gone u n := by
  unfold Gone
  refine and_congr_right fun h1 => ?_
  by_cases hm : Frees u n
  · exfalso; apply hg
    have e : giveNo u = n + 32 := by unfold giveNo; unfold Frees at hm; split_ifs <;> omega
    rw [e]; exact ⟨h1, by omega⟩
  · unfold Frees at hm; omega

omit [FloatOps F] in
/-- What goes with copy `u`: the quarter that the receiver's own copy will overwrite. -/
theorem make_give {w u : ℕ} (h : Starting w u) :
    iprop(pool (KP w u) (kept X c) ∗ pool (fun n => SR w u n ∧ n ≠ u) (sndPay X c) ∗ pool (PS w) (at_ c))
      ⊢ iprop(give (dst u c) u ∗ pool (KP w (u + 1)) (kept X c) ∗ pool (SR w (u + 1)) (sndPay X c) ∗ pool (PS w) (at_ c)) := by
  obtain ⟨hl, hw⟩ := h
  by_cases hg : Live (giveNo u) ∧ 32 ≤ giveNo u
  · obtain ⟨m, hm⟩ : ∃ m, giveNo u = m + 32 := ⟨giveNo u - 32, by omega⟩
    have hmu : Frees u m := by
      unfold giveNo at hm; unfold Frees; split_ifs at hm <;> omega
    have hw7 : w + 7 = u := by unfold Frees at hmu; omega
    have hlm : Live (m + 32) := hm ▸ hg.1
    have e : give (F := F) (dst u c) u = iprop(free c (m + 32) ∗ reached ER (rcvC c (m + 32)) 1) := by
      unfold give; rw [if_pos hg, dst_give, hm]
    rw [e, pool_step (p := KP w u) (p' := KP w (u + 1)) m (by unfold Live at hlm; omega)
        ⟨by unfold Live at hlm ⊢; omega, by unfold Frees at hmu; omega, fun h => by have := h.2; unfold Frees at hmu; omega⟩
        (fun n hn => kp_give hw7 hmu hlm),
      pool_step (p := fun n => SR w u n ∧ n ≠ u) (p' := SR w (u + 1)) (m + 8) (by unfold Live at hlm; omega)
        ⟨⟨by unfold Live at hlm; omega, Or.inr ⟨by rw [Nat.add_sub_cancel]; unfold Live at hlm ⊢; omega, by unfold Frees at hmu; omega,
            fun h => by rw [Nat.add_sub_cancel] at h; have := h.2; unfold Frees at hmu; omega⟩,
          fun h => by have := h.2; unfold Frees at hmu; omega⟩, by unfold Frees at hmu; omega⟩
        (fun n hn => sr_give hw7 hl hmu hlm), ← held_snd]
    unfold kept
    iintro ⟨⟨Hr, Hk⟩, ⟨Hl, Hs⟩, Hp⟩
    ihave Hp2 := (at_mark (F := F) c (w := w) (m + 32) (by unfold Live at hlm; omega)
      ⟨Or.inl (by unfold Frees at hmu; omega), Or.inr (by
        rw [Nat.add_sub_cancel]; exact ⟨by unfold Frees at hmu; omega, by unfold Live at hlm ⊢; omega⟩)⟩) $$ Hp
    icases Hp2 with ⟨⟨-, Hm⟩, Hp⟩
    ihave Hf := (held_halves c m (got X c m)).2 $$ [Hl Hr]
    · isplitl [Hl] <;> iassumption
    ihave Hf2 := (held_free c m (got X c m)) $$ Hf
    isplitl [Hf2 Hm]
    · isplitl [Hf2]
      · rw [free_congr (F := F) c (n := m + 32) (m := m) (by omega)]; iexact Hf2
      · rw [show (m + 32) / 32 = 1 by unfold Live at hlm; omega]; iexact Hm
    isplitl [Hk]; · iexact Hk
    isplitl [Hs] <;> iassumption
  · have e : give (F := F) (dst u c) u = iprop(emp) := if_neg hg
    rw [e, pool_congr (p := KP w u) (p' := KP w (u + 1)) (fun n hn => by unfold KP; rw [gone_same hg]),
      pool_congr (p := fun n => SR w u n ∧ n ≠ u) (p' := SR w (u + 1)) (fun n hn => by
        unfold SR; rw [gone_same hg, fl_step (by omega) hl, not_or]; tauto)]
    exact BI.emp_sep.2

theorem dues_step {u : ℕ} (hl : Live u) :
    dues (nums (NS u)) c = dues (nums (NS (u + 1))) c + tallyAt (rcvC (dst u c) u) (u / 8 + 2) N := by
  have h : (nums (NS u)).erase u = nums (NS (u + 1)) := nums_erase fun n hn => by unfold NS Live at *; omega
  unfold dues
  rw [← h]
  exact (Finset.sum_erase_add _ _ (mem_nums.mpr ⟨by unfold Live at hl; omega, hl, Nat.le_refl u⟩)).symm

set_option maxHeartbeats 1600000 in
/-- The start of copy `u`. -/
theorem starts_step (K : Names) {w u : ℕ} (hu : u < 72) (hw : u < 8 ∧ w = 0 ∨ w + 7 = u) :
    St X c K w u ⊢ wpc c (starts (ring u) (u / 8) (qt u) c) fun _ => St X c K w (u + 1) := by
  unfold starts
  by_cases hl : Live u
  · rw [live_eq u hu, decide_eq_true hl, cond_true]
    obtain ⟨q, fs, hfs, hq⟩ := src_holds (F := F) X c u
    unfold St owing
    rw [pool_step (p := NS u) (p' := NS (u + 1)) u (by omega) ⟨hl, Nat.le_refl u⟩ (fun n hn => by unfold NS Live at *; omega) (toks c),
      pool_step (p := FL w (u + 1)) (p' := FL w u) u (by omega) (by unfold FL; exact ⟨hl, by omega, by omega⟩)
        (fun n hn => by unfold FL Live at *; omega) (flying c),
      pool_step (p := TG w u) (p' := TG w (u + 1)) u (by omega) (by unfold TG giver Live at *; split_ifs <;> omega)
        (fun n hn => by unfold TG giver Live at *; split_ifs <;> omega) (target c),
      pool_step (p := SR w u) (p' := fun n => SR w u n ∧ n ≠ u) u (by omega) (by unfold SR FL Gone Live at *; omega)
        (fun n hn => Iff.rfl) (sndPay X c),
      dues_step c hl]
    iintro ⟨#HK, ⟨Ht, Hns⟩, Hfl, Hrc, ⟨Htg, Htgs⟩, Hkp, ⟨Hsrc, Hsr⟩, Hps, ⟨%W, HO⟩⟩
    ihave Hps2 := (at_mark (F := F) c (w := w) u (by omega) (by unfold PS Live at *; omega)) $$ Hps
    icases Hps2 with ⟨⟨Hms, -⟩, Hps⟩
    ihave Hg := (make_give X c (w := w) (u := u) ⟨hl, hw⟩) $$ [Hkp Hsr Hps]
    · isplitl [Hkp]; · iexact Hkp
      isplitl [Hsr] <;> iassumption
    icases Hg with ⟨Hg, Hkp, Hsr, Hps⟩
    unfold toks target free
    icases Ht with ⟨Ht1, Ht2⟩
    icases Htg with ⟨⟨%fd, Hfd⟩, Hmr⟩
    iapply (wp_start X c u hl (K (c, some (codeN u, false))) (K (dst u c, some (codeN u, true))) q fs fd hfs (Entails.of_eq hq)
      (dues (nums (NS (u + 1))) c) _ rfl W) $$ [Hsrc Hfd Hg HO Ht1 Hms Ht2 Hmr]
    · isplitr; · iapply (known_snd X c K u); iexact HK
      isplitr; · iapply (known_rcv X (dst u c) K u); iexact HK
      isplitl [Hsrc]; · rw [hq]; iexact Hsrc
      isplitl [Hfd Hg]
      · isplitl [Hfd]; · iexact Hfd
        iexact Hg
      isplitl [HO]; · iexact HO
      isplitl [Ht1]; · iexact Ht1
      isplitl [Hms]; · iexact Hms
      isplitl [Ht2] <;> iassumption
    iintro ⟨Hc, HO⟩
    isplitr; · iexact HK
    isplitl [Hns]; · iexact Hns
    isplitl [Hc Hfl]
    · isplitl [Hc]
      · unfold flying; iexact Hc
      iexact Hfl
    isplitl [Hrc]; · iexact Hrc
    isplitl [Htgs]; · iexact Htgs
    isplitl [Hkp]; · iexact Hkp
    isplitl [Hsr]; · iexact Hsr
    isplitl [Hps]; · iexact Hps
    iexists _; iexact HO
  · rw [live_eq u hu, decide_eq_false hl, cond_false, wpc, Prog.pure_eq_ret, wp_ret]
    unfold St owing
    rw [nums_congr (p := NS u) (p' := NS (u + 1)) (fun n hn => by unfold NS Live at *; omega),
      pool_congr (p := NS u) (p' := NS (u + 1)) (fun n hn => by unfold NS Live at *; omega),
      pool_congr (p := FL w u) (p' := FL w (u + 1)) (fun n hn => by unfold FL Live at *; omega),
      pool_congr (p := TG w u) (p' := TG w (u + 1)) (fun n hn => by unfold TG Live at *; omega),
      pool_congr (p := KP w u) (p' := KP w (u + 1)) (fun n hn => by unfold KP Gone Live at *; omega),
      pool_congr (p := SR w u) (p' := SR w (u + 1)) (fun n hn => by unfold SR FL Gone Live at *; omega)]
    exact fupd_intro

end Cert.KernelIdeal.Ring
-- ==== Proof.RunIdeal.lean ====
/-
The copies of a whole iteration, and the offsets the products are stored at.
-/
module

public import proofs.«01_k».proof.Proof.StartIdeal

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (X : Dev nD → Vec F S128x2048 .bf16) (c : Dev nD)

/-- One part after another. -/
theorem seq {P Q : sProp 𝕄} {R : PUnit → sProp 𝕄} {p q : Prog (TpuEff nD τ sig (Elt F) Λ₀ .tc) PUnit}
    (h1 : P ⊢ wpc c p fun _ => Q) (h2 : Q ⊢ wpc c q R) : P ⊢ wpc c (p >>= fun _ => q) R := by
  refine h1.trans ?_
  rw [wpc, wpc, wp_bind]
  exact wp_mono _ _ _ fun _ => h2

/-- What a part does not use stays. -/
theorem keep {P Q : sProp 𝕄} (R : sProp 𝕄) {p : Prog (TpuEff nD τ sig (Elt F) Λ₀ .tc) PUnit}
    (h : P ⊢ wpc c p fun _ => Q) : iprop(P ∗ R) ⊢ wpc c p fun _ => iprop(Q ∗ R) :=
  (sep_mono_left h).trans (wp_frame_r _ _ _)

/-- The number of the copy of hop `h`, quarter `s` on ring `ρ`. -/
def num (ρ : Bool) (h : ℕ) (s : Fin 4) : ℕ := 8 * h + 2 * s.val + cond ρ 0 1

theorem ring_num (ρ : Bool) (h : ℕ) (s : Fin 4) : ring (num ρ h s) = ρ := by
  unfold ring num
  cases ρ
  · exact decide_eq_false (by simp only [cond_false]; omega)
  · exact decide_eq_true (by simp only [cond_true]; omega)
theorem hop_num (ρ : Bool) (h : ℕ) (s : Fin 4) : num ρ h s / 8 = h := by
  unfold num; cases ρ
  · simp only [cond_false]; omega
  · simp only [cond_true]; omega
theorem qt_num (ρ : Bool) (h : ℕ) (s : Fin 4) : qt (num ρ h s) = s := by
  refine Fin.ext ?_
  show num ρ h s / 2 % 4 = s.val
  unfold num; cases ρ
  · simp only [cond_false]; omega
  · simp only [cond_true]; omega

theorem waits_at (K : Names) (ρ : Bool) {h : ℕ} (hh : h < 8) (s : Fin 4) :
    St X c K (num ρ h s) (num ρ h s + 8) ⊢ wpc c (waits ρ h s) fun _ => St X c K (num ρ h s + 1) (num ρ h s + 8) := by
  have := waits_step X c K (w := num ρ h s) (by have := hop_num ρ h s; omega)
  rw [ring_num, hop_num, qt_num] at this
  exact this
theorem starts_at (K : Names) (ρ : Bool) {h w : ℕ} (hh : h < 9) (s : Fin 4) (hw : h = 0 ∧ w = 0 ∨ w + 7 = num ρ h s) :
    St X c K w (num ρ h s) ⊢ wpc c (starts ρ h s c) fun _ => St X c K w (num ρ h s + 1) := by
  have hn := hop_num ρ h s
  have := starts_step X c K (w := w) (u := num ρ h s) (by omega) (by omega)
  rw [ring_num, hop_num, qt_num] at this
  exact this

/-- A quarter of an iteration. -/
theorem quarter_step (K : Names) {h : ℕ} (hh : h < 8) (s : Fin 4) :
    St X c K (8 * h + 2 * s.val) (8 * h + 2 * s.val + 8)
      ⊢ wpc c (quarter h c s) fun _ => St X c K (8 * h + 2 * s.val + 2) (8 * h + 2 * s.val + 10) :=
  seq c (waits_at X c K true hh s) <|
    seq c (show St X c K (num true h s + 1) (num true h s + 8) ⊢ _ from by
      have e : num true h s + 8 = num true (h + 1) s := by unfold num; simp only [cond_true]; omega
      rw [e]
      exact starts_at X c K true (by omega) s (by omega)) <|
    seq c (show St X c K (num true h s + 1) (num true (h + 1) s + 1) ⊢ _ from by
      have e1 : num true h s + 1 = num false h s := by unfold num; simp only [cond_true, cond_false]
      have e2 : num true (h + 1) s + 1 = num false h s + 8 := by unfold num; simp only [cond_true, cond_false]; omega
      rw [e1, e2]
      exact waits_at X c K false hh s) <| by
    have e : num false h s + 8 = num false (h + 1) s := by unfold num; simp only [cond_false]; omega
    have e1 : 8 * h + 2 * s.val + 2 = num false h s + 1 := by unfold num; simp only [cond_false]
    have e2 : 8 * h + 2 * s.val + 10 = num false (h + 1) s + 1 := by unfold num; simp only [cond_false]; omega
    rw [e, e1, e2]
    exact starts_at X c K false (by omega) s (by omega)

/-- The copies of iteration `h`. -/
theorem quarters_step (K : Names) {h : ℕ} (hh : h < 8) :
    St X c K (8 * h) (8 * h + 8) ⊢ wpc c (quarters h c) fun _ => St X c K (8 * h + 8) (8 * h + 16) :=
  seq c (quarter_step X c K hh 0) <| seq c (quarter_step X c K hh 1) <| seq c (quarter_step X c K hh 2) <| quarter_step X c K hh 3

theorem first_step (K : Names) (s : Fin 4) :
    St X c K 0 (2 * s.val) ⊢ wpc c (first c s) fun _ => St X c K 0 (2 * s.val + 2) := by
  have h1 := starts_at X c K true (h := 0) (w := 0) (by omega) s (Or.inl ⟨rfl, rfl⟩)
  have h2 := starts_at X c K false (h := 0) (w := 0) (by omega) s (Or.inl ⟨rfl, rfl⟩)
  have e1 : num true 0 s = 2 * s.val := by unfold num; simp only [cond_true]; omega
  have e2 : num false 0 s = 2 * s.val + 1 := by unfold num; simp only [cond_false]; omega
  rw [e1] at h1; rw [e2] at h2
  exact seq c h1 h2

/-- The first copies. -/
theorem firsts_step (K : Names) : St X c K 0 0 ⊢ wpc c (firsts c) fun _ => St X c K 0 8 :=
  seq c (first_step X c K 0) <| seq c (first_step X c K 1) <| seq c (first_step X c K 2) <| first_step X c K 3

/-! ## Where the products go -/

set_option maxRecDepth 100000 in
theorem gOff_eq : ∀ (ρ : Bool) (h : Fin 7) (d : Dev nD), gOff ρ h d = ![128 * (back ρ (h.val + 1) d).val, 0] := by decide +kernel
set_option maxRecDepth 100000 in
theorem hOff_eq : ∀ (ρ : Bool) (d : Dev nD), hOff ρ d = ![128 * (back true 8 d).val + hRow ρ, 0] := by decide +kernel
set_option maxRecDepth 100000 in
theorem back_ne : ∀ (ρ : Bool) (h : Fin 7) (d : Dev nD), back ρ (h.val + 1) d ≠ d ∧ back ρ (h.val + 1) d ≠ back true 8 d := by decide +kernel
set_option maxRecDepth 100000 in
theorem back_far : ∀ (ρ : Bool) (d : Dev nD), back ρ 8 d = back true 8 d ∧ back true 8 d ≠ d := by decide +kernel
set_option maxRecDepth 100000 in
theorem back_cover : ∀ (d b : Dev nD), b = d ∨ b = back true 8 d ∨ ∃ (ρ : Bool) (h : Fin 7), b = back ρ (h.val + 1) d := by decide +kernel

end Cert.KernelIdeal.Ring
-- ==== Proof.OutIdeal.lean ====
/-
The products: what the result holds, and the rule of multiplying a chunk.
-/
module

public import proofs.«01_k».proof.Proof.RunIdeal

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (X : Dev nD → Vec F S128x2048 .bf16) (Wt : Vec F S2048x128 .bf16) (c : Dev nD)

/-! ## The result -/

/-- A block as one slot of a ring, -/
def slab (x : Vec F S128x2048 .bf16) : Vec F S1x128x2048 .bf16 := fun j => x (Shape.pair (d := ![128, 2048]) (j 1) (j 2))

theorem hRow_lt (ρ : Bool) (r : Fin 64) : hRow ρ + r.val < 128 := by
  have := r.isLt
  cases ρ
  · show 64 + r.val < 128; omega
  · show 0 + r.val < 128; omega

/-- and half of it. -/
def half (ρ : Bool) (x : Vec F S128x2048 .bf16) : Vec F S1x64x2048 .bf16 :=
  fun j => x (Shape.pair (d := ![128, 2048]) ⟨hRow ρ + (j 1).val, hRow_lt ρ (j 1)⟩ (j 2))

/-- The product with block `x`, as the own block's is taken (`pOwn`), a received one's (`pSlab`) and the farthest one's
    (`pHalf`, in two halves). -/
def pOwn (x : Vec F S128x2048 .bf16) (r : Fin 128) (j : Fin 128) : Elt F .f32 := k0_pay4 x Wt (Shape.pair (d := ![128, 128]) r j)
def pSlab (x : Vec F S128x2048 .bf16) (r : Fin 128) (j : Fin 128) : Elt F .f32 := k0_pay8 (slab x) Wt (Shape.pair (d := ![128, 128]) r j)
def pHalf (x : Vec F S128x2048 .bf16) (r : Fin 128) (j : Fin 128) : Elt F .f32 :=
  if h : r.val < 64 then k0_pay27 (half true x) Wt (Shape.pair (d := ![64, 128]) ⟨r.val, h⟩ j)
  else k0_pay27 (half false x) Wt (Shape.pair (d := ![64, 128]) ⟨r.val - 64, by have := r.isLt; show r.val - 64 < 64; omega⟩ j)

/-- Row `r` of block `b` of device `c`'s result. -/
def pAt (b : Dev nD) (r : Fin 128) (j : Fin 128) : Elt F .f32 :=
  if b = c then pOwn Wt (X b) r j else if b = back true 8 c then pHalf Wt (X b) r j else pSlab Wt (X b) r j

theorem blk_lt (i : Fin 2048) : i.val / 128 < nD := by have := i.isLt; show i.val / 128 < 16; omega

/-- Device `c`'s result. -/
def result : Vec F S2048x128 .f32 :=
  fun i => pAt X Wt c ⟨(i 0).val / 128, blk_lt (i 0)⟩ ⟨(i 0).val % 128, Nat.mod_lt _ (by decide)⟩ (i 1)

theorem result_at (b : Dev nD) (r : Fin 128) (i : S2048x128.Idx) (hi : (i 0).val = 128 * b.val + r.val) :
    result X Wt c i = pAt X Wt c b r (i 1) := by
  have hr := r.isLt
  unfold result
  rw [show (⟨(i 0).val / 128, blk_lt (i 0)⟩ : Dev nD) = b from Fin.ext (by show (i 0).val / 128 = b.val; omega),
    show (⟨(i 0).val % 128, Nat.mod_lt _ (by decide)⟩ : Fin 128) = r from Fin.ext (by show (i 0).val % 128 = r.val; omega)]

abbrev oM : Memref sig .tc .vmem S2048x128 .f32 := Memref.whole cc0_stg2_0

/-- The result's buffer, done in the rows that satisfy `D`. -/
def done (D : ℕ → Prop) : sProp 𝕄 :=
  iprop(∃ f : Buf (Elt F) ((c : Thread nD τ).loc cc0_stg2_0), ⌜∀ i : S2048x128.Idx, D (i 0).val → f i = result X Wt c i⌝
    ∗ ((c : Thread nD τ).loc cc0_stg2_0 ↦{fullShare} f))

/-- The weight's columns, in scratch. -/
def wmat : sProp 𝕄 := (c : Thread nD τ).loc cc0_scratch3 ↦{fullShare} (Wt : Buf (Elt F) ((c : Thread nD τ).loc cc0_scratch3))

/-- Rows `a … a + n`. -/
abbrev Rows (a n r : ℕ) : Prop := a ≤ r ∧ r < a + n

theorem stored {D : ℕ → Prop} (off sz : Fin 2 → ℕ) (inb : ∀ a, off a + sz a ≤ S2048x128.size a)
    (f : (cc0_stg2_0 : Ref sig .tc).ty.Contents (Elt F)) (w : (Rect.unit (s := S2048x128) off sz inb).shape.Idx → Elt F .f32)
    (hf : ∀ i : S2048x128.Idx, D (i 0).val → f i = result X Wt c i)
    (hw : ∀ j, w j = result X Wt c ((Rect.unit (s := S2048x128) off sz inb).emb j)) (h0 : off 1 = 0) (h1 : sz 1 = 128) :
    ∀ i : S2048x128.Idx, D (i 0).val ∨ Rows (off 0) (sz 0) (i 0).val →
      ((oM.access (Rect.unit (s := S2048x128) off sz inb) : View sig .tc _ _ _).write (Elt F) f w Finset.univ) i = result X Wt c i := by
  intro i hi
  by_cases hm : i ∈ (Rect.unit (s := S2048x128) off sz inb).set
  · rw [← Rect.map_emb_univ] at hm
    obtain ⟨j, -, rfl⟩ := Finset.mem_map.mp hm
    exact (View.write_emb_of_mem (v := oM.access (Rect.unit (s := S2048x128) off sz inb)) f w (Finset.mem_univ j)).trans (hw j)
  · have hn : i ∉ (oM.access (Rect.unit (s := S2048x128) off sz inb) : View sig .tc _ _ _).setOn Finset.univ := by
      rw [View.setOn_univ]
      show i ∉ ((View.whole cc0_stg2_0).slice (Rect.unit (s := S2048x128) off sz inb)).set
      rw [View.set_slice_whole]; exact hm
    rw [View.write_of_not_mem _ _ _ hn]
    rcases hi with hi | hi
    · exact hf i hi
    · exfalso; apply hm
      rw [Rect.mem_set_unit]
      intro a
      have h2 := (i 1).isLt
      have h2' : (i 1).val < 128 := h2
      rcases a with ⟨_ | _ | a, ha⟩
      · exact hi
      · refine ⟨?_, ?_⟩
        · show off 1 ≤ _; omega
        · show (i 1).val < off 1 + sz 1; omega
      · exact absurd ha (by show ¬ (a + 2 < 2); omega)

/-! ## Slots -/

/-- The rows of quarter `s` of slot `k`. -/
def pset (ρ : Bool) (k s : Fin 4) : Finset (cM ρ).view.ty.Idx := (piece ρ k s).view.set

/-- An index of a ring's buffer, by its coordinates. -/
def crd : (ρ : Bool) → (cM ρ).view.ty.Idx → S4x128x2048.Idx
  | true, i => i
  | false, i => i

theorem mem_unit3 (i : S4x128x2048.Idx) (off sz : Fin 3 → ℕ) (inb : ∀ a, off a + sz a ≤ S4x128x2048.size a) (h0 : off 2 = 0)
    (h1 : sz 2 = 2048) : i ∈ (Rect.unit (s := S4x128x2048) off sz inb).set ↔ Rows (off 0) (sz 0) (i 0).val ∧ Rows (off 1) (sz 1) (i 1).val := by
  rw [Rect.mem_set_unit]
  refine ⟨fun h => ⟨h 0, h 1⟩, fun h a => ?_⟩
  have h2 : (i 2).val < 2048 := (i 2).isLt
  rcases a with ⟨_ | _ | _ | a, ha⟩
  · exact h.1
  · exact h.2
  · refine ⟨?_, ?_⟩
    · show off 2 ≤ _; omega
    · show (i 2).val < off 2 + sz 2; omega
  · exact absurd ha (by show ¬ (a + 3 < 3); omega)

theorem mem_pset (ρ : Bool) (k s : Fin 4) (i : (cM ρ).view.ty.Idx) :
    i ∈ pset ρ k s ↔ Rows k.val 1 (crd ρ i 0).val ∧ Rows (32 * s.val) 32 (crd ρ i 1).val := by
  unfold pset piece
  rw [Memref.set_view_squeeze]
  have key (j : S4x128x2048.Idx) := mem_unit3 j ![k.val, 32 * s.val, 0] S1x32x2048.size (inb_piece k s) rfl rfl
  cases ρ
  · show i ∈ ((View.whole cc0_scratch2).slice (Rect.unit (s := S4x128x2048) ![k.val, 32 * s.val, 0] S1x32x2048.size (inb_piece k s))).set ↔ _
    rw [View.set_slice_whole]; exact key i
  · show i ∈ ((View.whole cc0_scratch1).slice (Rect.unit (s := S4x128x2048) ![k.val, 32 * s.val, 0] S1x32x2048.size (inb_piece k s))).set ↔ _
    rw [View.set_slice_whole]; exact key i

theorem pset_disjoint (ρ : Bool) (k s k' s' : Fin 4) (h : (k, s) ≠ (k', s')) : Disjoint (pset ρ k s) (pset ρ k' s') := by
  rw [Finset.disjoint_left]
  intro i h1 h2
  rw [mem_pset] at h1 h2
  obtain ⟨⟨a1, a2⟩, a3, a4⟩ := h1
  obtain ⟨⟨b1, b2⟩, b3, b4⟩ := h2
  exact h (Prod.ext (Fin.ext (by show k.val = k'.val; omega)) (Fin.ext (by show s.val = s'.val; omega)))

/-- Quarters of slot `k` of ring `ρ`, holding the rows of `x`. -/
def slots (ρ : Bool) (k : Fin 4) (Q : Finset (Fin 4)) (q : PosShare TreeShare) (x : Vec F S128x2048 .bf16) : sProp 𝕄 :=
  (cM ρ).view.loc (c : Thread nD τ) ↦[Finset.biUnion (β := Idx ((cM ρ).view.loc (c : Thread nD τ))) Q (pset ρ k)]{q} (bufOf ρ x : Buf (Elt F) ((cM ρ).view.loc (c : Thread nD τ)))

omit [FloatOps F] in
theorem slots_eq (ρ : Bool) (k : Fin 4) (Q : Finset (Fin 4)) (q : PosShare TreeShare) (x : Vec F S128x2048 .bf16) :
    slots c ρ k Q q x = bigSep Q fun s => ((cM ρ).view.loc (c : Thread nD τ) ↦[pset ρ k s]{q}
      (bufOf ρ x : Buf (Elt F) ((cM ρ).view.loc (c : Thread nD τ))) : sProp 𝕄) :=
  have hd (t : Fin 4) (_ : t ∈ Q) (t' : Fin 4) (_ : t' ∈ Q) (h : t ≠ t') : Disjoint (pset ρ k t) (pset ρ k t') :=
    pset_disjoint ρ k t k t' fun e => h (Prod.ext_iff.mp e).2
  pointsTo_biUnion (ℓ := (cM ρ).view.loc (c : Thread nD τ)) Q (pset ρ k) hd

omit [FloatOps F] in
theorem held_num {n : ℕ} {ρ : Bool} {h : ℕ} {s : Fin 4} (h1 : ring n = ρ) (h2 : n / 8 = h) (h3 : qt n = s) (q : PosShare TreeShare)
    (x : Vec F S128x2048 .bf16) : held c n q x = ((cM ρ).view.loc (c : Thread nD τ) ↦[pset ρ (slot h) s]{q}
      (bufOf ρ x : Buf (Elt F) ((cM ρ).view.loc (c : Thread nD τ))) : sProp 𝕄) := by
  subst h1 h2 h3; rfl

theorem kept_num (ρ : Bool) (h : ℕ) (s : Fin 4) : kept X c (num ρ h s) = ((cM ρ).view.loc (c : Thread nD τ) ↦[pset ρ (slot h) s]{fullShare.right}
      (bufOf ρ (X (back ρ (h + 1) c)) : Buf (Elt F) ((cM ρ).view.loc (c : Thread nD τ))) : sProp 𝕄) := by
  unfold kept got
  rw [held_num c (ring_num ρ h s) (hop_num ρ h s) (qt_num ρ h s), ring_num, hop_num]

theorem num_inj (ρ : Bool) (h : ℕ) : Function.Injective (num ρ h) := fun s s' e =>
  (qt_num ρ h s).symm.trans ((congrArg qt e).trans (qt_num ρ h s'))

/-- The kept halves of a hop's quarters are a share of its slot. -/
theorem kept_out (ρ : Bool) (h : ℕ) (hh : h < 8) (Q : Finset (Fin 4)) {w u : ℕ} (hQ : ∀ s ∈ Q, KP w u (num ρ h s)) :
    pool (KP w u) (kept X c) = iprop(slots c ρ (slot h) Q fullShare.right (X (back ρ (h + 1) c))
      ∗ bigSep (nums (KP w u) \ Q.map ⟨num ρ h, num_inj ρ h⟩) (kept X c)) := by
  have hs : Q.map ⟨num ρ h, num_inj ρ h⟩ ⊆ nums (KP w u) := by
    intro n hn
    obtain ⟨s, hs, rfl⟩ := Finset.mem_map.mp hn
    refine mem_nums.mpr ⟨?_, hQ s hs⟩
    show num ρ h s < 96
    have := hop_num ρ h s; omega
  unfold pool
  rw [bigSep_sdiff_split hs, bigSep_map, slots_eq]
  congr 1
  exact bigSep_congr fun s _ => kept_num X c ρ h s

/-! ## Reading a slot -/

theorem load_sub (ρ : Bool) (k : Fin 4) (row n : ℕ) (Q : Finset (Fin 4)) (hQ : ∀ r, Rows row n r → ∃ s ∈ Q, Rows (32 * s.val) 32 r)
    (sz : Fin 3 → ℕ) (inb : ∀ a, (![k.val, row, 0] : Fin 3 → ℕ) a + sz a ≤ S4x128x2048.size a) (h0 : sz 0 = 1) (h1 : sz 1 = n) (h2 : sz 2 = 2048) :
    (cM ρ).view.setOn (Rect.unit (s := S4x128x2048) ![k.val, row, 0] sz inb).toLoadRect.set ⊆ Q.biUnion (pset ρ k) := by
  have key (j : S4x128x2048.Idx) (hj : j ∈ (Rect.unit (s := S4x128x2048) ![k.val, row, 0] sz inb).set) :
      Rows k.val 1 (j 0).val ∧ ∃ s ∈ Q, Rows (32 * s.val) 32 (j 1).val := by
    have := (mem_unit3 j ![k.val, row, 0] sz inb rfl h2).mp hj
    rw [h0, h1] at this
    exact ⟨this.1, hQ _ this.2⟩
  intro i hi
  rw [Finset.mem_biUnion]
  have goal : Rows k.val 1 (crd ρ i 0).val ∧ ∃ s ∈ Q, Rows (32 * s.val) 32 (crd ρ i 1).val := by
    cases ρ
    · obtain ⟨j, hj, rfl⟩ := Finset.mem_map.mp hi
      exact key j hj
    · obtain ⟨j, hj, rfl⟩ := Finset.mem_map.mp hi
      exact key j hj
  obtain ⟨h3, s, hs, h4⟩ := goal
  exact ⟨s, hs, (mem_pset ρ k s i).mpr ⟨h3, h4⟩⟩

omit [FloatOps F] in
theorem read_slab (ρ : Bool) (k : Fin 4) (x : Vec F S128x2048 .bf16) :
    (cM ρ).view.readAt (Elt F) (Rect.unit (s := S4x128x2048) ![k.val, 0, 0] S1x128x2048.size (inb_slot k)).toLoadRect (bufOf ρ x) = slab x := by
  have key (j : S1x128x2048.Idx) : x (Shape.pair (d := ![128, 2048])
      ((Rect.unit (s := S4x128x2048) ![k.val, 0, 0] S1x128x2048.size (inb_slot k)).emb j 1)
      ((Rect.unit (s := S4x128x2048) ![k.val, 0, 0] S1x128x2048.size (inb_slot k)).emb j 2)) = slab x j := by
    unfold slab
    congr 1
    congr 1
    · exact Fin.ext (by rw [Rect.emb_apply]; show 0 + 1 * (j 1).val = (j 1).val; omega)
    · exact Fin.ext (by rw [Rect.emb_apply]; show 0 + 1 * (j 2).val = (j 2).val; omega)
  cases ρ <;> exact funext key

omit [FloatOps F] in
theorem read_half (ρ : Bool) (x : Vec F S128x2048 .bf16) :
    (cM ρ).view.readAt (Elt F) (Rect.unit (s := S4x128x2048) ![3, hRow ρ, 0] S1x64x2048.size (hRow_inb ρ)).toLoadRect (bufOf ρ x) = half ρ x := by
  have key (j : S1x64x2048.Idx) : x (Shape.pair (d := ![128, 2048])
      ((Rect.unit (s := S4x128x2048) ![3, hRow ρ, 0] S1x64x2048.size (hRow_inb ρ)).emb j 1)
      ((Rect.unit (s := S4x128x2048) ![3, hRow ρ, 0] S1x64x2048.size (hRow_inb ρ)).emb j 2)) = half ρ x j := by
    unfold half
    congr 1
    congr 1
    · exact Fin.ext (by rw [Rect.emb_apply]; show hRow ρ + 1 * (j 1).val = hRow ρ + (j 1).val; omega)
    · exact Fin.ext (by rw [Rect.emb_apply]; show 0 + 1 * (j 2).val = (j 2).val; omega)
  cases ρ <;> exact funext key

theorem zero2 : (![0, 0] : Fin 2 → ℕ) = fun _ => 0 := by funext a; fin_cases a <;> rfl

omit [FloatOps F] in
theorem read_w (f : Vec F S2048x128 .bf16) :
    wM.view.readAt (Elt F) (Rect.unit (s := S2048x128) ![0, 0] S2048x128.size inb_S2048x128_S2048x128_0_0).toLoadRect f = f :=
  Memref.readAt_unit_zero (Elt F) cc0_scratch3 zero2 _ f

omit [FloatOps F] in
theorem read_xs (f : Vec F S128x2048 .bf16) :
    xM.view.readAt (Elt F) (Rect.unit (s := S128x2048) ![0, 0] S128x2048.size inb_S128x2048_S128x2048_0_0).toLoadRect f = f :=
  Memref.readAt_unit_zero (Elt F) cc0_scratch0 zero2 _ f

/-! ## The products -/

theorem pair_emb {n : ℕ} (off sz : Fin 2 → ℕ) (inb : ∀ a, off a + sz a ≤ S2048x128.size a) (h0 : off 1 = 0)
    (j : (Rect.unit (s := S2048x128) off sz inb).shape.Idx) :
    (((Rect.unit (s := S2048x128) off sz inb).emb j 0).val = off 0 + (j 0).val) ∧ ((Rect.unit (s := S2048x128) off sz inb).emb j 1).val = (j 1).val := by
  refine ⟨?_, ?_⟩
  · rw [Rect.emb_apply]; show off 0 + 1 * (j 0).val = _; omega
  · rw [Rect.emb_apply]; show off 1 + 1 * (j 1).val = _; omega

theorem gOff_fst (ρ : Bool) (h : Fin 7) : gOff ρ h c 0 = 128 * (back ρ (h.val + 1) c).val := congrFun (gOff_eq ρ h c) 0
theorem gOff_snd (ρ : Bool) (h : Fin 7) : gOff ρ h c 1 = 0 := congrFun (gOff_eq ρ h c) 1
theorem hOff_fst (ρ : Bool) : hOff ρ c 0 = 128 * (back true 8 c).val + hRow ρ := congrFun (hOff_eq ρ c) 0
theorem hOff_snd (ρ : Bool) : hOff ρ c 1 = 0 := congrFun (hOff_eq ρ c) 1
theorem oOff_fst : k0_off1 c 0 = 128 * c.val := congrFun (k0_off1_eq c) 0
theorem oOff_snd : k0_off1 c 1 = 0 := congrFun (k0_off1_eq c) 1

theorem pHalf_at (ρ : Bool) (x : Vec F S128x2048 .bf16) (j : S64x128.Idx) (y : Fin 128) (hy : y.val = (j 1).val) :
    k0_pay27 (half ρ x) Wt j = pHalf Wt x ⟨hRow ρ + (j 0).val, hRow_lt ρ (j 0)⟩ y := by
  have hj : (j 0).val < 64 := (j 0).isLt
  have e (r : Fin 64) (hr : r.val = (j 0).val) : j = Shape.pair (d := ![64, 128]) r y := by
    refine (Shape.pair_eta (d := ![64, 128]) j).symm.trans ?_
    congr 1
    · exact Fin.ext hr.symm
    · exact Fin.ext hy.symm
  cases ρ
  · have hn : ¬ (⟨hRow false + (j 0).val, hRow_lt false (j 0)⟩ : Fin 128).val < 64 := by show ¬ (64 + (j 0).val < 64); omega
    rw [pHalf, dif_neg hn]
    exact congrArg _ (e ⟨64 + (j 0).val - 64, by omega⟩ (Nat.add_sub_cancel_left _ _))
  · have hn : (⟨hRow true + (j 0).val, hRow_lt true (j 0)⟩ : Fin 128).val < 64 := by show 0 + (j 0).val < 64; omega
    rw [pHalf, dif_pos hn]
    exact congrArg _ (e ⟨0 + (j 0).val, by omega⟩ (Nat.zero_add _))

theorem slab_value (ρ : Bool) (h : Fin 7) (j : S128x128.Idx) :
    k0_pay8 (slab (X (back ρ (h.val + 1) c))) Wt j = result X Wt c ((Rect.unit (s := S2048x128) (gOff ρ h c) S128x128.size (gOff_inb ρ h c)).emb j) := by
  obtain ⟨e0, e1⟩ := pair_emb (n := 0) (gOff ρ h c) S128x128.size (gOff_inb ρ h c) (gOff_snd c ρ h) j
  rw [result_at X Wt c (back ρ (h.val + 1) c) (j 0) _ (e0.trans (congrArg (· + _) (gOff_fst c ρ h)))]
  unfold pAt pSlab
  rw [if_neg (back_ne ρ h c).1, if_neg (back_ne ρ h c).2]
  congr 1
  exact (Shape.pair_eta (d := ![128, 128]) j).symm.trans (congrArg (Shape.pair (d := ![128, 128]) (j 0)) (Fin.ext e1.symm))

theorem own_value (j : S128x128.Idx) :
    k0_pay4 (X c) Wt j = result X Wt c ((Rect.unit (s := S2048x128) (k0_off1 c) S128x128.size (k0_off1_inb c)).emb j) := by
  obtain ⟨e0, e1⟩ := pair_emb (n := 0) (k0_off1 c) S128x128.size (k0_off1_inb c) (oOff_snd c) j
  rw [result_at X Wt c c (j 0) _ (e0.trans (congrArg (· + _) (oOff_fst c)))]
  unfold pAt pOwn
  rw [if_pos rfl]
  congr 1
  exact (Shape.pair_eta (d := ![128, 128]) j).symm.trans (congrArg (Shape.pair (d := ![128, 128]) (j 0)) (Fin.ext e1.symm))

theorem half_value (ρ : Bool) (j : S64x128.Idx) :
    k0_pay27 (half ρ (X (back ρ 8 c))) Wt j = result X Wt c ((Rect.unit (s := S2048x128) (hOff ρ c) S64x128.size (hOff_inb ρ c)).emb j) := by
  obtain ⟨e0, e1⟩ := pair_emb (n := 0) (hOff ρ c) S64x128.size (hOff_inb ρ c) (hOff_snd c ρ) j
  rw [result_at X Wt c (back true 8 c) ⟨hRow ρ + (j 0).val, hRow_lt ρ (j 0)⟩ _
    (e0.trans ((congrArg (· + _) (hOff_fst c ρ)).trans (Nat.add_assoc _ _ _))), (back_far ρ c).1]
  unfold pAt
  rw [if_neg (back_far ρ c).2, if_pos rfl]
  exact pHalf_at Wt ρ _ j _ e1

/-- Multiply the chunk a hop brought. -/
theorem gemm_step (ρ : Bool) (h : Fin 7) {w u : ℕ} (hK : ∀ s, KP w u (num ρ h.val s)) {D D' : ℕ → Prop}
    (hD : ∀ r, D' r → D r ∨ Rows (128 * (back ρ (h.val + 1) c).val) 128 r) :
    iprop(pool (KP w u) (kept X c) ∗ wmat Wt c ∗ done X Wt c D)
      ⊢ wpc c (gemm oM ρ h c) fun _ => iprop(pool (KP w u) (kept X c) ∗ wmat Wt c ∗ done X Wt c D') := by
  rw [kept_out X c ρ h.val (by omega) Finset.univ fun s _ => hK s]
  unfold wmat done slots
  iintro ⟨⟨HS, HR⟩, HW, HD⟩
  icases HD with ⟨%f, %hf, HO⟩
  rw [wpc]; unfold gemm
  iapply (wp_load 𝒱₀ (c : Thread nD τ) none Set.univ (m := cM ρ) (load_sub ρ (slot h.val) 0 128 Finset.univ
    (fun r hr => ⟨⟨r / 32, by obtain ⟨h1, h2⟩ := hr; omega⟩, Finset.mem_univ _, by show 32 * (r / 32) ≤ r; omega, by show r < 32 * (r / 32) + 32; omega⟩)
    S1x128x2048.size (inb_slot (slot h.val)) rfl rfl rfl)) $$ HS; iintro HS
  rw [read_slab]
  iapply (wp_load 𝒱₀ (c : Thread nD τ) none Set.univ (m := wM) (Finset.subset_univ _)) $$ HW; iintro HW
  rw [read_w]
  iapply (wp_load 𝒱₀ (c : Thread nD τ) none Set.univ (m := oM) (Finset.subset_univ _)) $$ HO; iintro HO
  iapply (wp_store 𝒱₀ (c : Thread nD τ) none Set.univ (m := oM)
    (r := Rect.unit (s := S2048x128) (gOff ρ h c) S128x128.size (gOff_inb ρ h c)) (Mk := Finset.univ) (Finset.subset_univ _)) $$ HO; iintro HO
  rw [wp_ret]; imodintro
  isplitl [HS HR]
  · isplitl [HS] <;> iassumption
  isplitl [HW]; · iexact HW
  iexists _
  isplitr
  rotate_left
  · iexact HO
  ipureintro
  intro i hi
  refine stored X Wt c (gOff ρ h c) S128x128.size (gOff_inb ρ h c) f _ hf (slab_value X Wt c ρ h) (gOff_snd c ρ h) rfl i ?_
  rw [gOff_fst]
  exact hD _ hi

/-- The quarters of the last hop of ring `ρ`. -/
def lastQ (ρ : Bool) : Finset (Fin 4) := cond ρ {0, 1} {2, 3}

theorem lastQ_rows (ρ : Bool) (r : ℕ) (hr : Rows (hRow ρ) 64 r) : ∃ s ∈ lastQ ρ, Rows (32 * s.val) 32 r := by
  obtain ⟨h1, h2⟩ := hr
  cases ρ
  · have h1 : 64 ≤ r := h1
    have h2 : r < 64 + 64 := h2
    by_cases h : r < 96
    · exact ⟨2, by decide, by show 64 ≤ r; omega, by show r < 96; omega⟩
    · exact ⟨3, by decide, by show 96 ≤ r; omega, by show r < 128; omega⟩
  · have h2 : r < 0 + 64 := h2
    by_cases h : r < 32
    · exact ⟨0, by decide, by show 0 ≤ r; omega, by show r < 32; omega⟩
    · exact ⟨1, by decide, by show 32 ≤ r; omega, by show r < 64; omega⟩

/-- Multiply the half the last hop brought. -/
theorem gemmHalf_step (ρ : Bool) {w u : ℕ} (hK : ∀ s ∈ lastQ ρ, KP w u (num ρ 7 s)) {D D' : ℕ → Prop}
    (hD : ∀ r, D' r → D r ∨ Rows (128 * (back true 8 c).val + hRow ρ) 64 r) :
    iprop(pool (KP w u) (kept X c) ∗ wmat Wt c ∗ done X Wt c D)
      ⊢ wpc c (gemmHalf oM ρ c) fun _ => iprop(pool (KP w u) (kept X c) ∗ wmat Wt c ∗ done X Wt c D') := by
  rw [kept_out X c ρ 7 (by omega) (lastQ ρ) hK]
  unfold wmat done slots
  iintro ⟨⟨HS, HR⟩, HW, HD⟩
  icases HD with ⟨%f, %hf, HO⟩
  rw [wpc]; unfold gemmHalf
  iapply (wp_load 𝒱₀ (c : Thread nD τ) none Set.univ (m := cM ρ)
    (load_sub ρ (slot 7) (hRow ρ) 64 (lastQ ρ) (lastQ_rows ρ) S1x64x2048.size (hRow_inb ρ) rfl rfl rfl)) $$ HS; iintro HS
  rw [read_half]
  iapply (wp_load 𝒱₀ (c : Thread nD τ) none Set.univ (m := wM) (Finset.subset_univ _)) $$ HW; iintro HW
  rw [read_w]
  iapply (wp_load 𝒱₀ (c : Thread nD τ) none Set.univ (m := oM) (Finset.subset_univ _)) $$ HO; iintro HO
  iapply (wp_store 𝒱₀ (c : Thread nD τ) none Set.univ (m := oM)
    (r := Rect.unit (s := S2048x128) (hOff ρ c) S64x128.size (hOff_inb ρ c)) (Mk := Finset.univ) (Finset.subset_univ _)) $$ HO; iintro HO
  rw [wp_ret]; imodintro
  isplitl [HS HR]
  · isplitl [HS] <;> iassumption
  isplitl [HW]; · iexact HW
  iexists _
  isplitr
  rotate_left
  · iexact HO
  ipureintro
  intro i hi
  refine stored X Wt c (hOff ρ c) S64x128.size (hOff_inb ρ c) f _ hf (half_value X Wt c ρ) (hOff_snd c ρ) rfl i ?_
  rw [hOff_fst]
  exact hD _ hi

/-- A share of the own block, in scratch. -/
def xown (q : PosShare TreeShare) : sProp 𝕄 := (c : Thread nD τ).loc cc0_scratch0 ↦{q} (X c : Buf (Elt F) ((c : Thread nD τ).loc cc0_scratch0))

/-- Multiply the own block. -/
theorem gemmOwn_step (q : PosShare TreeShare) {D D' : ℕ → Prop} (hD : ∀ r, D' r → D r ∨ Rows (128 * c.val) 128 r) :
    iprop(xown X c q ∗ wmat Wt c ∗ done X Wt c D)
      ⊢ wpc c (gemmOwn oM c) fun _ => iprop(xown X c q ∗ wmat Wt c ∗ done X Wt c D') := by
  unfold wmat done xown
  iintro ⟨HS, HW, HD⟩
  icases HD with ⟨%f, %hf, HO⟩
  rw [wpc]; unfold gemmOwn
  iapply (wp_load 𝒱₀ (c : Thread nD τ) none Set.univ (m := xM) (Finset.subset_univ _)) $$ HS; iintro HS
  rw [read_xs]
  iapply (wp_load 𝒱₀ (c : Thread nD τ) none Set.univ (m := wM) (Finset.subset_univ _)) $$ HW; iintro HW
  rw [read_w]
  iapply (wp_load 𝒱₀ (c : Thread nD τ) none Set.univ (m := oM) (Finset.subset_univ _)) $$ HO; iintro HO
  iapply (wp_store 𝒱₀ (c : Thread nD τ) none Set.univ (m := oM)
    (r := Rect.unit (s := S2048x128) (k0_off1 c) S128x128.size (k0_off1_inb c)) (Mk := Finset.univ) (Finset.subset_univ _)) $$ HO; iintro HO
  rw [wp_ret]; imodintro
  isplitl [HS]; · iexact HS
  isplitl [HW]; · iexact HW
  iexists _
  isplitr
  rotate_left
  · iexact HO
  ipureintro
  intro i hi
  refine stored X Wt c (k0_off1 c) S128x128.size (k0_off1_inb c) f _ hf (own_value X Wt c) (oOff_snd c) rfl i ?_
  rw [oOff_fst]
  exact hD _ hi

/-! ## The copies into scratch -/

abbrev x0M : Memref sig .tc .vmem S128x2048 .bf16 := Memref.whole cc0_stg0_0
abbrev w0M : Memref sig .tc .vmem S2048x128 .bf16 := Memref.whole cc0_stg1_0

/-- The whole of a buffer of device `c`, -/
abbrev all (b : Ref sig .tc) (f : b.ty.Contents (Elt F)) : sProp 𝕄 := (c : Thread nD τ).loc b ↦{fullShare} (f : Buf (Elt F) ((c : Thread nD τ).loc b))
/-- holding anything. -/
abbrev some' (b : Ref sig .tc) : sProp 𝕄 := iprop(∃ f, all (F := F) c b f)

omit [FloatOps F] in
theorem write_xs (f w : Vec F S128x2048 .bf16) : (xM.access (Rect.unit (s := S128x2048) ![0, 0] S128x2048.size
    inb_S128x2048_S128x2048_0_0) : View sig .tc _ _ _).write (Elt F) f w Finset.univ = w :=
  Memref.write_access_unit_zero_univ (Elt F) cc0_scratch0 zero2 _ f w
omit [FloatOps F] in
theorem write_ws (f w : Vec F S2048x128 .bf16) : (wM.access (Rect.unit (s := S2048x128) ![0, 0] S2048x128.size
    inb_S2048x128_S2048x128_0_0) : View sig .tc _ _ _).write (Elt F) f w Finset.univ = w :=
  Memref.write_access_unit_zero_univ (Elt F) cc0_scratch3 zero2 _ f w

theorem fillX_step (x : Vec F S128x2048 .bf16) :
    iprop(all c cc0_stg0_0 x ∗ some' c cc0_scratch0)
      ⊢ wpc c (fillX x0M) fun _ => iprop(all c cc0_stg0_0 x ∗ all c cc0_scratch0 (k0_pay2 x : Vec F S128x2048 .bf16)) := by
  iintro ⟨HX, ⟨%f, HS⟩⟩
  rw [wpc]; unfold fillX
  iapply (wp_load 𝒱₀ (c : Thread nD τ) none Set.univ (m := x0M) (Finset.subset_univ _)) $$ HX; iintro HX
  rw [show (x0M : Memref sig .tc .vmem S128x2048 .bf16).view.readAt (Elt F)
    (Rect.unit (s := S128x2048) ![0, 0] S128x2048.size inb_S128x2048_S128x2048_0_0).toLoadRect x = x from
    Memref.readAt_unit_zero (Elt F) cc0_stg0_0 zero2 _ x]
  iapply (wp_load 𝒱₀ (c : Thread nD τ) none Set.univ (m := xM) (Finset.subset_univ _)) $$ HS; iintro HS
  iapply (wp_store 𝒱₀ (c : Thread nD τ) none Set.univ (m := xM)
    (r := Rect.unit (s := S128x2048) ![0, 0] S128x2048.size inb_S128x2048_S128x2048_0_0) (Mk := Finset.univ) (Finset.subset_univ _)) $$ HS; iintro HS
  rw [write_xs, wp_ret]; imodintro
  isplitl [HX]; · iexact HX
  iexact HS

theorem fillW_step (w : Vec F S2048x128 .bf16) :
    iprop(all c cc0_stg1_0 w ∗ some' c cc0_scratch3)
      ⊢ wpc c (fillW w0M) fun _ => iprop(all c cc0_stg1_0 w ∗ wmat (k0_pay3 w) c) := by
  iintro ⟨HX, ⟨%f, HS⟩⟩
  rw [wpc]; unfold fillW wmat
  iapply (wp_load 𝒱₀ (c : Thread nD τ) none Set.univ (m := w0M) (Finset.subset_univ _)) $$ HX; iintro HX
  rw [show (w0M : Memref sig .tc .vmem S2048x128 .bf16).view.readAt (Elt F)
    (Rect.unit (s := S2048x128) ![0, 0] S2048x128.size inb_S2048x128_S2048x128_0_0).toLoadRect w = w from
    Memref.readAt_unit_zero (Elt F) cc0_stg1_0 zero2 _ w]
  iapply (wp_load 𝒱₀ (c : Thread nD τ) none Set.univ (m := wM) (Finset.subset_univ _)) $$ HS; iintro HS
  iapply (wp_store 𝒱₀ (c : Thread nD τ) none Set.univ (m := wM)
    (r := Rect.unit (s := S2048x128) ![0, 0] S2048x128.size inb_S2048x128_S2048x128_0_0) (Mk := Finset.univ) (Finset.subset_univ _)) $$ HS; iintro HS
  rw [write_ws, wp_ret]; imodintro
  isplitl [HX]; · iexact HX
  iexact HS

/-! ## Iterations -/

/-- All of the state but the kept halves. -/
def StR (K : Names) (w u : ℕ) : sProp 𝕄 :=
  iprop(known X K ∗ pool (NS u) (toks c) ∗ pool (FL w u) (flying c) ∗ pool (RC w) (coming c) ∗ pool (TG w u) (target c)
    ∗ pool (SR w u) (sndPay X c) ∗ pool (PS w) (at_ c) ∗ owing c u)

omit [FloatOps F] in
theorem St_split (K : Names) (w u : ℕ) : St X c K w u ⊣⊢ iprop(pool (KP w u) (kept X c) ∗ StR X c K w u) := by
  unfold St StR
  constructor
  · iintro ⟨H1, H2, H3, H4, H5, H6, H7, H8, H9⟩
    isplitl [H6]; · iexact H6
    isplitl [H1]; · iexact H1
    isplitl [H2]; · iexact H2
    isplitl [H3]; · iexact H3
    isplitl [H4]; · iexact H4
    isplitl [H5]; · iexact H5
    isplitl [H7]; · iexact H7
    isplitl [H8] <;> iassumption
  · iintro ⟨H6, H1, H2, H3, H4, H5, H7, H8, H9⟩
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8] <;> iassumption

/-- A product leaves the state as it is. -/
theorem with_state (K : Names) (w u : ℕ) {P P' : sProp 𝕄} {p : Prog (TpuEff nD τ sig (Elt F) Λ₀ .tc) PUnit}
    (h : iprop(pool (KP w u) (kept X c) ∗ P) ⊢ wpc c p fun _ => iprop(pool (KP w u) (kept X c) ∗ P')) :
    iprop(St X c K w u ∗ P) ⊢ wpc c p fun _ => iprop(St X c K w u ∗ P') := by
  have h1 : iprop(St X c K w u ∗ P) ⊢ iprop((pool (KP w u) (kept X c) ∗ P) ∗ StR X c K w u) := by
    iintro ⟨HS, HP⟩
    ihave HS := (St_split X c K w u).1 $$ HS
    icases HS with ⟨HK, HR⟩
    isplitr [HR]
    · isplitl [HK] <;> iassumption
    · iexact HR
  have h2 : iprop((pool (KP w u) (kept X c) ∗ P') ∗ StR X c K w u) ⊢ iprop(St X c K w u ∗ P') := by
    iintro ⟨⟨HK, HP⟩, HR⟩
    isplitr [HP]
    · iapply (St_split X c K w u).2
      isplitl [HK] <;> iassumption
    · iexact HP
  exact h1.trans ((keep c (StR X c K w u) h).trans (wp_mono _ _ _ fun _ => h2))

/-- The rows done after `h` iterations. -/
def rowsTo (h r : ℕ) : Prop := Rows (128 * c.val) 128 r ∨ ∃ (ρ : Bool) (g : ℕ), g < h ∧ Rows (128 * (back ρ (g + 1) c).val) 128 r

/-- The state after `h` iterations. -/
def Iter (K : Names) (h : ℕ) : sProp 𝕄 :=
  iprop(St X c K (8 * h) (8 * h + 8) ∗ wmat Wt c ∗ done X Wt c (rowsTo c h))

theorem iter_step (K : Names) (h : Fin 7) : Iter X Wt c K h.val ⊢ wpc c (iter oM h c) fun _ => Iter X Wt c K (h.val + 1) := by
  unfold Iter
  have hK (ρ : Bool) (s : Fin 4) : KP (8 * (h.val + 1)) (8 * (h.val + 1) + 8) (num ρ h.val s) := by
    have h1 := h.isLt
    have h2 := s.isLt
    unfold num
    cases ρ
    · rw [cond_false]; unfold KP Gone Live; omega
    · rw [cond_true]; unfold KP Gone Live; omega
  refine seq c (keep c _ (quarters_step X c K (by omega))) ?_
  refine seq c (with_state X c K (8 * (h.val + 1)) (8 * (h.val + 1) + 8) (gemm_step X Wt c true h (hK true) (D := rowsTo c h.val)
      (D' := fun r => rowsTo c h.val r ∨ Rows (128 * (back true (h.val + 1) c).val) 128 r) fun r hr => hr)) ?_
  refine with_state X c K _ _ (gemm_step X Wt c false h (hK false) fun r hr => ?_)
  rcases hr with hr | ⟨ρ, g, hg, hr⟩
  · exact Or.inl (Or.inl (Or.inl hr))
  · by_cases e : g < h.val
    · exact Or.inl (Or.inl (Or.inr ⟨ρ, g, e, hr⟩))
    · have e : g = h.val := by omega
      subst e
      cases ρ
      · exact Or.inr hr
      · exact Or.inl (Or.inr hr)

theorem iters_step (K : Names) :
    Iter X Wt c K 0 ⊢ wpc c (iters oM c) fun _ => Iter X Wt c K 7 :=
  seq c (iter_step X Wt c K 0) <| seq c (iter_step X Wt c K 1) <| seq c (iter_step X Wt c K 2) <| seq c (iter_step X Wt c K 3) <|
    seq c (iter_step X Wt c K 4) <| seq c (iter_step X Wt c K 5) <| iter_step X Wt c K 6

theorem KP_last (ρ : Bool) : ∀ s ∈ lastQ ρ, KP 64 72 (num ρ 7 s) := by
  intro s hs
  have h2 := s.isLt
  cases ρ
  · have : s = 2 ∨ s = 3 := by simpa [lastQ] using hs
    rcases this with rfl | rfl
    · show KP 64 72 61; unfold KP Gone Live; omega
    · show KP 64 72 63; unfold KP Gone Live; omega
  · have : s = 0 ∨ s = 1 := by simpa [lastQ] using hs
    rcases this with rfl | rfl
    · show KP 64 72 56; unfold KP Gone Live; omega
    · show KP 64 72 58; unfold KP Gone Live; omega

/-- The last waits and the last two products: every row is done. -/
theorem ends_step (K : Names) :
    Iter X Wt c K 7 ⊢ wpc c (last c >>= fun _ => gemmHalf oM true c >>= fun _ => gemmHalf oM false c)
        fun _ => iprop(St X c K 64 72 ∗ wmat Wt c ∗ done X Wt c fun r => r < 2048) := by
  refine seq c (show Iter X Wt c K 7 ⊢ _ from keep c _ (quarters_step X c K (h := 7) (by omega))) ?_
  refine seq c (with_state X c K 64 72 (gemmHalf_step X Wt c true (KP_last true) (D := rowsTo c 7)
      (D' := fun r => rowsTo c 7 r ∨ Rows (128 * (back true 8 c).val) 64 r) fun r hr => hr)) ?_
  refine with_state X c K _ _ (gemmHalf_step X Wt c false (KP_last false) fun r hr => ?_)
  have hb : r / 128 < nD := by show r / 128 < 16; omega
  have hrow (b : Dev nD) (e : (⟨r / 128, hb⟩ : Dev nD) = b) : Rows (128 * b.val) 128 r := by
    subst e; exact ⟨by show 128 * (r / 128) ≤ r; omega, by show r < 128 * (r / 128) + 128; omega⟩
  rcases back_cover c ⟨r / 128, hb⟩ with e | e | ⟨ρ, h, e⟩
  · exact Or.inl (Or.inl (Or.inl (hrow _ e)))
  · obtain ⟨h1, h2⟩ := hrow _ e
    by_cases h3 : r < 128 * (back true 8 c).val + 64
    · exact Or.inl (Or.inr ⟨h1, h3⟩)
    · refine Or.inr ⟨?_, ?_⟩
      · show 128 * (back true 8 c).val + 64 ≤ r; omega
      · show r < 128 * (back true 8 c).val + 64 + 64; omega
  · exact Or.inl (Or.inl (Or.inr ⟨ρ, h.val, h.isLt, hrow _ e⟩))

end Cert.KernelIdeal.Ring
-- ==== Proof.SplitIdeal.lean ====
/-
Cutting the buffers into the pieces the copies move, and putting the pieces together again.
-/
module

public import proofs.«01_k».proof.Proof.OutIdeal

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (X : Dev nD → Vec F S128x2048 .bf16) (c : Dev nD)

/-! ## Pools, again -/

omit [FloatOps F] in
theorem pool_none {p : ℕ → Prop} (h : ∀ n < 96, ¬ p n) (Φ : ℕ → sProp 𝕄) : pool p Φ = iprop(emp) := by
  unfold pool
  rw [show nums p = ∅ from Finset.eq_empty_of_forall_notMem fun n hn => h n (mem_nums.mp hn).1 (mem_nums.mp hn).2]
  rfl

omit [FloatOps F] in
theorem pool_or {p q r : ℕ → Prop} (h : ∀ n < 96, p n ↔ q n ∨ r n) (hd : ∀ n, q n → ¬ r n) (Φ : ℕ → sProp 𝕄) :
    pool p Φ = iprop(pool q Φ ∗ pool r Φ) := by
  unfold pool
  rw [show nums p = nums q ∪ nums r from Finset.ext fun n => by
    rw [Finset.mem_union, mem_nums, mem_nums, mem_nums]
    refine ⟨fun ⟨h1, h2⟩ => ((h n h1).mp h2).imp (fun h3 => ⟨h1, h3⟩) (fun h3 => ⟨h1, h3⟩), fun h1 => ?_⟩
    rcases h1 with ⟨h1, h2⟩ | ⟨h1, h2⟩
    · exact ⟨h1, (h n h1).mpr (Or.inl h2)⟩
    · exact ⟨h1, (h n h1).mpr (Or.inr h2)⟩,
    bigSep_union (Finset.disjoint_left.mpr fun n h1 h2 => hd n (mem_nums.mp h1).2 (mem_nums.mp h2).2)]
  rfl

omit [FloatOps F] in
theorem pool_map {m : ℕ} {p : ℕ → Prop} (f : Fin m → ℕ) (hf : Function.Injective f) (hp : ∀ n < 96, p n ↔ ∃ i, f i = n) (hlt : ∀ i, f i < 96)
    (Φ : ℕ → sProp 𝕄) : pool p Φ = bigSep Finset.univ fun i => Φ (f i) := by
  unfold pool
  rw [show nums p = Finset.univ.map ⟨f, hf⟩ from Finset.ext fun n => by
    rw [mem_nums, Finset.mem_map]
    refine ⟨fun ⟨h1, h2⟩ => ?_, fun ⟨i, _, hi⟩ => ?_⟩
    · obtain ⟨i, hi⟩ := (hp n h1).mp h2
      exact ⟨i, Finset.mem_univ _, hi⟩
    · have hi : f i = n := hi
      subst hi
      exact ⟨hlt i, (hp _ (hlt i)).mpr ⟨i, rfl⟩⟩, bigSep_map]
  rfl

omit [FloatOps F] in
theorem bigSep_two (Φ : Bool → sProp 𝕄) : bigSep Finset.univ Φ = iprop(Φ true ∗ Φ false) :=
  bigSep_univ_eq_bigSepL [true, false] (by decide) (by decide) Φ

/-! ## A ring's slots -/

/-- Ring `ρ`'s slots on device `c`. -/
def comm (ρ : Bool) : sProp 𝕄 :=
  iprop(∃ f : Buf (Elt F) ((cM ρ).view.loc (c : Thread nD τ)), (cM ρ).view.loc (c : Thread nD τ) ↦{fullShare} f)

omit [FloatOps F] in
theorem free_num {n : ℕ} {ρ : Bool} {h : ℕ} {s : Fin 4} (h1 : ring n = ρ) (h2 : n / 8 = h) (h3 : qt n = s) :
    free (F := F) c n = iprop(∃ f : Buf (Elt F) ((cM ρ).view.loc (c : Thread nD τ)),
      (cM ρ).view.loc (c : Thread nD τ) ↦[pset ρ (slot h) s]{fullShare} f) := by
  subst h1 h2 h3; rfl

theorem pset_cover (ρ : Bool) : Finset.univ.biUnion (fun ks : Fin 4 × Fin 4 => pset ρ (slot ks.1.val) ks.2) = Finset.univ := by
  refine Finset.eq_univ_of_forall fun i => Finset.mem_biUnion.mpr ?_
  have h0 : (crd ρ i 0).val < 4 := (crd ρ i 0).isLt
  have h1 : (crd ρ i 1).val < 128 := (crd ρ i 1).isLt
  refine ⟨(⟨(crd ρ i 0).val, h0⟩, ⟨(crd ρ i 1).val / 32, by omega⟩), Finset.mem_univ _, (mem_pset ρ _ _ i).mpr ⟨⟨?_, ?_⟩, ?_, ?_⟩⟩
  · show (crd ρ i 0).val % 4 ≤ _; omega
  · show _ < (crd ρ i 0).val % 4 + 1; omega
  · show 32 * ((crd ρ i 1).val / 32) ≤ _; omega
  · show _ < 32 * ((crd ρ i 1).val / 32) + 32; omega

theorem pset_apart (ρ : Bool) : ∀ t ∈ (Finset.univ : Finset (Fin 4 × Fin 4)), ∀ t' ∈ (Finset.univ : Finset (Fin 4 × Fin 4)), t ≠ t' →
    Disjoint (pset ρ (slot t.1.val) t.2) (pset ρ (slot t'.1.val) t'.2) := fun t _ t' _ h => by
  refine pset_disjoint ρ _ _ _ _ fun e => h ?_
  have e1 : t.1.val % 4 = t'.1.val % 4 := congrArg Fin.val (Prod.ext_iff.mp e).1
  have h1 := t.1.isLt
  have h2 := t'.1.isLt
  exact Prod.ext (Fin.ext (by omega)) (Prod.ext_iff.mp e).2

omit [FloatOps F] in
/-- A ring's slots are their quarters. -/
theorem comm_quarters (ρ : Bool) : comm (F := F) c ρ ⊣⊢ bigSep Finset.univ fun ks : Fin 4 × Fin 4 => free c (num ρ ks.1.val ks.2) := by
  have e (ks : Fin 4 × Fin 4) := free_num (F := F) c (ring_num ρ ks.1.val ks.2) (hop_num ρ ks.1.val ks.2) (qt_num ρ ks.1.val ks.2)
  rw [bigSep_congr fun ks _ => e ks]
  unfold comm
  constructor
  · iintro ⟨%f, H⟩
    rw [← pset_cover ρ]
    have h := Entails.of_eq (show (_ : sProp 𝕄) = _ from pointsTo_biUnion (ℓ := (cM ρ).view.loc (c : Thread nD τ)) (q := fullShare) (f := f)
      (Finset.univ : Finset (Fin 4 × Fin 4)) (fun ks => pset ρ (slot ks.1.val) ks.2) (pset_apart ρ))
    ihave H := h $$ H
    have hx (ks : Fin 4 × Fin 4) : ((cM ρ).view.loc (c : Thread nD τ) ↦[pset ρ (slot ks.1.val) ks.2]{fullShare} f : sProp 𝕄)
        ⊢ iprop(∃ f : Buf (Elt F) ((cM ρ).view.loc (c : Thread nD τ)), (cM ρ).view.loc (c : Thread nD τ) ↦[pset ρ (slot ks.1.val) ks.2]{fullShare} f) := by
      iintro H; iexists f; iexact H
    have h2 : (_ : sProp 𝕄) ⊢ _ := bigSep_mono (s := (Finset.univ : Finset (Fin 4 × Fin 4))) fun ks _ => hx ks
    iapply h2
    iexact H
  · by_cases hne : Nonempty (Buf (Elt F) ((cM ρ).view.loc (c : Thread nD τ)))
    swap
    · have h1 : (bigSep Finset.univ fun ks : Fin 4 × Fin 4 => iprop(∃ f : Buf (Elt F) ((cM ρ).view.loc (c : Thread nD τ)),
          (cM ρ).view.loc (c : Thread nD τ) ↦[pset ρ (slot ks.1.val) ks.2]{fullShare} f) : sProp 𝕄)
          ⊢ iprop(∃ f : Buf (Elt F) ((cM ρ).view.loc (c : Thread nD τ)), (cM ρ).view.loc (c : Thread nD τ) ↦[pset ρ (slot 0) 0]{fullShare} f) :=
        bigSep_elim (Finset.mem_univ ((0, 0) : Fin 4 × Fin 4))
      refine h1.trans ?_
      iintro ⟨%f, H⟩
      exact (hne ⟨f⟩).elim
    iintro H
    ihave H := (bigSep_exists_pi Finset.univ fun (ks : Fin 4 × Fin 4) (f : Buf (Elt F) ((cM ρ).view.loc (c : Thread nD τ))) =>
      ((cM ρ).view.loc (c : Thread nD τ) ↦[pset ρ (slot ks.1.val) ks.2]{fullShare} f : sProp 𝕄)) $$ H
    icases H with ⟨%fs, H⟩
    have h : (_ : sProp 𝕄) ⊢ _ := (pointsTo_biUnion_join (ℓ := (cM ρ).view.loc (c : Thread nD τ)) (q := fullShare)
      (Finset.univ : Finset (Fin 4 × Fin 4)) (fun ks => pset ρ (slot ks.1.val) ks.2) fs (fs (0, 0)) (pset_apart ρ))
    ihave H := h $$ H
    icases H with ⟨%g, -, H⟩
    iexists g
    rw [pset_cover ρ]
    iexact H

theorem ring_nums : ∀ ρ : Bool, ((Finset.range 32).filter fun n => ring n = ρ)
    = Finset.univ.image fun ks : Fin 4 × Fin 4 => num ρ ks.1.val ks.2 := by decide +kernel

theorem ring_nums_inj (ρ : Bool) : Function.Injective fun ks : Fin 4 × Fin 4 => num ρ ks.1.val ks.2 := fun a b e =>
  Prod.ext (Fin.ext ((hop_num ρ a.1.val a.2).symm.trans ((congrArg (· / 8) e).trans (hop_num ρ b.1.val b.2))))
    ((qt_num ρ a.1.val a.2).symm.trans ((congrArg qt e).trans (qt_num ρ b.1.val b.2)))

omit [FloatOps F] in
theorem bigSep_ring (ρ : Bool) (Φ : ℕ → sProp 𝕄) : bigSep ((Finset.range 32).filter fun n => ring n = ρ) Φ
    = bigSep Finset.univ fun ks : Fin 4 × Fin 4 => Φ (num ρ ks.1.val ks.2) := by
  rw [ring_nums, bigSep_image_of_injOn ((ring_nums_inj ρ).injOn)]

omit [FloatOps F] in
/-- The numbers below 32 are those of either ring. -/
theorem bigSep_rings (Φ : ℕ → sProp 𝕄) : bigSep Finset.univ (fun i : Fin 32 => Φ i.val)
    = iprop(bigSep ((Finset.range 32).filter fun n => ring n = true) Φ ∗ bigSep ((Finset.range 32).filter fun n => ring n = false) Φ) := by
  have e1 : (Finset.range 32).filter (fun n => ring n = true) ∪ (Finset.range 32).filter (fun n => ring n = false)
      = Finset.univ.map (Fin.valEmbedding (n := 32)) := by decide +kernel
  have e2 : Disjoint ((Finset.range 32).filter fun n => ring n = true) ((Finset.range 32).filter fun n => ring n = false) := by decide +kernel
  have e3 := bigSep_union e2 (Φ := Φ)
  rw [e1, bigSep_map] at e3
  exact e3

/-! ## The own block -/

theorem mem_own (s : Fin 4) (i : S128x2048.Idx) :
    i ∈ (show Finset S128x2048.Idx from (own s).view.set) ↔ Rows (32 * s.val) 32 (i 0).val := by
  have e : (show Finset S128x2048.Idx from (own s).view.set) = (Rect.unit (s := S128x2048) ![32 * s.val, 0] S32x2048.size (inb_own s)).set :=
    View.set_slice_whole cc0_scratch0 _
  rw [e, Rect.mem_set_unit]
  refine ⟨fun h => h 0, fun h a => ?_⟩
  have h2 : (i 1).val < 2048 := (i 1).isLt
  rcases a with ⟨_ | _ | a, ha⟩
  · exact h
  · refine ⟨?_, ?_⟩
    · show 0 ≤ _; omega
    · show (i 1).val < 0 + 2048; omega
  · exact absurd ha (by show ¬ (a + 2 < 2); omega)

def oset (s : Fin 4) : Finset S128x2048.Idx := (own s).view.set

theorem oset_cover : Finset.univ.biUnion oset = Finset.univ := by
  refine Finset.eq_univ_of_forall fun i => Finset.mem_biUnion.mpr ?_
  have h1 : (i 0).val < 128 := (i 0).isLt
  refine ⟨⟨(i 0).val / 32, by omega⟩, Finset.mem_univ _, (mem_own _ i).mpr ⟨?_, ?_⟩⟩
  · show 32 * ((i 0).val / 32) ≤ _; omega
  · show _ < 32 * ((i 0).val / 32) + 32; omega

theorem oset_apart : ∀ t ∈ (Finset.univ : Finset (Fin 4)), ∀ t' ∈ (Finset.univ : Finset (Fin 4)), t ≠ t' → Disjoint (oset t) (oset t') :=
  fun t _ t' _ h => by
    rw [Finset.disjoint_left]
    intro i h1 h2
    obtain ⟨a1, a2⟩ := (mem_own t i).mp h1
    obtain ⟨b1, b2⟩ := (mem_own t' i).mp h2
    exact h (Fin.ext (by omega))

omit [FloatOps F] in
/-- A share of the own block is that share of its quarters. -/
theorem xown_quarters (q : PosShare TreeShare) : xown X c q
    = bigSep Finset.univ fun s => ((own s).view.loc (c : Thread nD τ) ↦[(own s).view.set]{q} ownAt c s (X c) : sProp 𝕄) := by
  have h : (_ : sProp 𝕄) = _ := pointsTo_biUnion (ℓ := (c : Thread nD τ).loc cc0_scratch0) (q := q) (f := (X c : Buf (Elt F) ((c : Thread nD τ).loc cc0_scratch0)))
      (Finset.univ : Finset (Fin 4)) oset oset_apart
  have e : (Finset.univ.biUnion oset : Finset (Idx ((c : Thread nD τ).loc cc0_scratch0))) = Finset.univ := oset_cover
  unfold xown
  rw [← e]
  exact h

omit [FloatOps F] in
theorem sndPay_first {n : ℕ} (hn : n < 8) {ρ : Bool} {s : Fin 4} (h1 : ring n = ρ) (h3 : qt n = s) : sndPay X c n
    = ((own s).view.loc (c : Thread nD τ) ↦[(own s).view.set]{lent ρ} ownAt c s (X c) : sProp 𝕄) := by
  subst h1 h3; unfold sndPay; rw [if_pos hn]

theorem first_nums : Finset.range 8 = Finset.univ.image fun bs : Bool × Fin 4 => num bs.1 0 bs.2 := by decide +kernel

omit [FloatOps F] in
/-- The sources of the first copies are a share of the own block for either ring. -/
theorem firsts_own : pool (fun n => n < 8) (sndPay X c) = iprop(xown X c fullShare.right.left ∗ xown X c fullShare.right.right) := by
  have hin : Function.Injective fun bs : Bool × Fin 4 => num bs.1 0 bs.2 := fun a b e =>
    Prod.ext ((ring_num a.1 0 a.2).symm.trans ((congrArg ring e).trans (ring_num b.1 0 b.2)))
      ((qt_num a.1 0 a.2).symm.trans ((congrArg qt e).trans (qt_num b.1 0 b.2)))
  have e (ρ : Bool) : (bigSep Finset.univ fun s => sndPay X c (num ρ 0 s)) = xown X c (lent ρ) := by
    rw [xown_quarters]
    exact bigSep_congr fun s _ => sndPay_first X c (by have := hop_num ρ 0 s; omega) (ring_num ρ 0 s) (qt_num ρ 0 s)
  unfold pool
  rw [show nums (fun n => n < 8) = Finset.range 8 from Finset.ext fun n => by rw [mem_nums, Finset.mem_range]; omega, first_nums,
    bigSep_image_of_injOn hin.injOn, bigSep_univ_prod, bigSep_two, e true, e false]
  rfl

omit [FloatOps F] in
theorem xown_halves (q : PosShare TreeShare) : xown X c q ⊣⊢ iprop(xown X c q.left ∗ xown X c q.right) := by
  unfold xown; exact pointsTo_share (PosShare.mem_left_op_right q)

end Cert.KernelIdeal.Ring
-- ==== Proof.EnterIdeal.lean ====
/-
Entering: the two signals, the barrier wait, and the state the copies start from.
-/
module

public import proofs.«01_k».proof.Proof.SplitIdeal

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (X : Dev nD → Vec F S128x2048 .bf16) (c : Dev nD)

/-- What device `c` owes on entry: every copy, and a unit to either neighbour's barrier. -/
def owed₀ : CellTallies nD τ sig ℕ := (dues (nums (NS 0)) c + tallyAt (barC (nbr true c)) 1 1) + tallyAt (barC (nbr false c)) 1 1

/-- Signal a neighbour, handing over the slots it will copy into. -/
theorem hello_step (K : Names) (ρ : Bool) (O : CellTallies nD τ sig ℕ) (W : Waits sig ℕ) :
    iprop(known X K ∗ owes (c : Thread nD τ) (O + tallyAt (barC (nbr ρ c)) 1 1) W ∗ dutyTok ER (barC (nbr ρ c)) 0 (!ρ) ∗ comm c (!ρ))
      ⊢ wpc c (hello ρ c) fun _ => owes (c : Thread nD τ) O W := by
  have hp : comm (F := F) c (!ρ) ⊢ (sched X).payload (barC (nbr ρ c)) 0 (!ρ) := by
    show comm (F := F) c (!ρ) ⊢ barPay (nbr ρ c) (!ρ)
    unfold barPay
    rw [nbr_nbr, bigSep_ring]
    exact (comm_quarters c (!ρ)).1
  have hk (κ : ℕ) : (sched X).amount (barC (nbr ρ c)) κ (!ρ) = 1 := rfl
  have h := Rounds.wp_signal (α := PUnit) (k := .ret) (Q := fun _ => owes (c : Thread nD τ) O W) 𝒱₀ ER (sched X) (c : Thread nD τ) none
    (defs := defs₀ (F := F)) (Γ := .empty) (Es := Set.univ) (dst := (nbr ρ c : Thread nD τ)) (sem := barS) (r := 0) (d := !ρ) (k' := 1)
    (κ := K (nbr ρ c, none)) (by show (!ρ) ∈ Finset.univ; exact Finset.mem_univ _) (hk 0) 1 O rfl (W := W)
  have hb := known_inv X K (nbr ρ c, none)
  have hr := known_reached X K (nbr ρ c, none)
  iintro ⟨#HK, HO, Ht, Hc⟩
  iapply h $$ [HO Ht Hc]
  · isplitr; · iapply hb; iexact HK
    isplitl [HO]; · iexact HO
    isplitl [Ht]; · iexact Ht
    isplitl [Hc]; · iapply hp; iexact Hc
    iapply hr; iexact HK
  iintro HO
  rw [wp_ret]; imodintro; iexact HO

/-- Wait for both neighbours, getting the slots of theirs to copy into. -/
theorem enter_wait (K : Names) (W : Waits sig ℕ) :
    iprop(known X K ∗ owes (c : Thread nD τ) (dues (nums (NS 0)) c) W ∗ cred (tallyAt (barC c) 1 2) ∗ atPos ER (barC c) 0 ∅ 0)
      ⊢ wpc c (semWaitWord barS 2#32) fun _ => iprop(owing c 0 ∗ atPos ER (barC c) 1 ∅ 0 ∗ barPay c true ∗ barPay c false) := by
  have h := Rounds.wp_wait_rest_token (α := PUnit) (k := .ret)
    (Q := fun _ => iprop(owing (F := F) c 0 ∗ atPos ER (barC c) 1 ∅ 0 ∗ barPay c true ∗ barPay c false)) 𝒱₀ ER (sched X) (c : Thread nD τ) none
    (κ := K (c, none)) (defs := defs₀ (F := F)) (Γ := .empty)
    (wpE_semWait_eq (sem := barS) 𝒱₀ (c : Thread nD τ) none Set.univ) (Set.mem_univ _) 1 (O := dues (nums (NS 0)) c) (W := W) (R := 0) (m := 0) (T := ∅)
    (k' := 2) (by rw [expect_bar])
  have hb := known_inv X K (c, none)
  have hm := known_mayWait X c K (.reg barS) 1 0 (by omega) fun n _ => by omega
  iintro ⟨#HK, HO, Hc, Ha⟩
  iapply h $$ [HO Hc Ha]
  · isplitr; · iapply hb; iexact HK
    isplitl [Hc]; · iexact Hc
    isplitl [HO]; · iexact HO
    isplitr; · iapply hm; iexact HK
    iexact Ha
  iintro ⟨HO, Ha, -, Hp⟩
  rw [wp_ret]; imodintro
  isplitl [HO]
  · unfold owing; iexists _; iexact HO
  isplitl [Ha]; · iexact Ha
  ihave Hp := (Entails.of_eq (rest_bar X c)) $$ Hp
  iexact Hp

/-- The positions of the cells of device `c`'s copies, at the start. -/
def marks : sProp 𝕄 := bigSep Finset.univ fun i : Fin 32 => iprop(atPos ER (sndC c i.val) 0 ∅ 0 ∗ atPos ER (rcvC c i.val) 0 ∅ 0)

omit [FloatOps F] in
theorem known_codes (K : Names) (b : Bool) (d : Dev nD) (i : Fin 32) : known X K ⊢ reached ER (cond b (rcvC d i.val) (sndC d i.val)) 0 := by
  cases b
  · exact known_reached X K (d, some (i, false))
  · exact known_reached X K (d, some (i, true))

omit [FloatOps F] in
theorem marks_at (K : Names) : iprop(known X K ∗ marks c) ⊢ pool (PS 0) (at_ (F := F) c) := by
  rw [pool_map (p := PS 0) (fun i : Fin 32 => i.val) Fin.val_injective (fun n hn => by
    refine ⟨fun h => ⟨⟨n, by unfold PS at h; omega⟩, rfl⟩, fun ⟨i, hi⟩ => ?_⟩
    have := i.isLt
    unfold PS Live; omega) (fun i => by have := i.isLt; omega)]
  unfold marks
  refine bigSep_with_persistent fun i _ => ?_
  have h1 := known_codes X K false c i
  have h2 := known_codes X K true c i
  rw [cond_false] at h1
  rw [cond_true] at h2
  unfold at_
  rw [show i.val / 32 = 0 by have := i.isLt; omega]
  iintro ⟨#HK, Ha⟩
  isplitl [Ha]; · iexact Ha
  isplitr; · iapply h1; iexact HK
  iapply h2; iexact HK

omit [FloatOps F] in
theorem bar_targets (K : Names) : iprop(known X K ∗ barPay c true ∗ barPay c false) ⊢ pool (TG 0 0) (target (F := F) c) := by
  have e (ρ : Bool) : barPay (F := F) c ρ = bigSep ((Finset.range 32).filter fun n => ring n = ρ) fun n => free (dst n c) n := by
    unfold barPay
    refine bigSep_congr fun n hn => ?_
    rw [dst, (Finset.mem_filter.mp hn).2]
  rw [pool_map (p := TG 0 0) (fun i : Fin 32 => i.val) Fin.val_injective (fun n hn => by
    refine ⟨fun h => ⟨⟨n, by unfold TG at h; omega⟩, rfl⟩, fun ⟨i, hi⟩ => ?_⟩
    have := i.isLt
    unfold TG Live; omega) (fun i => by have := i.isLt; omega), e true, e false, ← bigSep_rings fun n => free (dst n c) n]
  refine bigSep_with_persistent fun i _ => ?_
  have h2 := known_codes X K true (dst i.val c) i
  rw [cond_true] at h2
  unfold target
  rw [show i.val / 32 = 0 by have := i.isLt; omega]
  iintro ⟨#HK, Ha⟩
  isplitl [Ha]; · iexact Ha
  iapply h2; iexact HK

omit [FloatOps F] in
/-- The state the copies start from. -/
theorem enter_state (K : Names) :
    iprop(known X K ∗ pool (NS 0) (toks c) ∗ pool (RC 0) (coming c) ∗ marks c ∗ (barPay c true ∗ barPay c false) ∗ owing c 0
        ∗ xown X c fullShare.right)
      ⊢ St X c K 0 0 := by
  have h1 := marks_at X c K
  have h2 := bar_targets X c K
  have h3 := (xown_halves X c fullShare.right).1
  have e1 : pool (SR 0 0) (sndPay X c) = iprop(xown X c fullShare.right.left ∗ xown X c fullShare.right.right) := by
    rw [← firsts_own]
    exact pool_congr (fun n hn => by unfold SR FL Gone Live; omega) _
  unfold St
  rw [pool_none (p := FL 0 0) (fun n _ => by unfold FL; omega), pool_none (p := KP 0 0) (fun n _ => by unfold KP; omega), e1]
  iintro ⟨#HK, Ht, Hc, Hm, Hb, Ho, Hx⟩
  isplitr; · iexact HK
  isplitl [Ht]; · iexact Ht
  isplitr; · iempintro
  isplitl [Hc]; · iexact Hc
  isplitl [Hb]
  · iapply h2; isplitr; · iexact HK
    iexact Hb
  isplitr; · iempintro
  isplitl [Hx]; · iapply h3; iexact Hx
  isplitl [Hm]
  · iapply h1; isplitr; · iexact HK
    iexact Hm
  iexact Ho

end Cert.KernelIdeal.Ring
-- ==== Proof.ExitIdeal.lean ====
/-
Leaving: every buffer is whole again and every semaphore at zero.
-/
module

public import proofs.«01_k».proof.Proof.SplitIdeal

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (X : Dev nD → Vec F S128x2048 .bf16) (c : Dev nD)

/-- The last copy that lands in the quarter of copy `i`. -/
def lastNo (i : Fin 32) : ℕ := if Live (i.val + 32) then i.val + 32 else i.val

theorem lastNo_mod : ∀ i : Fin 32, lastNo i % 32 = i.val := by decide +kernel
theorem lastNo_lt : ∀ i : Fin 32, lastNo i < 64 := by decide +kernel
theorem lastNo_inj : Function.Injective lastNo := fun i j e =>
  Fin.ext ((lastNo_mod i).symm.trans ((congrArg (· % 32) e).trans (lastNo_mod j)))
theorem lastNo_iff (n : ℕ) : (Live n ∧ ¬ Live (n + 32)) ↔ ∃ i, lastNo i = n := by
  have h : ∀ m < 64, (Live m ∧ ¬ Live (m + 32)) ↔ ∃ i, lastNo i = m := by decide +kernel
  by_cases hn : n < 64
  · exact h n hn
  · refine ⟨fun ⟨h1, _⟩ => absurd h1 (by unfold Live; omega), fun ⟨i, hi⟩ => absurd (lastNo_lt i) (by omega)⟩
theorem lastNo_dead (i : Fin 32) : ∀ r, (lastNo i + 32) / 32 ≤ r → ¬ Live ((lastNo i + 32) % 32 + 32 * r) := by
  intro r hr
  have h1 := (lastNo_iff (lastNo i)).mpr ⟨i, rfl⟩
  have h2 := lastNo_lt i
  unfold Live at *
  omega

omit [FloatOps F] in
/-- The kept and the lent halves of every quarter make the slots whole. -/
theorem slots_back : iprop(pool (KP 64 72) (kept X c) ∗ pool (fun n => SR 64 72 n ∧ ¬ n < 8) (sndPay X c))
    ⊢ iprop(comm (F := F) c true ∗ comm c false) := by
  rw [pool_map (p := KP 64 72) lastNo lastNo_inj (fun n hn => by
      rw [← lastNo_iff]; unfold KP Gone Live; omega) (fun i => by have := lastNo_lt i; omega),
    pool_map (p := fun n => SR 64 72 n ∧ ¬ n < 8) (fun i => lastNo i + 8) (fun i j e => lastNo_inj (Nat.add_right_cancel e)) (fun n hn => by
      have h := lastNo_iff (n - 8)
      constructor
      · intro h1
        obtain ⟨i, hi⟩ := h.mp (by unfold SR FL Gone Live at *; omega)
        exact ⟨i, by show lastNo i + 8 = n; omega⟩
      · intro ⟨i, hi⟩
        have hi : lastNo i + 8 = n := hi
        have h1 := h.mpr ⟨i, by omega⟩
        unfold SR FL Gone Live at *; omega) (fun i => by have := lastNo_lt i; show lastNo i + 8 < 96; omega)]
  have h1 (i : Fin 32) : iprop(kept X c (lastNo i) ∗ sndPay X c (lastNo i + 8)) ⊢ free (F := F) c i.val := by
    rw [← held_snd, ← free_congr c ((lastNo_mod i).trans (Nat.mod_eq_of_lt i.isLt).symm)]
    refine BI.Entails.trans ?_ (held_free c (lastNo i) (got X c (lastNo i)))
    refine BI.Entails.trans ?_ (held_halves c (lastNo i) (got X c (lastNo i))).2
    exact BI.sep_comm
  have h2 : iprop((bigSep Finset.univ fun i => kept X c (lastNo i)) ∗ bigSep Finset.univ fun i => sndPay X c (lastNo i + 8))
      ⊢ bigSep Finset.univ fun i : Fin 32 => free (F := F) c i.val := by
    rw [← bigSep_sep']; exact bigSep_mono fun i _ => h1 i
  refine h2.trans ?_
  rw [bigSep_rings fun n => free (F := F) c n, bigSep_ring, bigSep_ring]
  exact BI.sep_mono (comm_quarters c true).2 (comm_quarters c false).2

omit [FloatOps F] in
/-- Close the cells of the copies. -/
theorem cells_close (K : Names) : iprop(known X K ∗ pool (PS 64) (at_ (F := F) c))
    ⊢ |={Set.univ}=> bigSep Finset.univ fun i : Fin 32 => iprop(semVal (sndC c i.val) 0 ∗ semVal (rcvC c i.val) 0) := by
  rw [pool_map (p := PS 64) (fun i => lastNo i + 32) (fun i j e => lastNo_inj (Nat.add_right_cancel e)) (fun n hn => by
      have h := lastNo_iff (n - 32)
      constructor
      · intro h1
        obtain ⟨i, hi⟩ := h.mp (by unfold PS Live at *; omega)
        exact ⟨i, by show lastNo i + 32 = n; unfold PS Live at h1; omega⟩
      · intro ⟨i, hi⟩
        have hi : lastNo i + 32 = n := hi
        have h1 := h.mpr ⟨i, by omega⟩
        unfold PS Live at *; omega) (fun i => by have := lastNo_lt i; show lastNo i + 32 < 96; omega)]
  refine (bigSep_with_persistent (Ψ := fun i : Fin 32 => iprop(|={Set.univ}=> (semVal (sndC c i.val) 0 ∗ semVal (rcvC c i.val) 0)))
    fun i _ => ?_).trans (bigSep_fupd _ _)
  have hm : (lastNo i + 32) % 32 = i.val % 32 := by rw [Nat.add_mod_right, lastNo_mod, Nat.mod_eq_of_lt i.isLt]
  have e1 : sndC c i.val = sndC c (lastNo i + 32) := by unfold sndC; rw [sndS_congr hm]
  have e2 : rcvC c i.val = rcvC c (lastNo i + 32) := by unfold rcvC; rw [rcvS_congr hm]
  rw [e1, e2]
  have h1 := known_snd X c K (lastNo i + 32)
  have h2 := known_rcv X c K (lastNo i + 32)
  have h3 := Rounds.cell_close ER (sched X) (Set.mem_univ (K (c, some (codeN (lastNo i + 32), false)))) (fun h => h) (R := (lastNo i + 32) / 32)
    (duties_snd_later X c (lastNo_dead i))
  have h4 := Rounds.cell_close ER (sched X) (Set.mem_univ (K (c, some (codeN (lastNo i + 32), true)))) (fun h => h) (R := (lastNo i + 32) / 32)
    (duties_rcv_later X c (lastNo_dead i))
  unfold at_
  iintro ⟨#HK, ⟨Hs, Hr⟩, -, -⟩
  imod h3 $$ [Hs] with Hs
  · isplitr; · iapply h1; iexact HK
    iexact Hs
  imod h4 $$ [Hr] with Hr
  · isplitr; · iapply h2; iexact HK
    iexact Hr
  imodintro
  isplitl [Hs] <;> iassumption

omit [FloatOps F] in
/-- The end. -/
theorem exit_state (K : Names) : iprop(St X c K 64 72 ∗ xown X c fullShare.left ∗ atPos ER (barC c) 1 ∅ 0)
    ⊢ |={Set.univ}=> iprop((comm c true ∗ comm c false) ∗ xown X c fullShare
        ∗ (bigSep Finset.univ fun i : Fin 32 => iprop(semVal (sndC c i.val) 0 ∗ semVal (rcvC c i.val) 0)) ∗ semVal (barC c) 0
        ∗ ∃ W, owes (c : Thread nD τ) 0 W) := by
  have h1 := slots_back X c
  have h2 := cells_close X c K
  have h3 := Rounds.cell_close ER (sched X) (Set.mem_univ (K (c, none))) (fun h => h) (R := 1) (duties_bar_later X c)
  have h4 := known_inv X K (c, none)
  have e1 : pool (SR 64 72) (sndPay X c) = iprop((xown X c fullShare.right.left ∗ xown X c fullShare.right.right)
      ∗ pool (fun n => SR 64 72 n ∧ ¬ n < 8) (sndPay X c)) := by
    rw [← firsts_own]
    exact pool_or (fun n hn => by unfold SR FL Gone Live; omega) (fun n h1 h2 => h2.2 h1) _
  have e2 : dues (nums (NS 72)) c = 0 := by
    unfold dues
    rw [show nums (NS 72) = ∅ from Finset.eq_empty_of_forall_notMem fun n hn => by
      have := (mem_nums.mp hn).2; unfold NS Live at this; omega]
    rfl
  have h5 := (xown_halves X c fullShare.right).2
  have h6 := (xown_halves X c fullShare).2
  unfold St owing
  rw [e1, e2]
  iintro ⟨⟨#HK, -, -, -, -, Hk, ⟨Hx, Hs⟩, Hp, Ho⟩, Hl, Hb⟩
  imod h2 $$ [Hp] with Hc
  · isplitr; · iexact HK
    iexact Hp
  imod h3 $$ [Hb] with Hb
  · isplitr; · iapply h4; iexact HK
    iexact Hb
  imodintro
  isplitl [Hk Hs]
  · iapply h1; isplitl [Hk] <;> iassumption
  isplitl [Hx Hl]
  · iapply h6
    isplitl [Hl]; · iexact Hl
    iapply h5; iexact Hx
  isplitl [Hc]; · iexact Hc
  isplitl [Hb]; · iexact Hb
  iexact Ho

end Cert.KernelIdeal.Ring
-- ==== Proof.BodyIdeal.lean ====
/-
The body of one device, from its entry to its end.
-/
module

public import proofs.«01_k».proof.Proof.EnterIdeal
public import proofs.«01_k».proof.Proof.ExitIdeal

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (xs : Dev nD → Vec F S128x2048 .bf16) (ws : Dev nD → Vec F S2048x128 .bf16) (c : Dev nD)

/-- One part of the body, what it does not use set aside. -/
theorem step {P Q : sProp 𝕄} {R : PUnit → sProp 𝕄} {p q : Prog (TpuEff nD τ sig (Elt F) Λ₀ .tc) PUnit}
    (h : P ⊢ wpc c p fun _ => Q) : iprop(P ∗ (Q -∗ wpc c q R)) ⊢ wpc c (p >>= fun _ => q) R := by
  refine seq c (keep c _ h) ?_
  show iprop(Q ∗ (Q -∗ wpc c q R)) ⊢ wpc c q R
  iintro ⟨HQ, H⟩
  iapply H; iexact HQ

/-- The blocks as the kernel holds them in scratch. -/
def xb (d : Dev nD) : Vec F S128x2048 .bf16 := k0_pay2 (xs d)
def wb (d : Dev nD) : Vec F S2048x128 .bf16 := k0_pay3 (ws d)

/-- What device `c` starts from, beside its buffers. -/
def Enter (K : Names) : sProp 𝕄 :=
  iprop(known (xb xs) K ∗ pool (NS 0) (toks c) ∗ pool (RC 0) (coming c) ∗ marks c ∗ atPos ER (barC c) 0 ∅ 0
    ∗ (dutyTok ER (barC (nbr true c)) 0 false ∗ dutyTok ER (barC (nbr false c)) 0 true) ∗ cred (tallyAt (barC c) 1 2))

/-- The scratch buffers. -/
def scratch : sProp 𝕄 := iprop(some' c cc0_scratch0 ∗ comm c true ∗ comm c false ∗ some' c cc0_scratch3)

/-- Every semaphore of device `c` at zero. -/
def zeros : sProp 𝕄 :=
  iprop((bigSep Finset.univ fun i : Fin 32 => iprop(semVal (sndC c i.val) 0 ∗ semVal (rcvC c i.val) 0)) ∗ semVal (barC c) 0)

/-- The state before the iterations, -/
def Mid (K : Names) : sProp 𝕄 :=
  iprop(Iter (xb xs) (wb ws c) c K 0 ∗ xown (xb xs) c fullShare.left ∗ atPos ER (barC c) 1 ∅ 0 ∗ all c cc0_stg0_0 (xs c) ∗ all c cc0_stg1_0 (ws c))
/-- and at the end. -/
def Post : sProp 𝕄 :=
  iprop(all c cc0_stg0_0 (xs c) ∗ all c cc0_stg1_0 (ws c) ∗ all c cc0_stg2_0 (result (xb xs) (wb ws c) c) ∗ scratch c ∗ zeros c
    ∗ ∃ W, owes (c : Thread nD τ) 0 W)

theorem leave (K : Names) :
    iprop((St (xb xs) c K 64 72 ∗ wmat (wb ws c) c ∗ done (xb xs) (wb ws c) c fun r => r < 2048)
        ∗ xown (xb xs) c fullShare.left ∗ atPos ER (barC c) 1 ∅ 0 ∗ all c cc0_stg0_0 (xs c) ∗ all c cc0_stg1_0 (ws c))
      ⊢ |={Set.univ}=> Post xs ws c := by
  have h1 := exit_state (xb xs) c K
  unfold Post scratch zeros done wmat
  iintro ⟨⟨HS, HW, ⟨%f, %hf, HO⟩⟩, Hx, Hb, H0, H1⟩
  have e : f = result (xb xs) (wb ws c) c := funext fun i => hf i (i 0).isLt
  subst e
  imod h1 $$ [HS Hx Hb] with ⟨⟨Hc1, Hc2⟩, Hx, Hz, Hzb, Ho⟩
  · isplitl [HS]; · iexact HS
    isplitl [Hx] <;> iassumption
  imodintro
  isplitl [H0]; · iexact H0
  isplitl [H1]; · iexact H1
  isplitl [HO]; · iexact HO
  isplitl [Hx Hc1 Hc2 HW]
  · isplitl [Hx]
    · unfold xown; iexists _; iexact Hx
    isplitl [Hc1]; · iexact Hc1
    isplitl [Hc2]; · iexact Hc2
    iexists _; iexact HW
  isplitl [Hz Hzb]
  · isplitl [Hz] <;> iassumption
  iexact Ho

/-- The iterations and the end. -/
theorem tail_step (K : Names) : Mid xs ws c K
    ⊢ wpc c (iters oM c >>= fun _ => last c >>= fun _ => gemmHalf oM true c >>= fun _ => gemmHalf oM false c) fun _ => Post xs ws c := by
  refine seq c (keep c _ (iters_step (xb xs) (wb ws c) c K)) ?_
  refine (keep c _ (ends_step (xb xs) (wb ws c) c K)).trans ?_
  exact (wp_mono _ _ _ fun _ => leave xs ws c K).trans (wp_fupd _ _ _ _ _)

/-- The own block's product begins the result. -/
theorem own_first (K : Names) :
    iprop(xown (xb xs) c fullShare.left ∗ wmat (wb ws c) c ∗ some' c cc0_stg2_0)
      ⊢ wpc c (gemmOwn oM c) fun _ => iprop(xown (xb xs) c fullShare.left ∗ wmat (wb ws c) c ∗ done (xb xs) (wb ws c) c (rowsTo c 0)) := by
  refine BI.Entails.trans ?_ (gemmOwn_step (xb xs) (wb ws c) c fullShare.left (D := fun _ => False) (D' := rowsTo c 0) fun r hr => ?_)
  · refine BI.sep_mono (BI.Entails.refl _) (BI.sep_mono (BI.Entails.refl _) ?_)
    unfold done
    show some' c cc0_stg2_0 ⊢ _
    iintro ⟨%f, H⟩
    iexists f
    isplitr
    · ipureintro; exact fun _ h => h.elim
    · iexact H
  · rcases hr with hr | ⟨_, g, hg, _⟩
    · exact Or.inr hr
    · omega

/-- The whole body. -/
theorem body_step (K : Names) (W : Waits sig ℕ) :
    iprop(Enter xs c K ∗ owes (c : Thread nD τ) (owed₀ c) W ∗ all c cc0_stg0_0 (xs c) ∗ all c cc0_stg1_0 (ws c) ∗ some' c cc0_stg2_0 ∗ scratch c)
      ⊢ wpc c (body x0M w0M oM) fun _ => Post xs ws c := by
  unfold body
  simp only [Prog.lift, Prog.bind_op, Prog.bind_ret, wp_deviceId]
  unfold Enter scratch owed₀
  iintro ⟨⟨#HK, Ht, Hc, Hm, Hb, ⟨Hd1, Hd2⟩, Hcr⟩, HO, H0, H1, H2, Hs0, Hc1, Hc2, Hs3⟩
  iapply (step c (hello_step (xb xs) c K false (dues (nums (NS 0)) c + tallyAt (barC (nbr true c)) 1 1) W))
  isplitl [HO Hd2 Hc1]
  · isplitr; · iexact HK
    isplitl [HO]; · iexact HO
    isplitl [Hd2]; · iexact Hd2
    iexact Hc1
  iintro HO
  iapply (step c (hello_step (xb xs) c K true (dues (nums (NS 0)) c) W))
  isplitl [HO Hd1 Hc2]
  · isplitr; · iexact HK
    isplitl [HO]; · iexact HO
    isplitl [Hd1]; · iexact Hd1
    iexact Hc2
  iintro HO
  iapply (step c (fillX_step c (xs c)))
  isplitl [H0 Hs0]
  · isplitl [H0] <;> iassumption
  iintro ⟨H0, Hx⟩
  iapply (step c (enter_wait (xb xs) c K W))
  isplitl [HO Hcr Hb]
  · isplitr; · iexact HK
    isplitl [HO]; · iexact HO
    isplitl [Hcr]; · iexact Hcr
    iexact Hb
  iintro ⟨HO, Hb, Hp⟩
  have hx : (all c cc0_scratch0 (k0_pay2 (xs c) : Vec F S128x2048 .bf16) : sProp 𝕄) ⊢ xown (xb xs) c fullShare := by
    unfold xown; exact BI.Entails.refl _
  ihave Hx := hx $$ Hx
  ihave Hx := (xown_halves (xb xs) c fullShare).1 $$ Hx
  icases Hx with ⟨Hxl, Hxr⟩
  ihave HS := (enter_state (xb xs) c K) $$ [Ht Hc Hm Hp HO Hxr]
  · isplitr; · iexact HK
    isplitl [Ht]; · iexact Ht
    isplitl [Hc]; · iexact Hc
    isplitl [Hm]; · iexact Hm
    isplitl [Hp]; · iexact Hp
    isplitl [HO] <;> iassumption
  iapply (step c (firsts_step (xb xs) c K))
  isplitl [HS]; · iexact HS
  iintro HS
  iapply (step c (fillW_step c (ws c)))
  isplitl [H1 Hs3]
  · isplitl [H1] <;> iassumption
  iintro ⟨H1, HW⟩
  iapply (step c (own_first xs ws c K))
  isplitl [Hxl HW H2]
  · isplitl [Hxl]; · iexact Hxl
    isplitl [HW]; · iexact HW
    iexact H2
  iintro ⟨Hxl, HW, H2⟩
  iapply (tail_step xs ws c K)
  unfold Mid Iter
  isplitl [HS HW H2]
  · isplitl [HS]; · iexact HS
    isplitl [HW]; · iexact HW
    iexact H2
  isplitl [Hxl]; · iexact Hxl
  isplitl [Hb]; · iexact Hb
  isplitl [H0] <;> iassumption

end Cert.KernelIdeal.Ring
-- ==== Proof.DealIdeal.lean ====
/-
What the launch deals: the cells, the duty tokens and the credits.
-/
module

public import proofs.«01_k».proof.Proof.BodyIdeal

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## The cells -/

set_option maxRecDepth 20000 in
omit [FloatOps F] in
theorem cell_inj {d d' : Dev nD} {n n' : ℕ} {b b' : Bool}
    (h : (cond b (rcvC d n) (sndC d n) : GSem nD τ sig) = cond b' (rcvC d' n') (sndC d' n')) : d = d' ∧ b = b' ∧ n % 32 = n' % 32 := by
  have h1 : (cond b (rcvC d n) (sndC d n) : GSem nD τ sig).1.1 = (cond b' (rcvC d' n') (sndC d' n') : GSem nD τ sig).1.1 := by rw [h]
  have h2 : (cond b (rcvC d n) (sndC d n) : GSem nD τ sig).2 = (cond b' (rcvC d' n') (sndC d' n') : GSem nD τ sig).2 := by rw [h]
  have c1 := code_at n
  have c2 := code_at n'
  cases b <;> cases b'
  · have h3 : sndS n = sndS n' := SemLoc.dma.inj h2
    rw [← c1.1, ← c2.1, h3]; exact ⟨h1, rfl, rfl⟩
  · have h3 : sndS n = rcvS n' := SemLoc.dma.inj h2
    rw [h3] at c1; exact absurd c2.2.2.2 c1.2.2.1
  · have h3 : rcvS n = sndS n' := SemLoc.dma.inj h2
    rw [h3] at c1; exact absurd c1.2.2.2 c2.2.2.1
  · have h3 : rcvS n = rcvS n' := SemLoc.dma.inj h2
    rw [← c1.2.1, ← c2.2.1, h3]; exact ⟨h1, rfl, rfl⟩

omit [FloatOps F] in
theorem kcell_some (d : Dev nD) (i : Fin 32) (b : Bool) : kcell (d, some (i, b)) = cond b (rcvC d i.val) (sndC d i.val) := by
  cases b <;> rfl

omit [FloatOps F] in
theorem bar_ne (d d' : Dev nD) (n : ℕ) (b : Bool) : barC d ≠ cond b (rcvC d' n) (sndC d' n) := fun h => by
  cases b <;> exact absurd (congrArg Prod.snd h) (fun h' => by cases h')

omit [FloatOps F] in
theorem kcell_inj : Function.Injective (kcell : Dev nD × Option (Fin 32 × Bool) → GSem nD τ sig) := by
  rintro ⟨d, _ | ⟨i, b⟩⟩ ⟨d', _ | ⟨i', b'⟩⟩ h
  · have h1 : d = d' := congrArg (fun g : GSem nD τ sig => g.1.1) h
    rw [h1]
  · rw [kcell_some] at h; exact absurd h (bar_ne _ _ _ _)
  · rw [kcell_some] at h; exact absurd h.symm (bar_ne _ _ _ _)
  · rw [kcell_some, kcell_some] at h
    obtain ⟨h1, h2, h3⟩ := cell_inj h
    have h4 : i = i' := Fin.ext (by rw [← Nat.mod_eq_of_lt i.isLt, ← Nat.mod_eq_of_lt i'.isLt, h3])
    rw [h1, h2, h4]

def cells₀ : Finset (GSem nD τ sig) := Finset.univ.map ⟨kcell, kcell_inj⟩

/-! ## The duty tokens -/

/-- A barrier's two, and those of the copies below 64. -/
abbrev tokOf (ck : Dev nD × (Bool ⊕ (Fin 64 × Bool))) : GSem nD τ sig × ℕ × Bool := match ck.2 with
  | .inl ρ => (barC ck.1, 0, ρ)
  | .inr (n, b) => (cond b (rcvC ck.1 n.val) (sndC ck.1 n.val), n.val / 32, true)

omit [FloatOps F] in
theorem tokOf_inj : Function.Injective (tokOf : Dev nD × (Bool ⊕ (Fin 64 × Bool)) → GSem nD τ sig × ℕ × Bool) := by
  rintro ⟨d, ρ | ⟨n, b⟩⟩ ⟨d', ρ' | ⟨n', b'⟩⟩ h
  · have h1 : d = d' := congrArg (fun g : GSem nD τ sig × ℕ × Bool => g.1.1.1) h
    have h2 : ρ = ρ' := congrArg (fun g : GSem nD τ sig × ℕ × Bool => g.2.2) h
    rw [h1, h2]
  · exact absurd (congrArg Prod.fst h) (bar_ne _ _ _ _)
  · exact absurd (congrArg Prod.fst h).symm (bar_ne _ _ _ _)
  · obtain ⟨h1, h2, h3⟩ := cell_inj (congrArg Prod.fst h)
    have h4 : n.val / 32 = n'.val / 32 := congrArg (fun g : GSem nD τ sig × ℕ × Bool => g.2.1) h
    have h5 : n = n' := Fin.ext (by omega)
    have h1 : d = d' := h1
    rw [h1, h2, h5]

def toks₀ : Finset (GSem nD τ sig × ℕ × Bool) := Finset.univ.map ⟨tokOf, tokOf_inj⟩

def u₀ : UU :=
  (initOf (Pipeline.cells cfgs cellOf_inj) (Pipeline.launchToks cfgs cellOf_inj), initOf cells₀ toks₀)

variable (X : Dev nD → Vec F S128x2048 .bf16) (c : Dev nD)

/-- The tokens of device `c`'s own cells. -/
def minted : sProp 𝕄 :=
  iprop((dutyTok ER (barC c) 0 true ∗ dutyTok ER (barC c) 0 false)
    ∗ (bigSep Finset.univ fun n : Fin 64 => dutyTok ER (rcvC c n.val) (n.val / 32) true)
    ∗ (bigSep Finset.univ fun n : Fin 64 => dutyTok ER (sndC c n.val) (n.val / 32) true))

/-- The tokens of what device `c` does. -/
def paying : sProp 𝕄 :=
  iprop((dutyTok ER (barC (nbr true c)) 0 false ∗ dutyTok ER (barC (nbr false c)) 0 true) ∗ pool (NS 0) (toks c))

/-- What the launch deals device `c`. -/
def G : sProp 𝕄 :=
  iprop((bigSep Finset.univ fun k => roundState ER (sched X) (kcell (c, k)) 0)
    ∗ ((bigSep Finset.univ fun k => atPos ER (kcell (c, k)) 0 ∅ 0) ∗ (bigSep Finset.univ fun k => reached ER (kcell (c, k)) 0)) ∗ minted c)

omit [FloatOps F] in
theorem toks₀_eq : bigSep toks₀ (fun x => (dutyTok ER x.1 x.2.1 x.2.2 : sProp 𝕄)) = bigSep Finset.univ fun c : Dev nD => minted c := by
  unfold toks₀; rw [bigSep_map, bigSep_univ_prod]
  refine bigSep_congr fun c _ => ?_
  unfold minted
  rw [BI.bigSep_univ_sum, BI.bigSep_univ_prod, bigSep_univ_eq_bigSepL [true, false] (by decide) (by decide), bigSepL_cons_cons, bigSepL_singleton,
    ← bigSep_sep']
  refine congrArg₂ _ rfl (bigSep_congr fun n _ => ?_)
  rw [bigSep_univ_eq_bigSepL [true, false] (by decide) (by decide), bigSepL_cons_cons, bigSepL_singleton]
  rfl

omit [FloatOps F] in
theorem fund_cells : BI.own (ER (initOf cells₀ toks₀)) ⊢ (|==> bigSep Finset.univ (G X) : sProp 𝕄) := by
  have hX (Φ : GSem nD τ sig → sProp 𝕄) : bigSep cells₀ Φ = bigSep Finset.univ fun c : Dev nD => bigSep Finset.univ fun k => Φ (kcell (c, k)) := by
    unfold cells₀; rw [bigSep_map, bigSep_univ_prod]; rfl
  iintro H
  imod (Rounds.fund ER (sched X) cells₀ toks₀) $$ H with ⟨Hs, Hr, Ha, Ht⟩
  imodintro
  ihave Hs := (Entails.of_eq (hX fun g => roundState ER (sched X) g 0)) $$ Hs
  ihave Ha := (Entails.of_eq (hX fun g => atPos ER g 0 ∅ 0)) $$ Ha
  ihave Hr := (Entails.of_eq (hX fun g => reached ER g 0)) $$ Hr
  ihave Ht := (Entails.of_eq toks₀_eq) $$ Ht
  unfold G; simp only [bigSep_sep']
  isplitl [Hs]; · iexact Hs
  isplitl [Ha Hr]
  · isplitl [Ha] <;> iassumption
  iexact Ht

/-- The neighbour on side `ρ`, as a permutation of the devices. -/
def turn (ρ : Bool) : Dev nD ≃ Dev nD := ⟨nbr ρ, nbr (!ρ), nbr_nbr ρ, nbr_nbr' ρ⟩

/-- Each copy's device exchanged for the device it goes to. -/
def turns : Dev nD × Fin 64 ≃ Dev nD × Fin 64 :=
  ⟨fun x => (dst x.2.val x.1, x.2), fun x => (nbr (!ring x.2.val) x.1, x.2), fun x => Prod.ext (nbr_nbr _ _) rfl, fun x => Prod.ext (nbr_nbr' _ _) rfl⟩

omit [FloatOps F] in
theorem pool_sub {p : ℕ → Prop} (hp : ∀ n < 96, p n → n < 64) (Φ : ℕ → sProp 𝕄) : (bigSep Finset.univ fun n : Fin 64 => Φ n.val) ⊢ pool p Φ := by
  rw [← pool_map (p := fun n => n < 64) (fun i : Fin 64 => i.val) Fin.val_injective
    (fun n hn => ⟨fun h => ⟨⟨n, h⟩, rfl⟩, fun ⟨i, hi⟩ => hi ▸ i.isLt⟩) (fun i => by have := i.isLt; omega)]
  exact BI.bigSep_subset fun n hn => mem_nums.mpr ⟨(mem_nums.mp hn).1, hp n (mem_nums.mp hn).1 (mem_nums.mp hn).2⟩

omit [FloatOps F] in
/-- The tokens go to the devices that pay with them. -/
theorem deal_tokens : (bigSep Finset.univ fun c : Dev nD => (minted c : sProp 𝕄)) ⊢ bigSep Finset.univ fun c : Dev nD => paying c := by
  have e : (bigSep Finset.univ fun c : Dev nD => bigSep Finset.univ fun n : Fin 64 => (dutyTok ER (rcvC c n.val) (n.val / 32) true : sProp 𝕄))
      = bigSep Finset.univ fun c : Dev nD => bigSep Finset.univ fun n : Fin 64 => dutyTok ER (rcvC (dst n.val c) n.val) (n.val / 32) true := by
    rw [← bigSep_univ_prod (fun x : Dev nD × Fin 64 => (dutyTok ER (rcvC x.1 x.2.val) (x.2.val / 32) true : sProp 𝕄)),
      ← bigSep_univ_prod (fun x : Dev nD × Fin 64 => (dutyTok ER (rcvC (dst x.2.val x.1) x.2.val) (x.2.val / 32) true : sProp 𝕄)),
      bigSep_univ_equiv turns]
    rfl
  have h (c : Dev nD) : iprop((bigSep Finset.univ fun n : Fin 64 => (dutyTok ER (sndC c n.val) (n.val / 32) true : sProp 𝕄))
      ∗ bigSep Finset.univ fun n : Fin 64 => dutyTok ER (rcvC (dst n.val c) n.val) (n.val / 32) true) ⊢ pool (NS 0) (toks c) := by
    rw [← bigSep_sep']
    exact pool_sub (p := NS 0) (fun n _ h => by unfold NS Live at h; omega) (toks c)
  have h' : iprop((bigSep Finset.univ fun c : Dev nD => bigSep Finset.univ fun n : Fin 64 => (dutyTok ER (sndC c n.val) (n.val / 32) true : sProp 𝕄))
      ∗ bigSep Finset.univ fun c : Dev nD => bigSep Finset.univ fun n : Fin 64 => dutyTok ER (rcvC (dst n.val c) n.val) (n.val / 32) true)
      ⊢ bigSep Finset.univ fun c : Dev nD => pool (NS 0) (toks c) := by
    rw [← bigSep_sep']
    exact bigSep_mono fun c _ => h c
  unfold minted paying
  rw [bigSep_sep', bigSep_sep', bigSep_sep', bigSep_sep', bigSep_sep', e,
    bigSep_univ_equiv (turn false) (fun c : Dev nD => (dutyTok ER (barC c) 0 true : sProp 𝕄)),
    bigSep_univ_equiv (turn true) (fun c : Dev nD => (dutyTok ER (barC c) 0 false : sProp 𝕄))]
  iintro ⟨⟨H1, H2⟩, H3, H4⟩
  isplitl [H1 H2]
  · isplitl [H2]; · iexact H2
    iexact H1
  iapply h'
  isplitl [H4]; · iexact H4
  iexact H3

/-! ## The credits -/

omit [FloatOps F] in
theorem deal_credits : (Pipeline.launchCred owed₀ c : sProp 𝕄) ⊢ iprop(cred (tallyAt (barC c) 1 2) ∗ pool (RC 0) (coming c)) := by
  have hb (ρ : Bool) := Pipeline.launchCred_tallyAt (τ := τ) (Val := Elt F) (Name := ℕ) (U := UU) (Lvl := ℕ) (.reg barS) (nbr ρ) (nbr (!ρ)) (nbr_nbr' ρ) (nbr_nbr ρ) 1 1 c
  have hd : (Pipeline.launchCred (fun d => dues (nums (NS 0)) d) c : sProp 𝕄) ⊢ pool (RC 0) (coming c) := by
    unfold dues
    rw [Pipeline.launchCred_sum, pool_congr (p := RC 0) (p' := NS 0) (fun n _ => Iff.rfl)]
    refine bigSep_mono fun n _ => ?_
    exact Pipeline.launchCred_tallyAt (.dma (rcvS n)) (dst n) (nbr (!ring n)) (nbr_nbr' _) (nbr_nbr _) (n / 8 + 2) N c
  unfold owed₀
  rw [Pipeline.launchCred_add, Pipeline.launchCred_add]
  iintro ⟨⟨H1, H2⟩, H3⟩
  isplitl [H2 H3]
  · rw [← tallyAt_add (barC c) 1 1 1]
    iapply (cred_add _ _).2
    isplitl [H2]
    · iapply (hb true); iexact H2
    · iapply (hb false); iexact H3
  iapply hd; iexact H1

end Cert.KernelIdeal.Ring
-- ==== Proof.AllocIdeal.lean ====
/-
The invariants of the cells, made from what the launch deals all devices together.
-/
module

public import proofs.«01_k».proof.Proof.DealIdeal

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (X : Dev nD → Vec F S128x2048 .bf16) (c : Dev nD)

omit [FloatOps F] in
/-- A resource for every cell of a device: for its barrier, and for each number's two. -/
theorem cells_split (Φ : Option (Fin 32 × Bool) → sProp 𝕄) :
    bigSep Finset.univ Φ = iprop(Φ none ∗ bigSep Finset.univ fun i : Fin 32 => iprop(Φ (some (i, false)) ∗ Φ (some (i, true)))) := by
  rw [bigSep_univ_at Φ none, show (Finset.univ.erase none : Finset (Option (Fin 32 × Bool))) = Finset.univ.map Function.Embedding.some from
    Finset.ext fun o => by cases o <;> simp, bigSep_map, bigSep_univ_prod]
  refine congrArg _ (bigSep_congr fun i _ => ?_)
  rw [bigSep_univ_eq_bigSepL [false, true] (by decide) (by decide), bigSepL_cons_cons, bigSepL_singleton]
  rfl

/-- The kernel's own semaphores. -/
abbrev osem (ib : Fin 32 × Bool) : SemLoc sig := .dma (cond ib.2 (rcvS ib.1.val) (sndS ib.1.val))

set_option maxRecDepth 100000 in
theorem ownSemFacts : Pipeline.OwnSemFacts cfg0.spec osem := by decide +kernel

omit [FloatOps F] in
theorem own_sems (c : Dev nD) : (Pipeline.ownSems0 (Ix := ℕ) (Name := ℕ) (U := UU) (Lvl := ℕ) (Val := Elt F) (τ := τ) osem c : sProp 𝕄)
    = bigSep Finset.univ fun i : Fin 32 => iprop(semVal (sndC c i.val) 0 ∗ semVal (rcvC c i.val) 0) := by
  unfold Pipeline.ownSems0
  rw [bigSep_univ_prod]
  refine bigSep_congr fun i _ => ?_
  rw [bigSep_univ_eq_bigSepL [false, true] (by decide) (by decide), bigSepL_cons_cons, bigSepL_singleton]
  rfl

set_option maxRecDepth 100000 in
theorem unscoped_list : (Finset.univ.filter fun sm : SemLoc sig => ¬ sm.isScoped .tc) = [SemLoc.reg barS].toFinset := by decide +kernel

omit [FloatOps F] in
theorem unscoped_sems (c : Dev nD) : (unscopedSems0 c : sProp 𝕄) = semVal (barC c) 0 := by
  unfold unscopedSems0; rw [bigSep_eq_bigSepL_of_eq [SemLoc.reg barS] unscoped_list (by decide)]; rfl

omit [FloatOps F] in
theorem all_sems (c : Dev nD) :
    iprop(Pipeline.ownSems0 (Ix := ℕ) (Name := ℕ) (U := UU) (Lvl := ℕ) (Val := Elt F) (τ := τ) osem c ∗ unscopedSems0 c)
      ⊢ (bigSep Finset.univ fun k => semVal (kcell (c, k)) 0 : sProp 𝕄) := by
  rw [own_sems, unscoped_sems, cells_split]
  exact (BI.sep_comm)

/-- What is known of the cells themselves. -/
def recs (K : Names) : sProp 𝕄 :=
  iprop((bigSep Finset.univ fun ck => cellInv ER (sched X) (K ck) (kcell ck)) ∗ bigSep Finset.univ fun ck => reached ER (kcell ck) 0)

instance recs_persistent (K : Names) : BI.Persistent (recs X K) := by unfold recs; infer_instance

/-- What a device goes on with. -/
def G' : sProp 𝕄 := iprop(∃ K, recs X K ∗ (atPos ER (barC c) 0 ∅ 0 ∗ marks c) ∗ paying c)

omit [FloatOps F] in
theorem alloc :
    iprop(Pipeline.ownSems0 (Ix := ℕ) (Name := ℕ) (U := UU) (Lvl := ℕ) (Val := Elt F) (τ := τ) osem c ∗ unscopedSems0 c ∗ G X c)
      ⊢ |={Set.univ}=> iprop((bigSep Finset.univ fun k => iprop(∃ κ : ℕ, cellInv ER (sched X) κ (kcell (c, k))))
          ∗ ((bigSep Finset.univ fun k => atPos ER (kcell (c, k)) 0 ∅ 0) ∗ (bigSep Finset.univ fun k => reached ER (kcell (c, k)) 0)) ∗ minted c) := by
  have h : iprop((bigSep Finset.univ fun k => semVal (kcell (c, k)) 0) ∗ bigSep Finset.univ fun k => roundState ER (sched X) (kcell (c, k)) 0)
      ⊢ (|={Set.univ}=> bigSep Finset.univ fun k => iprop(∃ κ : ℕ, cellInv ER (sched X) κ (kcell (c, k))) : sProp 𝕄) := by
    rw [← bigSep_sep']
    exact (bigSep_mono fun k _ => (Rounds.body_intro ER (sched X) (kcell (c, k))).trans inv_alloc).trans (bigSep_fupd _ _)
  unfold G
  iintro ⟨Ho, Hu, Hs, Ha, Ht⟩
  ihave Hv := (all_sems (F := F) c) $$ [Ho Hu]
  · isplitl [Ho] <;> iassumption
  imod h $$ [Hv Hs] with Hi
  · isplitl [Hv] <;> iassumption
  imodintro
  isplitl [Hi]; · iexact Hi
  isplitl [Ha]; · iexact Ha
  iexact Ht

omit [FloatOps F] in
theorem share_out :
    (bigSep Finset.univ fun c : Dev nD => iprop((bigSep Finset.univ fun k => iprop(∃ κ : ℕ, cellInv ER (sched X) κ (kcell (c, k))))
          ∗ ((bigSep Finset.univ fun k => atPos ER (kcell (c, k)) 0 ∅ 0) ∗ (bigSep Finset.univ fun k => reached ER (kcell (c, k)) 0)) ∗ minted c) : sProp 𝕄)
      ⊢ bigSep Finset.univ (G' X) := by
  have e (c : Dev nD) : (bigSep Finset.univ fun k => (atPos ER (kcell (c, k)) 0 ∅ 0 : sProp 𝕄)) = iprop(atPos ER (barC c) 0 ∅ 0 ∗ marks c) := by
    rw [cells_split]; rfl
  have h : iprop((bigSep Finset.univ fun c : Dev nD => iprop(atPos ER (barC c) 0 ∅ 0 ∗ marks c)) ∗ bigSep Finset.univ fun c : Dev nD => paying c)
      ⊢ (bigSep Finset.univ fun c : Dev nD => iprop((atPos ER (barC c) 0 ∅ 0 ∗ marks c) ∗ paying c) : sProp 𝕄) := by
    rw [← bigSep_sep']
  rw [bigSep_sep', bigSep_sep', bigSep_sep', ← bigSep_univ_prod (fun ck : Dev nD × Option (Fin 32 × Bool) => iprop(∃ κ : ℕ, cellInv ER (sched X) κ (kcell ck))),
    ← bigSep_univ_prod (fun ck : Dev nD × Option (Fin 32 × Bool) => (reached ER (kcell ck) 0 : sProp 𝕄)),
    bigSep_congr (s := Finset.univ) (fun (c : Dev nD) _ => e c)]
  iintro ⟨Hi, ⟨Ha, #Hr⟩, Ht⟩
  ihave HK := (BI.bigSep_exists_pi Finset.univ (fun (ck : Dev nD × Option (Fin 32 × Bool)) (κ : ℕ) => (cellInv ER (sched X) κ (kcell ck) : sProp 𝕄))) $$ Hi
  icases HK with ⟨%K, #HI⟩
  ihave Ht := deal_tokens $$ Ht
  ihave Hd := h $$ [Ha Ht]
  · isplitl [Ha] <;> iassumption
  have h2 : iprop(recs X K ∗ bigSep Finset.univ fun c : Dev nD => iprop((atPos ER (barC c) 0 ∅ 0 ∗ marks c) ∗ paying c)) ⊢ bigSep Finset.univ (G' X) :=
    bigSep_with_persistent fun c _ => by
      unfold G'
      iintro H
      iexists K
      iexact H
  iapply h2
  isplitr
  · unfold recs
    isplitr; · iexact HI
    iexact Hr
  iexact Hd

omit [FloatOps F] in
/-- All devices' semaphores and what they were dealt become what each goes on with. -/
theorem glob : (bigSep Finset.univ fun c => iprop(Pipeline.ownSems0 (Ix := ℕ) (Name := ℕ) (U := UU) (Lvl := ℕ) (Val := Elt F) (τ := τ) osem c ∗ unscopedSems0 c ∗ G X c) : sProp 𝕄)
    ⊢ |={Set.univ}=> bigSep Finset.univ (G' X) :=
  ((bigSep_mono fun c _ => alloc X c).trans (bigSep_fupd _ _)).trans (BI.fupd_mono (share_out X))

end Cert.KernelIdeal.Ring
-- ==== Proof.MainIdeal.lean ====
/-
The program's run: what each device holds at launch, what its kernel does with it, and the memory at the end.
-/
module

public import proofs.«01_k».proof.Proof.AllocIdeal
public import proofs.«01_k».proof.Proof.Gen.KernelIdeal.Points
public import Idealize.ShloMosaic.Lib.Pipeline.CollectiveSegs

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

open Idealize.ShloMosaic.Pipeline (Dat BodyObligation)

variable (m : (ℓ : Loc nD τ sig) → Buf (Elt F) ℓ) (ρ : Dev nD → PrngReg) (c : Dev nD)

/-- Each device's blocks. -/
def xs (d : Dev nD) : Vec F S128x2048 .bf16 := (win0_0.blk t0_0).view.read (Elt F) (m ((d : Thread nD τ).loc main_arg0))
def ws (d : Dev nD) : Vec F S2048x128 .bf16 := (win0_1.blk t0_0).view.read (Elt F) (m ((d : Thread nD τ).loc main_arg1))

/-- The result's block of device `c`. -/
def out : Vec F S2048x128 .f32 := result (xb (xs m)) (wb (ws m) c) c

def Start : sProp 𝕄 := iprop(∃ K, Enter (xs m) c K)
def Φ₀ : sProp 𝕄 := iprop(Start m c ∗ scratch c)
def Φ₁ : sProp 𝕄 := iprop(scratch (F := F) c ∗ zeros c)

def dats (_ : Fin 1) (c : Dev nD) : Dat τ (Elt F) ℕ ℕ UU ℕ cfg0 c where
  A w := m ((cfg0.win w).arr.view.loc (c : Thread nD τ))
  after w _ := match w with
    | ⟨0, _⟩ => xs m c
    | ⟨1, _⟩ => ws m c
    | ⟨2, _⟩ => out m c
  Φ t := match t with
    | ⟨0, _⟩ => Φ₀ m c
    | ⟨_ + 1, _⟩ => Φ₁ c
  q _ := fullShare
  owed t := match t with
    | ⟨0, _⟩ => owed₀ c
    | ⟨_ + 1, _⟩ => 0

omit [FloatOps F] in
theorem owns_all (b : Ref sig .tc) (x : b.ty.Contents (Elt F)) :
    (owns (Ix := ℕ) (Name := ℕ) (U := UU) (Lvl := ℕ) (c : Thread nD τ) (Memref.whole b) fullShare x : sProp 𝕄)
      = iprop(∃ f : Buf (Elt F) ((c : Thread nD τ).loc b), ⌜f = x⌝ ∗ ((c : Thread nD τ).loc b ↦{fullShare} f)) := by
  unfold owns; simp only [Memref.view_whole, View.read_whole, View.set_whole]

/-- A buffer of device `c` that holds `x`. -/
abbrev stg (b : Ref sig .tc) (x : b.ty.Contents (Elt F)) : sProp 𝕄 :=
  iprop(∃ f : Buf (Elt F) ((c : Thread nD τ).loc b), ⌜f = x⌝ ∗ ((c : Thread nD τ).loc b ↦{fullShare} f))

omit [FloatOps F] in
theorem stg_all (b : Ref sig .tc) (x : b.ty.Contents (Elt F)) : stg c b x ⊢ all c b x := by
  iintro ⟨%f, %hf, H⟩
  subst hf
  iexact H
omit [FloatOps F] in
theorem all_stg (b : Ref sig .tc) (x : b.ty.Contents (Elt F)) : all c b x ⊢ stg c b x := by
  iintro H
  iexists _
  isplitr; · (ipureintro; rfl)
  iexact H

theorem before_x (d) : (dats m 0 c).before (0 : Fin 3) t0_0 d = xs m c := by
  unfold Dat.before; rw [if_pos (fetch0_0 t0_0)]; rfl
theorem before_w (d) : (dats m 0 c).before (1 : Fin 3) t0_0 d = ws m c := by
  unfold Dat.before; rw [if_pos (fetch0_1 t0_0)]; rfl

def pre : sProp 𝕄 :=
  iprop(Φ₀ m c ∗ (dats m 0 c).owesAt 0 t0_0.castSucc
    ∗ (∃ d, stg c cc0_stg0_0 ((dats m 0 c).before (0 : Fin 3) t0_0 d))
    ∗ (∃ d, stg c cc0_stg1_0 ((dats m 0 c).before (1 : Fin 3) t0_0 d))
    ∗ (∃ d, stg c cc0_stg2_0 ((dats m 0 c).before (2 : Fin 3) t0_0 d)))

def post : sProp 𝕄 :=
  iprop(Φ₁ c ∗ (dats m 0 c).owesAt 0 t0_0.succ ∗ stg c cc0_stg0_0 (xs m c) ∗ stg c cc0_stg1_0 (ws m c) ∗ stg c cc0_stg2_0 (out m c))

theorem pre_enter : pre m c ⊢ iprop(∃ K W, Enter (xs m) c K ∗ owes (c : Thread nD τ) (owed₀ c) W ∗ all c cc0_stg0_0 (xs m c)
    ∗ all c cc0_stg1_0 (ws m c) ∗ some' c cc0_stg2_0 ∗ scratch c) := by
  unfold pre Φ₀ Start
  simp only [before_x, before_w]
  iintro ⟨⟨⟨%K, HE⟩, Hs⟩, Ho, ⟨%d0, H0⟩, ⟨%d1, H1⟩, ⟨%d2, ⟨%f2, -, H2⟩⟩⟩
  unfold Dat.owesAt Pipeline.owesWithin
  icases Ho with ⟨%W, -, HO⟩
  ihave H0 := (stg_all c cc0_stg0_0 (xs m c)) $$ H0
  ihave H1 := (stg_all c cc0_stg1_0 (ws m c)) $$ H1
  iexists K
  iexists W
  isplitl [HE]; · iexact HE
  isplitl [HO]; · iexact HO
  isplitl [H0]; · iexact H0
  isplitl [H1]; · iexact H1
  isplitl [H2]; · iexists f2; iexact H2
  iexact Hs

theorem post_exit : Post (xs m) (ws m) c ⊢ post m c := by
  unfold Post post Φ₁ Dat.owesAt Pipeline.owesWithin
  iintro ⟨H0, H1, H2, Hs, Hz, ⟨%W, HO⟩⟩
  ihave H0 := (all_stg c cc0_stg0_0 (xs m c)) $$ H0
  ihave H1 := (all_stg c cc0_stg1_0 (ws m c)) $$ H1
  isplitl [Hs Hz]
  · isplitl [Hs] <;> iassumption
  isplitl [HO]
  · iexists W
    isplitr; · ipureintro; exact fun _ _ => Or.inl trivial
    iexact HO
  isplitl [H0]; · iexact H0
  isplitl [H1]; · iexact H1
  iapply (all_stg c cc0_stg2_0 (out m c))
  iexact H2

theorem body_run : pre m c ⊢ wpc c (body x0M w0M oM) fun _ => post m c := by
  refine (pre_enter m c).trans ?_
  have h (K : Names) (W : Waits sig ℕ) := (body_step (xs m) (ws m) c K W).trans (wp_mono _ _ _ fun _ => post_exit m c)
  iintro ⟨%K, %W, H⟩
  iapply (h K W)
  iexact H

set_option maxRecDepth 1000000 in
/-- What the pipeline asks of the body. -/
theorem body_obligation : BodyObligation (dats m 0 c) (defs₀ (F := F)) 𝒱₀ 0 Set.univ := fun t => by
  rw [fin_N0 t]
  rw [bigSep_W0, bigSep_W0]
  simp only [owns_all]
  show pre m c ⊢ wp frame (wpE (defs₀ (F := F)) 𝒱₀ c none) Set.univ
    (cc0_body x0M (Memref.isWhole_whole _) w0M (Memref.isWhole_whole _) oM (Memref.isWhole_whole _) (Memref.whole cc0_scratch0) (Memref.isWhole_whole _)
      (Memref.whole cc0_scratch1) (Memref.isWhole_whole _) (Memref.whole cc0_scratch2) (Memref.isWhole_whole _)
      (Memref.whole cc0_scratch3) (Memref.isWhole_whole _) cc0_scratch4 cc0_scratch5 cc0_scratch6 cc0_scratch7) (fun _ => post m c)
  rw [body_eq]
  exact body_run m c

/-! ## The launch -/

theorem share_full (w : Fin cfg0.W) : (dats m 0 c).share w = fullShare := by unfold Dat.share; split <;> rfl

theorem start_intro :
    iprop(Pipeline.unscopedRestP Pipeline.Prefetch.none cfg0.spec c (fun b => m ((c : Thread nD τ).loc b)) ∗ levAts L lv
        ∗ Pipeline.launchCred owed₀ c ∗ prngReg c (ρ c) ∗ G' (xb (xs m)) c)
      ⊢ |={Set.univ}=> iprop(Start m c ∗ emp) := by
  have h := deal_credits (F := F) c
  unfold Start G' Enter paying recs known
  iintro ⟨-, #Hl, Hcr, -, ⟨%K, ⟨#Hi, #Hr⟩, ⟨Hb, Hm⟩, Hd, Ht⟩⟩
  ihave Hc := h $$ Hcr
  icases Hc with ⟨Hcb, Hcc⟩
  imodintro
  isplitl
  · iexists K
    isplitr
    · isplitr; · iexact Hi
      isplitr; · iexact Hr
      iexact Hl
    isplitl [Ht]; · iexact Ht
    isplitl [Hcc]; · iexact Hcc
    isplitl [Hm]; · iexact Hm
    isplitl [Hb]; · iexact Hb
    isplitl [Hd]; · iexact Hd
    iexact Hcb
  · iempintro

omit [FloatOps F] in
theorem scratch_rest : (Pipeline.scopedRest cfg0.spec c : sProp 𝕄) = scratch c := by
  rw [scopedRest0_eq]
  rfl

theorem enter_intro :
    iprop(Start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scratch_rest]
  unfold Φ₀
  iintro ⟨Hs, -, Hr⟩
  isplitl [Hs] <;> iassumption

theorem leave_intro :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ c from rfl, scratch_rest, own_sems, unscoped_sems]
  unfold Φ₁ zeros
  iintro ⟨Hr, Hz, Hb⟩
  isplitl [Hb]; · iexact Hb
  isplitl [Hz] <;> iassumption

omit [FloatOps F] in
theorem owed_late (sm : SemLoc sig) : (levAts L lv : sProp 𝕄) ⊢ MayWait (c : Thread nD τ) sm 0 (owed₀ c) := by
  have key {g : GSem nD τ sig} {u : ℕ} (hg : 0 < owed₀ c g u) : g.1.2 = .tc ∧ 0 < u ∧ u < 10 := by
    unfold owed₀ at hg
    rw [Pi.add_apply, Finsupp.add_apply, Pi.add_apply, Finsupp.add_apply] at hg
    rcases Nat.eq_zero_or_pos (dues (nums (NS 0)) c g u) with h0 | h0
    · rw [h0, tallyAt_apply, tallyAt_apply] at hg
      by_cases h1 : g = barC (nbr true c) ∧ u = 1
      · rw [h1.1, h1.2]; exact ⟨rfl, by decide, by decide⟩
      · by_cases h2 : g = barC (nbr false c) ∧ u = 1
        · rw [h2.1, h2.2]; exact ⟨rfl, by decide, by decide⟩
        · rw [if_neg h1, if_neg h2] at hg; exact absurd hg (Nat.lt_irrefl 0)
    · obtain ⟨n, hn, h1, h2⟩ := dues_pos h0
      have h3 := (mem_nums.mp hn).2
      rw [h1, h2]
      exact ⟨rfl, by omega, by unfold NS Live at h3; omega⟩
  refine MayOwe.of_cut (L := L) (lev := lv) 0 (fun p hp => ?_) (fun g u hg => ?_) (fun p hp => ?_) (fun g u hg => ?_)
  · rw [Finset.mem_singleton.mp hp, L_tc]; exact Finset.mem_range.mpr (Nat.succ_pos 9)
  · unfold L; rw [if_pos (key hg).1]; exact Finset.mem_range.mpr (key hg).2.2
  · rw [Finset.mem_singleton.mp hp]; exact Nat.le_refl 0
  · exact (key hg).2.1

theorem waits_ok : (levAts L lv : sProp 𝕄) ⊢ Pipeline.cellsWaits cfgs (dats m) 0 0 c :=
  Pipeline.cellsWaits_intro cfgs (dats m) 0 0 c fun w s t => by
    rcases t with ⟨_ | _, ht⟩
    · exact owed_late c _
    · show _ ⊢ MayWait _ _ 0 (0 : CellTallies nD τ sig ℕ)
      rw [MayWait_zero]; iintro -; iempintro

/-! ## The run -/

set_option maxRecDepth 8000 in
/-- Every run ends; at its end each device's arrays are what the pipeline leaves, and every counter is zero. -/
theorem run_main : θ_run defs (onTc (τ := τ) (main (F := F))) ⟨m, fun _ => 0, ρ⟩
    (fun r => (∀ c : Dev nD, ∀ w : Fin cfg0.W, r.2.mem ((cfg0.win w).arr.view.loc (c : Thread nD τ)) = (dats m 0 c).arrAt w cfg0.N) ∧ r.2.sem = fun _ => 0) :=
  Pipeline.θ_run_region_owing_glob_pf (fun p => (cfgs p).toPCfg) (fun p => (cfgs p).toPCfg_adm) (dats m) 0 cellOf_inj (0 : Fin 1)
    winFacts0.to₀ ownSemFacts (Pipeline.PreFacts.none _) EP defs₀ 𝒱₀ m ρ main
    (hmain := fun _ => rfl)
    (hbody := fun c => (body_obligation m c).loose) (hne := block_pos0) (harr := arr_whole0) (hstage := stage_whole0) (hshare := share_full m)
    (hdistinct := winFacts0.arr_inj)
    (O₀ := owed₀) (howed₀ := fun _ => rfl) (howedN := fun _ => rfl)
    (L := L) (lv := lv) (hL := L_of_ne) (hwaits := waits_ok m)
    (G := G (xb (xs m))) (G' := G' (xb (xs m))) (u₀ := u₀)
    (hu₀ := by
      unfold u₀
      iintro Hu
      ihave H := (ownU_pair _ _) $$ Hu
      icases H with ⟨HP, HX⟩
      imod (fund_cells (xb (xs m))) $$ HX with HG
      imodintro
      isplitl [HP] <;> iassumption)
    (hglob := glob (xb (xs m)))
    (hA := fun _ _ => rfl) (hpf := fun _ k => k.elim0)
    (X := Start m) (Y := fun c => unscopedSems0 c) (Z := fun _ => iprop(emp))
    (hX := start_intro m ρ) (hin := enter_intro m) (hout := leave_intro m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The argument arrays are left as they were. -/
theorem arr_x : (dats m 0 c).arrAt (0 : Fin 3) cfg0.N = m ((c : Thread nD τ).loc main_arg0) := (dats m 0 c).arrAt_in (0 : Fin 3) rfl _
theorem arr_w : (dats m 0 c).arrAt (1 : Fin 3) cfg0.N = m ((c : Thread nD τ).loc main_arg1) := (dats m 0 c).arrAt_in (1 : Fin 3) rfl _

end Cert.KernelIdeal.Ring
-- ==== Proof.EndIdeal.lean ====
/-
What the run leaves, read off the arrays: the arguments as they were and the result.
-/
module

public import proofs.«01_k».proof.Proof.MainIdeal

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ) (ρ : Dev nD → PrngReg) (c : Dev nD)

/-- A window is its whole array: reading it reads the array. -/
theorem readX (f : main_arg0.ty.Contents (Elt F)) : (win0_0.blk t0_0).view.read (Elt F) f = f :=
  Memref.read_access_unit_zero (Elt F) main_arg0 (funext fun a => by fin_cases a <;> decide) (fun a => by fin_cases a <;> decide) f
theorem readW (f : main_arg1.ty.Contents (Elt F)) : (win0_1.blk t0_0).view.read (Elt F) f = f :=
  Memref.read_access_unit_zero (Elt F) main_arg1 (funext fun a => by fin_cases a <;> decide) (fun a => by fin_cases a <;> decide) f
theorem readO (f : main_v1.ty.Contents (Elt F)) : (win0_2.blk t0_0).view.read (Elt F) f = f :=
  Memref.read_access_unit_zero (Elt F) main_v1 (funext fun a => by fin_cases a <;> decide) (fun a => by fin_cases a <;> decide) f

theorem xs_eq : xs m c = m ((c : Thread nD τ).loc main_arg0) := readX _
theorem ws_eq : ws m c = m ((c : Thread nD τ).loc main_arg1) := readW _

/-- The result array after the run holds what the body leaves. -/
theorem arr_o : (dats m 0 c).arrAt (2 : Fin 3) cfg0.N = out m c := by
  have h : (win0_2.blk t0_0).view.read (Elt F) ((dats m 0 c).arrAt (2 : Fin 3) cfg0.N) = out m c := by
    rw [show cfg0.N = (t0_0 : Fin cfg0.N).val + 1 from rfl, (dats m 0 c).arrAt_succ (2 : Fin 3) t0_0]
    rw [flush0_2 t0_0, if_pos rfl]
    exact View.read_write_univ _ _
  exact (readO _).symm.trans h

/-- The run: every device's result, its arguments, and every counter. -/
theorem run_out : θ_run defs (onTc (τ := τ) (main (F := F))) ⟨m, fun _ => 0, ρ⟩
    (fun r => (∀ c : Dev nD, r.2.mem ((c.tc : Thread nD τ).loc main_v1) = out m c
      ∧ r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun _ h => ⟨fun c => ⟨(h.1 c (2 : Fin 3)).trans (arr_o m c), (h.1 c (0 : Fin 3)).trans (arr_x m c),
    (h.1 c (1 : Fin 3)).trans (arr_w m c)⟩, h.2⟩) (run_main m ρ)

end Cert.KernelIdeal.Ring
-- ==== Proof.ValueIdeal.lean ====
/-
The values over the extended reals: every entry of a device's result is `y / (1 + exp (-y))` at the product `y` of a row of
`x` and a column of the device's block of `w`.
-/
module

public import proofs.«01_k».proof.Proof.EndIdeal
public import Idealize.ShloMosaic.Lib.MatmulPlain
public import Idealize.ShloMosaic.Lib.IdealHost
public import Idealize.ShloMosaic.Lib.Pipeline.Value
public import Idealize.ShloMosaic.Lib.Layout

@[expose] public section

noncomputable section

namespace Cert.KernelIdeal.Ring

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

open scoped BigOperators

/-- `y / (1 + exp (-y))`. -/
def sil (y : EReal) : EReal := Ideal.div y (1 + Ideal.exp (-y))

theorem exp_nonneg (y : EReal) : 0 ≤ Ideal.exp y := by
  induction y with
  | bot => exact le_refl _
  | top => exact le_top
  | coe r => exact EReal.coe_nonneg.mpr (Real.exp_pos r).le

theorem den_ne (y : EReal) : 1 + Ideal.exp y ≠ 0 := by
  have h : (1 : EReal) ≤ 1 + Ideal.exp y := le_add_of_nonneg_right (exp_nonneg y)
  exact (lt_of_lt_of_le zero_lt_one h).ne'

/-- The kernel multiplies by the reciprocal and subtracts from zero. -/
theorem gate_eq (y : EReal) : y * Ideal.div 1 (1 + Ideal.exp (0 - y)) = sil y := by
  have h0 : (0 : EReal) - y = -y := by rw [sub_eq_add_neg, zero_add]
  unfold sil Ideal.div
  rw [h0, if_neg (den_ne _), if_neg (den_ne _), one_mul]

/-- What the kernel does to a product, entry by entry. -/
def gated {S : Shape} (y : FVec Ideal S .f32) : FVec Ideal S .f32 := fun i => y i * Ideal.div 1 (1 + Ideal.exp (0 - y i))

theorem gated_eq {S : Shape} (y : FVec Ideal S .f32) :
    mulf y (divf (broadcast S (Scalar.ofBits (F := Ideal) .f32 0x3F800000#32))
      (addf (broadcast S (Scalar.ofBits (F := Ideal) .f32 0x3F800000#32))
        (exp (subf (broadcast S (Scalar.ofBits (F := Ideal) .f32 0x00000000#32)) y)))) = gated y := by
  funext i
  show y i * Ideal.div (Ideal.ofBits .f32 0x3F800000#32) (Ideal.ofBits .f32 0x3F800000#32 + Ideal.exp (Ideal.ofBits .f32 0x00000000#32 - y i)) = _
  rw [Ideal.ofBits_one_f32, Ideal.ofBits_zero_f32]
  rfl

theorem pair_ix2 {a b : ℕ} (r : Fin a) (j : Fin b) : (Shape.pair (d := ![a, b]) r j : (⟨2, ![a, b]⟩ : Shape).Idx) = ValueIdx.ix2 r j := by
  funext x
  match x with
  | ⟨0, _⟩ => rfl
  | ⟨1, _⟩ => rfl

/-- The product of two blocks at row `r` and column `j`. -/
theorem product {M : ℕ} (x : FVec Ideal ⟨2, ![M, 2048]⟩ .bf16) (w : FVec Ideal ⟨2, ![2048, 128]⟩ .bf16) (r : Fin M) (j : Fin 128) :
    matmul (DotDims.plain M 2048 128) none x w (constant ⟨2, ![M, 128]⟩ .f32 0x00000000#32) (Shape.pair (d := ![M, 128]) r j)
      = ∑ k : Fin 2048, x (Shape.pair (d := ![M, 2048]) r k) * w (Shape.pair (d := ![2048, 128]) k j) := by
  rw [pair_ix2]
  refine (Ideal.matmul_plain_apply none x w _ r j).trans ?_
  show Ideal.ofBits .f32 0x00000000#32 + _ = _
  rw [Ideal.ofBits_zero_f32, zero_add]
  exact Finset.sum_congr rfl fun k _ => by rw [pair_ix2, pair_ix2]

variable (x : Vec Ideal S128x2048 .bf16) (w : Vec Ideal S2048x128 .bf16) (j : Fin 128)

/-- Row `r` of `x` by column `j` of `w`. -/
def rowCol (r : Fin 128) : EReal := ∑ k : Fin 2048, x (Shape.pair (d := ![128, 2048]) r k) * w (Shape.pair (d := ![2048, 128]) k j)

theorem own_eq (r : Fin 128) : pOwn w x r j = sil (rowCol x w j r) := by
  have h : k0_pay4 x w = gated (matmul (DotDims.plain 128 2048 128) none x w (constant S128x128 .f32 0x00000000#32)) := gated_eq _
  unfold pOwn
  rw [h]
  refine (gate_eq _).trans (congrArg sil ?_)
  exact product x w r j

theorem slab_cast : shapeCast S128x2048 (slab x) shapeCasts_S1x128x2048_S128x2048 = x := by
  funext i
  refine (shapeCast_dropUnit_apply ![128, 2048] _ _ i).trans ?_
  show x (Shape.pair (d := ![128, 2048]) (i 0) (i 1)) = x i
  exact congrArg x (Shape.pair_eta i)

theorem slab_eq (r : Fin 128) : pSlab w x r j = sil (rowCol x w j r) := by
  have h : k0_pay8 (slab x) w = gated (matmul (DotDims.plain 128 2048 128) none (shapeCast S128x2048 (slab x) shapeCasts_S1x128x2048_S128x2048) w (constant S128x128 .f32 0x00000000#32)) := gated_eq _
  unfold pSlab
  rw [h, slab_cast]
  refine (gate_eq _).trans (congrArg sil ?_)
  exact product x w r j

theorem half_cast (d : Bool) (r : Fin 64) (k : Fin 2048) :
    shapeCast S64x2048 (half d x) shapeCasts_S1x64x2048_S64x2048 (Shape.pair (d := ![64, 2048]) r k)
      = x (Shape.pair (d := ![128, 2048]) ⟨hRow d + r.val, hRow_lt d r⟩ k) :=
  shapeCast_dropUnit_apply ![64, 2048] _ _ _

theorem half_at (d : Bool) (r : Fin 64) :
    k0_pay27 (half d x) w (Shape.pair (d := ![64, 128]) r j) = sil (rowCol x w j ⟨hRow d + r.val, hRow_lt d r⟩) := by
  have h : k0_pay27 (half d x) w = gated (matmul (DotDims.plain 64 2048 128) none (shapeCast S64x2048 (half d x) shapeCasts_S1x64x2048_S64x2048) w (constant S64x128 .f32 0x00000000#32)) := gated_eq _
  rw [h]
  refine (gate_eq _).trans (congrArg sil ?_)
  refine (product _ w r j).trans ?_
  exact Finset.sum_congr rfl fun k _ => congrArg (· * _) (half_cast x d r k)

theorem half_eq (r : Fin 128) : pHalf w x r j = sil (rowCol x w j r) := by
  have hr := r.isLt
  unfold pHalf
  split
  · rename_i h
    refine (half_at x w j _ _).trans (congrArg (fun q => sil (rowCol x w j q)) (Fin.ext ?_))
    show hRow true + r.val = r.val
    unfold hRow; simp
  · rename_i h
    refine (half_at x w j _ _).trans (congrArg (fun q => sil (rowCol x w j q)) (Fin.ext ?_))
    show hRow false + (r.val - 64) = r.val
    unfold hRow; simp; omega

/-- Whichever way a block came, its rows of the result are the same function of it. -/
theorem at_eq (X : Dev nD → Vec Ideal S128x2048 .bf16) (c b : Dev nD) (r : Fin 128) : pAt X w c b r j = sil (rowCol (X b) w j r) := by
  unfold pAt
  split
  · exact own_eq (X b) w j r
  · split
    · exact half_eq (X b) w j r
    · exact slab_eq (X b) w j r

theorem xb_eq (xs : Dev nD → Vec Ideal S128x2048 .bf16) (d : Dev nD) : xb xs d = xs d := by
  unfold xb k0_pay2
  exact (shapeCast_self _ _).trans (shapeCast_self _ _)
theorem wb_eq (ws : Dev nD → Vec Ideal S2048x128 .bf16) (d : Dev nD) : wb ws d = ws d := by
  unfold wb k0_pay3
  exact (shapeCast_self _ _).trans (shapeCast_self _ _)

/-- The whole result, `y / (1 + exp (-y))` of the product of the whole arrays. -/
def whole (x w : FVec Ideal ⟨2, ![2048, 2048]⟩ .bf16) : FVec Ideal ⟨2, ![2048, 2048]⟩ .f32 :=
  fun i => sil (∑ k : Fin 2048, x (Shape.pair (d := ![2048, 2048]) (i 0) k) * w (Shape.pair (d := ![2048, 2048]) k (i 1)))

/-- Device `c`'s result is block `c` of the whole one, when the devices hold the blocks of `x` and of `w`. -/
theorem out_eq (m : (ℓ : Loc nD τ sig) → Buf (Elt Ideal) ℓ) (c : Dev nD) (x w : FVec Ideal ⟨2, ![2048, 2048]⟩ .bf16)
    (hx : ∀ d : Dev nD, m ((d : Thread nD τ).loc main_arg0) = Layout.block ⟨2, ![128, 2048]⟩ ⟨2, ![2048, 2048]⟩ 0 16 d x)
    (hw : m ((c : Thread nD τ).loc main_arg1) = Layout.block ⟨2, ![2048, 128]⟩ ⟨2, ![2048, 2048]⟩ 1 16 c w) :
    out m c = Layout.block ⟨2, ![2048, 128]⟩ ⟨2, ![2048, 2048]⟩ 1 16 c (whole x w) := by
  funext i
  unfold out result
  refine (at_eq _ (i 1) _ c _ _).trans ?_
  rw [xb_eq, wb_eq, xs_eq, ws_eq, hx, hw]
  show sil _ = sil _
  refine congrArg sil (Finset.sum_congr rfl fun k _ => ?_)
  refine congrArg₂ (· * ·) (congrArg x (funext fun a => Fin.ext ?_)) (congrArg w (funext fun a => Fin.ext ?_))
  · match a with
    | ⟨0, _⟩ =>
      show (i 0).val / 128 * 128 + (i 0).val % 128 = (i 0).val
      exact Nat.div_add_mod' _ _
    | ⟨1, _⟩ => rfl
  · match a with
    | ⟨0, _⟩ => rfl
    | ⟨1, _⟩ => rfl

end Cert.KernelIdeal.Ring
-- ==== Proof.RefIdeal.lean ====
/-
The reference over the extended reals, and the claim that the kernel computes what it computes.
-/
module

public import proofs.«01_k».proof.Defs
public import proofs.«01_k».proof.Proof.ValueIdeal
public import proofs.«01_k».proof.Proof.Gen.ReferenceIdeal
public import proofs.«01_k».proof.Proof.Gen.ReferenceIdeal.Run
public import Idealize.ShloMosaic.Lib.StackMember

@[expose] public section

noncomputable section

namespace Cert.ReferenceIdeal.Value

open Cert.ReferenceIdeal Cert.ReferenceIdeal.Gen Idealize.ShloMosaic Idealize.ShloMosaic.TcCoe Idealize.SL.Sem
open Cert.KernelIdeal.Ring (sil pair_ix2 whole)

/-- The product of the whole arrays at an entry: a row by a column. -/
theorem product_at (x w : FVec Ideal S2048x2048 .bf16) (i : S2048x2048.Idx) :
    Host.dotGeneral (DotDims.plain 2048 2048 2048) none (extf .f32 x bitsLt_bf16_f32) (extf .f32 w bitsLt_bf16_f32) i
      = ∑ k : Fin 2048, x (Shape.pair (d := ![2048, 2048]) (i 0) k) * w (Shape.pair (d := ![2048, 2048]) k (i 1)) := by
  have h := StackMember.dotGeneral_plain_apply (m := 2048) (k := 2048) (n := 2048) none (extf .f32 x bitsLt_bf16_f32) (extf .f32 w bitsLt_bf16_f32) (i 0) (i 1)
  refine (congrArg (Host.dotGeneral _ none _ _) (ValueIdx.eq_ix2 i)).trans (h.trans (Finset.sum_congr rfl fun k _ => ?_))
  exact congrArg₂ (fun a b => x a * w b) (pair_ix2 _ _).symm (pair_ix2 _ _).symm

/-- The reference's result is `y / (1 + exp (-y))` of the product, entry by entry. -/
theorem result_eq (x w : FVec Ideal S2048x2048 .bf16) :
    Host.divf (Host.dotGeneral dot_S2048x2048_S2048x2048_S2048x2048_1_0_0_1_n_n none (extf .f32 x bitsLt_bf16_f32) (extf .f32 w bitsLt_bf16_f32))
      (addf (broadcastInDim S2048x2048 ![] bcast_S_S2048x2048 (constant S_ .f32 0x3F800000#32))
        (Host.exp (Host.negf (Host.dotGeneral dot_S2048x2048_S2048x2048_S2048x2048_1_0_0_1_n_n none (extf .f32 x bitsLt_bf16_f32) (extf .f32 w bitsLt_bf16_f32)))))
      = whole x w := by
  funext i
  have hv : ∀ y : EReal, Ideal.div y (Ideal.ofBits .f32 0x3F800000#32 + Ideal.exp (-y)) = sil y := fun y => by
    rw [Ideal.ofBits_one_f32]; rfl
  exact (hv _).trans (congrArg sil (product_at x w i))

end Cert.ReferenceIdeal.Value

namespace Cert.Proof

open Idealize.ShloMosaic Idealize.SL.Sem

theorem frame_reference : Cert.quiescent_ReferenceIdeal := by
  intro m ρ _
  exact (θ_run Cert.ReferenceIdeal.defs _ _).mono (fun r h => ⟨fun c => (h c).2, sem_eq_zero_of_no_sems (by decide) r.2⟩)
    (Cert.ReferenceIdeal.Value.run (F := Ideal) m ρ)

/-- Device `c`'s result is block `c` of the reference's. -/
theorem algebraic : Cert.algebraic_KernelIdeal_ReferenceIdeal := by
  intro m ρ m' ρ' _ hagree
  refine ⟨Cert.KernelIdeal.Ring.whole
      (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)), ?_, ?_⟩
  · exact (θ_run Cert.KernelIdeal.defs _ _).mono (fun _ h c => ⟨(h.1 c).1.trans
        (Cert.KernelIdeal.Ring.out_eq m c _ _ (fun d => (hagree d).1) (hagree c).2), (h.1 c).2⟩)
      (Cert.KernelIdeal.Ring.run_out m ρ)
  · exact (θ_run Cert.ReferenceIdeal.defs _ _).mono (fun _ h => ⟨(h 0).1.trans (Cert.ReferenceIdeal.Value.result_eq _ _), (h 0).2⟩)
      (Cert.ReferenceIdeal.Value.run (F := Ideal) m' ρ')

end Cert.Proof
-- ==== Proof.BoundIdeal.lean ====
/-
A bound over the extended reals: where the squares of two rows sum to at most 2880 and 5/4, their product is between -60 and 60.
-/
module

public import Idealize.ShloMosaic.PureOps.Ideal
public import Mathlib.Algebra.Order.BigOperators.Ring.Finset

@[expose] public section

namespace Cert.KernelIdeal.Ring

open scoped BigOperators

variable {n : ℕ}

theorem coe_total (f : Fin n → ℝ) : ((∑ k, f k : ℝ) : EReal) = ∑ k, (f k : EReal) := by
  classical
  have h : ∀ s : Finset (Fin n), ((∑ k ∈ s, f k : ℝ) : EReal) = ∑ k ∈ s, (f k : EReal) := fun s =>
    Finset.induction_on s (by simp) fun a s ha ih => by rw [Finset.sum_insert ha, Finset.sum_insert ha, EReal.coe_add, ih]
  exact h _

theorem square_nonneg (x : EReal) : 0 ≤ x * x := by
  induction x with
  | bot => rw [EReal.bot_mul_bot]; exact le_top
  | top => rw [EReal.top_mul_top]; exact le_top
  | coe r => rw [← EReal.coe_mul]; exact EReal.coe_nonneg.mpr (mul_self_nonneg r)

/-- Numbers whose squares have a real bound are real. -/
theorem real_of_squares (a : Fin n → EReal) {B : ℝ} (h : ∑ k, a k * a k ≤ (B : EReal)) :
    ∃ f : Fin n → ℝ, (∀ k, a k = (f k : EReal)) ∧ ∑ k, f k ^ 2 ≤ B := by
  have hk : ∀ k, a k * a k < ⊤ := fun k =>
    lt_of_le_of_lt ((Finset.single_le_sum (f := fun k => a k * a k) (fun k _ => square_nonneg (a k)) (Finset.mem_univ k)).trans h) (EReal.coe_lt_top B)
  have hf : ∀ k, a k = ((a k).toReal : EReal) := fun k => by
    refine (EReal.coe_toReal (fun e => ?_) (fun e => ?_)).symm
    · have := hk k; rw [e, EReal.top_mul_top] at this; exact lt_irrefl _ this
    · have := hk k; rw [e, EReal.bot_mul_bot] at this; exact lt_irrefl _ this
  refine ⟨fun k => (a k).toReal, hf, ?_⟩
  have e : ∑ k, a k * a k = ((∑ k, (a k).toReal ^ 2 : ℝ) : EReal) := by
    rw [coe_total]
    refine Finset.sum_congr rfl fun k _ => ?_
    rw [pow_two, EReal.coe_mul, ← hf k]
  rw [e] at h
  exact EReal.coe_le_coe_iff.mp h

/-- By the inequality of Cauchy and Schwarz: 2880 times 5/4 is the square of 60. -/
theorem product_bound (a b : Fin n → EReal) (ha : ∑ k, a k * a k ≤ ((2880 : ℝ) : EReal)) (hb : ∑ k, b k * b k ≤ ((5 / 4 : ℝ) : EReal)) :
    ((-60 : ℝ) : EReal) ≤ ∑ k, a k * b k ∧ ∑ k, a k * b k ≤ ((60 : ℝ) : EReal) := by
  obtain ⟨f, hf, hfB⟩ := real_of_squares a ha
  obtain ⟨g, hg, hgB⟩ := real_of_squares b hb
  have e : ∑ k, a k * b k = ((∑ k, f k * g k : ℝ) : EReal) := by
    rw [coe_total]
    exact Finset.sum_congr rfl fun k _ => by rw [hf k, hg k, EReal.coe_mul]
  have hs : (∑ k, f k * g k) ^ 2 ≤ (60 : ℝ) ^ 2 := by
    refine (Finset.sum_mul_sq_le_sq_mul_sq Finset.univ f g).trans ?_
    refine (mul_le_mul hfB hgB (Finset.sum_nonneg fun k _ => sq_nonneg (g k)) (by norm_num)).trans ?_
    norm_num
  have h := abs_le.mp (abs_le_of_sq_le_sq hs (by norm_num))
  rw [e]
  exact ⟨EReal.coe_le_coe_iff.mpr h.1, EReal.coe_le_coe_iff.mpr h.2⟩

end Cert.KernelIdeal.Ring
-- ==== Proof.ClipIdeal.lean ====
/-
The reference that clips the exponent, over the extended reals: where the squares of the rows of `x` and of the columns of `w`
sum to little, nothing is clipped, and the kernel computes what this reference computes.
-/
module

public import proofs.«01_k».proof.Proof.RefIdeal
public import proofs.«01_k».proof.Proof.BoundIdeal
public import proofs.«01_k».proof.Proof.Gen.ClippedIdeal
public import proofs.«01_k».proof.Proof.Gen.ClippedIdeal.Run
public import Idealize.ShloMosaic.Lib.Pointwise.Reduce

@[expose] public section

noncomputable section

namespace Cert.ClippedIdeal.Value

open Cert.ClippedIdeal Cert.ClippedIdeal.Gen Idealize.ShloMosaic Idealize.ShloMosaic.TcCoe Idealize.SL.Sem
open Cert.KernelIdeal.Ring (sil pair_ix2 whole product_bound)
open scoped BigOperators

instance pre_kernel : Cert.Pre_bounded_KernelIdeal.Facts where
  bitsLt_bf16_f32 := by decide
  reducesTo_S128x2048_S128_d1 := by decide
  h_S_ := by decide
  bcast_S_S128 := by decide
  reducesTo_S2048x128_S128_d0 := by decide

instance pre_clipped : Cert.Pre_bounded_ClippedIdeal.Facts where
  bitsLt_bf16_f32 := by decide
  reducesTo_S2048x2048_S2048_d1 := by decide
  h_S_ := by decide
  bcast_S_S2048 := by decide
  reducesTo_S2048x2048_S2048_d0 := by decide

theorem bits_rows : Ideal.ofBits .f32 0x45340000#32 = ((2880 : ℝ) : EReal) := by
  simp [Ideal.ofBits, Ideal.ieee, -EReal.coe_mul]; norm_num
theorem bits_cols : Ideal.ofBits .f32 0x3FA00000#32 = ((5 / 4 : ℝ) : EReal) := by
  simp [Ideal.ofBits, Ideal.ieee, -EReal.coe_mul]; norm_num
theorem bits_hi : Ideal.ofBits .f32 0x42700000#32 = ((60 : ℝ) : EReal) := by
  simp [Ideal.ofBits, Ideal.ieee, -EReal.coe_mul]; norm_num
theorem bits_lo : Ideal.ofBits .f32 0xC2700000#32 = ((-60 : ℝ) : EReal) := by
  simp [Ideal.ofBits, Ideal.ieee, -EReal.coe_mul, -EReal.coe_neg]; norm_num

theorem le_of_bit {a b : EReal} (h : BitVec.ofBool (decide (a ≤ b)) = 1#1) : a ≤ b := by
  by_contra hn
  rw [decide_eq_false hn] at h
  exact absurd h (by decide)

variable (x : FVec Ideal ⟨2, ![128, 2048]⟩ .bf16) (w : FVec Ideal ⟨2, ![2048, 128]⟩ .bf16)

/-- The precondition of a device's block of `x`, row by row, -/
theorem rows_le (h : (Cert.Pre_bounded_KernelIdeal.fn (F := Ideal) x w).1 = fun _ => 1#1) (r : Fin 128) :
    ∑ k : Fin 2048, x (Shape.pair (d := ![128, 2048]) r k) * x (Shape.pair (d := ![128, 2048]) r k) ≤ ((2880 : ℝ) : EReal) := by
  have h1 : BitVec.ofBool (decide (Ideal.hostReduceAdd Cert.Pre_bounded_KernelIdeal.Facts.reducesTo_S128x2048_S128_d1 (fun i => x i * x i)
      (Ideal.ofBits .f32 0x00000000#32) (ValueIdx.ix1 r) ≤ Ideal.ofBits .f32 0x45340000#32)) = 1#1 := congrFun h (ValueIdx.ix1 r)
  have h2 := le_of_bit h1
  rw [Ideal.hostReduceAdd_r2_a1, Ideal.ofBits_zero_f32, zero_add, bits_rows] at h2
  refine le_of_eq_of_le (Finset.sum_congr rfl fun k _ => ?_) h2
  rw [pair_ix2]
  rfl

/-- and of its block of `w`, column by column. -/
theorem cols_le (h : (Cert.Pre_bounded_KernelIdeal.fn (F := Ideal) x w).2 = fun _ => 1#1) (j : Fin 128) :
    ∑ k : Fin 2048, w (Shape.pair (d := ![2048, 128]) k j) * w (Shape.pair (d := ![2048, 128]) k j) ≤ ((5 / 4 : ℝ) : EReal) := by
  have h1 : BitVec.ofBool (decide (Ideal.hostReduceAdd Cert.Pre_bounded_KernelIdeal.Facts.reducesTo_S2048x128_S128_d0 (fun i => w i * w i)
      (Ideal.ofBits .f32 0x00000000#32) (ValueIdx.ix1 j) ≤ Ideal.ofBits .f32 0x3FA00000#32)) = 1#1 := congrFun h (ValueIdx.ix1 j)
  have h2 := le_of_bit h1
  rw [Ideal.hostReduceAdd_r2_a0, Ideal.ofBits_zero_f32, zero_add, bits_cols] at h2
  refine le_of_eq_of_le (Finset.sum_congr rfl fun k _ => ?_) h2
  rw [pair_ix2]
  rfl

/-- The product of the whole arrays, entry by entry. -/
def prod (x w : FVec Ideal S2048x2048 .bf16) (i : S2048x2048.Idx) : EReal :=
  ∑ k : Fin 2048, x (Shape.pair (d := ![2048, 2048]) (i 0) k) * w (Shape.pair (d := ![2048, 2048]) k (i 1))

/-- No entry of the product is clipped when every device's blocks are bounded. -/
theorem prod_bound (X W : FVec Ideal S2048x2048 .bf16)
    (hx : ∀ (d : Fin 16) (r : Fin 128), ∑ k : Fin 2048, (Layout.block ⟨2, ![128, 2048]⟩ ⟨2, ![2048, 2048]⟩ 0 16 d X) (Shape.pair (d := ![128, 2048]) r k)
      * (Layout.block ⟨2, ![128, 2048]⟩ ⟨2, ![2048, 2048]⟩ 0 16 d X) (Shape.pair (d := ![128, 2048]) r k) ≤ ((2880 : ℝ) : EReal))
    (hw : ∀ (d : Fin 16) (j : Fin 128), ∑ k : Fin 2048, (Layout.block ⟨2, ![2048, 128]⟩ ⟨2, ![2048, 2048]⟩ 1 16 d W) (Shape.pair (d := ![2048, 128]) k j)
      * (Layout.block ⟨2, ![2048, 128]⟩ ⟨2, ![2048, 2048]⟩ 1 16 d W) (Shape.pair (d := ![2048, 128]) k j) ≤ ((5 / 4 : ℝ) : EReal))
    (i : S2048x2048.Idx) : ((-60 : ℝ) : EReal) ≤ prod X W i ∧ prod X W i ≤ ((60 : ℝ) : EReal) := by
  have cut : ∀ n : Fin 2048, ∃ (d : Fin 16) (r : Fin 128), d.val * 128 + r.val = n.val := fun n =>
    ⟨⟨n.val / 128, by have := n.isLt; omega⟩, ⟨n.val % 128, by omega⟩, Nat.div_add_mod' _ _⟩
  refine product_bound _ _ ?_ ?_
  · obtain ⟨d, r, h⟩ := cut (i 0)
    refine le_of_eq_of_le (Finset.sum_congr rfl fun k _ => ?_) (hx d r)
    have e : X (Shape.pair (d := ![2048, 2048]) (i 0) k)
        = (Layout.block ⟨2, ![128, 2048]⟩ ⟨2, ![2048, 2048]⟩ 0 16 d X) (Shape.pair (d := ![128, 2048]) r k) :=
      congrArg X (funext fun a => Fin.ext (match a with | ⟨0, _⟩ => h.symm | ⟨1, _⟩ => rfl))
    rw [e]
  · obtain ⟨d, j, h⟩ := cut (i 1)
    refine le_of_eq_of_le (Finset.sum_congr rfl fun k _ => ?_) (hw d j)
    have e : W (Shape.pair (d := ![2048, 2048]) k (i 1))
        = (Layout.block ⟨2, ![2048, 128]⟩ ⟨2, ![2048, 2048]⟩ 1 16 d W) (Shape.pair (d := ![2048, 128]) k j) :=
      congrArg W (funext fun a => Fin.ext (match a with | ⟨0, _⟩ => rfl | ⟨1, _⟩ => h.symm))
    rw [e]

/-- Where nothing is clipped the result is `y / (1 + exp (-y))` of the product. -/
theorem result_eq (X W : FVec Ideal S2048x2048 .bf16)
    (hb : ∀ i, ((-60 : ℝ) : EReal) ≤ prod X W i ∧ prod X W i ≤ ((60 : ℝ) : EReal)) :
    Host.divf (Host.dotGeneral dot_S2048x2048_S2048x2048_S2048x2048_1_0_0_1_n_n none (extf .f32 X bitsLt_bf16_f32) (extf .f32 W bitsLt_bf16_f32))
      (addf (broadcastInDim S2048x2048 ![] bcast_S_S2048x2048 (constant S_ .f32 0x3F800000#32))
        (Host.exp (Host.negf (minimumf (broadcastInDim S2048x2048 ![] bcast_S_S2048x2048 (id (constant S_ .f32 0x42700000#32)))
          (maximumf (broadcastInDim S2048x2048 ![] bcast_S_S2048x2048 (id (constant S_ .f32 0xC2700000#32)))
            (Host.dotGeneral dot_S2048x2048_S2048x2048_S2048x2048_1_0_0_1_n_n none (extf .f32 X bitsLt_bf16_f32) (extf .f32 W bitsLt_bf16_f32)))))))
      = whole X W := by
  funext i
  have hv : ∀ y : EReal, y = prod X W i →
      Ideal.div y (Ideal.ofBits .f32 0x3F800000#32 + Ideal.exp (-(min (Ideal.ofBits .f32 0x42700000#32) (max (Ideal.ofBits .f32 0xC2700000#32) y))))
        = sil (prod X W i) := fun y hy => by
    rw [hy, Ideal.ofBits_one_f32, bits_hi, bits_lo, max_eq_right (hb i).1, min_eq_right (hb i).2]; rfl
  exact hv _ (Cert.ReferenceIdeal.Value.product_at X W i)

end Cert.ClippedIdeal.Value

namespace Cert.Proof

open Idealize.ShloMosaic Idealize.SL.Sem

theorem frame_clipped : Cert.quiescent_ClippedIdeal := by
  intro m ρ _
  exact (θ_run Cert.ClippedIdeal.defs _ _).mono (fun r h => ⟨fun c => (h c).2, sem_eq_zero_of_no_sems (by decide) r.2⟩)
    (Cert.ClippedIdeal.Value.run (F := Ideal) m ρ)

/-- Device `c`'s result is block `c` of the clipped reference's, where every device's blocks are bounded. -/
theorem algebraic_clipped : Cert.algebraic_KernelIdeal_ClippedIdeal_pre_bounded_KernelIdeal := by
  intro m ρ m' ρ' hpre hagree
  refine ⟨Cert.KernelIdeal.Ring.whole
      (m' (((0 : Dev Cert.ClippedIdeal.nD).tc : Thread Cert.ClippedIdeal.nD Cert.ClippedIdeal.τ).loc Cert.ClippedIdeal.main_arg0))
      (m' (((0 : Dev Cert.ClippedIdeal.nD).tc : Thread Cert.ClippedIdeal.nD Cert.ClippedIdeal.τ).loc Cert.ClippedIdeal.main_arg1)), ?_, ?_⟩
  · exact (θ_run Cert.KernelIdeal.defs _ _).mono (fun _ h c => ⟨(h.1 c).1.trans
        (Cert.KernelIdeal.Ring.out_eq m c _ _ (fun d => (hagree d).1) (hagree c).2), (h.1 c).2⟩)
      (Cert.KernelIdeal.Ring.run_out m ρ)
  · refine (θ_run Cert.ClippedIdeal.defs _ _).mono (fun _ h => ⟨(h 0).1.trans (Cert.ClippedIdeal.Value.result_eq _ _
        (Cert.ClippedIdeal.Value.prod_bound _ _ (fun d r => ?_) (fun d j => ?_))), (h 0).2⟩)
      (Cert.ClippedIdeal.Value.run (F := Ideal) m' ρ')
    · have h := Cert.ClippedIdeal.Value.rows_le _ _ (hpre d).1 r
      rw [(hagree d).1] at h
      exact h
    · have h := Cert.ClippedIdeal.Value.cols_le _ _ (hpre d).2 j
      rw [(hagree d).2] at h
      exact h

end Cert.Proof
-- ==== Proof.lean ====
/-
The certificate: each program ends without fault, leaves its arguments as they were and every counter at zero; and over the
extended reals device `c`'s result is block `c` of the reference's, and of the clipping reference's where the blocks are bounded.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ClippedIdeal
public import proofs.«01_k».proof.Proof.Gen.ClippedIdeal.Run
public import proofs.«01_k».proof.Proof.End
public import proofs.«01_k».proof.Proof.EndIdeal
public import proofs.«01_k».proof.Proof.RefIdeal
public import proofs.«01_k».proof.Proof.ClipIdeal
public import Idealize.ShloMosaic.Adequacy
public import Idealize.ShloMosaic.Init

@[expose] public section

noncomputable section

namespace Cert.Proof

open Idealize.ShloMosaic Idealize.SL.Sem

theorem frame_kernel : Cert.quiescent_Kernel := by
  intro m ρ _
  exact (θ_run Cert.Kernel.defs _ _).mono (fun _ h => ⟨fun c => (h.1 c).2, h.2⟩) (Cert.Kernel.Ring.run_out (F := Bits) m ρ)

theorem frame_ideal : Cert.quiescent_KernelIdeal := by
  intro m ρ _
  exact (θ_run Cert.KernelIdeal.defs _ _).mono (fun _ h => ⟨fun c => (h.1 c).2, h.2⟩) (Cert.KernelIdeal.Ring.run_out (F := Ideal) m ρ)

theorem claim : Cert.Claim :=
  ⟨Cert.Kernel.Gen.facts, Cert.KernelIdeal.Gen.facts, Cert.ReferenceIdeal.Gen.facts, Cert.ClippedIdeal.Gen.facts,
    Cert.ClippedIdeal.Value.pre_kernel, Cert.ClippedIdeal.Value.pre_clipped,
    frame_kernel, frame_ideal, fun m ρ _ => frame_ideal m ρ trivial, frame_reference, frame_clipped, fun m ρ _ => frame_clipped m ρ trivial,
    trivial, algebraic, algebraic_clipped⟩

end Cert.Proof

end
